-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S2x1280x151936 : Shape := ⟨3, ![2, 1280, 151936]⟩
abbrev S2x1280x1187 : Shape := ⟨3, ![2, 1280, 1187]⟩
abbrev S2x1280x896 : Shape := ⟨3, ![2, 1280, 896]⟩
abbrev S2x1280 : Shape := ⟨2, ![2, 1280]⟩
abbrev S151936x896 : Shape := ⟨2, ![151936, 896]⟩
abbrev S151936 : Shape := ⟨1, ![151936]⟩
abbrev S_ : Shape := ⟨0, ![]⟩

class Facts : Prop where
  bcast_S_S2x1280 : S_.BroadcastsInDim S2x1280 (![] : Fin 0 → Fin S2x1280.rank)

variable [Facts]

def fn {F : FTy → Type} [FloatOps F] (main_arg0 : FVec F S2x1280x151936 .fp8e5m2) (main_arg1 : FVec F S2x1280x1187 .f32) (main_arg2 : FVec F S2x1280x896 .fp8e4m3) (main_arg3 : FVec F S2x1280 .f32) (main_arg4 : IVec S151936x896 8) (main_arg5 : FVec F S151936 .f32) (main_arg6 : IVec S2x1280 32) (main_arg7 : FVec F S2x1280x896 .bf16) : IVec S2x1280 1 :=
  let main_c : IVec S_ 32 := constantI S_ 32 0#32
  let main_v0 : IVec S2x1280 32 := broadcastInDim S2x1280 ![] bcast_S_S2x1280 main_c
  let main_v1 : IVec S2x1280 1 := cmpi .sge main_arg6 main_v0
  let main_c_0 : IVec S_ 32 := constantI S_ 32 151936#32
  let main_v2 : IVec S2x1280 32 := broadcastInDim S2x1280 ![] bcast_S_S2x1280 main_c_0
  let main_v3 : IVec S2x1280 1 := cmpi .slt main_arg6 main_v2
  let main_v4 : IVec S2x1280 1 := andi main_v1 main_v3
  main_v4
-- ==== Kernel.lean ====
abbrev S2x1280x151936 : Shape := ⟨3, ![2, 1280, 151936]⟩
abbrev S2x1280x1187 : Shape := ⟨3, ![2, 1280, 1187]⟩
abbrev S2x1280x896 : Shape := ⟨3, ![2, 1280, 896]⟩
abbrev S2x1280 : Shape := ⟨2, ![2, 1280]⟩
abbrev S151936x896 : Shape := ⟨2, ![151936, 896]⟩
abbrev S151936 : Shape := ⟨1, ![151936]⟩
abbrev S2560x896 : Shape := ⟨2, ![2560, 896]⟩
abbrev S2560 : Shape := ⟨1, ![2560]⟩
abbrev S2560x151936 : Shape := ⟨2, ![2560, 151936]⟩
abbrev S1187x2x1280 : Shape := ⟨3, ![1187, 2, 1280]⟩
abbrev S1x2560 : Shape := ⟨2, ![1, 2560]⟩
abbrev S1x151936 : Shape := ⟨2, ![1, 151936]⟩
abbrev S2560x512 : Shape := ⟨2, ![2560, 512]⟩
abbrev S4x2x1280 : Shape := ⟨3, ![4, 2, 1280]⟩
abbrev S512x896 : Shape := ⟨2, ![512, 896]⟩
abbrev S1x512 : Shape := ⟨2, ![1, 512]⟩
abbrev S896x2560 : Shape := ⟨2, ![896, 2560]⟩
abbrev S896x512 : Shape := ⟨2, ![896, 512]⟩
abbrev S297 : Shape := ⟨1, ![297]⟩
abbrev S1 : Shape := ⟨1, ![1]⟩
abbrev S128x896 : Shape := ⟨2, ![128, 896]⟩
abbrev S896x128 : Shape := ⟨2, ![896, 128]⟩
abbrev S1x128 : Shape := ⟨2, ![1, 128]⟩
abbrev S128x128 : Shape := ⟨2, ![128, 128]⟩
abbrev S1x1x128 : Shape := ⟨3, ![1, 1, 128]⟩
abbrev S1x896 : Shape := ⟨2, ![1, 896]⟩
abbrev S896x256 : Shape := ⟨2, ![896, 256]⟩
abbrev S256x512 : Shape := ⟨2, ![256, 512]⟩
abbrev S256x896 : Shape := ⟨2, ![256, 896]⟩

abbrev nBuf : Space → Nat
  | .hbm => 18
  | .vmem => 18
  | .smem => 3
  | _ => 0

abbrev bufTy : (tb : Table) → Fin (tcTables nBuf tb) → BufTy
  | .hbm, ⟨0, _⟩ => ⟨S2x1280x151936, .fp8e5m2⟩
  | .hbm, ⟨1, _⟩ => ⟨S2x1280x1187, .f32⟩
  | .hbm, ⟨2, _⟩ => ⟨S2x1280x896, .fp8e4m3⟩
  | .hbm, ⟨3, _⟩ => ⟨S2x1280, .f32⟩
  | .hbm, ⟨4, _⟩ => ⟨S151936x896, .i8⟩
  | .hbm, ⟨5, _⟩ => ⟨S151936, .f32⟩
  | .hbm, ⟨6, _⟩ => ⟨S2x1280, .i32⟩
  | .hbm, ⟨7, _⟩ => ⟨S2x1280x896, .bf16⟩
  | .hbm, ⟨8, _⟩ => ⟨S2560x896, .bf16⟩
  | .hbm, ⟨9, _⟩ => ⟨S2560, .i32⟩
  | .hbm, ⟨10, _⟩ => ⟨S2560x151936, .fp8e5m2⟩
  | .hbm, ⟨11, _⟩ => ⟨S1187x2x1280, .f32⟩
  | .hbm, ⟨12, _⟩ => ⟨S2560x896, .fp8e4m3⟩
  | .hbm, ⟨13, _⟩ => ⟨S1x2560, .f32⟩
  | .hbm, ⟨14, _⟩ => ⟨S1x151936, .f32⟩
  | .hbm, ⟨15, _⟩ => ⟨S151936x896, .f32⟩
  | .hbm, ⟨16, _⟩ => ⟨S2560x896, .bf16⟩
  | .hbm, ⟨17, _⟩ => ⟨S2x1280x896, .bf16⟩
  | .local _ .vmem, ⟨0, _⟩ => ⟨S2560x512, .fp8e5m2⟩
  | .local _ .vmem, ⟨1, _⟩ => ⟨S2560x512, .fp8e5m2⟩
  | .local _ .vmem, ⟨2, _⟩ => ⟨S4x2x1280, .f32⟩
  | .local _ .vmem, ⟨3, _⟩ => ⟨S4x2x1280, .f32⟩
  | .local _ .vmem, ⟨4, _⟩ => ⟨S2560x896, .fp8e4m3⟩
  | .local _ .vmem, ⟨5, _⟩ => ⟨S1x2560, .f32⟩
  | .local _ .vmem, ⟨6, _⟩ => ⟨S512x896, .i8⟩
  | .local _ .vmem, ⟨7, _⟩ => ⟨S512x896, .i8⟩
  | .local _ .vmem, ⟨8, _⟩ => ⟨S1x512, .f32⟩
  | .local _ .vmem, ⟨9, _⟩ => ⟨S1x512, .f32⟩
  | .local _ .vmem, ⟨10, _⟩ => ⟨S2560x896, .bf16⟩
  | .local _ .vmem, ⟨11, _⟩ => ⟨S512x896, .f32⟩
  | .local _ .vmem, ⟨12, _⟩ => ⟨S512x896, .f32⟩
  | .local _ .vmem, ⟨13, _⟩ => ⟨S2560x896, .bf16⟩
  | .local _ .vmem, ⟨14, _⟩ => ⟨S896x2560, .bf16⟩
  | .local _ .vmem, ⟨15, _⟩ => ⟨S2560x512, .bf16⟩
  | .local _ .vmem, ⟨16, _⟩ => ⟨S896x512, .bf16⟩
  | .local _ .vmem, ⟨17, _⟩ => ⟨S896x2560, .f32⟩
  | .local _ .smem, ⟨0, _⟩ => ⟨S2560, .i32⟩
  | .local _ .smem, ⟨1, _⟩ => ⟨S297, .i32⟩
  | .local _ .smem, ⟨2, _⟩ => ⟨S2560, .i32⟩
  | _, _ => ⟨S2x1280x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_scratch4 : Ref sig .tc := ⟨.smem, 1, rfl⟩
abbrev cc0_scratch5 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![297], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_811 : BitVec 32 := 0#32
  let c297_i32 : BitVec 32 := 297#32
  let v1566 : BitVec 32 := Scalar.addi c0_i32_811 c297_i32
  let c1_i32_812 : BitVec 32 := 1#32
  ⟨c0_i32_811, v1566, c1_i32_812⟩
def k0_off1 (k0_t1 : Fin k0_t1_loop.trips) : Fin 1 → Nat :=
  let c0_i32_818 : BitVec 32 := 0#32
  let c0_i32_811 : BitVec 32 := 0#32
  let c1_i32_812 : BitVec 32 := 1#32
  let arg17 : BitVec 32 := Scf.iv c0_i32_811 c1_i32_812 k0_t1
  let c1_i32_817 : BitVec 32 := 1#32
  let v1568 : BitVec 32 := Scalar.muli arg17 c1_i32_817
  let v1569 : BitVec 32 := Scalar.addi c0_i32_818 v1568
  let v1570 : Index := Scalar.indexCast v1569
  ![v1570.toNat]
@[reducible] def k0_t2_loop : Scf.Loop 32 :=
  let c0_i32_814 : BitVec 32 := 0#32
  let c20_i32 : BitVec 32 := 20#32
  let v1567 : BitVec 32 := Scalar.addi c0_i32_814 c20_i32
  let c1_i32_815 : BitVec 32 := 1#32
  ⟨c0_i32_814, v1567, c1_i32_815⟩
def k0_mult1 (k0_t2 : Fin k0_t2_loop.trips) : BitVec 32 :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  v1568
def k0_off2 (k0_t2 : Fin k0_t2_loop.trips) : Fin 2 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1570 : Index := Scalar.indexCast v1569
  let c0_818 : Index := 0#32
  ![v1570.toNat, 0]
def k0_off3 (k0_t2 : Fin k0_t2_loop.trips) : Fin 2 → Nat :=
  let c0_819 : Index := 0#32
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1575 : Index := Scalar.indexCast v1569
  ![0, v1575.toNat]
def k0_off4 (k0_t2 : Fin k0_t2_loop.trips) : Fin 2 → Nat :=
  let c0_820 : Index := 0#32
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1581 : Index := Scalar.indexCast v1569
  ![0, v1581.toNat]
def k0_off5 (k0_t2 : Fin k0_t2_loop.trips) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let c0_i32_821 : BitVec 32 := 0#32
  let v1585 : BitVec 32 := Scalar.addi v1569 c0_i32_821
  let v1586 : Index := Scalar.indexCast v1585
  ![v1586.toNat]
def k0_off6 (v1587 : BitVec 32) : Fin 1 → Nat :=
  let c9_i32 : BitVec 32 := 9#32
  let v1588 : BitVec 32 := Scalar.shrui v1587 c9_i32
  let v1589 : Index := Scalar.indexCast v1588
  ![v1589.toNat]

def k0_chk1 (i : grid0.Coords) (v1587 : BitVec 32) : Prop :=
  (∀ (k0_h1 : k0_cond1 i = 1#1), ∀ a, (k0_off6 v1587) a + S1.size a ≤ S297.size a)
theorem k0_off6_inb : ∀ (i : grid0.Coords) (v1587 : BitVec 32) (k0_hw1 : k0_chk1 i v1587), ∀ (k0_h1 : k0_cond1 i = 1#1), ∀ a, (k0_off6 v1587) a + S1.size a ≤ S297.size a := fun i v1587 k0_hw1 k0_h1 => k0_hw1 k0_h1

def k0_off7 (k0_t2 : Fin k0_t2_loop.trips) (c0_i32_821 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1585 : BitVec 32 := Scalar.addi v1569 c0_i32_821
  let v1591 : Index := Scalar.indexCast v1585
  ![v1591.toNat]
def k0_off8 (v1597 : BitVec 32) : Fin 1 → Nat :=
  let c9_i32_823 : BitVec 32 := 9#32
  let v1598 : BitVec 32 := Scalar.shrui v1597 c9_i32_823
  let v1599 : Index := Scalar.indexCast v1598
  ![v1599.toNat]

def k0_chk2 (i : grid0.Coords) (v1597 : BitVec 32) : Prop :=
  (∀ (k0_h1 : k0_cond1 i = 1#1), ∀ a, (k0_off8 v1597) a + S1.size a ≤ S297.size a)
theorem k0_off8_inb : ∀ (i : grid0.Coords) (v1597 : BitVec 32) (k0_hw2 : k0_chk2 i v1597), ∀ (k0_h1 : k0_cond1 i = 1#1), ∀ a, (k0_off8 v1597) a + S1.size a ≤ S297.size a := fun i v1597 k0_hw2 k0_h1 => k0_hw2 k0_h1

def k0_off9 (k0_t2 : Fin k0_t2_loop.trips) (c1_i32_822 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1595 : BitVec 32 := Scalar.addi v1569 c1_i32_822
  let v1601 : Index := Scalar.indexCast v1595
  ![v1601.toNat]
def k0_off10 (v1607 : BitVec 32) : Fin 1 → Nat :=
  let c9_i32_824 : BitVec 32 := 9#32
  let v1608 : BitVec 32 := Scalar.shrui v1607 c9_i32_824
  let v1609 : Index := Scalar.indexCast v1608
  ![v1609.toNat]

def k0_chk3 (i : grid0.Coords) (v1607 : BitVec 32) : Prop :=
  (∀ (k0_h1 : k0_cond1 i = 1#1), ∀ a, (k0_off10 v1607) a + S1.size a ≤ S297.size a)
theorem k0_off10_inb : ∀ (i : grid0.Coords) (v1607 : BitVec 32) (k0_hw3 : k0_chk3 i v1607), ∀ (k0_h1 : k0_cond1 i = 1#1), ∀ a, (k0_off10 v1607) a + S1.size a ≤ S297.size a := fun i v1607 k0_hw3 k0_h1 => k0_hw3 k0_h1

def k0_off11 (k0_t2 : Fin k0_t2_loop.trips) (c2_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1605 : BitVec 32 := Scalar.addi v1569 c2_i32
  let v1611 : Index := Scalar.indexCast v1605
  ![v1611.toNat]
def k0_off12 (v1617 : BitVec 32) : Fin 1 → Nat :=
  let c9_i32_825 : BitVec 32 := 9#32
  let v1618 : BitVec 32 := Scalar.shrui v1617 c9_i32_825
  let v1619 : Index := Scalar.indexCast v1618
  ![v1619.toNat]

def k0_chk4 (i : grid0.Coords) (v1617 : BitVec 32) : Prop :=
  (∀ (k0_h1 : k0_cond1 i = 1#1), ∀ a, (k0_off12 v1617) a + S1.size a ≤ S297.size a)
theorem k0_off12_inb : ∀ (i : grid0.Coords) (v1617 : BitVec 32) (k0_hw4 : k0_chk4 i v1617), ∀ (k0_h1 : k0_cond1 i = 1#1), ∀ a, (k0_off12 v1617) a + S1.size a ≤ S297.size a := fun i v1617 k0_hw4 k0_h1 => k0_hw4 k0_h1

def k0_off13 (k0_t2 : Fin k0_t2_loop.trips) (c3_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1615 : BitVec 32 := Scalar.addi v1569 c3_i32
  let v1621 : Index := Scalar.indexCast v1615
  ![v1621.toNat]
def k0_off14 (v1627 : BitVec 32) : Fin 1 → Nat :=
  let c9_i32_827 : BitVec 32 := 9#32
  let v1628 : BitVec 32 := Scalar.shrui v1627 c9_i32_827
  let v1629 : Index := Scalar.indexCast v1628
  ![v1629.toNat]

def k0_chk5 (i : grid0.Coords) (v1627 : BitVec 32) : Prop :=
  (∀ (k0_h1 : k0_cond1 i = 1#1), ∀ a, (k0_off14 v1627) a + S1.size a ≤ S297.size a)
theorem k0_off14_inb : ∀ (i : grid0.Coords) (v1627 : BitVec 32) (k0_hw5 : k0_chk5 i v1627), ∀ (k0_h1 : k0_cond1 i = 1#1), ∀ a, (k0_off14 v1627) a + S1.size a ≤ S297.size a := fun i v1627 k0_hw5 k0_h1 => k0_hw5 k0_h1

def k0_off15 (k0_t2 : Fin k0_t2_loop.trips) (c4_i32_826 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1625 : BitVec 32 := Scalar.addi v1569 c4_i32_826
  let v1631 : Index := Scalar.indexCast v1625
  ![v1631.toNat]
def k0_off16 (v1637 : BitVec 32) : Fin 1 → Nat :=
  let c9_i32_828 : BitVec 32 := 9#32
  let v1638 : BitVec 32 := Scalar.shrui v1637 c9_i32_828
  let v1639 : Index := Scalar.indexCast v1638
  ![v1639.toNat]

def k0_chk6 (i : grid0.Coords) (v1637 : BitVec 32) : Prop :=
  (∀ (k0_h1 : k0_cond1 i = 1#1), ∀ a, (k0_off16 v1637) a + S1.size a ≤ S297.size a)
theorem k0_off16_inb : ∀ (i : grid0.Coords) (v1637 : BitVec 32) (k0_hw6 : k0_chk6 i v1637), ∀ (k0_h1 : k0_cond1 i = 1#1), ∀ a, (k0_off16 v1637) a + S1.size a ≤ S297.size a := fun i v1637 k0_hw6 k0_h1 => k0_hw6 k0_h1

def k0_off17 (k0_t2 : Fin k0_t2_loop.trips) (c5_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1635 : BitVec 32 := Scalar.addi v1569 c5_i32
  let v1641 : Index := Scalar.indexCast v1635
  ![v1641.toNat]
def k0_off18 (v1647 : BitVec 32) : Fin 1 → Nat :=
  let c9_i32_829 : BitVec 32 := 9#32
  let v1648 : BitVec 32 := Scalar.shrui v1647 c9_i32_829
  let v1649 : Index := Scalar.indexCast v1648
  ![v1649.toNat]

def k0_chk7 (i : grid0.Coords) (v1647 : BitVec 32) : Prop :=
  (∀ (k0_h1 : k0_cond1 i = 1#1), ∀ a, (k0_off18 v1647) a + S1.size a ≤ S297.size a)
theorem k0_off18_inb : ∀ (i : grid0.Coords) (v1647 : BitVec 32) (k0_hw7 : k0_chk7 i v1647), ∀ (k0_h1 : k0_cond1 i = 1#1), ∀ a, (k0_off18 v1647) a + S1.size a ≤ S297.size a := fun i v1647 k0_hw7 k0_h1 => k0_hw7 k0_h1

def k0_off19 (k0_t2 : Fin k0_t2_loop.trips) (c6_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1645 : BitVec 32 := Scalar.addi v1569 c6_i32
  let v1651 : Index := Scalar.indexCast v1645
  ![v1651.toNat]
def k0_off20 (v1657 : BitVec 32) : Fin 1 → Nat :=
  let c9_i32_830 : BitVec 32 := 9#32
  let v1658 : BitVec 32 := Scalar.shrui v1657 c9_i32_830
  let v1659 : Index := Scalar.indexCast v1658
  ![v1659.toNat]

def k0_chk8 (i : grid0.Coords) (v1657 : BitVec 32) : Prop :=
  (∀ (k0_h1 : k0_cond1 i = 1#1), ∀ a, (k0_off20 v1657) a + S1.size a ≤ S297.size a)
theorem k0_off20_inb : ∀ (i : grid0.Coords) (v1657 : BitVec 32) (k0_hw8 : k0_chk8 i v1657), ∀ (k0_h1 : k0_cond1 i = 1#1), ∀ a, (k0_off20 v1657) a + S1.size a ≤ S297.size a := fun i v1657 k0_hw8 k0_h1 => k0_hw8 k0_h1

def k0_off21 (k0_t2 : Fin k0_t2_loop.trips) (c7_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1655 : BitVec 32 := Scalar.addi v1569 c7_i32
  let v1661 : Index := Scalar.indexCast v1655
  ![v1661.toNat]
def k0_off22 (v1667 : BitVec 32) : Fin 1 → Nat :=
  let c9_i32_831 : BitVec 32 := 9#32
  let v1668 : BitVec 32 := Scalar.shrui v1667 c9_i32_831
  let v1669 : Index := Scalar.indexCast v1668
  ![v1669.toNat]

def k0_chk9 (i : grid0.Coords) (v1667 : BitVec 32) : Prop :=
  (∀ (k0_h1 : k0_cond1 i = 1#1), ∀ a, (k0_off22 v1667) a + S1.size a ≤ S297.size a)
theorem k0_off22_inb : ∀ (i : grid0.Coords) (v1667 : BitVec 32) (k0_hw9 : k0_chk9 i v1667), ∀ (k0_h1 : k0_cond1 i = 1#1), ∀ a, (k0_off22 v1667) a + S1.size a ≤ S297.size a := fun i v1667 k0_hw9 k0_h1 => k0_hw9 k0_h1

def k0_off23 (k0_t2 : Fin k0_t2_loop.trips) (c8_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1665 : BitVec 32 := Scalar.addi v1569 c8_i32
  let v1671 : Index := Scalar.indexCast v1665
  ![v1671.toNat]
def k0_off24 (v1677 : BitVec 32) : Fin 1 → Nat :=
  let c9_i32_833 : BitVec 32 := 9#32
  let v1678 : BitVec 32 := Scalar.shrui v1677 c9_i32_833
  let v1679 : Index := Scalar.indexCast v1678
  ![v1679.toNat]

def k0_chk10 (i : grid0.Coords) (v1677 : BitVec 32) : Prop :=
  (∀ (k0_h1 : k0_cond1 i = 1#1), ∀ a, (k0_off24 v1677) a + S1.size a ≤ S297.size a)
theorem k0_off24_inb : ∀ (i : grid0.Coords) (v1677 : BitVec 32) (k0_hw10 : k0_chk10 i v1677), ∀ (k0_h1 : k0_cond1 i = 1#1), ∀ a, (k0_off24 v1677) a + S1.size a ≤ S297.size a := fun i v1677 k0_hw10 k0_h1 => k0_hw10 k0_h1

def k0_off25 (k0_t2 : Fin k0_t2_loop.trips) (c9_i32_832 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1675 : BitVec 32 := Scalar.addi v1569 c9_i32_832
  let v1681 : Index := Scalar.indexCast v1675
  ![v1681.toNat]
def k0_off26 (v1687 : BitVec 32) : Fin 1 → Nat :=
  let c9_i32_834 : BitVec 32 := 9#32
  let v1688 : BitVec 32 := Scalar.shrui v1687 c9_i32_834
  let v1689 : Index := Scalar.indexCast v1688
  ![v1689.toNat]

def k0_chk11 (i : grid0.Coords) (v1687 : BitVec 32) : Prop :=
  (∀ (k0_h1 : k0_cond1 i = 1#1), ∀ a, (k0_off26 v1687) a + S1.size a ≤ S297.size a)
theorem k0_off26_inb : ∀ (i : grid0.Coords) (v1687 : BitVec 32) (k0_hw11 : k0_chk11 i v1687), ∀ (k0_h1 : k0_cond1 i = 1#1), ∀ a, (k0_off26 v1687) a + S1.size a ≤ S297.size a := fun i v1687 k0_hw11 k0_h1 => k0_hw11 k0_h1

def k0_off27 (k0_t2 : Fin k0_t2_loop.trips) (c10_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1685 : BitVec 32 := Scalar.addi v1569 c10_i32
  let v1691 : Index := Scalar.indexCast v1685
  ![v1691.toNat]
def k0_off28 (v1697 : BitVec 32) : Fin 1 → Nat :=
  let c9_i32_835 : BitVec 32 := 9#32
  let v1698 : BitVec 32 := Scalar.shrui v1697 c9_i32_835
  let v1699 : Index := Scalar.indexCast v1698
  ![v1699.toNat]

def k0_chk12 (i : grid0.Coords) (v1697 : BitVec 32) : Prop :=
  (∀ (k0_h1 : k0_cond1 i = 1#1), ∀ a, (k0_off28 v1697) a + S1.size a ≤ S297.size a)
theorem k0_off28_inb : ∀ (i : grid0.Coords) (v1697 : BitVec 32) (k0_hw12 : k0_chk12 i v1697), ∀ (k0_h1 : k0_cond1 i = 1#1), ∀ a, (k0_off28 v1697) a + S1.size a ≤ S297.size a := fun i v1697 k0_hw12 k0_h1 => k0_hw12 k0_h1

def k0_off29 (k0_t2 : Fin k0_t2_loop.trips) (c11_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1695 : BitVec 32 := Scalar.addi v1569 c11_i32
  let v1701 : Index := Scalar.indexCast v1695
  ![v1701.toNat]
def k0_off30 (v1707 : BitVec 32) : Fin 1 → Nat :=
  let c9_i32_836 : BitVec 32 := 9#32
  let v1708 : BitVec 32 := Scalar.shrui v1707 c9_i32_836
  let v1709 : Index := Scalar.indexCast v1708
  ![v1709.toNat]

def k0_chk13 (i : grid0.Coords) (v1707 : BitVec 32) : Prop :=
  (∀ (k0_h1 : k0_cond1 i = 1#1), ∀ a, (k0_off30 v1707) a + S1.size a ≤ S297.size a)
theorem k0_off30_inb : ∀ (i : grid0.Coords) (v1707 : BitVec 32) (k0_hw13 : k0_chk13 i v1707), ∀ (k0_h1 : k0_cond1 i = 1#1), ∀ a, (k0_off30 v1707) a + S1.size a ≤ S297.size a := fun i v1707 k0_hw13 k0_h1 => k0_hw13 k0_h1

def k0_off31 (k0_t2 : Fin k0_t2_loop.trips) (c12_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1705 : BitVec 32 := Scalar.addi v1569 c12_i32
  let v1711 : Index := Scalar.indexCast v1705
  ![v1711.toNat]
def k0_off32 (v1717 : BitVec 32) : Fin 1 → Nat :=
  let c9_i32_837 : BitVec 32 := 9#32
  let v1718 : BitVec 32 := Scalar.shrui v1717 c9_i32_837
  let v1719 : Index := Scalar.indexCast v1718
  ![v1719.toNat]

def k0_chk14 (i : grid0.Coords) (v1717 : BitVec 32) : Prop :=
  (∀ (k0_h1 : k0_cond1 i = 1#1), ∀ a, (k0_off32 v1717) a + S1.size a ≤ S297.size a)
theorem k0_off32_inb : ∀ (i : grid0.Coords) (v1717 : BitVec 32) (k0_hw14 : k0_chk14 i v1717), ∀ (k0_h1 : k0_cond1 i = 1#1), ∀ a, (k0_off32 v1717) a + S1.size a ≤ S297.size a := fun i v1717 k0_hw14 k0_h1 => k0_hw14 k0_h1

def k0_off33 (k0_t2 : Fin k0_t2_loop.trips) (c13_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1715 : BitVec 32 := Scalar.addi v1569 c13_i32
  let v1721 : Index := Scalar.indexCast v1715
  ![v1721.toNat]
def k0_off34 (v1727 : BitVec 32) : Fin 1 → Nat :=
  let c9_i32_838 : BitVec 32 := 9#32
  let v1728 : BitVec 32 := Scalar.shrui v1727 c9_i32_838
  let v1729 : Index := Scalar.indexCast v1728
  ![v1729.toNat]

def k0_chk15 (i : grid0.Coords) (v1727 : BitVec 32) : Prop :=
  (∀ (k0_h1 : k0_cond1 i = 1#1), ∀ a, (k0_off34 v1727) a + S1.size a ≤ S297.size a)
theorem k0_off34_inb : ∀ (i : grid0.Coords) (v1727 : BitVec 32) (k0_hw15 : k0_chk15 i v1727), ∀ (k0_h1 : k0_cond1 i = 1#1), ∀ a, (k0_off34 v1727) a + S1.size a ≤ S297.size a := fun i v1727 k0_hw15 k0_h1 => k0_hw15 k0_h1

def k0_off35 (k0_t2 : Fin k0_t2_loop.trips) (c14_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1725 : BitVec 32 := Scalar.addi v1569 c14_i32
  let v1731 : Index := Scalar.indexCast v1725
  ![v1731.toNat]
def k0_off36 (v1737 : BitVec 32) : Fin 1 → Nat :=
  let c9_i32_839 : BitVec 32 := 9#32
  let v1738 : BitVec 32 := Scalar.shrui v1737 c9_i32_839
  let v1739 : Index := Scalar.indexCast v1738
  ![v1739.toNat]

def k0_chk16 (i : grid0.Coords) (v1737 : BitVec 32) : Prop :=
  (∀ (k0_h1 : k0_cond1 i = 1#1), ∀ a, (k0_off36 v1737) a + S1.size a ≤ S297.size a)
theorem k0_off36_inb : ∀ (i : grid0.Coords) (v1737 : BitVec 32) (k0_hw16 : k0_chk16 i v1737), ∀ (k0_h1 : k0_cond1 i = 1#1), ∀ a, (k0_off36 v1737) a + S1.size a ≤ S297.size a := fun i v1737 k0_hw16 k0_h1 => k0_hw16 k0_h1

def k0_off37 (k0_t2 : Fin k0_t2_loop.trips) (c15_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1735 : BitVec 32 := Scalar.addi v1569 c15_i32
  let v1741 : Index := Scalar.indexCast v1735
  ![v1741.toNat]
def k0_off38 (v1747 : BitVec 32) : Fin 1 → Nat :=
  let c9_i32_840 : BitVec 32 := 9#32
  let v1748 : BitVec 32 := Scalar.shrui v1747 c9_i32_840
  let v1749 : Index := Scalar.indexCast v1748
  ![v1749.toNat]

def k0_chk17 (i : grid0.Coords) (v1747 : BitVec 32) : Prop :=
  (∀ (k0_h1 : k0_cond1 i = 1#1), ∀ a, (k0_off38 v1747) a + S1.size a ≤ S297.size a)
theorem k0_off38_inb : ∀ (i : grid0.Coords) (v1747 : BitVec 32) (k0_hw17 : k0_chk17 i v1747), ∀ (k0_h1 : k0_cond1 i = 1#1), ∀ a, (k0_off38 v1747) a + S1.size a ≤ S297.size a := fun i v1747 k0_hw17 k0_h1 => k0_hw17 k0_h1

def k0_off39 (k0_t2 : Fin k0_t2_loop.trips) (c16_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1745 : BitVec 32 := Scalar.addi v1569 c16_i32
  let v1751 : Index := Scalar.indexCast v1745
  ![v1751.toNat]
def k0_off40 (v1757 : BitVec 32) : Fin 1 → Nat :=
  let c9_i32_841 : BitVec 32 := 9#32
  let v1758 : BitVec 32 := Scalar.shrui v1757 c9_i32_841
  let v1759 : Index := Scalar.indexCast v1758
  ![v1759.toNat]

def k0_chk18 (i : grid0.Coords) (v1757 : BitVec 32) : Prop :=
  (∀ (k0_h1 : k0_cond1 i = 1#1), ∀ a, (k0_off40 v1757) a + S1.size a ≤ S297.size a)
theorem k0_off40_inb : ∀ (i : grid0.Coords) (v1757 : BitVec 32) (k0_hw18 : k0_chk18 i v1757), ∀ (k0_h1 : k0_cond1 i = 1#1), ∀ a, (k0_off40 v1757) a + S1.size a ≤ S297.size a := fun i v1757 k0_hw18 k0_h1 => k0_hw18 k0_h1

def k0_off41 (k0_t2 : Fin k0_t2_loop.trips) (c17_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1755 : BitVec 32 := Scalar.addi v1569 c17_i32
  let v1761 : Index := Scalar.indexCast v1755
  ![v1761.toNat]
def k0_off42 (v1767 : BitVec 32) : Fin 1 → Nat :=
  let c9_i32_842 : BitVec 32 := 9#32
  let v1768 : BitVec 32 := Scalar.shrui v1767 c9_i32_842
  let v1769 : Index := Scalar.indexCast v1768
  ![v1769.toNat]

def k0_chk19 (i : grid0.Coords) (v1767 : BitVec 32) : Prop :=
  (∀ (k0_h1 : k0_cond1 i = 1#1), ∀ a, (k0_off42 v1767) a + S1.size a ≤ S297.size a)
theorem k0_off42_inb : ∀ (i : grid0.Coords) (v1767 : BitVec 32) (k0_hw19 : k0_chk19 i v1767), ∀ (k0_h1 : k0_cond1 i = 1#1), ∀ a, (k0_off42 v1767) a + S1.size a ≤ S297.size a := fun i v1767 k0_hw19 k0_h1 => k0_hw19 k0_h1

def k0_off43 (k0_t2 : Fin k0_t2_loop.trips) (c18_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1765 : BitVec 32 := Scalar.addi v1569 c18_i32
  let v1771 : Index := Scalar.indexCast v1765
  ![v1771.toNat]
def k0_off44 (v1777 : BitVec 32) : Fin 1 → Nat :=
  let c9_i32_843 : BitVec 32 := 9#32
  let v1778 : BitVec 32 := Scalar.shrui v1777 c9_i32_843
  let v1779 : Index := Scalar.indexCast v1778
  ![v1779.toNat]

def k0_chk20 (i : grid0.Coords) (v1777 : BitVec 32) : Prop :=
  (∀ (k0_h1 : k0_cond1 i = 1#1), ∀ a, (k0_off44 v1777) a + S1.size a ≤ S297.size a)
theorem k0_off44_inb : ∀ (i : grid0.Coords) (v1777 : BitVec 32) (k0_hw20 : k0_chk20 i v1777), ∀ (k0_h1 : k0_cond1 i = 1#1), ∀ a, (k0_off44 v1777) a + S1.size a ≤ S297.size a := fun i v1777 k0_hw20 k0_h1 => k0_hw20 k0_h1

def k0_off45 (k0_t2 : Fin k0_t2_loop.trips) (c19_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1775 : BitVec 32 := Scalar.addi v1569 c19_i32
  let v1781 : Index := Scalar.indexCast v1775
  ![v1781.toNat]
def k0_off46 (v1787 : BitVec 32) : Fin 1 → Nat :=
  let c9_i32_845 : BitVec 32 := 9#32
  let v1788 : BitVec 32 := Scalar.shrui v1787 c9_i32_845
  let v1789 : Index := Scalar.indexCast v1788
  ![v1789.toNat]

def k0_chk21 (i : grid0.Coords) (v1787 : BitVec 32) : Prop :=
  (∀ (k0_h1 : k0_cond1 i = 1#1), ∀ a, (k0_off46 v1787) a + S1.size a ≤ S297.size a)
theorem k0_off46_inb : ∀ (i : grid0.Coords) (v1787 : BitVec 32) (k0_hw21 : k0_chk21 i v1787), ∀ (k0_h1 : k0_cond1 i = 1#1), ∀ a, (k0_off46 v1787) a + S1.size a ≤ S297.size a := fun i v1787 k0_hw21 k0_h1 => k0_hw21 k0_h1

def k0_off47 (k0_t2 : Fin k0_t2_loop.trips) (c20_i32_844 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1785 : BitVec 32 := Scalar.addi v1569 c20_i32_844
  let v1791 : Index := Scalar.indexCast v1785
  ![v1791.toNat]
def k0_off48 (v1797 : BitVec 32) : Fin 1 → Nat :=
  let c9_i32_846 : BitVec 32 := 9#32
  let v1798 : BitVec 32 := Scalar.shrui v1797 c9_i32_846
  let v1799 : Index := Scalar.indexCast v1798
  ![v1799.toNat]

def k0_chk22 (i : grid0.Coords) (v1797 : BitVec 32) : Prop :=
  (∀ (k0_h1 : k0_cond1 i = 1#1), ∀ a, (k0_off48 v1797) a + S1.size a ≤ S297.size a)
theorem k0_off48_inb : ∀ (i : grid0.Coords) (v1797 : BitVec 32) (k0_hw22 : k0_chk22 i v1797), ∀ (k0_h1 : k0_cond1 i = 1#1), ∀ a, (k0_off48 v1797) a + S1.size a ≤ S297.size a := fun i v1797 k0_hw22 k0_h1 => k0_hw22 k0_h1

def k0_off49 (k0_t2 : Fin k0_t2_loop.trips) (c21_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1795 : BitVec 32 := Scalar.addi v1569 c21_i32
  let v1801 : Index := Scalar.indexCast v1795
  ![v1801.toNat]
def k0_off50 (v1807 : BitVec 32) : Fin 1 → Nat :=
  let c9_i32_847 : BitVec 32 := 9#32
  let v1808 : BitVec 32 := Scalar.shrui v1807 c9_i32_847
  let v1809 : Index := Scalar.indexCast v1808
  ![v1809.toNat]

def k0_chk23 (i : grid0.Coords) (v1807 : BitVec 32) : Prop :=
  (∀ (k0_h1 : k0_cond1 i = 1#1), ∀ a, (k0_off50 v1807) a + S1.size a ≤ S297.size a)
theorem k0_off50_inb : ∀ (i : grid0.Coords) (v1807 : BitVec 32) (k0_hw23 : k0_chk23 i v1807), ∀ (k0_h1 : k0_cond1 i = 1#1), ∀ a, (k0_off50 v1807) a + S1.size a ≤ S297.size a := fun i v1807 k0_hw23 k0_h1 => k0_hw23 k0_h1

def k0_off51 (k0_t2 : Fin k0_t2_loop.trips) (c22_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1805 : BitVec 32 := Scalar.addi v1569 c22_i32
  let v1811 : Index := Scalar.indexCast v1805
  ![v1811.toNat]
def k0_off52 (v1817 : BitVec 32) : Fin 1 → Nat :=
  let c9_i32_848 : BitVec 32 := 9#32
  let v1818 : BitVec 32 := Scalar.shrui v1817 c9_i32_848
  let v1819 : Index := Scalar.indexCast v1818
  ![v1819.toNat]

def k0_chk24 (i : grid0.Coords) (v1817 : BitVec 32) : Prop :=
  (∀ (k0_h1 : k0_cond1 i = 1#1), ∀ a, (k0_off52 v1817) a + S1.size a ≤ S297.size a)
theorem k0_off52_inb : ∀ (i : grid0.Coords) (v1817 : BitVec 32) (k0_hw24 : k0_chk24 i v1817), ∀ (k0_h1 : k0_cond1 i = 1#1), ∀ a, (k0_off52 v1817) a + S1.size a ≤ S297.size a := fun i v1817 k0_hw24 k0_h1 => k0_hw24 k0_h1

def k0_off53 (k0_t2 : Fin k0_t2_loop.trips) (c23_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1815 : BitVec 32 := Scalar.addi v1569 c23_i32
  let v1821 : Index := Scalar.indexCast v1815
  ![v1821.toNat]
def k0_off54 (v1827 : BitVec 32) : Fin 1 → Nat :=
  let c9_i32_849 : BitVec 32 := 9#32
  let v1828 : BitVec 32 := Scalar.shrui v1827 c9_i32_849
  let v1829 : Index := Scalar.indexCast v1828
  ![v1829.toNat]

def k0_chk25 (i : grid0.Coords) (v1827 : BitVec 32) : Prop :=
  (∀ (k0_h1 : k0_cond1 i = 1#1), ∀ a, (k0_off54 v1827) a + S1.size a ≤ S297.size a)
theorem k0_off54_inb : ∀ (i : grid0.Coords) (v1827 : BitVec 32) (k0_hw25 : k0_chk25 i v1827), ∀ (k0_h1 : k0_cond1 i = 1#1), ∀ a, (k0_off54 v1827) a + S1.size a ≤ S297.size a := fun i v1827 k0_hw25 k0_h1 => k0_hw25 k0_h1

def k0_off55 (k0_t2 : Fin k0_t2_loop.trips) (c24_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1825 : BitVec 32 := Scalar.addi v1569 c24_i32
  let v1831 : Index := Scalar.indexCast v1825
  ![v1831.toNat]
def k0_off56 (v1837 : BitVec 32) : Fin 1 → Nat :=
  let c9_i32_850 : BitVec 32 := 9#32
  let v1838 : BitVec 32 := Scalar.shrui v1837 c9_i32_850
  let v1839 : Index := Scalar.indexCast v1838
  ![v1839.toNat]

def k0_chk26 (i : grid0.Coords) (v1837 : BitVec 32) : Prop :=
  (∀ (k0_h1 : k0_cond1 i = 1#1), ∀ a, (k0_off56 v1837) a + S1.size a ≤ S297.size a)
theorem k0_off56_inb : ∀ (i : grid0.Coords) (v1837 : BitVec 32) (k0_hw26 : k0_chk26 i v1837), ∀ (k0_h1 : k0_cond1 i = 1#1), ∀ a, (k0_off56 v1837) a + S1.size a ≤ S297.size a := fun i v1837 k0_hw26 k0_h1 => k0_hw26 k0_h1

def k0_off57 (k0_t2 : Fin k0_t2_loop.trips) (c25_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1835 : BitVec 32 := Scalar.addi v1569 c25_i32
  let v1841 : Index := Scalar.indexCast v1835
  ![v1841.toNat]
def k0_off58 (v1847 : BitVec 32) : Fin 1 → Nat :=
  let c9_i32_851 : BitVec 32 := 9#32
  let v1848 : BitVec 32 := Scalar.shrui v1847 c9_i32_851
  let v1849 : Index := Scalar.indexCast v1848
  ![v1849.toNat]

def k0_chk27 (i : grid0.Coords) (v1847 : BitVec 32) : Prop :=
  (∀ (k0_h1 : k0_cond1 i = 1#1), ∀ a, (k0_off58 v1847) a + S1.size a ≤ S297.size a)
theorem k0_off58_inb : ∀ (i : grid0.Coords) (v1847 : BitVec 32) (k0_hw27 : k0_chk27 i v1847), ∀ (k0_h1 : k0_cond1 i = 1#1), ∀ a, (k0_off58 v1847) a + S1.size a ≤ S297.size a := fun i v1847 k0_hw27 k0_h1 => k0_hw27 k0_h1

def k0_off59 (k0_t2 : Fin k0_t2_loop.trips) (c26_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1845 : BitVec 32 := Scalar.addi v1569 c26_i32
  let v1851 : Index := Scalar.indexCast v1845
  ![v1851.toNat]
def k0_off60 (v1857 : BitVec 32) : Fin 1 → Nat :=
  let c9_i32_852 : BitVec 32 := 9#32
  let v1858 : BitVec 32 := Scalar.shrui v1857 c9_i32_852
  let v1859 : Index := Scalar.indexCast v1858
  ![v1859.toNat]

def k0_chk28 (i : grid0.Coords) (v1857 : BitVec 32) : Prop :=
  (∀ (k0_h1 : k0_cond1 i = 1#1), ∀ a, (k0_off60 v1857) a + S1.size a ≤ S297.size a)
theorem k0_off60_inb : ∀ (i : grid0.Coords) (v1857 : BitVec 32) (k0_hw28 : k0_chk28 i v1857), ∀ (k0_h1 : k0_cond1 i = 1#1), ∀ a, (k0_off60 v1857) a + S1.size a ≤ S297.size a := fun i v1857 k0_hw28 k0_h1 => k0_hw28 k0_h1

def k0_off61 (k0_t2 : Fin k0_t2_loop.trips) (c27_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1855 : BitVec 32 := Scalar.addi v1569 c27_i32
  let v1861 : Index := Scalar.indexCast v1855
  ![v1861.toNat]
def k0_off62 (v1867 : BitVec 32) : Fin 1 → Nat :=
  let c9_i32_853 : BitVec 32 := 9#32
  let v1868 : BitVec 32 := Scalar.shrui v1867 c9_i32_853
  let v1869 : Index := Scalar.indexCast v1868
  ![v1869.toNat]

def k0_chk29 (i : grid0.Coords) (v1867 : BitVec 32) : Prop :=
  (∀ (k0_h1 : k0_cond1 i = 1#1), ∀ a, (k0_off62 v1867) a + S1.size a ≤ S297.size a)
theorem k0_off62_inb : ∀ (i : grid0.Coords) (v1867 : BitVec 32) (k0_hw29 : k0_chk29 i v1867), ∀ (k0_h1 : k0_cond1 i = 1#1), ∀ a, (k0_off62 v1867) a + S1.size a ≤ S297.size a := fun i v1867 k0_hw29 k0_h1 => k0_hw29 k0_h1

def k0_off63 (k0_t2 : Fin k0_t2_loop.trips) (c28_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1865 : BitVec 32 := Scalar.addi v1569 c28_i32
  let v1871 : Index := Scalar.indexCast v1865
  ![v1871.toNat]
def k0_off64 (v1877 : BitVec 32) : Fin 1 → Nat :=
  let c9_i32_854 : BitVec 32 := 9#32
  let v1878 : BitVec 32 := Scalar.shrui v1877 c9_i32_854
  let v1879 : Index := Scalar.indexCast v1878
  ![v1879.toNat]

def k0_chk30 (i : grid0.Coords) (v1877 : BitVec 32) : Prop :=
  (∀ (k0_h1 : k0_cond1 i = 1#1), ∀ a, (k0_off64 v1877) a + S1.size a ≤ S297.size a)
theorem k0_off64_inb : ∀ (i : grid0.Coords) (v1877 : BitVec 32) (k0_hw30 : k0_chk30 i v1877), ∀ (k0_h1 : k0_cond1 i = 1#1), ∀ a, (k0_off64 v1877) a + S1.size a ≤ S297.size a := fun i v1877 k0_hw30 k0_h1 => k0_hw30 k0_h1

def k0_off65 (k0_t2 : Fin k0_t2_loop.trips) (c29_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1875 : BitVec 32 := Scalar.addi v1569 c29_i32
  let v1881 : Index := Scalar.indexCast v1875
  ![v1881.toNat]
def k0_off66 (v1887 : BitVec 32) : Fin 1 → Nat :=
  let c9_i32_855 : BitVec 32 := 9#32
  let v1888 : BitVec 32 := Scalar.shrui v1887 c9_i32_855
  let v1889 : Index := Scalar.indexCast v1888
  ![v1889.toNat]

def k0_chk31 (i : grid0.Coords) (v1887 : BitVec 32) : Prop :=
  (∀ (k0_h1 : k0_cond1 i = 1#1), ∀ a, (k0_off66 v1887) a + S1.size a ≤ S297.size a)
theorem k0_off66_inb : ∀ (i : grid0.Coords) (v1887 : BitVec 32) (k0_hw31 : k0_chk31 i v1887), ∀ (k0_h1 : k0_cond1 i = 1#1), ∀ a, (k0_off66 v1887) a + S1.size a ≤ S297.size a := fun i v1887 k0_hw31 k0_h1 => k0_hw31 k0_h1

def k0_off67 (k0_t2 : Fin k0_t2_loop.trips) (c30_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1885 : BitVec 32 := Scalar.addi v1569 c30_i32
  let v1891 : Index := Scalar.indexCast v1885
  ![v1891.toNat]
def k0_off68 (v1897 : BitVec 32) : Fin 1 → Nat :=
  let c9_i32_856 : BitVec 32 := 9#32
  let v1898 : BitVec 32 := Scalar.shrui v1897 c9_i32_856
  let v1899 : Index := Scalar.indexCast v1898
  ![v1899.toNat]

def k0_chk32 (i : grid0.Coords) (v1897 : BitVec 32) : Prop :=
  (∀ (k0_h1 : k0_cond1 i = 1#1), ∀ a, (k0_off68 v1897) a + S1.size a ≤ S297.size a)
theorem k0_off68_inb : ∀ (i : grid0.Coords) (v1897 : BitVec 32) (k0_hw32 : k0_chk32 i v1897), ∀ (k0_h1 : k0_cond1 i = 1#1), ∀ a, (k0_off68 v1897) a + S1.size a ≤ S297.size a := fun i v1897 k0_hw32 k0_h1 => k0_hw32 k0_h1

def k0_off69 (k0_t2 : Fin k0_t2_loop.trips) (c31_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1895 : BitVec 32 := Scalar.addi v1569 c31_i32
  let v1901 : Index := Scalar.indexCast v1895
  ![v1901.toNat]
def k0_off70 (v1907 : BitVec 32) : Fin 1 → Nat :=
  let c9_i32_857 : BitVec 32 := 9#32
  let v1908 : BitVec 32 := Scalar.shrui v1907 c9_i32_857
  let v1909 : Index := Scalar.indexCast v1908
  ![v1909.toNat]

def k0_chk33 (i : grid0.Coords) (v1907 : BitVec 32) : Prop :=
  (∀ (k0_h1 : k0_cond1 i = 1#1), ∀ a, (k0_off70 v1907) a + S1.size a ≤ S297.size a)
theorem k0_off70_inb : ∀ (i : grid0.Coords) (v1907 : BitVec 32) (k0_hw33 : k0_chk33 i v1907), ∀ (k0_h1 : k0_cond1 i = 1#1), ∀ a, (k0_off70 v1907) a + S1.size a ≤ S297.size a := fun i v1907 k0_hw33 k0_h1 => k0_hw33 k0_h1

def k0_off71 (k0_t2 : Fin k0_t2_loop.trips) (c32_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1905 : BitVec 32 := Scalar.addi v1569 c32_i32
  let v1911 : Index := Scalar.indexCast v1905
  ![v1911.toNat]
def k0_off72 (v1917 : BitVec 32) : Fin 1 → Nat :=
  let c9_i32_858 : BitVec 32 := 9#32
  let v1918 : BitVec 32 := Scalar.shrui v1917 c9_i32_858
  let v1919 : Index := Scalar.indexCast v1918
  ![v1919.toNat]

def k0_chk34 (i : grid0.Coords) (v1917 : BitVec 32) : Prop :=
  (∀ (k0_h1 : k0_cond1 i = 1#1), ∀ a, (k0_off72 v1917) a + S1.size a ≤ S297.size a)
theorem k0_off72_inb : ∀ (i : grid0.Coords) (v1917 : BitVec 32) (k0_hw34 : k0_chk34 i v1917), ∀ (k0_h1 : k0_cond1 i = 1#1), ∀ a, (k0_off72 v1917) a + S1.size a ≤ S297.size a := fun i v1917 k0_hw34 k0_h1 => k0_hw34 k0_h1

def k0_off73 (k0_t2 : Fin k0_t2_loop.trips) (c33_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1915 : BitVec 32 := Scalar.addi v1569 c33_i32
  let v1921 : Index := Scalar.indexCast v1915
  ![v1921.toNat]
def k0_off74 (v1927 : BitVec 32) : Fin 1 → Nat :=
  let c9_i32_859 : BitVec 32 := 9#32
  let v1928 : BitVec 32 := Scalar.shrui v1927 c9_i32_859
  let v1929 : Index := Scalar.indexCast v1928
  ![v1929.toNat]

def k0_chk35 (i : grid0.Coords) (v1927 : BitVec 32) : Prop :=
  (∀ (k0_h1 : k0_cond1 i = 1#1), ∀ a, (k0_off74 v1927) a + S1.size a ≤ S297.size a)
theorem k0_off74_inb : ∀ (i : grid0.Coords) (v1927 : BitVec 32) (k0_hw35 : k0_chk35 i v1927), ∀ (k0_h1 : k0_cond1 i = 1#1), ∀ a, (k0_off74 v1927) a + S1.size a ≤ S297.size a := fun i v1927 k0_hw35 k0_h1 => k0_hw35 k0_h1

def k0_off75 (k0_t2 : Fin k0_t2_loop.trips) (c34_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1925 : BitVec 32 := Scalar.addi v1569 c34_i32
  let v1931 : Index := Scalar.indexCast v1925
  ![v1931.toNat]
def k0_off76 (v1937 : BitVec 32) : Fin 1 → Nat :=
  let c9_i32_860 : BitVec 32 := 9#32
  let v1938 : BitVec 32 := Scalar.shrui v1937 c9_i32_860
  let v1939 : Index := Scalar.indexCast v1938
  ![v1939.toNat]

def k0_chk36 (i : grid0.Coords) (v1937 : BitVec 32) : Prop :=
  (∀ (k0_h1 : k0_cond1 i = 1#1), ∀ a, (k0_off76 v1937) a + S1.size a ≤ S297.size a)
theorem k0_off76_inb : ∀ (i : grid0.Coords) (v1937 : BitVec 32) (k0_hw36 : k0_chk36 i v1937), ∀ (k0_h1 : k0_cond1 i = 1#1), ∀ a, (k0_off76 v1937) a + S1.size a ≤ S297.size a := fun i v1937 k0_hw36 k0_h1 => k0_hw36 k0_h1

def k0_off77 (k0_t2 : Fin k0_t2_loop.trips) (c35_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1935 : BitVec 32 := Scalar.addi v1569 c35_i32
  let v1941 : Index := Scalar.indexCast v1935
  ![v1941.toNat]
def k0_off78 (v1947 : BitVec 32) : Fin 1 → Nat :=
  let c9_i32_861 : BitVec 32 := 9#32
  let v1948 : BitVec 32 := Scalar.shrui v1947 c9_i32_861
  let v1949 : Index := Scalar.indexCast v1948
  ![v1949.toNat]

def k0_chk37 (i : grid0.Coords) (v1947 : BitVec 32) : Prop :=
  (∀ (k0_h1 : k0_cond1 i = 1#1), ∀ a, (k0_off78 v1947) a + S1.size a ≤ S297.size a)
theorem k0_off78_inb : ∀ (i : grid0.Coords) (v1947 : BitVec 32) (k0_hw37 : k0_chk37 i v1947), ∀ (k0_h1 : k0_cond1 i = 1#1), ∀ a, (k0_off78 v1947) a + S1.size a ≤ S297.size a := fun i v1947 k0_hw37 k0_h1 => k0_hw37 k0_h1

def k0_off79 (k0_t2 : Fin k0_t2_loop.trips) (c36_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1945 : BitVec 32 := Scalar.addi v1569 c36_i32
  let v1951 : Index := Scalar.indexCast v1945
  ![v1951.toNat]
def k0_off80 (v1957 : BitVec 32) : Fin 1 → Nat :=
  let c9_i32_862 : BitVec 32 := 9#32
  let v1958 : BitVec 32 := Scalar.shrui v1957 c9_i32_862
  let v1959 : Index := Scalar.indexCast v1958
  ![v1959.toNat]

def k0_chk38 (i : grid0.Coords) (v1957 : BitVec 32) : Prop :=
  (∀ (k0_h1 : k0_cond1 i = 1#1), ∀ a, (k0_off80 v1957) a + S1.size a ≤ S297.size a)
theorem k0_off80_inb : ∀ (i : grid0.Coords) (v1957 : BitVec 32) (k0_hw38 : k0_chk38 i v1957), ∀ (k0_h1 : k0_cond1 i = 1#1), ∀ a, (k0_off80 v1957) a + S1.size a ≤ S297.size a := fun i v1957 k0_hw38 k0_h1 => k0_hw38 k0_h1

def k0_off81 (k0_t2 : Fin k0_t2_loop.trips) (c37_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1955 : BitVec 32 := Scalar.addi v1569 c37_i32
  let v1961 : Index := Scalar.indexCast v1955
  ![v1961.toNat]
def k0_off82 (v1967 : BitVec 32) : Fin 1 → Nat :=
  let c9_i32_863 : BitVec 32 := 9#32
  let v1968 : BitVec 32 := Scalar.shrui v1967 c9_i32_863
  let v1969 : Index := Scalar.indexCast v1968
  ![v1969.toNat]

def k0_chk39 (i : grid0.Coords) (v1967 : BitVec 32) : Prop :=
  (∀ (k0_h1 : k0_cond1 i = 1#1), ∀ a, (k0_off82 v1967) a + S1.size a ≤ S297.size a)
theorem k0_off82_inb : ∀ (i : grid0.Coords) (v1967 : BitVec 32) (k0_hw39 : k0_chk39 i v1967), ∀ (k0_h1 : k0_cond1 i = 1#1), ∀ a, (k0_off82 v1967) a + S1.size a ≤ S297.size a := fun i v1967 k0_hw39 k0_h1 => k0_hw39 k0_h1

def k0_off83 (k0_t2 : Fin k0_t2_loop.trips) (c38_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1965 : BitVec 32 := Scalar.addi v1569 c38_i32
  let v1971 : Index := Scalar.indexCast v1965
  ![v1971.toNat]
def k0_off84 (v1977 : BitVec 32) : Fin 1 → Nat :=
  let c9_i32_864 : BitVec 32 := 9#32
  let v1978 : BitVec 32 := Scalar.shrui v1977 c9_i32_864
  let v1979 : Index := Scalar.indexCast v1978
  ![v1979.toNat]

def k0_chk40 (i : grid0.Coords) (v1977 : BitVec 32) : Prop :=
  (∀ (k0_h1 : k0_cond1 i = 1#1), ∀ a, (k0_off84 v1977) a + S1.size a ≤ S297.size a)
theorem k0_off84_inb : ∀ (i : grid0.Coords) (v1977 : BitVec 32) (k0_hw40 : k0_chk40 i v1977), ∀ (k0_h1 : k0_cond1 i = 1#1), ∀ a, (k0_off84 v1977) a + S1.size a ≤ S297.size a := fun i v1977 k0_hw40 k0_h1 => k0_hw40 k0_h1

def k0_off85 (k0_t2 : Fin k0_t2_loop.trips) (c39_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1975 : BitVec 32 := Scalar.addi v1569 c39_i32
  let v1981 : Index := Scalar.indexCast v1975
  ![v1981.toNat]
def k0_off86 (v1987 : BitVec 32) : Fin 1 → Nat :=
  let c9_i32_865 : BitVec 32 := 9#32
  let v1988 : BitVec 32 := Scalar.shrui v1987 c9_i32_865
  let v1989 : Index := Scalar.indexCast v1988
  ![v1989.toNat]

def k0_chk41 (i : grid0.Coords) (v1987 : BitVec 32) : Prop :=
  (∀ (k0_h1 : k0_cond1 i = 1#1), ∀ a, (k0_off86 v1987) a + S1.size a ≤ S297.size a)
theorem k0_off86_inb : ∀ (i : grid0.Coords) (v1987 : BitVec 32) (k0_hw41 : k0_chk41 i v1987), ∀ (k0_h1 : k0_cond1 i = 1#1), ∀ a, (k0_off86 v1987) a + S1.size a ≤ S297.size a := fun i v1987 k0_hw41 k0_h1 => k0_hw41 k0_h1

def k0_off87 (k0_t2 : Fin k0_t2_loop.trips) (c40_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1985 : BitVec 32 := Scalar.addi v1569 c40_i32
  let v1991 : Index := Scalar.indexCast v1985
  ![v1991.toNat]
def k0_off88 (v1997 : BitVec 32) : Fin 1 → Nat :=
  let c9_i32_866 : BitVec 32 := 9#32
  let v1998 : BitVec 32 := Scalar.shrui v1997 c9_i32_866
  let v1999 : Index := Scalar.indexCast v1998
  ![v1999.toNat]

def k0_chk42 (i : grid0.Coords) (v1997 : BitVec 32) : Prop :=
  (∀ (k0_h1 : k0_cond1 i = 1#1), ∀ a, (k0_off88 v1997) a + S1.size a ≤ S297.size a)
theorem k0_off88_inb : ∀ (i : grid0.Coords) (v1997 : BitVec 32) (k0_hw42 : k0_chk42 i v1997), ∀ (k0_h1 : k0_cond1 i = 1#1), ∀ a, (k0_off88 v1997) a + S1.size a ≤ S297.size a := fun i v1997 k0_hw42 k0_h1 => k0_hw42 k0_h1

def k0_off89 (k0_t2 : Fin k0_t2_loop.trips) (c41_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v1995 : BitVec 32 := Scalar.addi v1569 c41_i32
  let v2001 : Index := Scalar.indexCast v1995
  ![v2001.toNat]
def k0_off90 (v2007 : BitVec 32) : Fin 1 → Nat :=
  let c9_i32_867 : BitVec 32 := 9#32
  let v2008 : BitVec 32 := Scalar.shrui v2007 c9_i32_867
  let v2009 : Index := Scalar.indexCast v2008
  ![v2009.toNat]

def k0_chk43 (i : grid0.Coords) (v2007 : BitVec 32) : Prop :=
  (∀ (k0_h1 : k0_cond1 i = 1#1), ∀ a, (k0_off90 v2007) a + S1.size a ≤ S297.size a)
theorem k0_off90_inb : ∀ (i : grid0.Coords) (v2007 : BitVec 32) (k0_hw43 : k0_chk43 i v2007), ∀ (k0_h1 : k0_cond1 i = 1#1), ∀ a, (k0_off90 v2007) a + S1.size a ≤ S297.size a := fun i v2007 k0_hw43 k0_h1 => k0_hw43 k0_h1

def k0_off91 (k0_t2 : Fin k0_t2_loop.trips) (c42_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2005 : BitVec 32 := Scalar.addi v1569 c42_i32
  let v2011 : Index := Scalar.indexCast v2005
  ![v2011.toNat]
def k0_off92 (v2017 : BitVec 32) : Fin 1 → Nat :=
  let c9_i32_868 : BitVec 32 := 9#32
  let v2018 : BitVec 32 := Scalar.shrui v2017 c9_i32_868
  let v2019 : Index := Scalar.indexCast v2018
  ![v2019.toNat]

def k0_chk44 (i : grid0.Coords) (v2017 : BitVec 32) : Prop :=
  (∀ (k0_h1 : k0_cond1 i = 1#1), ∀ a, (k0_off92 v2017) a + S1.size a ≤ S297.size a)
theorem k0_off92_inb : ∀ (i : grid0.Coords) (v2017 : BitVec 32) (k0_hw44 : k0_chk44 i v2017), ∀ (k0_h1 : k0_cond1 i = 1#1), ∀ a, (k0_off92 v2017) a + S1.size a ≤ S297.size a := fun i v2017 k0_hw44 k0_h1 => k0_hw44 k0_h1

def k0_off93 (k0_t2 : Fin k0_t2_loop.trips) (c43_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2015 : BitVec 32 := Scalar.addi v1569 c43_i32
  let v2021 : Index := Scalar.indexCast v2015
  ![v2021.toNat]
def k0_off94 (v2027 : BitVec 32) : Fin 1 → Nat :=
  let c9_i32_869 : BitVec 32 := 9#32
  let v2028 : BitVec 32 := Scalar.shrui v2027 c9_i32_869
  let v2029 : Index := Scalar.indexCast v2028
  ![v2029.toNat]

def k0_chk45 (i : grid0.Coords) (v2027 : BitVec 32) : Prop :=
  (∀ (k0_h1 : k0_cond1 i = 1#1), ∀ a, (k0_off94 v2027) a + S1.size a ≤ S297.size a)
theorem k0_off94_inb : ∀ (i : grid0.Coords) (v2027 : BitVec 32) (k0_hw45 : k0_chk45 i v2027), ∀ (k0_h1 : k0_cond1 i = 1#1), ∀ a, (k0_off94 v2027) a + S1.size a ≤ S297.size a := fun i v2027 k0_hw45 k0_h1 => k0_hw45 k0_h1

def k0_off95 (k0_t2 : Fin k0_t2_loop.trips) (c44_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2025 : BitVec 32 := Scalar.addi v1569 c44_i32
  let v2031 : Index := Scalar.indexCast v2025
  ![v2031.toNat]
def k0_off96 (v2037 : BitVec 32) : Fin 1 → Nat :=
  let c9_i32_870 : BitVec 32 := 9#32
  let v2038 : BitVec 32 := Scalar.shrui v2037 c9_i32_870
  let v2039 : Index := Scalar.indexCast v2038
  ![v2039.toNat]

def k0_chk46 (i : grid0.Coords) (v2037 : BitVec 32) : Prop :=
  (∀ (k0_h1 : k0_cond1 i = 1#1), ∀ a, (k0_off96 v2037) a + S1.size a ≤ S297.size a)
theorem k0_off96_inb : ∀ (i : grid0.Coords) (v2037 : BitVec 32) (k0_hw46 : k0_chk46 i v2037), ∀ (k0_h1 : k0_cond1 i = 1#1), ∀ a, (k0_off96 v2037) a + S1.size a ≤ S297.size a := fun i v2037 k0_hw46 k0_h1 => k0_hw46 k0_h1

def k0_off97 (k0_t2 : Fin k0_t2_loop.trips) (c45_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2035 : BitVec 32 := Scalar.addi v1569 c45_i32
  let v2041 : Index := Scalar.indexCast v2035
  ![v2041.toNat]
def k0_off98 (v2047 : BitVec 32) : Fin 1 → Nat :=
  let c9_i32_871 : BitVec 32 := 9#32
  let v2048 : BitVec 32 := Scalar.shrui v2047 c9_i32_871
  let v2049 : Index := Scalar.indexCast v2048
  ![v2049.toNat]

def k0_chk47 (i : grid0.Coords) (v2047 : BitVec 32) : Prop :=
  (∀ (k0_h1 : k0_cond1 i = 1#1), ∀ a, (k0_off98 v2047) a + S1.size a ≤ S297.size a)
theorem k0_off98_inb : ∀ (i : grid0.Coords) (v2047 : BitVec 32) (k0_hw47 : k0_chk47 i v2047), ∀ (k0_h1 : k0_cond1 i = 1#1), ∀ a, (k0_off98 v2047) a + S1.size a ≤ S297.size a := fun i v2047 k0_hw47 k0_h1 => k0_hw47 k0_h1

def k0_off99 (k0_t2 : Fin k0_t2_loop.trips) (c46_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2045 : BitVec 32 := Scalar.addi v1569 c46_i32
  let v2051 : Index := Scalar.indexCast v2045
  ![v2051.toNat]
def k0_off100 (v2057 : BitVec 32) : Fin 1 → Nat :=
  let c9_i32_872 : BitVec 32 := 9#32
  let v2058 : BitVec 32 := Scalar.shrui v2057 c9_i32_872
  let v2059 : Index := Scalar.indexCast v2058
  ![v2059.toNat]

def k0_chk48 (i : grid0.Coords) (v2057 : BitVec 32) : Prop :=
  (∀ (k0_h1 : k0_cond1 i = 1#1), ∀ a, (k0_off100 v2057) a + S1.size a ≤ S297.size a)
theorem k0_off100_inb : ∀ (i : grid0.Coords) (v2057 : BitVec 32) (k0_hw48 : k0_chk48 i v2057), ∀ (k0_h1 : k0_cond1 i = 1#1), ∀ a, (k0_off100 v2057) a + S1.size a ≤ S297.size a := fun i v2057 k0_hw48 k0_h1 => k0_hw48 k0_h1

def k0_off101 (k0_t2 : Fin k0_t2_loop.trips) (c47_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2055 : BitVec 32 := Scalar.addi v1569 c47_i32
  let v2061 : Index := Scalar.indexCast v2055
  ![v2061.toNat]
def k0_off102 (v2067 : BitVec 32) : Fin 1 → Nat :=
  let c9_i32_873 : BitVec 32 := 9#32
  let v2068 : BitVec 32 := Scalar.shrui v2067 c9_i32_873
  let v2069 : Index := Scalar.indexCast v2068
  ![v2069.toNat]

def k0_chk49 (i : grid0.Coords) (v2067 : BitVec 32) : Prop :=
  (∀ (k0_h1 : k0_cond1 i = 1#1), ∀ a, (k0_off102 v2067) a + S1.size a ≤ S297.size a)
theorem k0_off102_inb : ∀ (i : grid0.Coords) (v2067 : BitVec 32) (k0_hw49 : k0_chk49 i v2067), ∀ (k0_h1 : k0_cond1 i = 1#1), ∀ a, (k0_off102 v2067) a + S1.size a ≤ S297.size a := fun i v2067 k0_hw49 k0_h1 => k0_hw49 k0_h1

def k0_off103 (k0_t2 : Fin k0_t2_loop.trips) (c48_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2065 : BitVec 32 := Scalar.addi v1569 c48_i32
  let v2071 : Index := Scalar.indexCast v2065
  ![v2071.toNat]
def k0_off104 (v2077 : BitVec 32) : Fin 1 → Nat :=
  let c9_i32_874 : BitVec 32 := 9#32
  let v2078 : BitVec 32 := Scalar.shrui v2077 c9_i32_874
  let v2079 : Index := Scalar.indexCast v2078
  ![v2079.toNat]

def k0_chk50 (i : grid0.Coords) (v2077 : BitVec 32) : Prop :=
  (∀ (k0_h1 : k0_cond1 i = 1#1), ∀ a, (k0_off104 v2077) a + S1.size a ≤ S297.size a)
theorem k0_off104_inb : ∀ (i : grid0.Coords) (v2077 : BitVec 32) (k0_hw50 : k0_chk50 i v2077), ∀ (k0_h1 : k0_cond1 i = 1#1), ∀ a, (k0_off104 v2077) a + S1.size a ≤ S297.size a := fun i v2077 k0_hw50 k0_h1 => k0_hw50 k0_h1

def k0_off105 (k0_t2 : Fin k0_t2_loop.trips) (c49_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2075 : BitVec 32 := Scalar.addi v1569 c49_i32
  let v2081 : Index := Scalar.indexCast v2075
  ![v2081.toNat]
def k0_off106 (v2087 : BitVec 32) : Fin 1 → Nat :=
  let c9_i32_875 : BitVec 32 := 9#32
  let v2088 : BitVec 32 := Scalar.shrui v2087 c9_i32_875
  let v2089 : Index := Scalar.indexCast v2088
  ![v2089.toNat]

def k0_chk51 (i : grid0.Coords) (v2087 : BitVec 32) : Prop :=
  (∀ (k0_h1 : k0_cond1 i = 1#1), ∀ a, (k0_off106 v2087) a + S1.size a ≤ S297.size a)
theorem k0_off106_inb : ∀ (i : grid0.Coords) (v2087 : BitVec 32) (k0_hw51 : k0_chk51 i v2087), ∀ (k0_h1 : k0_cond1 i = 1#1), ∀ a, (k0_off106 v2087) a + S1.size a ≤ S297.size a := fun i v2087 k0_hw51 k0_h1 => k0_hw51 k0_h1

def k0_off107 (k0_t2 : Fin k0_t2_loop.trips) (c50_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2085 : BitVec 32 := Scalar.addi v1569 c50_i32
  let v2091 : Index := Scalar.indexCast v2085
  ![v2091.toNat]
def k0_off108 (v2097 : BitVec 32) : Fin 1 → Nat :=
  let c9_i32_876 : BitVec 32 := 9#32
  let v2098 : BitVec 32 := Scalar.shrui v2097 c9_i32_876
  let v2099 : Index := Scalar.indexCast v2098
  ![v2099.toNat]

def k0_chk52 (i : grid0.Coords) (v2097 : BitVec 32) : Prop :=
  (∀ (k0_h1 : k0_cond1 i = 1#1), ∀ a, (k0_off108 v2097) a + S1.size a ≤ S297.size a)
theorem k0_off108_inb : ∀ (i : grid0.Coords) (v2097 : BitVec 32) (k0_hw52 : k0_chk52 i v2097), ∀ (k0_h1 : k0_cond1 i = 1#1), ∀ a, (k0_off108 v2097) a + S1.size a ≤ S297.size a := fun i v2097 k0_hw52 k0_h1 => k0_hw52 k0_h1

def k0_off109 (k0_t2 : Fin k0_t2_loop.trips) (c51_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2095 : BitVec 32 := Scalar.addi v1569 c51_i32
  let v2101 : Index := Scalar.indexCast v2095
  ![v2101.toNat]
def k0_off110 (v2107 : BitVec 32) : Fin 1 → Nat :=
  let c9_i32_877 : BitVec 32 := 9#32
  let v2108 : BitVec 32 := Scalar.shrui v2107 c9_i32_877
  let v2109 : Index := Scalar.indexCast v2108
  ![v2109.toNat]

def k0_chk53 (i : grid0.Coords) (v2107 : BitVec 32) : Prop :=
  (∀ (k0_h1 : k0_cond1 i = 1#1), ∀ a, (k0_off110 v2107) a + S1.size a ≤ S297.size a)
theorem k0_off110_inb : ∀ (i : grid0.Coords) (v2107 : BitVec 32) (k0_hw53 : k0_chk53 i v2107), ∀ (k0_h1 : k0_cond1 i = 1#1), ∀ a, (k0_off110 v2107) a + S1.size a ≤ S297.size a := fun i v2107 k0_hw53 k0_h1 => k0_hw53 k0_h1

def k0_off111 (k0_t2 : Fin k0_t2_loop.trips) (c52_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2105 : BitVec 32 := Scalar.addi v1569 c52_i32
  let v2111 : Index := Scalar.indexCast v2105
  ![v2111.toNat]
def k0_off112 (v2117 : BitVec 32) : Fin 1 → Nat :=
  let c9_i32_878 : BitVec 32 := 9#32
  let v2118 : BitVec 32 := Scalar.shrui v2117 c9_i32_878
  let v2119 : Index := Scalar.indexCast v2118
  ![v2119.toNat]

def k0_chk54 (i : grid0.Coords) (v2117 : BitVec 32) : Prop :=
  (∀ (k0_h1 : k0_cond1 i = 1#1), ∀ a, (k0_off112 v2117) a + S1.size a ≤ S297.size a)
theorem k0_off112_inb : ∀ (i : grid0.Coords) (v2117 : BitVec 32) (k0_hw54 : k0_chk54 i v2117), ∀ (k0_h1 : k0_cond1 i = 1#1), ∀ a, (k0_off112 v2117) a + S1.size a ≤ S297.size a := fun i v2117 k0_hw54 k0_h1 => k0_hw54 k0_h1

def k0_off113 (k0_t2 : Fin k0_t2_loop.trips) (c53_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2115 : BitVec 32 := Scalar.addi v1569 c53_i32
  let v2121 : Index := Scalar.indexCast v2115
  ![v2121.toNat]
def k0_off114 (v2127 : BitVec 32) : Fin 1 → Nat :=
  let c9_i32_879 : BitVec 32 := 9#32
  let v2128 : BitVec 32 := Scalar.shrui v2127 c9_i32_879
  let v2129 : Index := Scalar.indexCast v2128
  ![v2129.toNat]

def k0_chk55 (i : grid0.Coords) (v2127 : BitVec 32) : Prop :=
  (∀ (k0_h1 : k0_cond1 i = 1#1), ∀ a, (k0_off114 v2127) a + S1.size a ≤ S297.size a)
theorem k0_off114_inb : ∀ (i : grid0.Coords) (v2127 : BitVec 32) (k0_hw55 : k0_chk55 i v2127), ∀ (k0_h1 : k0_cond1 i = 1#1), ∀ a, (k0_off114 v2127) a + S1.size a ≤ S297.size a := fun i v2127 k0_hw55 k0_h1 => k0_hw55 k0_h1

def k0_off115 (k0_t2 : Fin k0_t2_loop.trips) (c54_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2125 : BitVec 32 := Scalar.addi v1569 c54_i32
  let v2131 : Index := Scalar.indexCast v2125
  ![v2131.toNat]
def k0_off116 (v2137 : BitVec 32) : Fin 1 → Nat :=
  let c9_i32_880 : BitVec 32 := 9#32
  let v2138 : BitVec 32 := Scalar.shrui v2137 c9_i32_880
  let v2139 : Index := Scalar.indexCast v2138
  ![v2139.toNat]

def k0_chk56 (i : grid0.Coords) (v2137 : BitVec 32) : Prop :=
  (∀ (k0_h1 : k0_cond1 i = 1#1), ∀ a, (k0_off116 v2137) a + S1.size a ≤ S297.size a)
theorem k0_off116_inb : ∀ (i : grid0.Coords) (v2137 : BitVec 32) (k0_hw56 : k0_chk56 i v2137), ∀ (k0_h1 : k0_cond1 i = 1#1), ∀ a, (k0_off116 v2137) a + S1.size a ≤ S297.size a := fun i v2137 k0_hw56 k0_h1 => k0_hw56 k0_h1

def k0_off117 (k0_t2 : Fin k0_t2_loop.trips) (c55_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2135 : BitVec 32 := Scalar.addi v1569 c55_i32
  let v2141 : Index := Scalar.indexCast v2135
  ![v2141.toNat]
def k0_off118 (v2147 : BitVec 32) : Fin 1 → Nat :=
  let c9_i32_881 : BitVec 32 := 9#32
  let v2148 : BitVec 32 := Scalar.shrui v2147 c9_i32_881
  let v2149 : Index := Scalar.indexCast v2148
  ![v2149.toNat]

def k0_chk57 (i : grid0.Coords) (v2147 : BitVec 32) : Prop :=
  (∀ (k0_h1 : k0_cond1 i = 1#1), ∀ a, (k0_off118 v2147) a + S1.size a ≤ S297.size a)
theorem k0_off118_inb : ∀ (i : grid0.Coords) (v2147 : BitVec 32) (k0_hw57 : k0_chk57 i v2147), ∀ (k0_h1 : k0_cond1 i = 1#1), ∀ a, (k0_off118 v2147) a + S1.size a ≤ S297.size a := fun i v2147 k0_hw57 k0_h1 => k0_hw57 k0_h1

def k0_off119 (k0_t2 : Fin k0_t2_loop.trips) (c56_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2145 : BitVec 32 := Scalar.addi v1569 c56_i32
  let v2151 : Index := Scalar.indexCast v2145
  ![v2151.toNat]
def k0_off120 (v2157 : BitVec 32) : Fin 1 → Nat :=
  let c9_i32_882 : BitVec 32 := 9#32
  let v2158 : BitVec 32 := Scalar.shrui v2157 c9_i32_882
  let v2159 : Index := Scalar.indexCast v2158
  ![v2159.toNat]

def k0_chk58 (i : grid0.Coords) (v2157 : BitVec 32) : Prop :=
  (∀ (k0_h1 : k0_cond1 i = 1#1), ∀ a, (k0_off120 v2157) a + S1.size a ≤ S297.size a)
theorem k0_off120_inb : ∀ (i : grid0.Coords) (v2157 : BitVec 32) (k0_hw58 : k0_chk58 i v2157), ∀ (k0_h1 : k0_cond1 i = 1#1), ∀ a, (k0_off120 v2157) a + S1.size a ≤ S297.size a := fun i v2157 k0_hw58 k0_h1 => k0_hw58 k0_h1

def k0_off121 (k0_t2 : Fin k0_t2_loop.trips) (c57_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2155 : BitVec 32 := Scalar.addi v1569 c57_i32
  let v2161 : Index := Scalar.indexCast v2155
  ![v2161.toNat]
def k0_off122 (v2167 : BitVec 32) : Fin 1 → Nat :=
  let c9_i32_883 : BitVec 32 := 9#32
  let v2168 : BitVec 32 := Scalar.shrui v2167 c9_i32_883
  let v2169 : Index := Scalar.indexCast v2168
  ![v2169.toNat]

def k0_chk59 (i : grid0.Coords) (v2167 : BitVec 32) : Prop :=
  (∀ (k0_h1 : k0_cond1 i = 1#1), ∀ a, (k0_off122 v2167) a + S1.size a ≤ S297.size a)
theorem k0_off122_inb : ∀ (i : grid0.Coords) (v2167 : BitVec 32) (k0_hw59 : k0_chk59 i v2167), ∀ (k0_h1 : k0_cond1 i = 1#1), ∀ a, (k0_off122 v2167) a + S1.size a ≤ S297.size a := fun i v2167 k0_hw59 k0_h1 => k0_hw59 k0_h1

def k0_off123 (k0_t2 : Fin k0_t2_loop.trips) (c58_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2165 : BitVec 32 := Scalar.addi v1569 c58_i32
  let v2171 : Index := Scalar.indexCast v2165
  ![v2171.toNat]
def k0_off124 (v2177 : BitVec 32) : Fin 1 → Nat :=
  let c9_i32_884 : BitVec 32 := 9#32
  let v2178 : BitVec 32 := Scalar.shrui v2177 c9_i32_884
  let v2179 : Index := Scalar.indexCast v2178
  ![v2179.toNat]

def k0_chk60 (i : grid0.Coords) (v2177 : BitVec 32) : Prop :=
  (∀ (k0_h1 : k0_cond1 i = 1#1), ∀ a, (k0_off124 v2177) a + S1.size a ≤ S297.size a)
theorem k0_off124_inb : ∀ (i : grid0.Coords) (v2177 : BitVec 32) (k0_hw60 : k0_chk60 i v2177), ∀ (k0_h1 : k0_cond1 i = 1#1), ∀ a, (k0_off124 v2177) a + S1.size a ≤ S297.size a := fun i v2177 k0_hw60 k0_h1 => k0_hw60 k0_h1

def k0_off125 (k0_t2 : Fin k0_t2_loop.trips) (c59_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2175 : BitVec 32 := Scalar.addi v1569 c59_i32
  let v2181 : Index := Scalar.indexCast v2175
  ![v2181.toNat]
def k0_off126 (v2187 : BitVec 32) : Fin 1 → Nat :=
  let c9_i32_885 : BitVec 32 := 9#32
  let v2188 : BitVec 32 := Scalar.shrui v2187 c9_i32_885
  let v2189 : Index := Scalar.indexCast v2188
  ![v2189.toNat]

def k0_chk61 (i : grid0.Coords) (v2187 : BitVec 32) : Prop :=
  (∀ (k0_h1 : k0_cond1 i = 1#1), ∀ a, (k0_off126 v2187) a + S1.size a ≤ S297.size a)
theorem k0_off126_inb : ∀ (i : grid0.Coords) (v2187 : BitVec 32) (k0_hw61 : k0_chk61 i v2187), ∀ (k0_h1 : k0_cond1 i = 1#1), ∀ a, (k0_off126 v2187) a + S1.size a ≤ S297.size a := fun i v2187 k0_hw61 k0_h1 => k0_hw61 k0_h1

def k0_off127 (k0_t2 : Fin k0_t2_loop.trips) (c60_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2185 : BitVec 32 := Scalar.addi v1569 c60_i32
  let v2191 : Index := Scalar.indexCast v2185
  ![v2191.toNat]
def k0_off128 (v2197 : BitVec 32) : Fin 1 → Nat :=
  let c9_i32_886 : BitVec 32 := 9#32
  let v2198 : BitVec 32 := Scalar.shrui v2197 c9_i32_886
  let v2199 : Index := Scalar.indexCast v2198
  ![v2199.toNat]

def k0_chk62 (i : grid0.Coords) (v2197 : BitVec 32) : Prop :=
  (∀ (k0_h1 : k0_cond1 i = 1#1), ∀ a, (k0_off128 v2197) a + S1.size a ≤ S297.size a)
theorem k0_off128_inb : ∀ (i : grid0.Coords) (v2197 : BitVec 32) (k0_hw62 : k0_chk62 i v2197), ∀ (k0_h1 : k0_cond1 i = 1#1), ∀ a, (k0_off128 v2197) a + S1.size a ≤ S297.size a := fun i v2197 k0_hw62 k0_h1 => k0_hw62 k0_h1

def k0_off129 (k0_t2 : Fin k0_t2_loop.trips) (c61_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2195 : BitVec 32 := Scalar.addi v1569 c61_i32
  let v2201 : Index := Scalar.indexCast v2195
  ![v2201.toNat]
def k0_off130 (v2207 : BitVec 32) : Fin 1 → Nat :=
  let c9_i32_887 : BitVec 32 := 9#32
  let v2208 : BitVec 32 := Scalar.shrui v2207 c9_i32_887
  let v2209 : Index := Scalar.indexCast v2208
  ![v2209.toNat]

def k0_chk63 (i : grid0.Coords) (v2207 : BitVec 32) : Prop :=
  (∀ (k0_h1 : k0_cond1 i = 1#1), ∀ a, (k0_off130 v2207) a + S1.size a ≤ S297.size a)
theorem k0_off130_inb : ∀ (i : grid0.Coords) (v2207 : BitVec 32) (k0_hw63 : k0_chk63 i v2207), ∀ (k0_h1 : k0_cond1 i = 1#1), ∀ a, (k0_off130 v2207) a + S1.size a ≤ S297.size a := fun i v2207 k0_hw63 k0_h1 => k0_hw63 k0_h1

def k0_off131 (k0_t2 : Fin k0_t2_loop.trips) (c62_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2205 : BitVec 32 := Scalar.addi v1569 c62_i32
  let v2211 : Index := Scalar.indexCast v2205
  ![v2211.toNat]
def k0_off132 (v2217 : BitVec 32) : Fin 1 → Nat :=
  let c9_i32_888 : BitVec 32 := 9#32
  let v2218 : BitVec 32 := Scalar.shrui v2217 c9_i32_888
  let v2219 : Index := Scalar.indexCast v2218
  ![v2219.toNat]

def k0_chk64 (i : grid0.Coords) (v2217 : BitVec 32) : Prop :=
  (∀ (k0_h1 : k0_cond1 i = 1#1), ∀ a, (k0_off132 v2217) a + S1.size a ≤ S297.size a)
theorem k0_off132_inb : ∀ (i : grid0.Coords) (v2217 : BitVec 32) (k0_hw64 : k0_chk64 i v2217), ∀ (k0_h1 : k0_cond1 i = 1#1), ∀ a, (k0_off132 v2217) a + S1.size a ≤ S297.size a := fun i v2217 k0_hw64 k0_h1 => k0_hw64 k0_h1

def k0_off133 (k0_t2 : Fin k0_t2_loop.trips) (c63_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2215 : BitVec 32 := Scalar.addi v1569 c63_i32
  let v2221 : Index := Scalar.indexCast v2215
  ![v2221.toNat]
def k0_off134 (v2227 : BitVec 32) : Fin 1 → Nat :=
  let c9_i32_889 : BitVec 32 := 9#32
  let v2228 : BitVec 32 := Scalar.shrui v2227 c9_i32_889
  let v2229 : Index := Scalar.indexCast v2228
  ![v2229.toNat]

def k0_chk65 (i : grid0.Coords) (v2227 : BitVec 32) : Prop :=
  (∀ (k0_h1 : k0_cond1 i = 1#1), ∀ a, (k0_off134 v2227) a + S1.size a ≤ S297.size a)
theorem k0_off134_inb : ∀ (i : grid0.Coords) (v2227 : BitVec 32) (k0_hw65 : k0_chk65 i v2227), ∀ (k0_h1 : k0_cond1 i = 1#1), ∀ a, (k0_off134 v2227) a + S1.size a ≤ S297.size a := fun i v2227 k0_hw65 k0_h1 => k0_hw65 k0_h1

def k0_off135 (k0_t2 : Fin k0_t2_loop.trips) (c64_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2225 : BitVec 32 := Scalar.addi v1569 c64_i32
  let v2231 : Index := Scalar.indexCast v2225
  ![v2231.toNat]
def k0_off136 (v2237 : BitVec 32) : Fin 1 → Nat :=
  let c9_i32_890 : BitVec 32 := 9#32
  let v2238 : BitVec 32 := Scalar.shrui v2237 c9_i32_890
  let v2239 : Index := Scalar.indexCast v2238
  ![v2239.toNat]

def k0_chk66 (i : grid0.Coords) (v2237 : BitVec 32) : Prop :=
  (∀ (k0_h1 : k0_cond1 i = 1#1), ∀ a, (k0_off136 v2237) a + S1.size a ≤ S297.size a)
theorem k0_off136_inb : ∀ (i : grid0.Coords) (v2237 : BitVec 32) (k0_hw66 : k0_chk66 i v2237), ∀ (k0_h1 : k0_cond1 i = 1#1), ∀ a, (k0_off136 v2237) a + S1.size a ≤ S297.size a := fun i v2237 k0_hw66 k0_h1 => k0_hw66 k0_h1

def k0_off137 (k0_t2 : Fin k0_t2_loop.trips) (c65_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2235 : BitVec 32 := Scalar.addi v1569 c65_i32
  let v2241 : Index := Scalar.indexCast v2235
  ![v2241.toNat]
def k0_off138 (v2247 : BitVec 32) : Fin 1 → Nat :=
  let c9_i32_891 : BitVec 32 := 9#32
  let v2248 : BitVec 32 := Scalar.shrui v2247 c9_i32_891
  let v2249 : Index := Scalar.indexCast v2248
  ![v2249.toNat]

def k0_chk67 (i : grid0.Coords) (v2247 : BitVec 32) : Prop :=
  (∀ (k0_h1 : k0_cond1 i = 1#1), ∀ a, (k0_off138 v2247) a + S1.size a ≤ S297.size a)
theorem k0_off138_inb : ∀ (i : grid0.Coords) (v2247 : BitVec 32) (k0_hw67 : k0_chk67 i v2247), ∀ (k0_h1 : k0_cond1 i = 1#1), ∀ a, (k0_off138 v2247) a + S1.size a ≤ S297.size a := fun i v2247 k0_hw67 k0_h1 => k0_hw67 k0_h1

def k0_off139 (k0_t2 : Fin k0_t2_loop.trips) (c66_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2245 : BitVec 32 := Scalar.addi v1569 c66_i32
  let v2251 : Index := Scalar.indexCast v2245
  ![v2251.toNat]
def k0_off140 (v2257 : BitVec 32) : Fin 1 → Nat :=
  let c9_i32_892 : BitVec 32 := 9#32
  let v2258 : BitVec 32 := Scalar.shrui v2257 c9_i32_892
  let v2259 : Index := Scalar.indexCast v2258
  ![v2259.toNat]

def k0_chk68 (i : grid0.Coords) (v2257 : BitVec 32) : Prop :=
  (∀ (k0_h1 : k0_cond1 i = 1#1), ∀ a, (k0_off140 v2257) a + S1.size a ≤ S297.size a)
theorem k0_off140_inb : ∀ (i : grid0.Coords) (v2257 : BitVec 32) (k0_hw68 : k0_chk68 i v2257), ∀ (k0_h1 : k0_cond1 i = 1#1), ∀ a, (k0_off140 v2257) a + S1.size a ≤ S297.size a := fun i v2257 k0_hw68 k0_h1 => k0_hw68 k0_h1

def k0_off141 (k0_t2 : Fin k0_t2_loop.trips) (c67_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2255 : BitVec 32 := Scalar.addi v1569 c67_i32
  let v2261 : Index := Scalar.indexCast v2255
  ![v2261.toNat]
def k0_off142 (v2267 : BitVec 32) : Fin 1 → Nat :=
  let c9_i32_893 : BitVec 32 := 9#32
  let v2268 : BitVec 32 := Scalar.shrui v2267 c9_i32_893
  let v2269 : Index := Scalar.indexCast v2268
  ![v2269.toNat]

def k0_chk69 (i : grid0.Coords) (v2267 : BitVec 32) : Prop :=
  (∀ (k0_h1 : k0_cond1 i = 1#1), ∀ a, (k0_off142 v2267) a + S1.size a ≤ S297.size a)
theorem k0_off142_inb : ∀ (i : grid0.Coords) (v2267 : BitVec 32) (k0_hw69 : k0_chk69 i v2267), ∀ (k0_h1 : k0_cond1 i = 1#1), ∀ a, (k0_off142 v2267) a + S1.size a ≤ S297.size a := fun i v2267 k0_hw69 k0_h1 => k0_hw69 k0_h1

def k0_off143 (k0_t2 : Fin k0_t2_loop.trips) (c68_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2265 : BitVec 32 := Scalar.addi v1569 c68_i32
  let v2271 : Index := Scalar.indexCast v2265
  ![v2271.toNat]
def k0_off144 (v2277 : BitVec 32) : Fin 1 → Nat :=
  let c9_i32_894 : BitVec 32 := 9#32
  let v2278 : BitVec 32 := Scalar.shrui v2277 c9_i32_894
  let v2279 : Index := Scalar.indexCast v2278
  ![v2279.toNat]

def k0_chk70 (i : grid0.Coords) (v2277 : BitVec 32) : Prop :=
  (∀ (k0_h1 : k0_cond1 i = 1#1), ∀ a, (k0_off144 v2277) a + S1.size a ≤ S297.size a)
theorem k0_off144_inb : ∀ (i : grid0.Coords) (v2277 : BitVec 32) (k0_hw70 : k0_chk70 i v2277), ∀ (k0_h1 : k0_cond1 i = 1#1), ∀ a, (k0_off144 v2277) a + S1.size a ≤ S297.size a := fun i v2277 k0_hw70 k0_h1 => k0_hw70 k0_h1

def k0_off145 (k0_t2 : Fin k0_t2_loop.trips) (c69_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2275 : BitVec 32 := Scalar.addi v1569 c69_i32
  let v2281 : Index := Scalar.indexCast v2275
  ![v2281.toNat]
def k0_off146 (v2287 : BitVec 32) : Fin 1 → Nat :=
  let c9_i32_895 : BitVec 32 := 9#32
  let v2288 : BitVec 32 := Scalar.shrui v2287 c9_i32_895
  let v2289 : Index := Scalar.indexCast v2288
  ![v2289.toNat]

def k0_chk71 (i : grid0.Coords) (v2287 : BitVec 32) : Prop :=
  (∀ (k0_h1 : k0_cond1 i = 1#1), ∀ a, (k0_off146 v2287) a + S1.size a ≤ S297.size a)
theorem k0_off146_inb : ∀ (i : grid0.Coords) (v2287 : BitVec 32) (k0_hw71 : k0_chk71 i v2287), ∀ (k0_h1 : k0_cond1 i = 1#1), ∀ a, (k0_off146 v2287) a + S1.size a ≤ S297.size a := fun i v2287 k0_hw71 k0_h1 => k0_hw71 k0_h1

def k0_off147 (k0_t2 : Fin k0_t2_loop.trips) (c70_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2285 : BitVec 32 := Scalar.addi v1569 c70_i32
  let v2291 : Index := Scalar.indexCast v2285
  ![v2291.toNat]
def k0_off148 (v2297 : BitVec 32) : Fin 1 → Nat :=
  let c9_i32_896 : BitVec 32 := 9#32
  let v2298 : BitVec 32 := Scalar.shrui v2297 c9_i32_896
  let v2299 : Index := Scalar.indexCast v2298
  ![v2299.toNat]

def k0_chk72 (i : grid0.Coords) (v2297 : BitVec 32) : Prop :=
  (∀ (k0_h1 : k0_cond1 i = 1#1), ∀ a, (k0_off148 v2297) a + S1.size a ≤ S297.size a)
theorem k0_off148_inb : ∀ (i : grid0.Coords) (v2297 : BitVec 32) (k0_hw72 : k0_chk72 i v2297), ∀ (k0_h1 : k0_cond1 i = 1#1), ∀ a, (k0_off148 v2297) a + S1.size a ≤ S297.size a := fun i v2297 k0_hw72 k0_h1 => k0_hw72 k0_h1

def k0_off149 (k0_t2 : Fin k0_t2_loop.trips) (c71_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2295 : BitVec 32 := Scalar.addi v1569 c71_i32
  let v2301 : Index := Scalar.indexCast v2295
  ![v2301.toNat]
def k0_off150 (v2307 : BitVec 32) : Fin 1 → Nat :=
  let c9_i32_897 : BitVec 32 := 9#32
  let v2308 : BitVec 32 := Scalar.shrui v2307 c9_i32_897
  let v2309 : Index := Scalar.indexCast v2308
  ![v2309.toNat]

def k0_chk73 (i : grid0.Coords) (v2307 : BitVec 32) : Prop :=
  (∀ (k0_h1 : k0_cond1 i = 1#1), ∀ a, (k0_off150 v2307) a + S1.size a ≤ S297.size a)
theorem k0_off150_inb : ∀ (i : grid0.Coords) (v2307 : BitVec 32) (k0_hw73 : k0_chk73 i v2307), ∀ (k0_h1 : k0_cond1 i = 1#1), ∀ a, (k0_off150 v2307) a + S1.size a ≤ S297.size a := fun i v2307 k0_hw73 k0_h1 => k0_hw73 k0_h1

def k0_off151 (k0_t2 : Fin k0_t2_loop.trips) (c72_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2305 : BitVec 32 := Scalar.addi v1569 c72_i32
  let v2311 : Index := Scalar.indexCast v2305
  ![v2311.toNat]
def k0_off152 (v2317 : BitVec 32) : Fin 1 → Nat :=
  let c9_i32_898 : BitVec 32 := 9#32
  let v2318 : BitVec 32 := Scalar.shrui v2317 c9_i32_898
  let v2319 : Index := Scalar.indexCast v2318
  ![v2319.toNat]

def k0_chk74 (i : grid0.Coords) (v2317 : BitVec 32) : Prop :=
  (∀ (k0_h1 : k0_cond1 i = 1#1), ∀ a, (k0_off152 v2317) a + S1.size a ≤ S297.size a)
theorem k0_off152_inb : ∀ (i : grid0.Coords) (v2317 : BitVec 32) (k0_hw74 : k0_chk74 i v2317), ∀ (k0_h1 : k0_cond1 i = 1#1), ∀ a, (k0_off152 v2317) a + S1.size a ≤ S297.size a := fun i v2317 k0_hw74 k0_h1 => k0_hw74 k0_h1

def k0_off153 (k0_t2 : Fin k0_t2_loop.trips) (c73_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2315 : BitVec 32 := Scalar.addi v1569 c73_i32
  let v2321 : Index := Scalar.indexCast v2315
  ![v2321.toNat]
def k0_off154 (v2327 : BitVec 32) : Fin 1 → Nat :=
  let c9_i32_899 : BitVec 32 := 9#32
  let v2328 : BitVec 32 := Scalar.shrui v2327 c9_i32_899
  let v2329 : Index := Scalar.indexCast v2328
  ![v2329.toNat]

def k0_chk75 (i : grid0.Coords) (v2327 : BitVec 32) : Prop :=
  (∀ (k0_h1 : k0_cond1 i = 1#1), ∀ a, (k0_off154 v2327) a + S1.size a ≤ S297.size a)
theorem k0_off154_inb : ∀ (i : grid0.Coords) (v2327 : BitVec 32) (k0_hw75 : k0_chk75 i v2327), ∀ (k0_h1 : k0_cond1 i = 1#1), ∀ a, (k0_off154 v2327) a + S1.size a ≤ S297.size a := fun i v2327 k0_hw75 k0_h1 => k0_hw75 k0_h1

def k0_off155 (k0_t2 : Fin k0_t2_loop.trips) (c74_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2325 : BitVec 32 := Scalar.addi v1569 c74_i32
  let v2331 : Index := Scalar.indexCast v2325
  ![v2331.toNat]
def k0_off156 (v2337 : BitVec 32) : Fin 1 → Nat :=
  let c9_i32_900 : BitVec 32 := 9#32
  let v2338 : BitVec 32 := Scalar.shrui v2337 c9_i32_900
  let v2339 : Index := Scalar.indexCast v2338
  ![v2339.toNat]

def k0_chk76 (i : grid0.Coords) (v2337 : BitVec 32) : Prop :=
  (∀ (k0_h1 : k0_cond1 i = 1#1), ∀ a, (k0_off156 v2337) a + S1.size a ≤ S297.size a)
theorem k0_off156_inb : ∀ (i : grid0.Coords) (v2337 : BitVec 32) (k0_hw76 : k0_chk76 i v2337), ∀ (k0_h1 : k0_cond1 i = 1#1), ∀ a, (k0_off156 v2337) a + S1.size a ≤ S297.size a := fun i v2337 k0_hw76 k0_h1 => k0_hw76 k0_h1

def k0_off157 (k0_t2 : Fin k0_t2_loop.trips) (c75_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2335 : BitVec 32 := Scalar.addi v1569 c75_i32
  let v2341 : Index := Scalar.indexCast v2335
  ![v2341.toNat]
def k0_off158 (v2347 : BitVec 32) : Fin 1 → Nat :=
  let c9_i32_901 : BitVec 32 := 9#32
  let v2348 : BitVec 32 := Scalar.shrui v2347 c9_i32_901
  let v2349 : Index := Scalar.indexCast v2348
  ![v2349.toNat]

def k0_chk77 (i : grid0.Coords) (v2347 : BitVec 32) : Prop :=
  (∀ (k0_h1 : k0_cond1 i = 1#1), ∀ a, (k0_off158 v2347) a + S1.size a ≤ S297.size a)
theorem k0_off158_inb : ∀ (i : grid0.Coords) (v2347 : BitVec 32) (k0_hw77 : k0_chk77 i v2347), ∀ (k0_h1 : k0_cond1 i = 1#1), ∀ a, (k0_off158 v2347) a + S1.size a ≤ S297.size a := fun i v2347 k0_hw77 k0_h1 => k0_hw77 k0_h1

def k0_off159 (k0_t2 : Fin k0_t2_loop.trips) (c76_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2345 : BitVec 32 := Scalar.addi v1569 c76_i32
  let v2351 : Index := Scalar.indexCast v2345
  ![v2351.toNat]
def k0_off160 (v2357 : BitVec 32) : Fin 1 → Nat :=
  let c9_i32_902 : BitVec 32 := 9#32
  let v2358 : BitVec 32 := Scalar.shrui v2357 c9_i32_902
  let v2359 : Index := Scalar.indexCast v2358
  ![v2359.toNat]

def k0_chk78 (i : grid0.Coords) (v2357 : BitVec 32) : Prop :=
  (∀ (k0_h1 : k0_cond1 i = 1#1), ∀ a, (k0_off160 v2357) a + S1.size a ≤ S297.size a)
theorem k0_off160_inb : ∀ (i : grid0.Coords) (v2357 : BitVec 32) (k0_hw78 : k0_chk78 i v2357), ∀ (k0_h1 : k0_cond1 i = 1#1), ∀ a, (k0_off160 v2357) a + S1.size a ≤ S297.size a := fun i v2357 k0_hw78 k0_h1 => k0_hw78 k0_h1

def k0_off161 (k0_t2 : Fin k0_t2_loop.trips) (c77_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2355 : BitVec 32 := Scalar.addi v1569 c77_i32
  let v2361 : Index := Scalar.indexCast v2355
  ![v2361.toNat]
def k0_off162 (v2367 : BitVec 32) : Fin 1 → Nat :=
  let c9_i32_903 : BitVec 32 := 9#32
  let v2368 : BitVec 32 := Scalar.shrui v2367 c9_i32_903
  let v2369 : Index := Scalar.indexCast v2368
  ![v2369.toNat]

def k0_chk79 (i : grid0.Coords) (v2367 : BitVec 32) : Prop :=
  (∀ (k0_h1 : k0_cond1 i = 1#1), ∀ a, (k0_off162 v2367) a + S1.size a ≤ S297.size a)
theorem k0_off162_inb : ∀ (i : grid0.Coords) (v2367 : BitVec 32) (k0_hw79 : k0_chk79 i v2367), ∀ (k0_h1 : k0_cond1 i = 1#1), ∀ a, (k0_off162 v2367) a + S1.size a ≤ S297.size a := fun i v2367 k0_hw79 k0_h1 => k0_hw79 k0_h1

def k0_off163 (k0_t2 : Fin k0_t2_loop.trips) (c78_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2365 : BitVec 32 := Scalar.addi v1569 c78_i32
  let v2371 : Index := Scalar.indexCast v2365
  ![v2371.toNat]
def k0_off164 (v2377 : BitVec 32) : Fin 1 → Nat :=
  let c9_i32_904 : BitVec 32 := 9#32
  let v2378 : BitVec 32 := Scalar.shrui v2377 c9_i32_904
  let v2379 : Index := Scalar.indexCast v2378
  ![v2379.toNat]

def k0_chk80 (i : grid0.Coords) (v2377 : BitVec 32) : Prop :=
  (∀ (k0_h1 : k0_cond1 i = 1#1), ∀ a, (k0_off164 v2377) a + S1.size a ≤ S297.size a)
theorem k0_off164_inb : ∀ (i : grid0.Coords) (v2377 : BitVec 32) (k0_hw80 : k0_chk80 i v2377), ∀ (k0_h1 : k0_cond1 i = 1#1), ∀ a, (k0_off164 v2377) a + S1.size a ≤ S297.size a := fun i v2377 k0_hw80 k0_h1 => k0_hw80 k0_h1

def k0_off165 (k0_t2 : Fin k0_t2_loop.trips) (c79_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2375 : BitVec 32 := Scalar.addi v1569 c79_i32
  let v2381 : Index := Scalar.indexCast v2375
  ![v2381.toNat]
def k0_off166 (v2387 : BitVec 32) : Fin 1 → Nat :=
  let c9_i32_905 : BitVec 32 := 9#32
  let v2388 : BitVec 32 := Scalar.shrui v2387 c9_i32_905
  let v2389 : Index := Scalar.indexCast v2388
  ![v2389.toNat]

def k0_chk81 (i : grid0.Coords) (v2387 : BitVec 32) : Prop :=
  (∀ (k0_h1 : k0_cond1 i = 1#1), ∀ a, (k0_off166 v2387) a + S1.size a ≤ S297.size a)
theorem k0_off166_inb : ∀ (i : grid0.Coords) (v2387 : BitVec 32) (k0_hw81 : k0_chk81 i v2387), ∀ (k0_h1 : k0_cond1 i = 1#1), ∀ a, (k0_off166 v2387) a + S1.size a ≤ S297.size a := fun i v2387 k0_hw81 k0_h1 => k0_hw81 k0_h1

def k0_off167 (k0_t2 : Fin k0_t2_loop.trips) (c80_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2385 : BitVec 32 := Scalar.addi v1569 c80_i32
  let v2391 : Index := Scalar.indexCast v2385
  ![v2391.toNat]
def k0_off168 (v2397 : BitVec 32) : Fin 1 → Nat :=
  let c9_i32_906 : BitVec 32 := 9#32
  let v2398 : BitVec 32 := Scalar.shrui v2397 c9_i32_906
  let v2399 : Index := Scalar.indexCast v2398
  ![v2399.toNat]

def k0_chk82 (i : grid0.Coords) (v2397 : BitVec 32) : Prop :=
  (∀ (k0_h1 : k0_cond1 i = 1#1), ∀ a, (k0_off168 v2397) a + S1.size a ≤ S297.size a)
theorem k0_off168_inb : ∀ (i : grid0.Coords) (v2397 : BitVec 32) (k0_hw82 : k0_chk82 i v2397), ∀ (k0_h1 : k0_cond1 i = 1#1), ∀ a, (k0_off168 v2397) a + S1.size a ≤ S297.size a := fun i v2397 k0_hw82 k0_h1 => k0_hw82 k0_h1

def k0_off169 (k0_t2 : Fin k0_t2_loop.trips) (c81_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2395 : BitVec 32 := Scalar.addi v1569 c81_i32
  let v2401 : Index := Scalar.indexCast v2395
  ![v2401.toNat]
def k0_off170 (v2407 : BitVec 32) : Fin 1 → Nat :=
  let c9_i32_907 : BitVec 32 := 9#32
  let v2408 : BitVec 32 := Scalar.shrui v2407 c9_i32_907
  let v2409 : Index := Scalar.indexCast v2408
  ![v2409.toNat]

def k0_chk83 (i : grid0.Coords) (v2407 : BitVec 32) : Prop :=
  (∀ (k0_h1 : k0_cond1 i = 1#1), ∀ a, (k0_off170 v2407) a + S1.size a ≤ S297.size a)
theorem k0_off170_inb : ∀ (i : grid0.Coords) (v2407 : BitVec 32) (k0_hw83 : k0_chk83 i v2407), ∀ (k0_h1 : k0_cond1 i = 1#1), ∀ a, (k0_off170 v2407) a + S1.size a ≤ S297.size a := fun i v2407 k0_hw83 k0_h1 => k0_hw83 k0_h1

def k0_off171 (k0_t2 : Fin k0_t2_loop.trips) (c82_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2405 : BitVec 32 := Scalar.addi v1569 c82_i32
  let v2411 : Index := Scalar.indexCast v2405
  ![v2411.toNat]
def k0_off172 (v2417 : BitVec 32) : Fin 1 → Nat :=
  let c9_i32_908 : BitVec 32 := 9#32
  let v2418 : BitVec 32 := Scalar.shrui v2417 c9_i32_908
  let v2419 : Index := Scalar.indexCast v2418
  ![v2419.toNat]

def k0_chk84 (i : grid0.Coords) (v2417 : BitVec 32) : Prop :=
  (∀ (k0_h1 : k0_cond1 i = 1#1), ∀ a, (k0_off172 v2417) a + S1.size a ≤ S297.size a)
theorem k0_off172_inb : ∀ (i : grid0.Coords) (v2417 : BitVec 32) (k0_hw84 : k0_chk84 i v2417), ∀ (k0_h1 : k0_cond1 i = 1#1), ∀ a, (k0_off172 v2417) a + S1.size a ≤ S297.size a := fun i v2417 k0_hw84 k0_h1 => k0_hw84 k0_h1

def k0_off173 (k0_t2 : Fin k0_t2_loop.trips) (c83_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2415 : BitVec 32 := Scalar.addi v1569 c83_i32
  let v2421 : Index := Scalar.indexCast v2415
  ![v2421.toNat]
def k0_off174 (v2427 : BitVec 32) : Fin 1 → Nat :=
  let c9_i32_909 : BitVec 32 := 9#32
  let v2428 : BitVec 32 := Scalar.shrui v2427 c9_i32_909
  let v2429 : Index := Scalar.indexCast v2428
  ![v2429.toNat]

def k0_chk85 (i : grid0.Coords) (v2427 : BitVec 32) : Prop :=
  (∀ (k0_h1 : k0_cond1 i = 1#1), ∀ a, (k0_off174 v2427) a + S1.size a ≤ S297.size a)
theorem k0_off174_inb : ∀ (i : grid0.Coords) (v2427 : BitVec 32) (k0_hw85 : k0_chk85 i v2427), ∀ (k0_h1 : k0_cond1 i = 1#1), ∀ a, (k0_off174 v2427) a + S1.size a ≤ S297.size a := fun i v2427 k0_hw85 k0_h1 => k0_hw85 k0_h1

def k0_off175 (k0_t2 : Fin k0_t2_loop.trips) (c84_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2425 : BitVec 32 := Scalar.addi v1569 c84_i32
  let v2431 : Index := Scalar.indexCast v2425
  ![v2431.toNat]
def k0_off176 (v2437 : BitVec 32) : Fin 1 → Nat :=
  let c9_i32_910 : BitVec 32 := 9#32
  let v2438 : BitVec 32 := Scalar.shrui v2437 c9_i32_910
  let v2439 : Index := Scalar.indexCast v2438
  ![v2439.toNat]

def k0_chk86 (i : grid0.Coords) (v2437 : BitVec 32) : Prop :=
  (∀ (k0_h1 : k0_cond1 i = 1#1), ∀ a, (k0_off176 v2437) a + S1.size a ≤ S297.size a)
theorem k0_off176_inb : ∀ (i : grid0.Coords) (v2437 : BitVec 32) (k0_hw86 : k0_chk86 i v2437), ∀ (k0_h1 : k0_cond1 i = 1#1), ∀ a, (k0_off176 v2437) a + S1.size a ≤ S297.size a := fun i v2437 k0_hw86 k0_h1 => k0_hw86 k0_h1

def k0_off177 (k0_t2 : Fin k0_t2_loop.trips) (c85_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2435 : BitVec 32 := Scalar.addi v1569 c85_i32
  let v2441 : Index := Scalar.indexCast v2435
  ![v2441.toNat]
def k0_off178 (v2447 : BitVec 32) : Fin 1 → Nat :=
  let c9_i32_911 : BitVec 32 := 9#32
  let v2448 : BitVec 32 := Scalar.shrui v2447 c9_i32_911
  let v2449 : Index := Scalar.indexCast v2448
  ![v2449.toNat]

def k0_chk87 (i : grid0.Coords) (v2447 : BitVec 32) : Prop :=
  (∀ (k0_h1 : k0_cond1 i = 1#1), ∀ a, (k0_off178 v2447) a + S1.size a ≤ S297.size a)
theorem k0_off178_inb : ∀ (i : grid0.Coords) (v2447 : BitVec 32) (k0_hw87 : k0_chk87 i v2447), ∀ (k0_h1 : k0_cond1 i = 1#1), ∀ a, (k0_off178 v2447) a + S1.size a ≤ S297.size a := fun i v2447 k0_hw87 k0_h1 => k0_hw87 k0_h1

def k0_off179 (k0_t2 : Fin k0_t2_loop.trips) (c86_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2445 : BitVec 32 := Scalar.addi v1569 c86_i32
  let v2451 : Index := Scalar.indexCast v2445
  ![v2451.toNat]
def k0_off180 (v2457 : BitVec 32) : Fin 1 → Nat :=
  let c9_i32_912 : BitVec 32 := 9#32
  let v2458 : BitVec 32 := Scalar.shrui v2457 c9_i32_912
  let v2459 : Index := Scalar.indexCast v2458
  ![v2459.toNat]

def k0_chk88 (i : grid0.Coords) (v2457 : BitVec 32) : Prop :=
  (∀ (k0_h1 : k0_cond1 i = 1#1), ∀ a, (k0_off180 v2457) a + S1.size a ≤ S297.size a)
theorem k0_off180_inb : ∀ (i : grid0.Coords) (v2457 : BitVec 32) (k0_hw88 : k0_chk88 i v2457), ∀ (k0_h1 : k0_cond1 i = 1#1), ∀ a, (k0_off180 v2457) a + S1.size a ≤ S297.size a := fun i v2457 k0_hw88 k0_h1 => k0_hw88 k0_h1

def k0_off181 (k0_t2 : Fin k0_t2_loop.trips) (c87_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2455 : BitVec 32 := Scalar.addi v1569 c87_i32
  let v2461 : Index := Scalar.indexCast v2455
  ![v2461.toNat]
def k0_off182 (v2467 : BitVec 32) : Fin 1 → Nat :=
  let c9_i32_913 : BitVec 32 := 9#32
  let v2468 : BitVec 32 := Scalar.shrui v2467 c9_i32_913
  let v2469 : Index := Scalar.indexCast v2468
  ![v2469.toNat]

def k0_chk89 (i : grid0.Coords) (v2467 : BitVec 32) : Prop :=
  (∀ (k0_h1 : k0_cond1 i = 1#1), ∀ a, (k0_off182 v2467) a + S1.size a ≤ S297.size a)
theorem k0_off182_inb : ∀ (i : grid0.Coords) (v2467 : BitVec 32) (k0_hw89 : k0_chk89 i v2467), ∀ (k0_h1 : k0_cond1 i = 1#1), ∀ a, (k0_off182 v2467) a + S1.size a ≤ S297.size a := fun i v2467 k0_hw89 k0_h1 => k0_hw89 k0_h1

def k0_off183 (k0_t2 : Fin k0_t2_loop.trips) (c88_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2465 : BitVec 32 := Scalar.addi v1569 c88_i32
  let v2471 : Index := Scalar.indexCast v2465
  ![v2471.toNat]
def k0_off184 (v2477 : BitVec 32) : Fin 1 → Nat :=
  let c9_i32_914 : BitVec 32 := 9#32
  let v2478 : BitVec 32 := Scalar.shrui v2477 c9_i32_914
  let v2479 : Index := Scalar.indexCast v2478
  ![v2479.toNat]

def k0_chk90 (i : grid0.Coords) (v2477 : BitVec 32) : Prop :=
  (∀ (k0_h1 : k0_cond1 i = 1#1), ∀ a, (k0_off184 v2477) a + S1.size a ≤ S297.size a)
theorem k0_off184_inb : ∀ (i : grid0.Coords) (v2477 : BitVec 32) (k0_hw90 : k0_chk90 i v2477), ∀ (k0_h1 : k0_cond1 i = 1#1), ∀ a, (k0_off184 v2477) a + S1.size a ≤ S297.size a := fun i v2477 k0_hw90 k0_h1 => k0_hw90 k0_h1

def k0_off185 (k0_t2 : Fin k0_t2_loop.trips) (c89_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2475 : BitVec 32 := Scalar.addi v1569 c89_i32
  let v2481 : Index := Scalar.indexCast v2475
  ![v2481.toNat]
def k0_off186 (v2487 : BitVec 32) : Fin 1 → Nat :=
  let c9_i32_915 : BitVec 32 := 9#32
  let v2488 : BitVec 32 := Scalar.shrui v2487 c9_i32_915
  let v2489 : Index := Scalar.indexCast v2488
  ![v2489.toNat]

def k0_chk91 (i : grid0.Coords) (v2487 : BitVec 32) : Prop :=
  (∀ (k0_h1 : k0_cond1 i = 1#1), ∀ a, (k0_off186 v2487) a + S1.size a ≤ S297.size a)
theorem k0_off186_inb : ∀ (i : grid0.Coords) (v2487 : BitVec 32) (k0_hw91 : k0_chk91 i v2487), ∀ (k0_h1 : k0_cond1 i = 1#1), ∀ a, (k0_off186 v2487) a + S1.size a ≤ S297.size a := fun i v2487 k0_hw91 k0_h1 => k0_hw91 k0_h1

def k0_off187 (k0_t2 : Fin k0_t2_loop.trips) (c90_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2485 : BitVec 32 := Scalar.addi v1569 c90_i32
  let v2491 : Index := Scalar.indexCast v2485
  ![v2491.toNat]
def k0_off188 (v2497 : BitVec 32) : Fin 1 → Nat :=
  let c9_i32_916 : BitVec 32 := 9#32
  let v2498 : BitVec 32 := Scalar.shrui v2497 c9_i32_916
  let v2499 : Index := Scalar.indexCast v2498
  ![v2499.toNat]

def k0_chk92 (i : grid0.Coords) (v2497 : BitVec 32) : Prop :=
  (∀ (k0_h1 : k0_cond1 i = 1#1), ∀ a, (k0_off188 v2497) a + S1.size a ≤ S297.size a)
theorem k0_off188_inb : ∀ (i : grid0.Coords) (v2497 : BitVec 32) (k0_hw92 : k0_chk92 i v2497), ∀ (k0_h1 : k0_cond1 i = 1#1), ∀ a, (k0_off188 v2497) a + S1.size a ≤ S297.size a := fun i v2497 k0_hw92 k0_h1 => k0_hw92 k0_h1

def k0_off189 (k0_t2 : Fin k0_t2_loop.trips) (c91_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2495 : BitVec 32 := Scalar.addi v1569 c91_i32
  let v2501 : Index := Scalar.indexCast v2495
  ![v2501.toNat]
def k0_off190 (v2507 : BitVec 32) : Fin 1 → Nat :=
  let c9_i32_917 : BitVec 32 := 9#32
  let v2508 : BitVec 32 := Scalar.shrui v2507 c9_i32_917
  let v2509 : Index := Scalar.indexCast v2508
  ![v2509.toNat]

def k0_chk93 (i : grid0.Coords) (v2507 : BitVec 32) : Prop :=
  (∀ (k0_h1 : k0_cond1 i = 1#1), ∀ a, (k0_off190 v2507) a + S1.size a ≤ S297.size a)
theorem k0_off190_inb : ∀ (i : grid0.Coords) (v2507 : BitVec 32) (k0_hw93 : k0_chk93 i v2507), ∀ (k0_h1 : k0_cond1 i = 1#1), ∀ a, (k0_off190 v2507) a + S1.size a ≤ S297.size a := fun i v2507 k0_hw93 k0_h1 => k0_hw93 k0_h1

def k0_off191 (k0_t2 : Fin k0_t2_loop.trips) (c92_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2505 : BitVec 32 := Scalar.addi v1569 c92_i32
  let v2511 : Index := Scalar.indexCast v2505
  ![v2511.toNat]
def k0_off192 (v2517 : BitVec 32) : Fin 1 → Nat :=
  let c9_i32_918 : BitVec 32 := 9#32
  let v2518 : BitVec 32 := Scalar.shrui v2517 c9_i32_918
  let v2519 : Index := Scalar.indexCast v2518
  ![v2519.toNat]

def k0_chk94 (i : grid0.Coords) (v2517 : BitVec 32) : Prop :=
  (∀ (k0_h1 : k0_cond1 i = 1#1), ∀ a, (k0_off192 v2517) a + S1.size a ≤ S297.size a)
theorem k0_off192_inb : ∀ (i : grid0.Coords) (v2517 : BitVec 32) (k0_hw94 : k0_chk94 i v2517), ∀ (k0_h1 : k0_cond1 i = 1#1), ∀ a, (k0_off192 v2517) a + S1.size a ≤ S297.size a := fun i v2517 k0_hw94 k0_h1 => k0_hw94 k0_h1

def k0_off193 (k0_t2 : Fin k0_t2_loop.trips) (c93_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2515 : BitVec 32 := Scalar.addi v1569 c93_i32
  let v2521 : Index := Scalar.indexCast v2515
  ![v2521.toNat]
def k0_off194 (v2527 : BitVec 32) : Fin 1 → Nat :=
  let c9_i32_919 : BitVec 32 := 9#32
  let v2528 : BitVec 32 := Scalar.shrui v2527 c9_i32_919
  let v2529 : Index := Scalar.indexCast v2528
  ![v2529.toNat]

def k0_chk95 (i : grid0.Coords) (v2527 : BitVec 32) : Prop :=
  (∀ (k0_h1 : k0_cond1 i = 1#1), ∀ a, (k0_off194 v2527) a + S1.size a ≤ S297.size a)
theorem k0_off194_inb : ∀ (i : grid0.Coords) (v2527 : BitVec 32) (k0_hw95 : k0_chk95 i v2527), ∀ (k0_h1 : k0_cond1 i = 1#1), ∀ a, (k0_off194 v2527) a + S1.size a ≤ S297.size a := fun i v2527 k0_hw95 k0_h1 => k0_hw95 k0_h1

def k0_off195 (k0_t2 : Fin k0_t2_loop.trips) (c94_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2525 : BitVec 32 := Scalar.addi v1569 c94_i32
  let v2531 : Index := Scalar.indexCast v2525
  ![v2531.toNat]
def k0_off196 (v2537 : BitVec 32) : Fin 1 → Nat :=
  let c9_i32_920 : BitVec 32 := 9#32
  let v2538 : BitVec 32 := Scalar.shrui v2537 c9_i32_920
  let v2539 : Index := Scalar.indexCast v2538
  ![v2539.toNat]

def k0_chk96 (i : grid0.Coords) (v2537 : BitVec 32) : Prop :=
  (∀ (k0_h1 : k0_cond1 i = 1#1), ∀ a, (k0_off196 v2537) a + S1.size a ≤ S297.size a)
theorem k0_off196_inb : ∀ (i : grid0.Coords) (v2537 : BitVec 32) (k0_hw96 : k0_chk96 i v2537), ∀ (k0_h1 : k0_cond1 i = 1#1), ∀ a, (k0_off196 v2537) a + S1.size a ≤ S297.size a := fun i v2537 k0_hw96 k0_h1 => k0_hw96 k0_h1

def k0_off197 (k0_t2 : Fin k0_t2_loop.trips) (c95_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2535 : BitVec 32 := Scalar.addi v1569 c95_i32
  let v2541 : Index := Scalar.indexCast v2535
  ![v2541.toNat]
def k0_off198 (v2547 : BitVec 32) : Fin 1 → Nat :=
  let c9_i32_921 : BitVec 32 := 9#32
  let v2548 : BitVec 32 := Scalar.shrui v2547 c9_i32_921
  let v2549 : Index := Scalar.indexCast v2548
  ![v2549.toNat]

def k0_chk97 (i : grid0.Coords) (v2547 : BitVec 32) : Prop :=
  (∀ (k0_h1 : k0_cond1 i = 1#1), ∀ a, (k0_off198 v2547) a + S1.size a ≤ S297.size a)
theorem k0_off198_inb : ∀ (i : grid0.Coords) (v2547 : BitVec 32) (k0_hw97 : k0_chk97 i v2547), ∀ (k0_h1 : k0_cond1 i = 1#1), ∀ a, (k0_off198 v2547) a + S1.size a ≤ S297.size a := fun i v2547 k0_hw97 k0_h1 => k0_hw97 k0_h1

def k0_off199 (k0_t2 : Fin k0_t2_loop.trips) (c96_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2545 : BitVec 32 := Scalar.addi v1569 c96_i32
  let v2551 : Index := Scalar.indexCast v2545
  ![v2551.toNat]
def k0_off200 (v2557 : BitVec 32) : Fin 1 → Nat :=
  let c9_i32_922 : BitVec 32 := 9#32
  let v2558 : BitVec 32 := Scalar.shrui v2557 c9_i32_922
  let v2559 : Index := Scalar.indexCast v2558
  ![v2559.toNat]

def k0_chk98 (i : grid0.Coords) (v2557 : BitVec 32) : Prop :=
  (∀ (k0_h1 : k0_cond1 i = 1#1), ∀ a, (k0_off200 v2557) a + S1.size a ≤ S297.size a)
theorem k0_off200_inb : ∀ (i : grid0.Coords) (v2557 : BitVec 32) (k0_hw98 : k0_chk98 i v2557), ∀ (k0_h1 : k0_cond1 i = 1#1), ∀ a, (k0_off200 v2557) a + S1.size a ≤ S297.size a := fun i v2557 k0_hw98 k0_h1 => k0_hw98 k0_h1

def k0_off201 (k0_t2 : Fin k0_t2_loop.trips) (c97_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2555 : BitVec 32 := Scalar.addi v1569 c97_i32
  let v2561 : Index := Scalar.indexCast v2555
  ![v2561.toNat]
def k0_off202 (v2567 : BitVec 32) : Fin 1 → Nat :=
  let c9_i32_923 : BitVec 32 := 9#32
  let v2568 : BitVec 32 := Scalar.shrui v2567 c9_i32_923
  let v2569 : Index := Scalar.indexCast v2568
  ![v2569.toNat]

def k0_chk99 (i : grid0.Coords) (v2567 : BitVec 32) : Prop :=
  (∀ (k0_h1 : k0_cond1 i = 1#1), ∀ a, (k0_off202 v2567) a + S1.size a ≤ S297.size a)
theorem k0_off202_inb : ∀ (i : grid0.Coords) (v2567 : BitVec 32) (k0_hw99 : k0_chk99 i v2567), ∀ (k0_h1 : k0_cond1 i = 1#1), ∀ a, (k0_off202 v2567) a + S1.size a ≤ S297.size a := fun i v2567 k0_hw99 k0_h1 => k0_hw99 k0_h1

def k0_off203 (k0_t2 : Fin k0_t2_loop.trips) (c98_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2565 : BitVec 32 := Scalar.addi v1569 c98_i32
  let v2571 : Index := Scalar.indexCast v2565
  ![v2571.toNat]
def k0_off204 (v2577 : BitVec 32) : Fin 1 → Nat :=
  let c9_i32_924 : BitVec 32 := 9#32
  let v2578 : BitVec 32 := Scalar.shrui v2577 c9_i32_924
  let v2579 : Index := Scalar.indexCast v2578
  ![v2579.toNat]

def k0_chk100 (i : grid0.Coords) (v2577 : BitVec 32) : Prop :=
  (∀ (k0_h1 : k0_cond1 i = 1#1), ∀ a, (k0_off204 v2577) a + S1.size a ≤ S297.size a)
theorem k0_off204_inb : ∀ (i : grid0.Coords) (v2577 : BitVec 32) (k0_hw100 : k0_chk100 i v2577), ∀ (k0_h1 : k0_cond1 i = 1#1), ∀ a, (k0_off204 v2577) a + S1.size a ≤ S297.size a := fun i v2577 k0_hw100 k0_h1 => k0_hw100 k0_h1

def k0_off205 (k0_t2 : Fin k0_t2_loop.trips) (c99_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2575 : BitVec 32 := Scalar.addi v1569 c99_i32
  let v2581 : Index := Scalar.indexCast v2575
  ![v2581.toNat]
def k0_off206 (v2587 : BitVec 32) : Fin 1 → Nat :=
  let c9_i32_925 : BitVec 32 := 9#32
  let v2588 : BitVec 32 := Scalar.shrui v2587 c9_i32_925
  let v2589 : Index := Scalar.indexCast v2588
  ![v2589.toNat]

def k0_chk101 (i : grid0.Coords) (v2587 : BitVec 32) : Prop :=
  (∀ (k0_h1 : k0_cond1 i = 1#1), ∀ a, (k0_off206 v2587) a + S1.size a ≤ S297.size a)
theorem k0_off206_inb : ∀ (i : grid0.Coords) (v2587 : BitVec 32) (k0_hw101 : k0_chk101 i v2587), ∀ (k0_h1 : k0_cond1 i = 1#1), ∀ a, (k0_off206 v2587) a + S1.size a ≤ S297.size a := fun i v2587 k0_hw101 k0_h1 => k0_hw101 k0_h1

def k0_off207 (k0_t2 : Fin k0_t2_loop.trips) (c100_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2585 : BitVec 32 := Scalar.addi v1569 c100_i32
  let v2591 : Index := Scalar.indexCast v2585
  ![v2591.toNat]
def k0_off208 (v2597 : BitVec 32) : Fin 1 → Nat :=
  let c9_i32_926 : BitVec 32 := 9#32
  let v2598 : BitVec 32 := Scalar.shrui v2597 c9_i32_926
  let v2599 : Index := Scalar.indexCast v2598
  ![v2599.toNat]

def k0_chk102 (i : grid0.Coords) (v2597 : BitVec 32) : Prop :=
  (∀ (k0_h1 : k0_cond1 i = 1#1), ∀ a, (k0_off208 v2597) a + S1.size a ≤ S297.size a)
theorem k0_off208_inb : ∀ (i : grid0.Coords) (v2597 : BitVec 32) (k0_hw102 : k0_chk102 i v2597), ∀ (k0_h1 : k0_cond1 i = 1#1), ∀ a, (k0_off208 v2597) a + S1.size a ≤ S297.size a := fun i v2597 k0_hw102 k0_h1 => k0_hw102 k0_h1

def k0_off209 (k0_t2 : Fin k0_t2_loop.trips) (c101_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2595 : BitVec 32 := Scalar.addi v1569 c101_i32
  let v2601 : Index := Scalar.indexCast v2595
  ![v2601.toNat]
def k0_off210 (v2607 : BitVec 32) : Fin 1 → Nat :=
  let c9_i32_927 : BitVec 32 := 9#32
  let v2608 : BitVec 32 := Scalar.shrui v2607 c9_i32_927
  let v2609 : Index := Scalar.indexCast v2608
  ![v2609.toNat]

def k0_chk103 (i : grid0.Coords) (v2607 : BitVec 32) : Prop :=
  (∀ (k0_h1 : k0_cond1 i = 1#1), ∀ a, (k0_off210 v2607) a + S1.size a ≤ S297.size a)
theorem k0_off210_inb : ∀ (i : grid0.Coords) (v2607 : BitVec 32) (k0_hw103 : k0_chk103 i v2607), ∀ (k0_h1 : k0_cond1 i = 1#1), ∀ a, (k0_off210 v2607) a + S1.size a ≤ S297.size a := fun i v2607 k0_hw103 k0_h1 => k0_hw103 k0_h1

def k0_off211 (k0_t2 : Fin k0_t2_loop.trips) (c102_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2605 : BitVec 32 := Scalar.addi v1569 c102_i32
  let v2611 : Index := Scalar.indexCast v2605
  ![v2611.toNat]
def k0_off212 (v2617 : BitVec 32) : Fin 1 → Nat :=
  let c9_i32_928 : BitVec 32 := 9#32
  let v2618 : BitVec 32 := Scalar.shrui v2617 c9_i32_928
  let v2619 : Index := Scalar.indexCast v2618
  ![v2619.toNat]

def k0_chk104 (i : grid0.Coords) (v2617 : BitVec 32) : Prop :=
  (∀ (k0_h1 : k0_cond1 i = 1#1), ∀ a, (k0_off212 v2617) a + S1.size a ≤ S297.size a)
theorem k0_off212_inb : ∀ (i : grid0.Coords) (v2617 : BitVec 32) (k0_hw104 : k0_chk104 i v2617), ∀ (k0_h1 : k0_cond1 i = 1#1), ∀ a, (k0_off212 v2617) a + S1.size a ≤ S297.size a := fun i v2617 k0_hw104 k0_h1 => k0_hw104 k0_h1

def k0_off213 (k0_t2 : Fin k0_t2_loop.trips) (c103_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2615 : BitVec 32 := Scalar.addi v1569 c103_i32
  let v2621 : Index := Scalar.indexCast v2615
  ![v2621.toNat]
def k0_off214 (v2627 : BitVec 32) : Fin 1 → Nat :=
  let c9_i32_929 : BitVec 32 := 9#32
  let v2628 : BitVec 32 := Scalar.shrui v2627 c9_i32_929
  let v2629 : Index := Scalar.indexCast v2628
  ![v2629.toNat]

def k0_chk105 (i : grid0.Coords) (v2627 : BitVec 32) : Prop :=
  (∀ (k0_h1 : k0_cond1 i = 1#1), ∀ a, (k0_off214 v2627) a + S1.size a ≤ S297.size a)
theorem k0_off214_inb : ∀ (i : grid0.Coords) (v2627 : BitVec 32) (k0_hw105 : k0_chk105 i v2627), ∀ (k0_h1 : k0_cond1 i = 1#1), ∀ a, (k0_off214 v2627) a + S1.size a ≤ S297.size a := fun i v2627 k0_hw105 k0_h1 => k0_hw105 k0_h1

def k0_off215 (k0_t2 : Fin k0_t2_loop.trips) (c104_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2625 : BitVec 32 := Scalar.addi v1569 c104_i32
  let v2631 : Index := Scalar.indexCast v2625
  ![v2631.toNat]
def k0_off216 (v2637 : BitVec 32) : Fin 1 → Nat :=
  let c9_i32_930 : BitVec 32 := 9#32
  let v2638 : BitVec 32 := Scalar.shrui v2637 c9_i32_930
  let v2639 : Index := Scalar.indexCast v2638
  ![v2639.toNat]

def k0_chk106 (i : grid0.Coords) (v2637 : BitVec 32) : Prop :=
  (∀ (k0_h1 : k0_cond1 i = 1#1), ∀ a, (k0_off216 v2637) a + S1.size a ≤ S297.size a)
theorem k0_off216_inb : ∀ (i : grid0.Coords) (v2637 : BitVec 32) (k0_hw106 : k0_chk106 i v2637), ∀ (k0_h1 : k0_cond1 i = 1#1), ∀ a, (k0_off216 v2637) a + S1.size a ≤ S297.size a := fun i v2637 k0_hw106 k0_h1 => k0_hw106 k0_h1

def k0_off217 (k0_t2 : Fin k0_t2_loop.trips) (c105_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2635 : BitVec 32 := Scalar.addi v1569 c105_i32
  let v2641 : Index := Scalar.indexCast v2635
  ![v2641.toNat]
def k0_off218 (v2647 : BitVec 32) : Fin 1 → Nat :=
  let c9_i32_931 : BitVec 32 := 9#32
  let v2648 : BitVec 32 := Scalar.shrui v2647 c9_i32_931
  let v2649 : Index := Scalar.indexCast v2648
  ![v2649.toNat]

def k0_chk107 (i : grid0.Coords) (v2647 : BitVec 32) : Prop :=
  (∀ (k0_h1 : k0_cond1 i = 1#1), ∀ a, (k0_off218 v2647) a + S1.size a ≤ S297.size a)
theorem k0_off218_inb : ∀ (i : grid0.Coords) (v2647 : BitVec 32) (k0_hw107 : k0_chk107 i v2647), ∀ (k0_h1 : k0_cond1 i = 1#1), ∀ a, (k0_off218 v2647) a + S1.size a ≤ S297.size a := fun i v2647 k0_hw107 k0_h1 => k0_hw107 k0_h1

def k0_off219 (k0_t2 : Fin k0_t2_loop.trips) (c106_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2645 : BitVec 32 := Scalar.addi v1569 c106_i32
  let v2651 : Index := Scalar.indexCast v2645
  ![v2651.toNat]
def k0_off220 (v2657 : BitVec 32) : Fin 1 → Nat :=
  let c9_i32_932 : BitVec 32 := 9#32
  let v2658 : BitVec 32 := Scalar.shrui v2657 c9_i32_932
  let v2659 : Index := Scalar.indexCast v2658
  ![v2659.toNat]

def k0_chk108 (i : grid0.Coords) (v2657 : BitVec 32) : Prop :=
  (∀ (k0_h1 : k0_cond1 i = 1#1), ∀ a, (k0_off220 v2657) a + S1.size a ≤ S297.size a)
theorem k0_off220_inb : ∀ (i : grid0.Coords) (v2657 : BitVec 32) (k0_hw108 : k0_chk108 i v2657), ∀ (k0_h1 : k0_cond1 i = 1#1), ∀ a, (k0_off220 v2657) a + S1.size a ≤ S297.size a := fun i v2657 k0_hw108 k0_h1 => k0_hw108 k0_h1

def k0_off221 (k0_t2 : Fin k0_t2_loop.trips) (c107_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2655 : BitVec 32 := Scalar.addi v1569 c107_i32
  let v2661 : Index := Scalar.indexCast v2655
  ![v2661.toNat]
def k0_off222 (v2667 : BitVec 32) : Fin 1 → Nat :=
  let c9_i32_933 : BitVec 32 := 9#32
  let v2668 : BitVec 32 := Scalar.shrui v2667 c9_i32_933
  let v2669 : Index := Scalar.indexCast v2668
  ![v2669.toNat]

def k0_chk109 (i : grid0.Coords) (v2667 : BitVec 32) : Prop :=
  (∀ (k0_h1 : k0_cond1 i = 1#1), ∀ a, (k0_off222 v2667) a + S1.size a ≤ S297.size a)
theorem k0_off222_inb : ∀ (i : grid0.Coords) (v2667 : BitVec 32) (k0_hw109 : k0_chk109 i v2667), ∀ (k0_h1 : k0_cond1 i = 1#1), ∀ a, (k0_off222 v2667) a + S1.size a ≤ S297.size a := fun i v2667 k0_hw109 k0_h1 => k0_hw109 k0_h1

def k0_off223 (k0_t2 : Fin k0_t2_loop.trips) (c108_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2665 : BitVec 32 := Scalar.addi v1569 c108_i32
  let v2671 : Index := Scalar.indexCast v2665
  ![v2671.toNat]
def k0_off224 (v2677 : BitVec 32) : Fin 1 → Nat :=
  let c9_i32_934 : BitVec 32 := 9#32
  let v2678 : BitVec 32 := Scalar.shrui v2677 c9_i32_934
  let v2679 : Index := Scalar.indexCast v2678
  ![v2679.toNat]

def k0_chk110 (i : grid0.Coords) (v2677 : BitVec 32) : Prop :=
  (∀ (k0_h1 : k0_cond1 i = 1#1), ∀ a, (k0_off224 v2677) a + S1.size a ≤ S297.size a)
theorem k0_off224_inb : ∀ (i : grid0.Coords) (v2677 : BitVec 32) (k0_hw110 : k0_chk110 i v2677), ∀ (k0_h1 : k0_cond1 i = 1#1), ∀ a, (k0_off224 v2677) a + S1.size a ≤ S297.size a := fun i v2677 k0_hw110 k0_h1 => k0_hw110 k0_h1

def k0_off225 (k0_t2 : Fin k0_t2_loop.trips) (c109_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2675 : BitVec 32 := Scalar.addi v1569 c109_i32
  let v2681 : Index := Scalar.indexCast v2675
  ![v2681.toNat]
def k0_off226 (v2687 : BitVec 32) : Fin 1 → Nat :=
  let c9_i32_935 : BitVec 32 := 9#32
  let v2688 : BitVec 32 := Scalar.shrui v2687 c9_i32_935
  let v2689 : Index := Scalar.indexCast v2688
  ![v2689.toNat]

def k0_chk111 (i : grid0.Coords) (v2687 : BitVec 32) : Prop :=
  (∀ (k0_h1 : k0_cond1 i = 1#1), ∀ a, (k0_off226 v2687) a + S1.size a ≤ S297.size a)
theorem k0_off226_inb : ∀ (i : grid0.Coords) (v2687 : BitVec 32) (k0_hw111 : k0_chk111 i v2687), ∀ (k0_h1 : k0_cond1 i = 1#1), ∀ a, (k0_off226 v2687) a + S1.size a ≤ S297.size a := fun i v2687 k0_hw111 k0_h1 => k0_hw111 k0_h1

def k0_off227 (k0_t2 : Fin k0_t2_loop.trips) (c110_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2685 : BitVec 32 := Scalar.addi v1569 c110_i32
  let v2691 : Index := Scalar.indexCast v2685
  ![v2691.toNat]
def k0_off228 (v2697 : BitVec 32) : Fin 1 → Nat :=
  let c9_i32_936 : BitVec 32 := 9#32
  let v2698 : BitVec 32 := Scalar.shrui v2697 c9_i32_936
  let v2699 : Index := Scalar.indexCast v2698
  ![v2699.toNat]

def k0_chk112 (i : grid0.Coords) (v2697 : BitVec 32) : Prop :=
  (∀ (k0_h1 : k0_cond1 i = 1#1), ∀ a, (k0_off228 v2697) a + S1.size a ≤ S297.size a)
theorem k0_off228_inb : ∀ (i : grid0.Coords) (v2697 : BitVec 32) (k0_hw112 : k0_chk112 i v2697), ∀ (k0_h1 : k0_cond1 i = 1#1), ∀ a, (k0_off228 v2697) a + S1.size a ≤ S297.size a := fun i v2697 k0_hw112 k0_h1 => k0_hw112 k0_h1

def k0_off229 (k0_t2 : Fin k0_t2_loop.trips) (c111_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2695 : BitVec 32 := Scalar.addi v1569 c111_i32
  let v2701 : Index := Scalar.indexCast v2695
  ![v2701.toNat]
def k0_off230 (v2707 : BitVec 32) : Fin 1 → Nat :=
  let c9_i32_937 : BitVec 32 := 9#32
  let v2708 : BitVec 32 := Scalar.shrui v2707 c9_i32_937
  let v2709 : Index := Scalar.indexCast v2708
  ![v2709.toNat]

def k0_chk113 (i : grid0.Coords) (v2707 : BitVec 32) : Prop :=
  (∀ (k0_h1 : k0_cond1 i = 1#1), ∀ a, (k0_off230 v2707) a + S1.size a ≤ S297.size a)
theorem k0_off230_inb : ∀ (i : grid0.Coords) (v2707 : BitVec 32) (k0_hw113 : k0_chk113 i v2707), ∀ (k0_h1 : k0_cond1 i = 1#1), ∀ a, (k0_off230 v2707) a + S1.size a ≤ S297.size a := fun i v2707 k0_hw113 k0_h1 => k0_hw113 k0_h1

def k0_off231 (k0_t2 : Fin k0_t2_loop.trips) (c112_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2705 : BitVec 32 := Scalar.addi v1569 c112_i32
  let v2711 : Index := Scalar.indexCast v2705
  ![v2711.toNat]
def k0_off232 (v2717 : BitVec 32) : Fin 1 → Nat :=
  let c9_i32_938 : BitVec 32 := 9#32
  let v2718 : BitVec 32 := Scalar.shrui v2717 c9_i32_938
  let v2719 : Index := Scalar.indexCast v2718
  ![v2719.toNat]

def k0_chk114 (i : grid0.Coords) (v2717 : BitVec 32) : Prop :=
  (∀ (k0_h1 : k0_cond1 i = 1#1), ∀ a, (k0_off232 v2717) a + S1.size a ≤ S297.size a)
theorem k0_off232_inb : ∀ (i : grid0.Coords) (v2717 : BitVec 32) (k0_hw114 : k0_chk114 i v2717), ∀ (k0_h1 : k0_cond1 i = 1#1), ∀ a, (k0_off232 v2717) a + S1.size a ≤ S297.size a := fun i v2717 k0_hw114 k0_h1 => k0_hw114 k0_h1

def k0_off233 (k0_t2 : Fin k0_t2_loop.trips) (c113_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2715 : BitVec 32 := Scalar.addi v1569 c113_i32
  let v2721 : Index := Scalar.indexCast v2715
  ![v2721.toNat]
def k0_off234 (v2727 : BitVec 32) : Fin 1 → Nat :=
  let c9_i32_939 : BitVec 32 := 9#32
  let v2728 : BitVec 32 := Scalar.shrui v2727 c9_i32_939
  let v2729 : Index := Scalar.indexCast v2728
  ![v2729.toNat]

def k0_chk115 (i : grid0.Coords) (v2727 : BitVec 32) : Prop :=
  (∀ (k0_h1 : k0_cond1 i = 1#1), ∀ a, (k0_off234 v2727) a + S1.size a ≤ S297.size a)
theorem k0_off234_inb : ∀ (i : grid0.Coords) (v2727 : BitVec 32) (k0_hw115 : k0_chk115 i v2727), ∀ (k0_h1 : k0_cond1 i = 1#1), ∀ a, (k0_off234 v2727) a + S1.size a ≤ S297.size a := fun i v2727 k0_hw115 k0_h1 => k0_hw115 k0_h1

def k0_off235 (k0_t2 : Fin k0_t2_loop.trips) (c114_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2725 : BitVec 32 := Scalar.addi v1569 c114_i32
  let v2731 : Index := Scalar.indexCast v2725
  ![v2731.toNat]
def k0_off236 (v2737 : BitVec 32) : Fin 1 → Nat :=
  let c9_i32_940 : BitVec 32 := 9#32
  let v2738 : BitVec 32 := Scalar.shrui v2737 c9_i32_940
  let v2739 : Index := Scalar.indexCast v2738
  ![v2739.toNat]

def k0_chk116 (i : grid0.Coords) (v2737 : BitVec 32) : Prop :=
  (∀ (k0_h1 : k0_cond1 i = 1#1), ∀ a, (k0_off236 v2737) a + S1.size a ≤ S297.size a)
theorem k0_off236_inb : ∀ (i : grid0.Coords) (v2737 : BitVec 32) (k0_hw116 : k0_chk116 i v2737), ∀ (k0_h1 : k0_cond1 i = 1#1), ∀ a, (k0_off236 v2737) a + S1.size a ≤ S297.size a := fun i v2737 k0_hw116 k0_h1 => k0_hw116 k0_h1

def k0_off237 (k0_t2 : Fin k0_t2_loop.trips) (c115_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2735 : BitVec 32 := Scalar.addi v1569 c115_i32
  let v2741 : Index := Scalar.indexCast v2735
  ![v2741.toNat]
def k0_off238 (v2747 : BitVec 32) : Fin 1 → Nat :=
  let c9_i32_941 : BitVec 32 := 9#32
  let v2748 : BitVec 32 := Scalar.shrui v2747 c9_i32_941
  let v2749 : Index := Scalar.indexCast v2748
  ![v2749.toNat]

def k0_chk117 (i : grid0.Coords) (v2747 : BitVec 32) : Prop :=
  (∀ (k0_h1 : k0_cond1 i = 1#1), ∀ a, (k0_off238 v2747) a + S1.size a ≤ S297.size a)
theorem k0_off238_inb : ∀ (i : grid0.Coords) (v2747 : BitVec 32) (k0_hw117 : k0_chk117 i v2747), ∀ (k0_h1 : k0_cond1 i = 1#1), ∀ a, (k0_off238 v2747) a + S1.size a ≤ S297.size a := fun i v2747 k0_hw117 k0_h1 => k0_hw117 k0_h1

def k0_off239 (k0_t2 : Fin k0_t2_loop.trips) (c116_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2745 : BitVec 32 := Scalar.addi v1569 c116_i32
  let v2751 : Index := Scalar.indexCast v2745
  ![v2751.toNat]
def k0_off240 (v2757 : BitVec 32) : Fin 1 → Nat :=
  let c9_i32_942 : BitVec 32 := 9#32
  let v2758 : BitVec 32 := Scalar.shrui v2757 c9_i32_942
  let v2759 : Index := Scalar.indexCast v2758
  ![v2759.toNat]

def k0_chk118 (i : grid0.Coords) (v2757 : BitVec 32) : Prop :=
  (∀ (k0_h1 : k0_cond1 i = 1#1), ∀ a, (k0_off240 v2757) a + S1.size a ≤ S297.size a)
theorem k0_off240_inb : ∀ (i : grid0.Coords) (v2757 : BitVec 32) (k0_hw118 : k0_chk118 i v2757), ∀ (k0_h1 : k0_cond1 i = 1#1), ∀ a, (k0_off240 v2757) a + S1.size a ≤ S297.size a := fun i v2757 k0_hw118 k0_h1 => k0_hw118 k0_h1

def k0_off241 (k0_t2 : Fin k0_t2_loop.trips) (c117_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2755 : BitVec 32 := Scalar.addi v1569 c117_i32
  let v2761 : Index := Scalar.indexCast v2755
  ![v2761.toNat]
def k0_off242 (v2767 : BitVec 32) : Fin 1 → Nat :=
  let c9_i32_943 : BitVec 32 := 9#32
  let v2768 : BitVec 32 := Scalar.shrui v2767 c9_i32_943
  let v2769 : Index := Scalar.indexCast v2768
  ![v2769.toNat]

def k0_chk119 (i : grid0.Coords) (v2767 : BitVec 32) : Prop :=
  (∀ (k0_h1 : k0_cond1 i = 1#1), ∀ a, (k0_off242 v2767) a + S1.size a ≤ S297.size a)
theorem k0_off242_inb : ∀ (i : grid0.Coords) (v2767 : BitVec 32) (k0_hw119 : k0_chk119 i v2767), ∀ (k0_h1 : k0_cond1 i = 1#1), ∀ a, (k0_off242 v2767) a + S1.size a ≤ S297.size a := fun i v2767 k0_hw119 k0_h1 => k0_hw119 k0_h1

def k0_off243 (k0_t2 : Fin k0_t2_loop.trips) (c118_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2765 : BitVec 32 := Scalar.addi v1569 c118_i32
  let v2771 : Index := Scalar.indexCast v2765
  ![v2771.toNat]
def k0_off244 (v2777 : BitVec 32) : Fin 1 → Nat :=
  let c9_i32_944 : BitVec 32 := 9#32
  let v2778 : BitVec 32 := Scalar.shrui v2777 c9_i32_944
  let v2779 : Index := Scalar.indexCast v2778
  ![v2779.toNat]

def k0_chk120 (i : grid0.Coords) (v2777 : BitVec 32) : Prop :=
  (∀ (k0_h1 : k0_cond1 i = 1#1), ∀ a, (k0_off244 v2777) a + S1.size a ≤ S297.size a)
theorem k0_off244_inb : ∀ (i : grid0.Coords) (v2777 : BitVec 32) (k0_hw120 : k0_chk120 i v2777), ∀ (k0_h1 : k0_cond1 i = 1#1), ∀ a, (k0_off244 v2777) a + S1.size a ≤ S297.size a := fun i v2777 k0_hw120 k0_h1 => k0_hw120 k0_h1

def k0_off245 (k0_t2 : Fin k0_t2_loop.trips) (c119_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2775 : BitVec 32 := Scalar.addi v1569 c119_i32
  let v2781 : Index := Scalar.indexCast v2775
  ![v2781.toNat]
def k0_off246 (v2787 : BitVec 32) : Fin 1 → Nat :=
  let c9_i32_945 : BitVec 32 := 9#32
  let v2788 : BitVec 32 := Scalar.shrui v2787 c9_i32_945
  let v2789 : Index := Scalar.indexCast v2788
  ![v2789.toNat]

def k0_chk121 (i : grid0.Coords) (v2787 : BitVec 32) : Prop :=
  (∀ (k0_h1 : k0_cond1 i = 1#1), ∀ a, (k0_off246 v2787) a + S1.size a ≤ S297.size a)
theorem k0_off246_inb : ∀ (i : grid0.Coords) (v2787 : BitVec 32) (k0_hw121 : k0_chk121 i v2787), ∀ (k0_h1 : k0_cond1 i = 1#1), ∀ a, (k0_off246 v2787) a + S1.size a ≤ S297.size a := fun i v2787 k0_hw121 k0_h1 => k0_hw121 k0_h1

def k0_off247 (k0_t2 : Fin k0_t2_loop.trips) (c120_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2785 : BitVec 32 := Scalar.addi v1569 c120_i32
  let v2791 : Index := Scalar.indexCast v2785
  ![v2791.toNat]
def k0_off248 (v2797 : BitVec 32) : Fin 1 → Nat :=
  let c9_i32_946 : BitVec 32 := 9#32
  let v2798 : BitVec 32 := Scalar.shrui v2797 c9_i32_946
  let v2799 : Index := Scalar.indexCast v2798
  ![v2799.toNat]

def k0_chk122 (i : grid0.Coords) (v2797 : BitVec 32) : Prop :=
  (∀ (k0_h1 : k0_cond1 i = 1#1), ∀ a, (k0_off248 v2797) a + S1.size a ≤ S297.size a)
theorem k0_off248_inb : ∀ (i : grid0.Coords) (v2797 : BitVec 32) (k0_hw122 : k0_chk122 i v2797), ∀ (k0_h1 : k0_cond1 i = 1#1), ∀ a, (k0_off248 v2797) a + S1.size a ≤ S297.size a := fun i v2797 k0_hw122 k0_h1 => k0_hw122 k0_h1

def k0_off249 (k0_t2 : Fin k0_t2_loop.trips) (c121_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2795 : BitVec 32 := Scalar.addi v1569 c121_i32
  let v2801 : Index := Scalar.indexCast v2795
  ![v2801.toNat]
def k0_off250 (v2807 : BitVec 32) : Fin 1 → Nat :=
  let c9_i32_947 : BitVec 32 := 9#32
  let v2808 : BitVec 32 := Scalar.shrui v2807 c9_i32_947
  let v2809 : Index := Scalar.indexCast v2808
  ![v2809.toNat]

def k0_chk123 (i : grid0.Coords) (v2807 : BitVec 32) : Prop :=
  (∀ (k0_h1 : k0_cond1 i = 1#1), ∀ a, (k0_off250 v2807) a + S1.size a ≤ S297.size a)
theorem k0_off250_inb : ∀ (i : grid0.Coords) (v2807 : BitVec 32) (k0_hw123 : k0_chk123 i v2807), ∀ (k0_h1 : k0_cond1 i = 1#1), ∀ a, (k0_off250 v2807) a + S1.size a ≤ S297.size a := fun i v2807 k0_hw123 k0_h1 => k0_hw123 k0_h1

def k0_off251 (k0_t2 : Fin k0_t2_loop.trips) (c122_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2805 : BitVec 32 := Scalar.addi v1569 c122_i32
  let v2811 : Index := Scalar.indexCast v2805
  ![v2811.toNat]
def k0_off252 (v2817 : BitVec 32) : Fin 1 → Nat :=
  let c9_i32_948 : BitVec 32 := 9#32
  let v2818 : BitVec 32 := Scalar.shrui v2817 c9_i32_948
  let v2819 : Index := Scalar.indexCast v2818
  ![v2819.toNat]

def k0_chk124 (i : grid0.Coords) (v2817 : BitVec 32) : Prop :=
  (∀ (k0_h1 : k0_cond1 i = 1#1), ∀ a, (k0_off252 v2817) a + S1.size a ≤ S297.size a)
theorem k0_off252_inb : ∀ (i : grid0.Coords) (v2817 : BitVec 32) (k0_hw124 : k0_chk124 i v2817), ∀ (k0_h1 : k0_cond1 i = 1#1), ∀ a, (k0_off252 v2817) a + S1.size a ≤ S297.size a := fun i v2817 k0_hw124 k0_h1 => k0_hw124 k0_h1

def k0_off253 (k0_t2 : Fin k0_t2_loop.trips) (c123_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2815 : BitVec 32 := Scalar.addi v1569 c123_i32
  let v2821 : Index := Scalar.indexCast v2815
  ![v2821.toNat]
def k0_off254 (v2827 : BitVec 32) : Fin 1 → Nat :=
  let c9_i32_949 : BitVec 32 := 9#32
  let v2828 : BitVec 32 := Scalar.shrui v2827 c9_i32_949
  let v2829 : Index := Scalar.indexCast v2828
  ![v2829.toNat]

def k0_chk125 (i : grid0.Coords) (v2827 : BitVec 32) : Prop :=
  (∀ (k0_h1 : k0_cond1 i = 1#1), ∀ a, (k0_off254 v2827) a + S1.size a ≤ S297.size a)
theorem k0_off254_inb : ∀ (i : grid0.Coords) (v2827 : BitVec 32) (k0_hw125 : k0_chk125 i v2827), ∀ (k0_h1 : k0_cond1 i = 1#1), ∀ a, (k0_off254 v2827) a + S1.size a ≤ S297.size a := fun i v2827 k0_hw125 k0_h1 => k0_hw125 k0_h1

def k0_off255 (k0_t2 : Fin k0_t2_loop.trips) (c124_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2825 : BitVec 32 := Scalar.addi v1569 c124_i32
  let v2831 : Index := Scalar.indexCast v2825
  ![v2831.toNat]
def k0_off256 (v2837 : BitVec 32) : Fin 1 → Nat :=
  let c9_i32_950 : BitVec 32 := 9#32
  let v2838 : BitVec 32 := Scalar.shrui v2837 c9_i32_950
  let v2839 : Index := Scalar.indexCast v2838
  ![v2839.toNat]

def k0_chk126 (i : grid0.Coords) (v2837 : BitVec 32) : Prop :=
  (∀ (k0_h1 : k0_cond1 i = 1#1), ∀ a, (k0_off256 v2837) a + S1.size a ≤ S297.size a)
theorem k0_off256_inb : ∀ (i : grid0.Coords) (v2837 : BitVec 32) (k0_hw126 : k0_chk126 i v2837), ∀ (k0_h1 : k0_cond1 i = 1#1), ∀ a, (k0_off256 v2837) a + S1.size a ≤ S297.size a := fun i v2837 k0_hw126 k0_h1 => k0_hw126 k0_h1

def k0_off257 (k0_t2 : Fin k0_t2_loop.trips) (c125_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2835 : BitVec 32 := Scalar.addi v1569 c125_i32
  let v2841 : Index := Scalar.indexCast v2835
  ![v2841.toNat]
def k0_off258 (v2847 : BitVec 32) : Fin 1 → Nat :=
  let c9_i32_951 : BitVec 32 := 9#32
  let v2848 : BitVec 32 := Scalar.shrui v2847 c9_i32_951
  let v2849 : Index := Scalar.indexCast v2848
  ![v2849.toNat]

def k0_chk127 (i : grid0.Coords) (v2847 : BitVec 32) : Prop :=
  (∀ (k0_h1 : k0_cond1 i = 1#1), ∀ a, (k0_off258 v2847) a + S1.size a ≤ S297.size a)
theorem k0_off258_inb : ∀ (i : grid0.Coords) (v2847 : BitVec 32) (k0_hw127 : k0_chk127 i v2847), ∀ (k0_h1 : k0_cond1 i = 1#1), ∀ a, (k0_off258 v2847) a + S1.size a ≤ S297.size a := fun i v2847 k0_hw127 k0_h1 => k0_hw127 k0_h1

def k0_off259 (k0_t2 : Fin k0_t2_loop.trips) (c126_i32 : BitVec 32) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let v2845 : BitVec 32 := Scalar.addi v1569 c126_i32
  let v2851 : Index := Scalar.indexCast v2845
  ![v2851.toNat]
def k0_off260 (v2857 : BitVec 32) : Fin 1 → Nat :=
  let c9_i32_952 : BitVec 32 := 9#32
  let v2858 : BitVec 32 := Scalar.shrui v2857 c9_i32_952
  let v2859 : Index := Scalar.indexCast v2858
  ![v2859.toNat]

def k0_chk128 (i : grid0.Coords) (v2857 : BitVec 32) : Prop :=
  (∀ (k0_h1 : k0_cond1 i = 1#1), ∀ a, (k0_off260 v2857) a + S1.size a ≤ S297.size a)
theorem k0_off260_inb : ∀ (i : grid0.Coords) (v2857 : BitVec 32) (k0_hw128 : k0_chk128 i v2857), ∀ (k0_h1 : k0_cond1 i = 1#1), ∀ a, (k0_off260 v2857) a + S1.size a ≤ S297.size a := fun i v2857 k0_hw128 k0_h1 => k0_hw128 k0_h1

def k0_off261 (k0_t2 : Fin k0_t2_loop.trips) : Fin 1 → Nat :=
  let c0_i32_814 : BitVec 32 := 0#32
  let c1_i32_815 : BitVec 32 := 1#32
  let arg17 : BitVec 32 := Scf.iv c0_i32_814 c1_i32_815 k0_t2
  let c128_i32_817 : BitVec 32 := 128#32
  let v1568 : BitVec 32 := Scalar.muli arg17 c128_i32_817
  let v1569 : BitVec 32 := v1568
  let c127_i32 : BitVec 32 := 127#32
  let v2855 : BitVec 32 := Scalar.addi v1569 c127_i32
  let v2861 : Index := Scalar.indexCast v2855
  ![v2861.toNat]
def k0_off262 (i : grid0.Coords) : Fin 1 → Nat :=
  let arg0 : BitVec 32 := BitVec.ofNat 32 (i 0).val
  let v1140 : Index := Scalar.indexCast arg0
  ![v1140.toNat]
def k0_off263 (v1141 : BitVec 32) : Fin 1 → Nat :=
  let c0_i32_591 : BitVec 32 := 0#32
  let v1143 : BitVec 32 := Scalar.maxsi v1141 c0_i32_591
  let v1144 : Index := Scalar.indexCast v1143
  ![v1144.toNat]

def k0_off264 (v1141 : BitVec 32) : Fin 2 → Nat :=
  let c0_i32_591 : BitVec 32 := 0#32
  let v1143 : BitVec 32 := Scalar.maxsi v1141 c0_i32_591
  let v1148 : Index := Scalar.indexCast v1143
  let c0_593 : Index := 0#32
  ![v1148.toNat, 0]
def k0_off265 (i : grid0.Coords) (v1141 : BitVec 32) (v1145 : BitVec 32) : Fin 2 → Nat :=
  let c0_i32_590 : BitVec 32 := 0#32
  let v1142 : BitVec 1 := Scalar.cmpi .sge v1141 c0_i32_590
  let arg0 : BitVec 32 := BitVec.ofNat 32 (i 0).val
  let c512_i32 : BitVec 32 := 512#32
  let v3 : BitVec 32 := Scalar.muli arg0 c512_i32
  let v1146 : BitVec 32 := Scalar.subi v1145 v3
  let c0_i32_592 : BitVec 32 := 0#32
  let v1147 : BitVec 32 := Scalar.select v1142 v1146 c0_i32_592
  let v1152 : Index := Scalar.indexCast v1147
  let c0_594 : Index := 0#32
  ![v1152.toNat, 0]

def k0_chk130 (i : grid0.Coords) (v1141 : BitVec 32) (v1145 : BitVec 32) : Prop :=
  (∀ a, (k0_off265 i v1141 v1145) a + S1x896.size a ≤ S512x896.size a)
theorem k0_off265_inb : ∀ (i : grid0.Coords) (v1141 : BitVec 32) (v1145 : BitVec 32) (k0_hw130 : k0_chk130 i v1141 v1145), ∀ a, (k0_off265 i v1141 v1145) a + S1x896.size a ≤ S512x896.size a := fun i v1141 v1145 k0_hw130 => k0_hw130

def k0_off266 (v1141 : BitVec 32) : Fin 1 → Nat :=
  let c0_i32_591 : BitVec 32 := 0#32
  let v1143 : BitVec 32 := Scalar.maxsi v1141 c0_i32_591
  let v1160 : Index := Scalar.indexCast v1143
  ![v1160.toNat]

def k0_chk129 (v1141 : BitVec 32) : Prop :=
  (∀ a, (k0_off263 v1141) a + S1.size a ≤ S2560.size a) ∧
  (∀ a, (k0_off264 v1141) a + S1x896.size a ≤ S2560x896.size a) ∧
  (∀ a, (k0_off266 v1141) a + S1.size a ≤ S2560.size a)
theorem k0_off263_inb : ∀ (v1141 : BitVec 32) (k0_hw129 : k0_chk129 v1141), ∀ a, (k0_off263 v1141) a + S1.size a ≤ S2560.size a := fun v1141 k0_hw129 => k0_hw129.1
theorem k0_off264_inb : ∀ (v1141 : BitVec 32) (k0_hw129 : k0_chk129 v1141), ∀ a, (k0_off264 v1141) a + S1x896.size a ≤ S2560x896.size a := fun v1141 k0_hw129 => k0_hw129.2.1
theorem k0_off266_inb : ∀ (v1141 : BitVec 32) (k0_hw129 : k0_chk129 v1141), ∀ a, (k0_off266 v1141) a + S1.size a ≤ S2560.size a := fun v1141 k0_hw129 => k0_hw129.2.2

def k0_off267 (v1141 : BitVec 32) (v1161 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_598 : BitVec 32 := 0#32
  let v1164 : BitVec 32 := Scalar.maxsi v1162 c0_i32_598
  let v1165 : Index := Scalar.indexCast v1164
  ![v1165.toNat]

def k0_off268 (v1141 : BitVec 32) (v1161 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_598 : BitVec 32 := 0#32
  let v1164 : BitVec 32 := Scalar.maxsi v1162 c0_i32_598
  let v1169 : Index := Scalar.indexCast v1164
  let c0_600 : Index := 0#32
  ![v1169.toNat, 0]
def k0_off269 (i : grid0.Coords) (v1141 : BitVec 32) (v1161 : BitVec 32) (v1166 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let arg0 : BitVec 32 := BitVec.ofNat 32 (i 0).val
  let c512_i32 : BitVec 32 := 512#32
  let v3 : BitVec 32 := Scalar.muli arg0 c512_i32
  let v1167 : BitVec 32 := Scalar.subi v1166 v3
  let c0_i32_599 : BitVec 32 := 0#32
  let v1168 : BitVec 32 := Scalar.select v1163 v1167 c0_i32_599
  let v1173 : Index := Scalar.indexCast v1168
  let c0_601 : Index := 0#32
  ![v1173.toNat, 0]

def k0_chk132 (i : grid0.Coords) (v1141 : BitVec 32) (v1161 : BitVec 32) (v1166 : BitVec 32) : Prop :=
  (∀ a, (k0_off269 i v1141 v1161 v1166) a + S1x896.size a ≤ S512x896.size a)
theorem k0_off269_inb : ∀ (i : grid0.Coords) (v1141 : BitVec 32) (v1161 : BitVec 32) (v1166 : BitVec 32) (k0_hw132 : k0_chk132 i v1141 v1161 v1166), ∀ a, (k0_off269 i v1141 v1161 v1166) a + S1x896.size a ≤ S512x896.size a := fun i v1141 v1161 v1166 k0_hw132 => k0_hw132

def k0_off270 (v1141 : BitVec 32) (v1161 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_598 : BitVec 32 := 0#32
  let v1164 : BitVec 32 := Scalar.maxsi v1162 c0_i32_598
  let v1181 : Index := Scalar.indexCast v1164
  ![v1181.toNat]

def k0_chk131 (v1141 : BitVec 32) (v1161 : BitVec 32) : Prop :=
  (∀ a, (k0_off267 v1141 v1161) a + S1.size a ≤ S2560.size a) ∧
  (∀ a, (k0_off268 v1141 v1161) a + S1x896.size a ≤ S2560x896.size a) ∧
  (∀ a, (k0_off270 v1141 v1161) a + S1.size a ≤ S2560.size a)
theorem k0_off267_inb : ∀ (v1141 : BitVec 32) (v1161 : BitVec 32) (k0_hw131 : k0_chk131 v1141 v1161), ∀ a, (k0_off267 v1141 v1161) a + S1.size a ≤ S2560.size a := fun v1141 v1161 k0_hw131 => k0_hw131.1
theorem k0_off268_inb : ∀ (v1141 : BitVec 32) (v1161 : BitVec 32) (k0_hw131 : k0_chk131 v1141 v1161), ∀ a, (k0_off268 v1141 v1161) a + S1x896.size a ≤ S2560x896.size a := fun v1141 v1161 k0_hw131 => k0_hw131.2.1
theorem k0_off270_inb : ∀ (v1141 : BitVec 32) (v1161 : BitVec 32) (k0_hw131 : k0_chk131 v1141 v1161), ∀ a, (k0_off270 v1141 v1161) a + S1.size a ≤ S2560.size a := fun v1141 v1161 k0_hw131 => k0_hw131.2.2

def k0_off271 (v1141 : BitVec 32) (v1161 : BitVec 32) (v1182 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_606 : BitVec 32 := 0#32
  let v1185 : BitVec 32 := Scalar.maxsi v1183 c0_i32_606
  let v1186 : Index := Scalar.indexCast v1185
  ![v1186.toNat]

def k0_off272 (v1141 : BitVec 32) (v1161 : BitVec 32) (v1182 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_606 : BitVec 32 := 0#32
  let v1185 : BitVec 32 := Scalar.maxsi v1183 c0_i32_606
  let v1190 : Index := Scalar.indexCast v1185
  let c0_608 : Index := 0#32
  ![v1190.toNat, 0]
def k0_off273 (i : grid0.Coords) (v1141 : BitVec 32) (v1161 : BitVec 32) (v1182 : BitVec 32) (v1187 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let arg0 : BitVec 32 := BitVec.ofNat 32 (i 0).val
  let c512_i32 : BitVec 32 := 512#32
  let v3 : BitVec 32 := Scalar.muli arg0 c512_i32
  let v1188 : BitVec 32 := Scalar.subi v1187 v3
  let c0_i32_607 : BitVec 32 := 0#32
  let v1189 : BitVec 32 := Scalar.select v1184 v1188 c0_i32_607
  let v1194 : Index := Scalar.indexCast v1189
  let c0_609 : Index := 0#32
  ![v1194.toNat, 0]

def k0_chk134 (i : grid0.Coords) (v1141 : BitVec 32) (v1161 : BitVec 32) (v1182 : BitVec 32) (v1187 : BitVec 32) : Prop :=
  (∀ a, (k0_off273 i v1141 v1161 v1182 v1187) a + S1x896.size a ≤ S512x896.size a)
theorem k0_off273_inb : ∀ (i : grid0.Coords) (v1141 : BitVec 32) (v1161 : BitVec 32) (v1182 : BitVec 32) (v1187 : BitVec 32) (k0_hw134 : k0_chk134 i v1141 v1161 v1182 v1187), ∀ a, (k0_off273 i v1141 v1161 v1182 v1187) a + S1x896.size a ≤ S512x896.size a := fun i v1141 v1161 v1182 v1187 k0_hw134 => k0_hw134

def k0_off274 (v1141 : BitVec 32) (v1161 : BitVec 32) (v1182 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_606 : BitVec 32 := 0#32
  let v1185 : BitVec 32 := Scalar.maxsi v1183 c0_i32_606
  let v1202 : Index := Scalar.indexCast v1185
  ![v1202.toNat]

def k0_chk133 (v1141 : BitVec 32) (v1161 : BitVec 32) (v1182 : BitVec 32) : Prop :=
  (∀ a, (k0_off271 v1141 v1161 v1182) a + S1.size a ≤ S2560.size a) ∧
  (∀ a, (k0_off272 v1141 v1161 v1182) a + S1x896.size a ≤ S2560x896.size a) ∧
  (∀ a, (k0_off274 v1141 v1161 v1182) a + S1.size a ≤ S2560.size a)
theorem k0_off271_inb : ∀ (v1141 : BitVec 32) (v1161 : BitVec 32) (v1182 : BitVec 32) (k0_hw133 : k0_chk133 v1141 v1161 v1182), ∀ a, (k0_off271 v1141 v1161 v1182) a + S1.size a ≤ S2560.size a := fun v1141 v1161 v1182 k0_hw133 => k0_hw133.1
theorem k0_off272_inb : ∀ (v1141 : BitVec 32) (v1161 : BitVec 32) (v1182 : BitVec 32) (k0_hw133 : k0_chk133 v1141 v1161 v1182), ∀ a, (k0_off272 v1141 v1161 v1182) a + S1x896.size a ≤ S2560x896.size a := fun v1141 v1161 v1182 k0_hw133 => k0_hw133.2.1
theorem k0_off274_inb : ∀ (v1141 : BitVec 32) (v1161 : BitVec 32) (v1182 : BitVec 32) (k0_hw133 : k0_chk133 v1141 v1161 v1182), ∀ a, (k0_off274 v1141 v1161 v1182) a + S1.size a ≤ S2560.size a := fun v1141 v1161 v1182 k0_hw133 => k0_hw133.2.2

def k0_off275 (v1141 : BitVec 32) (v1161 : BitVec 32) (v1182 : BitVec 32) (v1203 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_614 : BitVec 32 := 0#32
  let v1206 : BitVec 32 := Scalar.maxsi v1204 c0_i32_614
  let v1207 : Index := Scalar.indexCast v1206
  ![v1207.toNat]

def k0_off276 (v1141 : BitVec 32) (v1161 : BitVec 32) (v1182 : BitVec 32) (v1203 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_614 : BitVec 32 := 0#32
  let v1206 : BitVec 32 := Scalar.maxsi v1204 c0_i32_614
  let v1211 : Index := Scalar.indexCast v1206
  let c0_616 : Index := 0#32
  ![v1211.toNat, 0]
def k0_off277 (i : grid0.Coords) (v1141 : BitVec 32) (v1161 : BitVec 32) (v1182 : BitVec 32) (v1203 : BitVec 32) (v1208 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let arg0 : BitVec 32 := BitVec.ofNat 32 (i 0).val
  let c512_i32 : BitVec 32 := 512#32
  let v3 : BitVec 32 := Scalar.muli arg0 c512_i32
  let v1209 : BitVec 32 := Scalar.subi v1208 v3
  let c0_i32_615 : BitVec 32 := 0#32
  let v1210 : BitVec 32 := Scalar.select v1205 v1209 c0_i32_615
  let v1215 : Index := Scalar.indexCast v1210
  let c0_617 : Index := 0#32
  ![v1215.toNat, 0]

def k0_chk136 (i : grid0.Coords) (v1141 : BitVec 32) (v1161 : BitVec 32) (v1182 : BitVec 32) (v1203 : BitVec 32) (v1208 : BitVec 32) : Prop :=
  (∀ a, (k0_off277 i v1141 v1161 v1182 v1203 v1208) a + S1x896.size a ≤ S512x896.size a)
theorem k0_off277_inb : ∀ (i : grid0.Coords) (v1141 : BitVec 32) (v1161 : BitVec 32) (v1182 : BitVec 32) (v1203 : BitVec 32) (v1208 : BitVec 32) (k0_hw136 : k0_chk136 i v1141 v1161 v1182 v1203 v1208), ∀ a, (k0_off277 i v1141 v1161 v1182 v1203 v1208) a + S1x896.size a ≤ S512x896.size a := fun i v1141 v1161 v1182 v1203 v1208 k0_hw136 => k0_hw136

def k0_off278 (v1141 : BitVec 32) (v1161 : BitVec 32) (v1182 : BitVec 32) (v1203 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_614 : BitVec 32 := 0#32
  let v1206 : BitVec 32 := Scalar.maxsi v1204 c0_i32_614
  let v1223 : Index := Scalar.indexCast v1206
  ![v1223.toNat]

def k0_chk135 (v1141 : BitVec 32) (v1161 : BitVec 32) (v1182 : BitVec 32) (v1203 : BitVec 32) : Prop :=
  (∀ a, (k0_off275 v1141 v1161 v1182 v1203) a + S1.size a ≤ S2560.size a) ∧
  (∀ a, (k0_off276 v1141 v1161 v1182 v1203) a + S1x896.size a ≤ S2560x896.size a) ∧
  (∀ a, (k0_off278 v1141 v1161 v1182 v1203) a + S1.size a ≤ S2560.size a)
theorem k0_off275_inb : ∀ (v1141 : BitVec 32) (v1161 : BitVec 32) (v1182 : BitVec 32) (v1203 : BitVec 32) (k0_hw135 : k0_chk135 v1141 v1161 v1182 v1203), ∀ a, (k0_off275 v1141 v1161 v1182 v1203) a + S1.size a ≤ S2560.size a := fun v1141 v1161 v1182 v1203 k0_hw135 => k0_hw135.1
theorem k0_off276_inb : ∀ (v1141 : BitVec 32) (v1161 : BitVec 32) (v1182 : BitVec 32) (v1203 : BitVec 32) (k0_hw135 : k0_chk135 v1141 v1161 v1182 v1203), ∀ a, (k0_off276 v1141 v1161 v1182 v1203) a + S1x896.size a ≤ S2560x896.size a := fun v1141 v1161 v1182 v1203 k0_hw135 => k0_hw135.2.1
theorem k0_off278_inb : ∀ (v1141 : BitVec 32) (v1161 : BitVec 32) (v1182 : BitVec 32) (v1203 : BitVec 32) (k0_hw135 : k0_chk135 v1141 v1161 v1182 v1203), ∀ a, (k0_off278 v1141 v1161 v1182 v1203) a + S1.size a ≤ S2560.size a := fun v1141 v1161 v1182 v1203 k0_hw135 => k0_hw135.2.2

def k0_off279 (v1141 : BitVec 32) (v1161 : BitVec 32) (v1182 : BitVec 32) (v1203 : BitVec 32) (v1224 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_622 : BitVec 32 := 0#32
  let v1227 : BitVec 32 := Scalar.maxsi v1225 c0_i32_622
  let v1228 : Index := Scalar.indexCast v1227
  ![v1228.toNat]

def k0_off280 (v1141 : BitVec 32) (v1161 : BitVec 32) (v1182 : BitVec 32) (v1203 : BitVec 32) (v1224 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_622 : BitVec 32 := 0#32
  let v1227 : BitVec 32 := Scalar.maxsi v1225 c0_i32_622
  let v1232 : Index := Scalar.indexCast v1227
  let c0_624 : Index := 0#32
  ![v1232.toNat, 0]
def k0_off281 (i : grid0.Coords) (v1141 : BitVec 32) (v1161 : BitVec 32) (v1182 : BitVec 32) (v1203 : BitVec 32) (v1224 : BitVec 32) (v1229 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let arg0 : BitVec 32 := BitVec.ofNat 32 (i 0).val
  let c512_i32 : BitVec 32 := 512#32
  let v3 : BitVec 32 := Scalar.muli arg0 c512_i32
  let v1230 : BitVec 32 := Scalar.subi v1229 v3
  let c0_i32_623 : BitVec 32 := 0#32
  let v1231 : BitVec 32 := Scalar.select v1226 v1230 c0_i32_623
  let v1236 : Index := Scalar.indexCast v1231
  let c0_625 : Index := 0#32
  ![v1236.toNat, 0]

def k0_chk138 (i : grid0.Coords) (v1141 : BitVec 32) (v1161 : BitVec 32) (v1182 : BitVec 32) (v1203 : BitVec 32) (v1224 : BitVec 32) (v1229 : BitVec 32) : Prop :=
  (∀ a, (k0_off281 i v1141 v1161 v1182 v1203 v1224 v1229) a + S1x896.size a ≤ S512x896.size a)
theorem k0_off281_inb : ∀ (i : grid0.Coords) (v1141 : BitVec 32) (v1161 : BitVec 32) (v1182 : BitVec 32) (v1203 : BitVec 32) (v1224 : BitVec 32) (v1229 : BitVec 32) (k0_hw138 : k0_chk138 i v1141 v1161 v1182 v1203 v1224 v1229), ∀ a, (k0_off281 i v1141 v1161 v1182 v1203 v1224 v1229) a + S1x896.size a ≤ S512x896.size a := fun i v1141 v1161 v1182 v1203 v1224 v1229 k0_hw138 => k0_hw138

def k0_off282 (v1141 : BitVec 32) (v1161 : BitVec 32) (v1182 : BitVec 32) (v1203 : BitVec 32) (v1224 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_622 : BitVec 32 := 0#32
  let v1227 : BitVec 32 := Scalar.maxsi v1225 c0_i32_622
  let v1244 : Index := Scalar.indexCast v1227
  ![v1244.toNat]

def k0_chk137 (v1141 : BitVec 32) (v1161 : BitVec 32) (v1182 : BitVec 32) (v1203 : BitVec 32) (v1224 : BitVec 32) : Prop :=
  (∀ a, (k0_off279 v1141 v1161 v1182 v1203 v1224) a + S1.size a ≤ S2560.size a) ∧
  (∀ a, (k0_off280 v1141 v1161 v1182 v1203 v1224) a + S1x896.size a ≤ S2560x896.size a) ∧
  (∀ a, (k0_off282 v1141 v1161 v1182 v1203 v1224) a + S1.size a ≤ S2560.size a)
theorem k0_off279_inb : ∀ (v1141 : BitVec 32) (v1161 : BitVec 32) (v1182 : BitVec 32) (v1203 : BitVec 32) (v1224 : BitVec 32) (k0_hw137 : k0_chk137 v1141 v1161 v1182 v1203 v1224), ∀ a, (k0_off279 v1141 v1161 v1182 v1203 v1224) a + S1.size a ≤ S2560.size a := fun v1141 v1161 v1182 v1203 v1224 k0_hw137 => k0_hw137.1
theorem k0_off280_inb : ∀ (v1141 : BitVec 32) (v1161 : BitVec 32) (v1182 : BitVec 32) (v1203 : BitVec 32) (v1224 : BitVec 32) (k0_hw137 : k0_chk137 v1141 v1161 v1182 v1203 v1224), ∀ a, (k0_off280 v1141 v1161 v1182 v1203 v1224) a + S1x896.size a ≤ S2560x896.size a := fun v1141 v1161 v1182 v1203 v1224 k0_hw137 => k0_hw137.2.1
theorem k0_off282_inb : ∀ (v1141 : BitVec 32) (v1161 : BitVec 32) (v1182 : BitVec 32) (v1203 : BitVec 32) (v1224 : BitVec 32) (k0_hw137 : k0_chk137 v1141 v1161 v1182 v1203 v1224), ∀ a, (k0_off282 v1141 v1161 v1182 v1203 v1224) a + S1.size a ≤ S2560.size a := fun v1141 v1161 v1182 v1203 v1224 k0_hw137 => k0_hw137.2.2

def k0_off283 (v1141 : BitVec 32) (v1161 : BitVec 32) (v1182 : BitVec 32) (v1203 : BitVec 32) (v1224 : BitVec 32) (v1245 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_630 : BitVec 32 := 0#32
  let v1248 : BitVec 32 := Scalar.maxsi v1246 c0_i32_630
  let v1249 : Index := Scalar.indexCast v1248
  ![v1249.toNat]

def k0_off284 (v1141 : BitVec 32) (v1161 : BitVec 32) (v1182 : BitVec 32) (v1203 : BitVec 32) (v1224 : BitVec 32) (v1245 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_630 : BitVec 32 := 0#32
  let v1248 : BitVec 32 := Scalar.maxsi v1246 c0_i32_630
  let v1253 : Index := Scalar.indexCast v1248
  let c0_632 : Index := 0#32
  ![v1253.toNat, 0]
def k0_off285 (i : grid0.Coords) (v1141 : BitVec 32) (v1161 : BitVec 32) (v1182 : BitVec 32) (v1203 : BitVec 32) (v1224 : BitVec 32) (v1245 : BitVec 32) (v1250 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let arg0 : BitVec 32 := BitVec.ofNat 32 (i 0).val
  let c512_i32 : BitVec 32 := 512#32
  let v3 : BitVec 32 := Scalar.muli arg0 c512_i32
  let v1251 : BitVec 32 := Scalar.subi v1250 v3
  let c0_i32_631 : BitVec 32 := 0#32
  let v1252 : BitVec 32 := Scalar.select v1247 v1251 c0_i32_631
  let v1257 : Index := Scalar.indexCast v1252
  let c0_633 : Index := 0#32
  ![v1257.toNat, 0]

def k0_chk140 (i : grid0.Coords) (v1141 : BitVec 32) (v1161 : BitVec 32) (v1182 : BitVec 32) (v1203 : BitVec 32) (v1224 : BitVec 32) (v1245 : BitVec 32) (v1250 : BitVec 32) : Prop :=
  (∀ a, (k0_off285 i v1141 v1161 v1182 v1203 v1224 v1245 v1250) a + S1x896.size a ≤ S512x896.size a)
theorem k0_off285_inb : ∀ (i : grid0.Coords) (v1141 : BitVec 32) (v1161 : BitVec 32) (v1182 : BitVec 32) (v1203 : BitVec 32) (v1224 : BitVec 32) (v1245 : BitVec 32) (v1250 : BitVec 32) (k0_hw140 : k0_chk140 i v1141 v1161 v1182 v1203 v1224 v1245 v1250), ∀ a, (k0_off285 i v1141 v1161 v1182 v1203 v1224 v1245 v1250) a + S1x896.size a ≤ S512x896.size a := fun i v1141 v1161 v1182 v1203 v1224 v1245 v1250 k0_hw140 => k0_hw140

def k0_off286 (v1141 : BitVec 32) (v1161 : BitVec 32) (v1182 : BitVec 32) (v1203 : BitVec 32) (v1224 : BitVec 32) (v1245 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_630 : BitVec 32 := 0#32
  let v1248 : BitVec 32 := Scalar.maxsi v1246 c0_i32_630
  let v1265 : Index := Scalar.indexCast v1248
  ![v1265.toNat]

def k0_chk139 (v1141 : BitVec 32) (v1161 : BitVec 32) (v1182 : BitVec 32) (v1203 : BitVec 32) (v1224 : BitVec 32) (v1245 : BitVec 32) : Prop :=
  (∀ a, (k0_off283 v1141 v1161 v1182 v1203 v1224 v1245) a + S1.size a ≤ S2560.size a) ∧
  (∀ a, (k0_off284 v1141 v1161 v1182 v1203 v1224 v1245) a + S1x896.size a ≤ S2560x896.size a) ∧
  (∀ a, (k0_off286 v1141 v1161 v1182 v1203 v1224 v1245) a + S1.size a ≤ S2560.size a)
theorem k0_off283_inb : ∀ (v1141 : BitVec 32) (v1161 : BitVec 32) (v1182 : BitVec 32) (v1203 : BitVec 32) (v1224 : BitVec 32) (v1245 : BitVec 32) (k0_hw139 : k0_chk139 v1141 v1161 v1182 v1203 v1224 v1245), ∀ a, (k0_off283 v1141 v1161 v1182 v1203 v1224 v1245) a + S1.size a ≤ S2560.size a := fun v1141 v1161 v1182 v1203 v1224 v1245 k0_hw139 => k0_hw139.1
theorem k0_off284_inb : ∀ (v1141 : BitVec 32) (v1161 : BitVec 32) (v1182 : BitVec 32) (v1203 : BitVec 32) (v1224 : BitVec 32) (v1245 : BitVec 32) (k0_hw139 : k0_chk139 v1141 v1161 v1182 v1203 v1224 v1245), ∀ a, (k0_off284 v1141 v1161 v1182 v1203 v1224 v1245) a + S1x896.size a ≤ S2560x896.size a := fun v1141 v1161 v1182 v1203 v1224 v1245 k0_hw139 => k0_hw139.2.1
theorem k0_off286_inb : ∀ (v1141 : BitVec 32) (v1161 : BitVec 32) (v1182 : BitVec 32) (v1203 : BitVec 32) (v1224 : BitVec 32) (v1245 : BitVec 32) (k0_hw139 : k0_chk139 v1141 v1161 v1182 v1203 v1224 v1245), ∀ a, (k0_off286 v1141 v1161 v1182 v1203 v1224 v1245) a + S1.size a ≤ S2560.size a := fun v1141 v1161 v1182 v1203 v1224 v1245 k0_hw139 => k0_hw139.2.2

def k0_off287 (v1141 : BitVec 32) (v1161 : BitVec 32) (v1182 : BitVec 32) (v1203 : BitVec 32) (v1224 : BitVec 32) (v1245 : BitVec 32) (v1266 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_638 : BitVec 32 := 0#32
  let v1269 : BitVec 32 := Scalar.maxsi v1267 c0_i32_638
  let v1270 : Index := Scalar.indexCast v1269
  ![v1270.toNat]

def k0_off288 (v1141 : BitVec 32) (v1161 : BitVec 32) (v1182 : BitVec 32) (v1203 : BitVec 32) (v1224 : BitVec 32) (v1245 : BitVec 32) (v1266 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_638 : BitVec 32 := 0#32
  let v1269 : BitVec 32 := Scalar.maxsi v1267 c0_i32_638
  let v1274 : Index := Scalar.indexCast v1269
  let c0_640 : Index := 0#32
  ![v1274.toNat, 0]
def k0_off289 (i : grid0.Coords) (v1141 : BitVec 32) (v1161 : BitVec 32) (v1182 : BitVec 32) (v1203 : BitVec 32) (v1224 : BitVec 32) (v1245 : BitVec 32) (v1266 : BitVec 32) (v1271 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let arg0 : BitVec 32 := BitVec.ofNat 32 (i 0).val
  let c512_i32 : BitVec 32 := 512#32
  let v3 : BitVec 32 := Scalar.muli arg0 c512_i32
  let v1272 : BitVec 32 := Scalar.subi v1271 v3
  let c0_i32_639 : BitVec 32 := 0#32
  let v1273 : BitVec 32 := Scalar.select v1268 v1272 c0_i32_639
  let v1278 : Index := Scalar.indexCast v1273
  let c0_641 : Index := 0#32
  ![v1278.toNat, 0]

def k0_chk142 (i : grid0.Coords) (v1141 : BitVec 32) (v1161 : BitVec 32) (v1182 : BitVec 32) (v1203 : BitVec 32) (v1224 : BitVec 32) (v1245 : BitVec 32) (v1266 : BitVec 32) (v1271 : BitVec 32) : Prop :=
  (∀ a, (k0_off289 i v1141 v1161 v1182 v1203 v1224 v1245 v1266 v1271) a + S1x896.size a ≤ S512x896.size a)
theorem k0_off289_inb : ∀ (i : grid0.Coords) (v1141 : BitVec 32) (v1161 : BitVec 32) (v1182 : BitVec 32) (v1203 : BitVec 32) (v1224 : BitVec 32) (v1245 : BitVec 32) (v1266 : BitVec 32) (v1271 : BitVec 32) (k0_hw142 : k0_chk142 i v1141 v1161 v1182 v1203 v1224 v1245 v1266 v1271), ∀ a, (k0_off289 i v1141 v1161 v1182 v1203 v1224 v1245 v1266 v1271) a + S1x896.size a ≤ S512x896.size a := fun i v1141 v1161 v1182 v1203 v1224 v1245 v1266 v1271 k0_hw142 => k0_hw142

def k0_off290 (v1141 : BitVec 32) (v1161 : BitVec 32) (v1182 : BitVec 32) (v1203 : BitVec 32) (v1224 : BitVec 32) (v1245 : BitVec 32) (v1266 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_638 : BitVec 32 := 0#32
  let v1269 : BitVec 32 := Scalar.maxsi v1267 c0_i32_638
  let v1286 : Index := Scalar.indexCast v1269
  ![v1286.toNat]

def k0_chk141 (v1141 : BitVec 32) (v1161 : BitVec 32) (v1182 : BitVec 32) (v1203 : BitVec 32) (v1224 : BitVec 32) (v1245 : BitVec 32) (v1266 : BitVec 32) : Prop :=
  (∀ a, (k0_off287 v1141 v1161 v1182 v1203 v1224 v1245 v1266) a + S1.size a ≤ S2560.size a) ∧
  (∀ a, (k0_off288 v1141 v1161 v1182 v1203 v1224 v1245 v1266) a + S1x896.size a ≤ S2560x896.size a) ∧
  (∀ a, (k0_off290 v1141 v1161 v1182 v1203 v1224 v1245 v1266) a + S1.size a ≤ S2560.size a)
theorem k0_off287_inb : ∀ (v1141 : BitVec 32) (v1161 : BitVec 32) (v1182 : BitVec 32) (v1203 : BitVec 32) (v1224 : BitVec 32) (v1245 : BitVec 32) (v1266 : BitVec 32) (k0_hw141 : k0_chk141 v1141 v1161 v1182 v1203 v1224 v1245 v1266), ∀ a, (k0_off287 v1141 v1161 v1182 v1203 v1224 v1245 v1266) a + S1.size a ≤ S2560.size a := fun v1141 v1161 v1182 v1203 v1224 v1245 v1266 k0_hw141 => k0_hw141.1
theorem k0_off288_inb : ∀ (v1141 : BitVec 32) (v1161 : BitVec 32) (v1182 : BitVec 32) (v1203 : BitVec 32) (v1224 : BitVec 32) (v1245 : BitVec 32) (v1266 : BitVec 32) (k0_hw141 : k0_chk141 v1141 v1161 v1182 v1203 v1224 v1245 v1266), ∀ a, (k0_off288 v1141 v1161 v1182 v1203 v1224 v1245 v1266) a + S1x896.size a ≤ S2560x896.size a := fun v1141 v1161 v1182 v1203 v1224 v1245 v1266 k0_hw141 => k0_hw141.2.1
theorem k0_off290_inb : ∀ (v1141 : BitVec 32) (v1161 : BitVec 32) (v1182 : BitVec 32) (v1203 : BitVec 32) (v1224 : BitVec 32) (v1245 : BitVec 32) (v1266 : BitVec 32) (k0_hw141 : k0_chk141 v1141 v1161 v1182 v1203 v1224 v1245 v1266), ∀ a, (k0_off290 v1141 v1161 v1182 v1203 v1224 v1245 v1266) a + S1.size a ≤ S2560.size a := fun v1141 v1161 v1182 v1203 v1224 v1245 v1266 k0_hw141 => k0_hw141.2.2

def k0_off291 (v1141 : BitVec 32) (v1161 : BitVec 32) (v1182 : BitVec 32) (v1203 : BitVec 32) (v1224 : BitVec 32) (v1245 : BitVec 32) (v1266 : BitVec 32) (v1287 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_646 : BitVec 32 := 0#32
  let v1290 : BitVec 32 := Scalar.maxsi v1288 c0_i32_646
  let v1291 : Index := Scalar.indexCast v1290
  ![v1291.toNat]

def k0_off292 (v1141 : BitVec 32) (v1161 : BitVec 32) (v1182 : BitVec 32) (v1203 : BitVec 32) (v1224 : BitVec 32) (v1245 : BitVec 32) (v1266 : BitVec 32) (v1287 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_646 : BitVec 32 := 0#32
  let v1290 : BitVec 32 := Scalar.maxsi v1288 c0_i32_646
  let v1295 : Index := Scalar.indexCast v1290
  let c0_648 : Index := 0#32
  ![v1295.toNat, 0]
def k0_off293 (i : grid0.Coords) (v1141 : BitVec 32) (v1161 : BitVec 32) (v1182 : BitVec 32) (v1203 : BitVec 32) (v1224 : BitVec 32) (v1245 : BitVec 32) (v1266 : BitVec 32) (v1287 : BitVec 32) (v1292 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let arg0 : BitVec 32 := BitVec.ofNat 32 (i 0).val
  let c512_i32 : BitVec 32 := 512#32
  let v3 : BitVec 32 := Scalar.muli arg0 c512_i32
  let v1293 : BitVec 32 := Scalar.subi v1292 v3
  let c0_i32_647 : BitVec 32 := 0#32
  let v1294 : BitVec 32 := Scalar.select v1289 v1293 c0_i32_647
  let v1299 : Index := Scalar.indexCast v1294
  let c0_649 : Index := 0#32
  ![v1299.toNat, 0]

def k0_chk144 (i : grid0.Coords) (v1141 : BitVec 32) (v1161 : BitVec 32) (v1182 : BitVec 32) (v1203 : BitVec 32) (v1224 : BitVec 32) (v1245 : BitVec 32) (v1266 : BitVec 32) (v1287 : BitVec 32) (v1292 : BitVec 32) : Prop :=
  (∀ a, (k0_off293 i v1141 v1161 v1182 v1203 v1224 v1245 v1266 v1287 v1292) a + S1x896.size a ≤ S512x896.size a)
theorem k0_off293_inb : ∀ (i : grid0.Coords) (v1141 : BitVec 32) (v1161 : BitVec 32) (v1182 : BitVec 32) (v1203 : BitVec 32) (v1224 : BitVec 32) (v1245 : BitVec 32) (v1266 : BitVec 32) (v1287 : BitVec 32) (v1292 : BitVec 32) (k0_hw144 : k0_chk144 i v1141 v1161 v1182 v1203 v1224 v1245 v1266 v1287 v1292), ∀ a, (k0_off293 i v1141 v1161 v1182 v1203 v1224 v1245 v1266 v1287 v1292) a + S1x896.size a ≤ S512x896.size a := fun i v1141 v1161 v1182 v1203 v1224 v1245 v1266 v1287 v1292 k0_hw144 => k0_hw144

def k0_off294 (v1141 : BitVec 32) (v1161 : BitVec 32) (v1182 : BitVec 32) (v1203 : BitVec 32) (v1224 : BitVec 32) (v1245 : BitVec 32) (v1266 : BitVec 32) (v1287 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_646 : BitVec 32 := 0#32
  let v1290 : BitVec 32 := Scalar.maxsi v1288 c0_i32_646
  let v1307 : Index := Scalar.indexCast v1290
  ![v1307.toNat]

def k0_chk143 (v1141 : BitVec 32) (v1161 : BitVec 32) (v1182 : BitVec 32) (v1203 : BitVec 32) (v1224 : BitVec 32) (v1245 : BitVec 32) (v1266 : BitVec 32) (v1287 : BitVec 32) : Prop :=
  (∀ a, (k0_off291 v1141 v1161 v1182 v1203 v1224 v1245 v1266 v1287) a + S1.size a ≤ S2560.size a) ∧
  (∀ a, (k0_off292 v1141 v1161 v1182 v1203 v1224 v1245 v1266 v1287) a + S1x896.size a ≤ S2560x896.size a) ∧
  (∀ a, (k0_off294 v1141 v1161 v1182 v1203 v1224 v1245 v1266 v1287) a + S1.size a ≤ S2560.size a)
theorem k0_off291_inb : ∀ (v1141 : BitVec 32) (v1161 : BitVec 32) (v1182 : BitVec 32) (v1203 : BitVec 32) (v1224 : BitVec 32) (v1245 : BitVec 32) (v1266 : BitVec 32) (v1287 : BitVec 32) (k0_hw143 : k0_chk143 v1141 v1161 v1182 v1203 v1224 v1245 v1266 v1287), ∀ a, (k0_off291 v1141 v1161 v1182 v1203 v1224 v1245 v1266 v1287) a + S1.size a ≤ S2560.size a := fun v1141 v1161 v1182 v1203 v1224 v1245 v1266 v1287 k0_hw143 => k0_hw143.1
theorem k0_off292_inb : ∀ (v1141 : BitVec 32) (v1161 : BitVec 32) (v1182 : BitVec 32) (v1203 : BitVec 32) (v1224 : BitVec 32) (v1245 : BitVec 32) (v1266 : BitVec 32) (v1287 : BitVec 32) (k0_hw143 : k0_chk143 v1141 v1161 v1182 v1203 v1224 v1245 v1266 v1287), ∀ a, (k0_off292 v1141 v1161 v1182 v1203 v1224 v1245 v1266 v1287) a + S1x896.size a ≤ S2560x896.size a := fun v1141 v1161 v1182 v1203 v1224 v1245 v1266 v1287 k0_hw143 => k0_hw143.2.1
theorem k0_off294_inb : ∀ (v1141 : BitVec 32) (v1161 : BitVec 32) (v1182 : BitVec 32) (v1203 : BitVec 32) (v1224 : BitVec 32) (v1245 : BitVec 32) (v1266 : BitVec 32) (v1287 : BitVec 32) (k0_hw143 : k0_chk143 v1141 v1161 v1182 v1203 v1224 v1245 v1266 v1287), ∀ a, (k0_off294 v1141 v1161 v1182 v1203 v1224 v1245 v1266 v1287) a + S1.size a ≤ S2560.size a := fun v1141 v1161 v1182 v1203 v1224 v1245 v1266 v1287 k0_hw143 => k0_hw143.2.2

def k0_off295 (v1141 : BitVec 32) (v1161 : BitVec 32) (v1182 : BitVec 32) (v1203 : BitVec 32) (v1224 : BitVec 32) (v1245 : BitVec 32) (v1266 : BitVec 32) (v1287 : BitVec 32) (v1308 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_654 : BitVec 32 := 0#32
  let v1311 : BitVec 32 := Scalar.maxsi v1309 c0_i32_654
  let v1312 : Index := Scalar.indexCast v1311
  ![v1312.toNat]

def k0_off296 (v1141 : BitVec 32) (v1161 : BitVec 32) (v1182 : BitVec 32) (v1203 : BitVec 32) (v1224 : BitVec 32) (v1245 : BitVec 32) (v1266 : BitVec 32) (v1287 : BitVec 32) (v1308 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_654 : BitVec 32 := 0#32
  let v1311 : BitVec 32 := Scalar.maxsi v1309 c0_i32_654
  let v1316 : Index := Scalar.indexCast v1311
  let c0_656 : Index := 0#32
  ![v1316.toNat, 0]
def k0_off297 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1313 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let arg0 : BitVec 32 := BitVec.ofNat 32 (i 0).val
  let c512_i32 : BitVec 32 := 512#32
  let v3 : BitVec 32 := Scalar.muli arg0 c512_i32
  let v1314 : BitVec 32 := Scalar.subi v1313 v3
  let c0_i32_655 : BitVec 32 := 0#32
  let v1315 : BitVec 32 := Scalar.select v1310 v1314 c0_i32_655
  let v1320 : Index := Scalar.indexCast v1315
  let c0_657 : Index := 0#32
  ![v1320.toNat, 0]

def k0_chk146 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1313 : BitVec 32) : Prop :=
  (∀ a, (k0_off297 i v1141 v1161 v1182 v1203 v1224 v1245 v1266 v1287 v1308 v1313) a + S1x896.size a ≤ S512x896.size a)
theorem k0_off297_inb : ∀ (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1313 : BitVec 32) (k0_hw146 : k0_chk146 i v1141 v1161 v1182 v1203 v1224 v1245 v1266 v1287 v1308 v1313), ∀ a, (k0_off297 i v1141 v1161 v1182 v1203 v1224 v1245 v1266 v1287 v1308 v1313) a + S1x896.size a ≤ S512x896.size a := fun i v1141 v1161 v1182 v1203 v1224 v1245 v1266 v1287 v1308 v1313 k0_hw146 => k0_hw146

def k0_off298 (v1141 : BitVec 32) (v1161 : BitVec 32) (v1182 : BitVec 32) (v1203 : BitVec 32) (v1224 : BitVec 32) (v1245 : BitVec 32) (v1266 : BitVec 32) (v1287 : BitVec 32) (v1308 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_654 : BitVec 32 := 0#32
  let v1311 : BitVec 32 := Scalar.maxsi v1309 c0_i32_654
  let v1328 : Index := Scalar.indexCast v1311
  ![v1328.toNat]

def k0_chk145 (v1141 : BitVec 32) (v1161 : BitVec 32) (v1182 : BitVec 32) (v1203 : BitVec 32) (v1224 : BitVec 32) (v1245 : BitVec 32) (v1266 : BitVec 32) (v1287 : BitVec 32) (v1308 : BitVec 32) : Prop :=
  (∀ a, (k0_off295 v1141 v1161 v1182 v1203 v1224 v1245 v1266 v1287 v1308) a + S1.size a ≤ S2560.size a) ∧
  (∀ a, (k0_off296 v1141 v1161 v1182 v1203 v1224 v1245 v1266 v1287 v1308) a + S1x896.size a ≤ S2560x896.size a) ∧
  (∀ a, (k0_off298 v1141 v1161 v1182 v1203 v1224 v1245 v1266 v1287 v1308) a + S1.size a ≤ S2560.size a)
theorem k0_off295_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (k0_hw145 : k0_chk145 v1141 v1161 v1182 v1203 v1224 v1245 v1266 v1287 v1308), ∀ a, (k0_off295 v1141 v1161 v1182 v1203 v1224 v1245 v1266 v1287 v1308) a + S1.size a ≤ S2560.size a := fun v1141 v1161 v1182 v1203 v1224 v1245 v1266 v1287 v1308 k0_hw145 => k0_hw145.1
theorem k0_off296_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (k0_hw145 : k0_chk145 v1141 v1161 v1182 v1203 v1224 v1245 v1266 v1287 v1308), ∀ a, (k0_off296 v1141 v1161 v1182 v1203 v1224 v1245 v1266 v1287 v1308) a + S1x896.size a ≤ S2560x896.size a := fun v1141 v1161 v1182 v1203 v1224 v1245 v1266 v1287 v1308 k0_hw145 => k0_hw145.2.1
theorem k0_off298_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (k0_hw145 : k0_chk145 v1141 v1161 v1182 v1203 v1224 v1245 v1266 v1287 v1308), ∀ a, (k0_off298 v1141 v1161 v1182 v1203 v1224 v1245 v1266 v1287 v1308) a + S1.size a ≤ S2560.size a := fun v1141 v1161 v1182 v1203 v1224 v1245 v1266 v1287 v1308 k0_hw145 => k0_hw145.2.2

def k0_off299 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_662 : BitVec 32 := 0#32
  let v1332 : BitVec 32 := Scalar.maxsi v1330 c0_i32_662
  let v1333 : Index := Scalar.indexCast v1332
  ![v1333.toNat]

def k0_off300 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_662 : BitVec 32 := 0#32
  let v1332 : BitVec 32 := Scalar.maxsi v1330 c0_i32_662
  let v1337 : Index := Scalar.indexCast v1332
  let c0_664 : Index := 0#32
  ![v1337.toNat, 0]
def k0_off301 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1334 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let arg0 : BitVec 32 := BitVec.ofNat 32 (i 0).val
  let c512_i32 : BitVec 32 := 512#32
  let v3 : BitVec 32 := Scalar.muli arg0 c512_i32
  let v1335 : BitVec 32 := Scalar.subi v1334 v3
  let c0_i32_663 : BitVec 32 := 0#32
  let v1336 : BitVec 32 := Scalar.select v1331 v1335 c0_i32_663
  let v1341 : Index := Scalar.indexCast v1336
  let c0_665 : Index := 0#32
  ![v1341.toNat, 0]

def k0_chk148 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1334 : BitVec 32) : Prop :=
  (∀ a, (k0_off301 i v1141 v1161 v1182 v1203 v1224 v1245 v1266 v1287 v1308 v1329 v1334) a + S1x896.size a ≤ S512x896.size a)
theorem k0_off301_inb : ∀ (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1334 : BitVec 32) (k0_hw148 : k0_chk148 i v1141 v1161 v1182 v1203 v1224 v1245 v1266 v1287 v1308 v1329 v1334), ∀ a, (k0_off301 i v1141 v1161 v1182 v1203 v1224 v1245 v1266 v1287 v1308 v1329 v1334) a + S1x896.size a ≤ S512x896.size a := fun i v1141 v1161 v1182 v1203 v1224 v1245 v1266 v1287 v1308 v1329 v1334 k0_hw148 => k0_hw148

def k0_off302 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_662 : BitVec 32 := 0#32
  let v1332 : BitVec 32 := Scalar.maxsi v1330 c0_i32_662
  let v1349 : Index := Scalar.indexCast v1332
  ![v1349.toNat]

def k0_chk147 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) : Prop :=
  (∀ a, (k0_off299 v1141 v1161 v1182 v1203 v1224 v1245 v1266 v1287 v1308 v1329) a + S1.size a ≤ S2560.size a) ∧
  (∀ a, (k0_off300 v1141 v1161 v1182 v1203 v1224 v1245 v1266 v1287 v1308 v1329) a + S1x896.size a ≤ S2560x896.size a) ∧
  (∀ a, (k0_off302 v1141 v1161 v1182 v1203 v1224 v1245 v1266 v1287 v1308 v1329) a + S1.size a ≤ S2560.size a)
theorem k0_off299_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (k0_hw147 : k0_chk147 v1141 v1161 v1182 v1203 v1224 v1245 v1266 v1287 v1308 v1329), ∀ a, (k0_off299 v1141 v1161 v1182 v1203 v1224 v1245 v1266 v1287 v1308 v1329) a + S1.size a ≤ S2560.size a := fun v1141 v1161 v1182 v1203 v1224 v1245 v1266 v1287 v1308 v1329 k0_hw147 => k0_hw147.1
theorem k0_off300_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (k0_hw147 : k0_chk147 v1141 v1161 v1182 v1203 v1224 v1245 v1266 v1287 v1308 v1329), ∀ a, (k0_off300 v1141 v1161 v1182 v1203 v1224 v1245 v1266 v1287 v1308 v1329) a + S1x896.size a ≤ S2560x896.size a := fun v1141 v1161 v1182 v1203 v1224 v1245 v1266 v1287 v1308 v1329 k0_hw147 => k0_hw147.2.1
theorem k0_off302_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (k0_hw147 : k0_chk147 v1141 v1161 v1182 v1203 v1224 v1245 v1266 v1287 v1308 v1329), ∀ a, (k0_off302 v1141 v1161 v1182 v1203 v1224 v1245 v1266 v1287 v1308 v1329) a + S1.size a ≤ S2560.size a := fun v1141 v1161 v1182 v1203 v1224 v1245 v1266 v1287 v1308 v1329 k0_hw147 => k0_hw147.2.2

def k0_off303 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_670 : BitVec 32 := 0#32
  let v1353 : BitVec 32 := Scalar.maxsi v1351 c0_i32_670
  let v1354 : Index := Scalar.indexCast v1353
  ![v1354.toNat]

def k0_off304 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_670 : BitVec 32 := 0#32
  let v1353 : BitVec 32 := Scalar.maxsi v1351 c0_i32_670
  let v1358 : Index := Scalar.indexCast v1353
  let c0_672 : Index := 0#32
  ![v1358.toNat, 0]
def k0_off305 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1355 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let arg0 : BitVec 32 := BitVec.ofNat 32 (i 0).val
  let c512_i32 : BitVec 32 := 512#32
  let v3 : BitVec 32 := Scalar.muli arg0 c512_i32
  let v1356 : BitVec 32 := Scalar.subi v1355 v3
  let c0_i32_671 : BitVec 32 := 0#32
  let v1357 : BitVec 32 := Scalar.select v1352 v1356 c0_i32_671
  let v1362 : Index := Scalar.indexCast v1357
  let c0_673 : Index := 0#32
  ![v1362.toNat, 0]

def k0_chk150 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1355 : BitVec 32) : Prop :=
  (∀ a, (k0_off305 i v1141 v1161 v1182 v1203 v1224 v1245 v1266 v1287 v1308 v1329 v1350 v1355) a + S1x896.size a ≤ S512x896.size a)
theorem k0_off305_inb : ∀ (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1355 : BitVec 32) (k0_hw150 : k0_chk150 i v1141 v1161 v1182 v1203 v1224 v1245 v1266 v1287 v1308 v1329 v1350 v1355), ∀ a, (k0_off305 i v1141 v1161 v1182 v1203 v1224 v1245 v1266 v1287 v1308 v1329 v1350 v1355) a + S1x896.size a ≤ S512x896.size a := fun i v1141 v1161 v1182 v1203 v1224 v1245 v1266 v1287 v1308 v1329 v1350 v1355 k0_hw150 => k0_hw150

def k0_off306 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_670 : BitVec 32 := 0#32
  let v1353 : BitVec 32 := Scalar.maxsi v1351 c0_i32_670
  let v1370 : Index := Scalar.indexCast v1353
  ![v1370.toNat]

def k0_chk149 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) : Prop :=
  (∀ a, (k0_off303 v1141 v1161 v1182 v1203 v1224 v1245 v1266 v1287 v1308 v1329 v1350) a + S1.size a ≤ S2560.size a) ∧
  (∀ a, (k0_off304 v1141 v1161 v1182 v1203 v1224 v1245 v1266 v1287 v1308 v1329 v1350) a + S1x896.size a ≤ S2560x896.size a) ∧
  (∀ a, (k0_off306 v1141 v1161 v1182 v1203 v1224 v1245 v1266 v1287 v1308 v1329 v1350) a + S1.size a ≤ S2560.size a)
theorem k0_off303_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (k0_hw149 : k0_chk149 v1141 v1161 v1182 v1203 v1224 v1245 v1266 v1287 v1308 v1329 v1350), ∀ a, (k0_off303 v1141 v1161 v1182 v1203 v1224 v1245 v1266 v1287 v1308 v1329 v1350) a + S1.size a ≤ S2560.size a := fun v1141 v1161 v1182 v1203 v1224 v1245 v1266 v1287 v1308 v1329 v1350 k0_hw149 => k0_hw149.1
theorem k0_off304_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (k0_hw149 : k0_chk149 v1141 v1161 v1182 v1203 v1224 v1245 v1266 v1287 v1308 v1329 v1350), ∀ a, (k0_off304 v1141 v1161 v1182 v1203 v1224 v1245 v1266 v1287 v1308 v1329 v1350) a + S1x896.size a ≤ S2560x896.size a := fun v1141 v1161 v1182 v1203 v1224 v1245 v1266 v1287 v1308 v1329 v1350 k0_hw149 => k0_hw149.2.1
theorem k0_off306_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (k0_hw149 : k0_chk149 v1141 v1161 v1182 v1203 v1224 v1245 v1266 v1287 v1308 v1329 v1350), ∀ a, (k0_off306 v1141 v1161 v1182 v1203 v1224 v1245 v1266 v1287 v1308 v1329 v1350) a + S1.size a ≤ S2560.size a := fun v1141 v1161 v1182 v1203 v1224 v1245 v1266 v1287 v1308 v1329 v1350 k0_hw149 => k0_hw149.2.2

def k0_off307 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_678 : BitVec 32 := 0#32
  let v1374 : BitVec 32 := Scalar.maxsi v1372 c0_i32_678
  let v1375 : Index := Scalar.indexCast v1374
  ![v1375.toNat]

def k0_off308 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_678 : BitVec 32 := 0#32
  let v1374 : BitVec 32 := Scalar.maxsi v1372 c0_i32_678
  let v1379 : Index := Scalar.indexCast v1374
  let c0_680 : Index := 0#32
  ![v1379.toNat, 0]
def k0_off309 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1376 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let arg0 : BitVec 32 := BitVec.ofNat 32 (i 0).val
  let c512_i32 : BitVec 32 := 512#32
  let v3 : BitVec 32 := Scalar.muli arg0 c512_i32
  let v1377 : BitVec 32 := Scalar.subi v1376 v3
  let c0_i32_679 : BitVec 32 := 0#32
  let v1378 : BitVec 32 := Scalar.select v1373 v1377 c0_i32_679
  let v1383 : Index := Scalar.indexCast v1378
  let c0_681 : Index := 0#32
  ![v1383.toNat, 0]

def k0_chk152 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1376 : BitVec 32) : Prop :=
  (∀ a, (k0_off309 i v1141 v1161 v1182 v1203 v1224 v1245 v1266 v1287 v1308 v1329 v1350 v1371 v1376) a + S1x896.size a ≤ S512x896.size a)
theorem k0_off309_inb : ∀ (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1376 : BitVec 32) (k0_hw152 : k0_chk152 i v1141 v1161 v1182 v1203 v1224 v1245 v1266 v1287 v1308 v1329 v1350 v1371 v1376), ∀ a, (k0_off309 i v1141 v1161 v1182 v1203 v1224 v1245 v1266 v1287 v1308 v1329 v1350 v1371 v1376) a + S1x896.size a ≤ S512x896.size a := fun i v1141 v1161 v1182 v1203 v1224 v1245 v1266 v1287 v1308 v1329 v1350 v1371 v1376 k0_hw152 => k0_hw152

def k0_off310 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_678 : BitVec 32 := 0#32
  let v1374 : BitVec 32 := Scalar.maxsi v1372 c0_i32_678
  let v1391 : Index := Scalar.indexCast v1374
  ![v1391.toNat]

def k0_chk151 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) : Prop :=
  (∀ a, (k0_off307 v1141 v1161 v1182 v1203 v1224 v1245 v1266 v1287 v1308 v1329 v1350 v1371) a + S1.size a ≤ S2560.size a) ∧
  (∀ a, (k0_off308 v1141 v1161 v1182 v1203 v1224 v1245 v1266 v1287 v1308 v1329 v1350 v1371) a + S1x896.size a ≤ S2560x896.size a) ∧
  (∀ a, (k0_off310 v1141 v1161 v1182 v1203 v1224 v1245 v1266 v1287 v1308 v1329 v1350 v1371) a + S1.size a ≤ S2560.size a)
theorem k0_off307_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (k0_hw151 : k0_chk151 v1141 v1161 v1182 v1203 v1224 v1245 v1266 v1287 v1308 v1329 v1350 v1371), ∀ a, (k0_off307 v1141 v1161 v1182 v1203 v1224 v1245 v1266 v1287 v1308 v1329 v1350 v1371) a + S1.size a ≤ S2560.size a := fun v1141 v1161 v1182 v1203 v1224 v1245 v1266 v1287 v1308 v1329 v1350 v1371 k0_hw151 => k0_hw151.1
theorem k0_off308_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (k0_hw151 : k0_chk151 v1141 v1161 v1182 v1203 v1224 v1245 v1266 v1287 v1308 v1329 v1350 v1371), ∀ a, (k0_off308 v1141 v1161 v1182 v1203 v1224 v1245 v1266 v1287 v1308 v1329 v1350 v1371) a + S1x896.size a ≤ S2560x896.size a := fun v1141 v1161 v1182 v1203 v1224 v1245 v1266 v1287 v1308 v1329 v1350 v1371 k0_hw151 => k0_hw151.2.1
theorem k0_off310_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (k0_hw151 : k0_chk151 v1141 v1161 v1182 v1203 v1224 v1245 v1266 v1287 v1308 v1329 v1350 v1371), ∀ a, (k0_off310 v1141 v1161 v1182 v1203 v1224 v1245 v1266 v1287 v1308 v1329 v1350 v1371) a + S1.size a ≤ S2560.size a := fun v1141 v1161 v1182 v1203 v1224 v1245 v1266 v1287 v1308 v1329 v1350 v1371 k0_hw151 => k0_hw151.2.2

def k0_off311 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_686 : BitVec 32 := 0#32
  let v1395 : BitVec 32 := Scalar.maxsi v1393 c0_i32_686
  let v1396 : Index := Scalar.indexCast v1395
  ![v1396.toNat]

def k0_off312 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_686 : BitVec 32 := 0#32
  let v1395 : BitVec 32 := Scalar.maxsi v1393 c0_i32_686
  let v1400 : Index := Scalar.indexCast v1395
  let c0_688 : Index := 0#32
  ![v1400.toNat, 0]
def k0_off313 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1397 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let arg0 : BitVec 32 := BitVec.ofNat 32 (i 0).val
  let c512_i32 : BitVec 32 := 512#32
  let v3 : BitVec 32 := Scalar.muli arg0 c512_i32
  let v1398 : BitVec 32 := Scalar.subi v1397 v3
  let c0_i32_687 : BitVec 32 := 0#32
  let v1399 : BitVec 32 := Scalar.select v1394 v1398 c0_i32_687
  let v1404 : Index := Scalar.indexCast v1399
  let c0_689 : Index := 0#32
  ![v1404.toNat, 0]

def k0_chk154 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1397 : BitVec 32) : Prop :=
  (∀ a, (k0_off313 i v1141 v1161 v1182 v1203 v1224 v1245 v1266 v1287 v1308 v1329 v1350 v1371 v1392 v1397) a + S1x896.size a ≤ S512x896.size a)
theorem k0_off313_inb : ∀ (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1397 : BitVec 32) (k0_hw154 : k0_chk154 i v1141 v1161 v1182 v1203 v1224 v1245 v1266 v1287 v1308 v1329 v1350 v1371 v1392 v1397), ∀ a, (k0_off313 i v1141 v1161 v1182 v1203 v1224 v1245 v1266 v1287 v1308 v1329 v1350 v1371 v1392 v1397) a + S1x896.size a ≤ S512x896.size a := fun i v1141 v1161 v1182 v1203 v1224 v1245 v1266 v1287 v1308 v1329 v1350 v1371 v1392 v1397 k0_hw154 => k0_hw154

def k0_off314 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_686 : BitVec 32 := 0#32
  let v1395 : BitVec 32 := Scalar.maxsi v1393 c0_i32_686
  let v1412 : Index := Scalar.indexCast v1395
  ![v1412.toNat]

def k0_chk153 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) : Prop :=
  (∀ a, (k0_off311 v1141 v1161 v1182 v1203 v1224 v1245 v1266 v1287 v1308 v1329 v1350 v1371 v1392) a + S1.size a ≤ S2560.size a) ∧
  (∀ a, (k0_off312 v1141 v1161 v1182 v1203 v1224 v1245 v1266 v1287 v1308 v1329 v1350 v1371 v1392) a + S1x896.size a ≤ S2560x896.size a) ∧
  (∀ a, (k0_off314 v1141 v1161 v1182 v1203 v1224 v1245 v1266 v1287 v1308 v1329 v1350 v1371 v1392) a + S1.size a ≤ S2560.size a)
theorem k0_off311_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (k0_hw153 : k0_chk153 v1141 v1161 v1182 v1203 v1224 v1245 v1266 v1287 v1308 v1329 v1350 v1371 v1392), ∀ a, (k0_off311 v1141 v1161 v1182 v1203 v1224 v1245 v1266 v1287 v1308 v1329 v1350 v1371 v1392) a + S1.size a ≤ S2560.size a := fun v1141 v1161 v1182 v1203 v1224 v1245 v1266 v1287 v1308 v1329 v1350 v1371 v1392 k0_hw153 => k0_hw153.1
theorem k0_off312_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (k0_hw153 : k0_chk153 v1141 v1161 v1182 v1203 v1224 v1245 v1266 v1287 v1308 v1329 v1350 v1371 v1392), ∀ a, (k0_off312 v1141 v1161 v1182 v1203 v1224 v1245 v1266 v1287 v1308 v1329 v1350 v1371 v1392) a + S1x896.size a ≤ S2560x896.size a := fun v1141 v1161 v1182 v1203 v1224 v1245 v1266 v1287 v1308 v1329 v1350 v1371 v1392 k0_hw153 => k0_hw153.2.1
theorem k0_off314_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (k0_hw153 : k0_chk153 v1141 v1161 v1182 v1203 v1224 v1245 v1266 v1287 v1308 v1329 v1350 v1371 v1392), ∀ a, (k0_off314 v1141 v1161 v1182 v1203 v1224 v1245 v1266 v1287 v1308 v1329 v1350 v1371 v1392) a + S1.size a ≤ S2560.size a := fun v1141 v1161 v1182 v1203 v1224 v1245 v1266 v1287 v1308 v1329 v1350 v1371 v1392 k0_hw153 => k0_hw153.2.2

def k0_off315 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_694 : BitVec 32 := 0#32
  let v1416 : BitVec 32 := Scalar.maxsi v1414 c0_i32_694
  let v1417 : Index := Scalar.indexCast v1416
  ![v1417.toNat]

def k0_off316 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_694 : BitVec 32 := 0#32
  let v1416 : BitVec 32 := Scalar.maxsi v1414 c0_i32_694
  let v1421 : Index := Scalar.indexCast v1416
  let c0_696 : Index := 0#32
  ![v1421.toNat, 0]
def k0_off317 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1418 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_693 : BitVec 32 := 0#32
  let v1415 : BitVec 1 := Scalar.cmpi .sge v1414 c0_i32_693
  let arg0 : BitVec 32 := BitVec.ofNat 32 (i 0).val
  let c512_i32 : BitVec 32 := 512#32
  let v3 : BitVec 32 := Scalar.muli arg0 c512_i32
  let v1419 : BitVec 32 := Scalar.subi v1418 v3
  let c0_i32_695 : BitVec 32 := 0#32
  let v1420 : BitVec 32 := Scalar.select v1415 v1419 c0_i32_695
  let v1425 : Index := Scalar.indexCast v1420
  let c0_697 : Index := 0#32
  ![v1425.toNat, 0]

def k0_chk156 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1418 : BitVec 32) : Prop :=
  (∀ a, (k0_off317 i v1141 v1161 v1182 v1203 v1224 v1245 v1266 v1287 v1308 v1329 v1350 v1371 v1392 v1413 v1418) a + S1x896.size a ≤ S512x896.size a)
theorem k0_off317_inb : ∀ (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1418 : BitVec 32) (k0_hw156 : k0_chk156 i v1141 v1161 v1182 v1203 v1224 v1245 v1266 v1287 v1308 v1329 v1350 v1371 v1392 v1413 v1418), ∀ a, (k0_off317 i v1141 v1161 v1182 v1203 v1224 v1245 v1266 v1287 v1308 v1329 v1350 v1371 v1392 v1413 v1418) a + S1x896.size a ≤ S512x896.size a := fun i v1141 v1161 v1182 v1203 v1224 v1245 v1266 v1287 v1308 v1329 v1350 v1371 v1392 v1413 v1418 k0_hw156 => k0_hw156

def k0_off318 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_694 : BitVec 32 := 0#32
  let v1416 : BitVec 32 := Scalar.maxsi v1414 c0_i32_694
  let v1433 : Index := Scalar.indexCast v1416
  ![v1433.toNat]

def k0_chk155 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) : Prop :=
  (∀ a, (k0_off315 v1141 v1161 v1182 v1203 v1224 v1245 v1266 v1287 v1308 v1329 v1350 v1371 v1392 v1413) a + S1.size a ≤ S2560.size a) ∧
  (∀ a, (k0_off316 v1141 v1161 v1182 v1203 v1224 v1245 v1266 v1287 v1308 v1329 v1350 v1371 v1392 v1413) a + S1x896.size a ≤ S2560x896.size a) ∧
  (∀ a, (k0_off318 v1141 v1161 v1182 v1203 v1224 v1245 v1266 v1287 v1308 v1329 v1350 v1371 v1392 v1413) a + S1.size a ≤ S2560.size a)
theorem k0_off315_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (k0_hw155 : k0_chk155 v1141 v1161 v1182 v1203 v1224 v1245 v1266 v1287 v1308 v1329 v1350 v1371 v1392 v1413), ∀ a, (k0_off315 v1141 v1161 v1182 v1203 v1224 v1245 v1266 v1287 v1308 v1329 v1350 v1371 v1392 v1413) a + S1.size a ≤ S2560.size a := fun v1141 v1161 v1182 v1203 v1224 v1245 v1266 v1287 v1308 v1329 v1350 v1371 v1392 v1413 k0_hw155 => k0_hw155.1
theorem k0_off316_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (k0_hw155 : k0_chk155 v1141 v1161 v1182 v1203 v1224 v1245 v1266 v1287 v1308 v1329 v1350 v1371 v1392 v1413), ∀ a, (k0_off316 v1141 v1161 v1182 v1203 v1224 v1245 v1266 v1287 v1308 v1329 v1350 v1371 v1392 v1413) a + S1x896.size a ≤ S2560x896.size a := fun v1141 v1161 v1182 v1203 v1224 v1245 v1266 v1287 v1308 v1329 v1350 v1371 v1392 v1413 k0_hw155 => k0_hw155.2.1
theorem k0_off318_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (k0_hw155 : k0_chk155 v1141 v1161 v1182 v1203 v1224 v1245 v1266 v1287 v1308 v1329 v1350 v1371 v1392 v1413), ∀ a, (k0_off318 v1141 v1161 v1182 v1203 v1224 v1245 v1266 v1287 v1308 v1329 v1350 v1371 v1392 v1413) a + S1.size a ≤ S2560.size a := fun v1141 v1161 v1182 v1203 v1224 v1245 v1266 v1287 v1308 v1329 v1350 v1371 v1392 v1413 k0_hw155 => k0_hw155.2.2

def k0_off319 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_693 : BitVec 32 := 0#32
  let v1415 : BitVec 1 := Scalar.cmpi .sge v1414 c0_i32_693
  let c_m1_i32_700 : BitVec 32 := 4294967295#32
  let v1435 : BitVec 32 := Scalar.select v1415 v1434 c_m1_i32_700
  let c0_i32_702 : BitVec 32 := 0#32
  let v1437 : BitVec 32 := Scalar.maxsi v1435 c0_i32_702
  let v1438 : Index := Scalar.indexCast v1437
  ![v1438.toNat]

def k0_off320 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_693 : BitVec 32 := 0#32
  let v1415 : BitVec 1 := Scalar.cmpi .sge v1414 c0_i32_693
  let c_m1_i32_700 : BitVec 32 := 4294967295#32
  let v1435 : BitVec 32 := Scalar.select v1415 v1434 c_m1_i32_700
  let c0_i32_702 : BitVec 32 := 0#32
  let v1437 : BitVec 32 := Scalar.maxsi v1435 c0_i32_702
  let v1442 : Index := Scalar.indexCast v1437
  let c0_704 : Index := 0#32
  ![v1442.toNat, 0]
def k0_off321 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1439 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_693 : BitVec 32 := 0#32
  let v1415 : BitVec 1 := Scalar.cmpi .sge v1414 c0_i32_693
  let c_m1_i32_700 : BitVec 32 := 4294967295#32
  let v1435 : BitVec 32 := Scalar.select v1415 v1434 c_m1_i32_700
  let c0_i32_701 : BitVec 32 := 0#32
  let v1436 : BitVec 1 := Scalar.cmpi .sge v1435 c0_i32_701
  let arg0 : BitVec 32 := BitVec.ofNat 32 (i 0).val
  let c512_i32 : BitVec 32 := 512#32
  let v3 : BitVec 32 := Scalar.muli arg0 c512_i32
  let v1440 : BitVec 32 := Scalar.subi v1439 v3
  let c0_i32_703 : BitVec 32 := 0#32
  let v1441 : BitVec 32 := Scalar.select v1436 v1440 c0_i32_703
  let v1446 : Index := Scalar.indexCast v1441
  let c0_705 : Index := 0#32
  ![v1446.toNat, 0]

def k0_chk158 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1439 : BitVec 32) : Prop :=
  (∀ a, (k0_off321 i v1141 v1161 v1182 v1203 v1224 v1245 v1266 v1287 v1308 v1329 v1350 v1371 v1392 v1413 v1434 v1439) a + S1x896.size a ≤ S512x896.size a)
theorem k0_off321_inb : ∀ (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1439 : BitVec 32) (k0_hw158 : k0_chk158 i v1141 v1161 v1182 v1203 v1224 v1245 v1266 v1287 v1308 v1329 v1350 v1371 v1392 v1413 v1434 v1439), ∀ a, (k0_off321 i v1141 v1161 v1182 v1203 v1224 v1245 v1266 v1287 v1308 v1329 v1350 v1371 v1392 v1413 v1434 v1439) a + S1x896.size a ≤ S512x896.size a := fun i v1141 v1161 v1182 v1203 v1224 v1245 v1266 v1287 v1308 v1329 v1350 v1371 v1392 v1413 v1434 v1439 k0_hw158 => k0_hw158

def k0_off322 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_693 : BitVec 32 := 0#32
  let v1415 : BitVec 1 := Scalar.cmpi .sge v1414 c0_i32_693
  let c_m1_i32_700 : BitVec 32 := 4294967295#32
  let v1435 : BitVec 32 := Scalar.select v1415 v1434 c_m1_i32_700
  let c0_i32_702 : BitVec 32 := 0#32
  let v1437 : BitVec 32 := Scalar.maxsi v1435 c0_i32_702
  let v1454 : Index := Scalar.indexCast v1437
  ![v1454.toNat]

def k0_chk157 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) : Prop :=
  (∀ a, (k0_off319 v1141 v1161 v1182 v1203 v1224 v1245 v1266 v1287 v1308 v1329 v1350 v1371 v1392 v1413 v1434) a + S1.size a ≤ S2560.size a) ∧
  (∀ a, (k0_off320 v1141 v1161 v1182 v1203 v1224 v1245 v1266 v1287 v1308 v1329 v1350 v1371 v1392 v1413 v1434) a + S1x896.size a ≤ S2560x896.size a) ∧
  (∀ a, (k0_off322 v1141 v1161 v1182 v1203 v1224 v1245 v1266 v1287 v1308 v1329 v1350 v1371 v1392 v1413 v1434) a + S1.size a ≤ S2560.size a)
theorem k0_off319_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (k0_hw157 : k0_chk157 v1141 v1161 v1182 v1203 v1224 v1245 v1266 v1287 v1308 v1329 v1350 v1371 v1392 v1413 v1434), ∀ a, (k0_off319 v1141 v1161 v1182 v1203 v1224 v1245 v1266 v1287 v1308 v1329 v1350 v1371 v1392 v1413 v1434) a + S1.size a ≤ S2560.size a := fun v1141 v1161 v1182 v1203 v1224 v1245 v1266 v1287 v1308 v1329 v1350 v1371 v1392 v1413 v1434 k0_hw157 => k0_hw157.1
theorem k0_off320_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (k0_hw157 : k0_chk157 v1141 v1161 v1182 v1203 v1224 v1245 v1266 v1287 v1308 v1329 v1350 v1371 v1392 v1413 v1434), ∀ a, (k0_off320 v1141 v1161 v1182 v1203 v1224 v1245 v1266 v1287 v1308 v1329 v1350 v1371 v1392 v1413 v1434) a + S1x896.size a ≤ S2560x896.size a := fun v1141 v1161 v1182 v1203 v1224 v1245 v1266 v1287 v1308 v1329 v1350 v1371 v1392 v1413 v1434 k0_hw157 => k0_hw157.2.1
theorem k0_off322_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (k0_hw157 : k0_chk157 v1141 v1161 v1182 v1203 v1224 v1245 v1266 v1287 v1308 v1329 v1350 v1371 v1392 v1413 v1434), ∀ a, (k0_off322 v1141 v1161 v1182 v1203 v1224 v1245 v1266 v1287 v1308 v1329 v1350 v1371 v1392 v1413 v1434) a + S1.size a ≤ S2560.size a := fun v1141 v1161 v1182 v1203 v1224 v1245 v1266 v1287 v1308 v1329 v1350 v1371 v1392 v1413 v1434 k0_hw157 => k0_hw157.2.2

def k0_off323 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_693 : BitVec 32 := 0#32
  let v1415 : BitVec 1 := Scalar.cmpi .sge v1414 c0_i32_693
  let c_m1_i32_700 : BitVec 32 := 4294967295#32
  let v1435 : BitVec 32 := Scalar.select v1415 v1434 c_m1_i32_700
  let c0_i32_701 : BitVec 32 := 0#32
  let v1436 : BitVec 1 := Scalar.cmpi .sge v1435 c0_i32_701
  let c_m1_i32_708 : BitVec 32 := 4294967295#32
  let v1456 : BitVec 32 := Scalar.select v1436 v1455 c_m1_i32_708
  let c0_i32_710 : BitVec 32 := 0#32
  let v1458 : BitVec 32 := Scalar.maxsi v1456 c0_i32_710
  let v1459 : Index := Scalar.indexCast v1458
  ![v1459.toNat]

def k0_off324 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_693 : BitVec 32 := 0#32
  let v1415 : BitVec 1 := Scalar.cmpi .sge v1414 c0_i32_693
  let c_m1_i32_700 : BitVec 32 := 4294967295#32
  let v1435 : BitVec 32 := Scalar.select v1415 v1434 c_m1_i32_700
  let c0_i32_701 : BitVec 32 := 0#32
  let v1436 : BitVec 1 := Scalar.cmpi .sge v1435 c0_i32_701
  let c_m1_i32_708 : BitVec 32 := 4294967295#32
  let v1456 : BitVec 32 := Scalar.select v1436 v1455 c_m1_i32_708
  let c0_i32_710 : BitVec 32 := 0#32
  let v1458 : BitVec 32 := Scalar.maxsi v1456 c0_i32_710
  let v1463 : Index := Scalar.indexCast v1458
  let c0_712 : Index := 0#32
  ![v1463.toNat, 0]
def k0_off325 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) (v1460 : BitVec 32) : Fin 2 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_693 : BitVec 32 := 0#32
  let v1415 : BitVec 1 := Scalar.cmpi .sge v1414 c0_i32_693
  let c_m1_i32_700 : BitVec 32 := 4294967295#32
  let v1435 : BitVec 32 := Scalar.select v1415 v1434 c_m1_i32_700
  let c0_i32_701 : BitVec 32 := 0#32
  let v1436 : BitVec 1 := Scalar.cmpi .sge v1435 c0_i32_701
  let c_m1_i32_708 : BitVec 32 := 4294967295#32
  let v1456 : BitVec 32 := Scalar.select v1436 v1455 c_m1_i32_708
  let c0_i32_709 : BitVec 32 := 0#32
  let v1457 : BitVec 1 := Scalar.cmpi .sge v1456 c0_i32_709
  let arg0 : BitVec 32 := BitVec.ofNat 32 (i 0).val
  let c512_i32 : BitVec 32 := 512#32
  let v3 : BitVec 32 := Scalar.muli arg0 c512_i32
  let v1461 : BitVec 32 := Scalar.subi v1460 v3
  let c0_i32_711 : BitVec 32 := 0#32
  let v1462 : BitVec 32 := Scalar.select v1457 v1461 c0_i32_711
  let v1467 : Index := Scalar.indexCast v1462
  let c0_713 : Index := 0#32
  ![v1467.toNat, 0]

def k0_chk160 (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) (v1460 : BitVec 32) : Prop :=
  (∀ a, (k0_off325 i v1141 v1161 v1182 v1203 v1224 v1245 v1266 v1287 v1308 v1329 v1350 v1371 v1392 v1413 v1434 v1455 v1460) a + S1x896.size a ≤ S512x896.size a)
theorem k0_off325_inb : ∀ (i : grid0.Coords) (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) (v1460 : BitVec 32) (k0_hw160 : k0_chk160 i v1141 v1161 v1182 v1203 v1224 v1245 v1266 v1287 v1308 v1329 v1350 v1371 v1392 v1413 v1434 v1455 v1460), ∀ a, (k0_off325 i v1141 v1161 v1182 v1203 v1224 v1245 v1266 v1287 v1308 v1329 v1350 v1371 v1392 v1413 v1434 v1455 v1460) a + S1x896.size a ≤ S512x896.size a := fun i v1141 v1161 v1182 v1203 v1224 v1245 v1266 v1287 v1308 v1329 v1350 v1371 v1392 v1413 v1434 v1455 v1460 k0_hw160 => k0_hw160

def k0_off326 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) : Fin 1 → Nat :=
  let c0_i32_590 : BitVec 32 := 0#32
  let v1142 : BitVec 1 := Scalar.cmpi .sge v1141 c0_i32_590
  let c_m1_i32 : BitVec 32 := 4294967295#32
  let v1162 : BitVec 32 := Scalar.select v1142 v1161 c_m1_i32
  let c0_i32_597 : BitVec 32 := 0#32
  let v1163 : BitVec 1 := Scalar.cmpi .sge v1162 c0_i32_597
  let c_m1_i32_604 : BitVec 32 := 4294967295#32
  let v1183 : BitVec 32 := Scalar.select v1163 v1182 c_m1_i32_604
  let c0_i32_605 : BitVec 32 := 0#32
  let v1184 : BitVec 1 := Scalar.cmpi .sge v1183 c0_i32_605
  let c_m1_i32_612 : BitVec 32 := 4294967295#32
  let v1204 : BitVec 32 := Scalar.select v1184 v1203 c_m1_i32_612
  let c0_i32_613 : BitVec 32 := 0#32
  let v1205 : BitVec 1 := Scalar.cmpi .sge v1204 c0_i32_613
  let c_m1_i32_620 : BitVec 32 := 4294967295#32
  let v1225 : BitVec 32 := Scalar.select v1205 v1224 c_m1_i32_620
  let c0_i32_621 : BitVec 32 := 0#32
  let v1226 : BitVec 1 := Scalar.cmpi .sge v1225 c0_i32_621
  let c_m1_i32_628 : BitVec 32 := 4294967295#32
  let v1246 : BitVec 32 := Scalar.select v1226 v1245 c_m1_i32_628
  let c0_i32_629 : BitVec 32 := 0#32
  let v1247 : BitVec 1 := Scalar.cmpi .sge v1246 c0_i32_629
  let c_m1_i32_636 : BitVec 32 := 4294967295#32
  let v1267 : BitVec 32 := Scalar.select v1247 v1266 c_m1_i32_636
  let c0_i32_637 : BitVec 32 := 0#32
  let v1268 : BitVec 1 := Scalar.cmpi .sge v1267 c0_i32_637
  let c_m1_i32_644 : BitVec 32 := 4294967295#32
  let v1288 : BitVec 32 := Scalar.select v1268 v1287 c_m1_i32_644
  let c0_i32_645 : BitVec 32 := 0#32
  let v1289 : BitVec 1 := Scalar.cmpi .sge v1288 c0_i32_645
  let c_m1_i32_652 : BitVec 32 := 4294967295#32
  let v1309 : BitVec 32 := Scalar.select v1289 v1308 c_m1_i32_652
  let c0_i32_653 : BitVec 32 := 0#32
  let v1310 : BitVec 1 := Scalar.cmpi .sge v1309 c0_i32_653
  let c_m1_i32_660 : BitVec 32 := 4294967295#32
  let v1330 : BitVec 32 := Scalar.select v1310 v1329 c_m1_i32_660
  let c0_i32_661 : BitVec 32 := 0#32
  let v1331 : BitVec 1 := Scalar.cmpi .sge v1330 c0_i32_661
  let c_m1_i32_668 : BitVec 32 := 4294967295#32
  let v1351 : BitVec 32 := Scalar.select v1331 v1350 c_m1_i32_668
  let c0_i32_669 : BitVec 32 := 0#32
  let v1352 : BitVec 1 := Scalar.cmpi .sge v1351 c0_i32_669
  let c_m1_i32_676 : BitVec 32 := 4294967295#32
  let v1372 : BitVec 32 := Scalar.select v1352 v1371 c_m1_i32_676
  let c0_i32_677 : BitVec 32 := 0#32
  let v1373 : BitVec 1 := Scalar.cmpi .sge v1372 c0_i32_677
  let c_m1_i32_684 : BitVec 32 := 4294967295#32
  let v1393 : BitVec 32 := Scalar.select v1373 v1392 c_m1_i32_684
  let c0_i32_685 : BitVec 32 := 0#32
  let v1394 : BitVec 1 := Scalar.cmpi .sge v1393 c0_i32_685
  let c_m1_i32_692 : BitVec 32 := 4294967295#32
  let v1414 : BitVec 32 := Scalar.select v1394 v1413 c_m1_i32_692
  let c0_i32_693 : BitVec 32 := 0#32
  let v1415 : BitVec 1 := Scalar.cmpi .sge v1414 c0_i32_693
  let c_m1_i32_700 : BitVec 32 := 4294967295#32
  let v1435 : BitVec 32 := Scalar.select v1415 v1434 c_m1_i32_700
  let c0_i32_701 : BitVec 32 := 0#32
  let v1436 : BitVec 1 := Scalar.cmpi .sge v1435 c0_i32_701
  let c_m1_i32_708 : BitVec 32 := 4294967295#32
  let v1456 : BitVec 32 := Scalar.select v1436 v1455 c_m1_i32_708
  let c0_i32_710 : BitVec 32 := 0#32
  let v1458 : BitVec 32 := Scalar.maxsi v1456 c0_i32_710
  let v1475 : Index := Scalar.indexCast v1458
  ![v1475.toNat]

def k0_chk159 (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) : Prop :=
  (∀ a, (k0_off323 v1141 v1161 v1182 v1203 v1224 v1245 v1266 v1287 v1308 v1329 v1350 v1371 v1392 v1413 v1434 v1455) a + S1.size a ≤ S2560.size a) ∧
  (∀ a, (k0_off324 v1141 v1161 v1182 v1203 v1224 v1245 v1266 v1287 v1308 v1329 v1350 v1371 v1392 v1413 v1434 v1455) a + S1x896.size a ≤ S2560x896.size a) ∧
  (∀ a, (k0_off326 v1141 v1161 v1182 v1203 v1224 v1245 v1266 v1287 v1308 v1329 v1350 v1371 v1392 v1413 v1434 v1455) a + S1.size a ≤ S2560.size a)
theorem k0_off323_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) (k0_hw159 : k0_chk159 v1141 v1161 v1182 v1203 v1224 v1245 v1266 v1287 v1308 v1329 v1350 v1371 v1392 v1413 v1434 v1455), ∀ a, (k0_off323 v1141 v1161 v1182 v1203 v1224 v1245 v1266 v1287 v1308 v1329 v1350 v1371 v1392 v1413 v1434 v1455) a + S1.size a ≤ S2560.size a := fun v1141 v1161 v1182 v1203 v1224 v1245 v1266 v1287 v1308 v1329 v1350 v1371 v1392 v1413 v1434 v1455 k0_hw159 => k0_hw159.1
theorem k0_off324_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) (k0_hw159 : k0_chk159 v1141 v1161 v1182 v1203 v1224 v1245 v1266 v1287 v1308 v1329 v1350 v1371 v1392 v1413 v1434 v1455), ∀ a, (k0_off324 v1141 v1161 v1182 v1203 v1224 v1245 v1266 v1287 v1308 v1329 v1350 v1371 v1392 v1413 v1434 v1455) a + S1x896.size a ≤ S2560x896.size a := fun v1141 v1161 v1182 v1203 v1224 v1245 v1266 v1287 v1308 v1329 v1350 v1371 v1392 v1413 v1434 v1455 k0_hw159 => k0_hw159.2.1
theorem k0_off326_inb : ∀ (v1141 : BitVec 32) (v1161 : BitVec 32) (v1182 : BitVec 32) (v1203 : BitVec 32) (v1224 : BitVec 32) (v1245 : BitVec 32) (v1266 : BitVec 32) (v1287 : BitVec 32) (v1308 : BitVec 32) (v1329 : BitVec 32) (v1350 : BitVec 32) (v1371 : BitVec 32) (v1392 : BitVec 32) (v1413 : BitVec 32) (v1434 : BitVec 32) (v1455 : BitVec 32) (k0_hw159 : k0_chk159 v1141 v1161 v1182 v1203 v1224 v1245 v1266 v1287 v1308 v1329 v1350 v1371 v1392 v1413 v1434 v1455), ∀ a, (k0_off326 v1141 v1161 v1182 v1203 v1224 v1245 v1266 v1287 v1308 v1329 v1350 v1371 v1392 v1413 v1434 v1455) a + S1.size a ≤ S2560.size a := fun v1141 v1161 v1182 v1203 v1224 v1245 v1266 v1287 v1308 v1329 v1350 v1371 v1392 v1413 v1434 v1455 k0_hw159 => k0_hw159.2.2

def k0_off327 (arg17 : BitVec 32) : Fin 1 → Nat :=
  let v1562 : Index := Scalar.indexCast arg17
  ![v1562.toNat]

def k0_off328 (arg17 : BitVec 32) : Fin 2 → Nat :=
  let v1565 : Index := Scalar.indexCast arg17
  let c0_808 : Index := 0#32
  ![v1565.toNat, 0]
def k0_off329 (i : grid0.Coords) (v1563 : BitVec 32) : Fin 2 → Nat :=
  let arg0 : BitVec 32 := BitVec.ofNat 32 (i 0).val
  let c512_i32 : BitVec 32 := 512#32
  let v3 : BitVec 32 := Scalar.muli arg0 c512_i32
  let v1564 : BitVec 32 := Scalar.subi v1563 v3
  let v1569 : Index := Scalar.indexCast v1564
  let c0_809 : Index := 0#32
  ![v1569.toNat, 0]

def k0_chk162 (i : grid0.Coords) (v1563 : BitVec 32) : Prop :=
  (∀ a, (k0_off329 i v1563) a + S1x896.size a ≤ S512x896.size a)
theorem k0_off329_inb : ∀ (i : grid0.Coords) (v1563 : BitVec 32) (k0_hw162 : k0_chk162 i v1563), ∀ a, (k0_off329 i v1563) a + S1x896.size a ≤ S512x896.size a := fun i v1563 k0_hw162 => k0_hw162

def k0_off330 (arg17 : BitVec 32) : Fin 1 → Nat :=
  let v1577 : Index := Scalar.indexCast arg17
  ![v1577.toNat]

def k0_chk161 (arg17 : BitVec 32) : Prop :=
  (∀ a, (k0_off327 arg17) a + S1.size a ≤ S2560.size a) ∧
  (∀ a, (k0_off328 arg17) a + S1x896.size a ≤ S2560x896.size a) ∧
  (∀ a, (k0_off330 arg17) a + S1.size a ≤ S2560.size a)
theorem k0_off327_inb : ∀ (arg17 : BitVec 32) (k0_hw161 : k0_chk161 arg17), ∀ a, (k0_off327 arg17) a + S1.size a ≤ S2560.size a := fun arg17 k0_hw161 => k0_hw161.1
theorem k0_off328_inb : ∀ (arg17 : BitVec 32) (k0_hw161 : k0_chk161 arg17), ∀ a, (k0_off328 arg17) a + S1x896.size a ≤ S2560x896.size a := fun arg17 k0_hw161 => k0_hw161.2.1
theorem k0_off330_inb : ∀ (arg17 : BitVec 32) (k0_hw161 : k0_chk161 arg17), ∀ a, (k0_off330 arg17) a + S1.size a ≤ S2560.size a := fun arg17 k0_hw161 => k0_hw161.2.2

def k0_cond2 (i : grid0.Coords) : BitVec 1 :=
  let arg0 : BitVec 32 := BitVec.ofNat 32 (i 0).val
  let c296_i32 : BitVec 32 := 296#32
  let v1559 : BitVec 1 := Scalar.cmpi .eq arg0 c296_i32
  let v1560 : BitVec 32 := Scalar.extui v1559
  let c0_i32_807 : BitVec 32 := 0#32
  let v1561 : BitVec 1 := Scalar.cmpi .ne v1560 c0_i32_807
  v1561

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2560 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x896 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x896 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2560x896 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2560x896 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2x1280x151936 : Shape := ⟨3, ![2, 1280, 151936]⟩
abbrev S2x1280x1187 : Shape := ⟨3, ![2, 1280, 1187]⟩
abbrev S2x1280x896 : Shape := ⟨3, ![2, 1280, 896]⟩
abbrev S2x1280 : Shape := ⟨2, ![2, 1280]⟩
abbrev S151936x896 : Shape := ⟨2, ![151936, 896]⟩
abbrev S151936 : Shape := ⟨1, ![151936]⟩
abbrev S2x1280x1187x128 : Shape := ⟨4, ![2, 1280, 1187, 128]⟩
abbrev S2x1280x1187x1 : Shape := ⟨4, ![2, 1280, 1187, 1]⟩
abbrev S2x1280x1 : Shape := ⟨3, ![2, 1280, 1]⟩
abbrev S151936x1 : Shape := ⟨2, ![151936, 1]⟩
abbrev S2560 : Shape := ⟨1, ![2560]⟩
abbrev S2560x896 : Shape := ⟨2, ![2560, 896]⟩
abbrev S_ : Shape := ⟨0, ![]⟩
abbrev S2560x1 : Shape := ⟨2, ![2560, 1]⟩

abbrev nBuf : Space → Nat
  | .hbm => 26
  | .vmem => 9
  | .smem => 0
  | _ => 0

abbrev bufTy : (tb : Table) → Fin (tcTables nBuf tb) → BufTy
  | .hbm, ⟨0, _⟩ => ⟨S2x1280x151936, .fp8e5m2⟩
  | .hbm, ⟨1, _⟩ => ⟨S2x1280x1187, .f32⟩
  | .hbm, ⟨2, _⟩ => ⟨S2x1280x896, .fp8e4m3⟩
  | .hbm, ⟨3, _⟩ => ⟨S2x1280, .f32⟩
  | .hbm, ⟨4, _⟩ => ⟨S151936x896, .i8⟩
  | .hbm, ⟨5, _⟩ => ⟨S151936, .f32⟩
  | .hbm, ⟨6, _⟩ => ⟨S2x1280, .i32⟩
  | .hbm, ⟨7, _⟩ => ⟨S2x1280x896, .bf16⟩
  | .hbm, ⟨8, _⟩ => ⟨S2x1280x151936, .bf16⟩
  | .hbm, ⟨9, _⟩ => ⟨S2x1280x896, .bf16⟩
  | .hbm, ⟨10, _⟩ => ⟨S151936x896, .bf16⟩
  | .hbm, ⟨11, _⟩ => ⟨S151936x896, .f32⟩
  | .hbm, ⟨12, _⟩ => ⟨S2560, .i32⟩
  | .hbm, ⟨13, _⟩ => ⟨S2560x896, .bf16⟩
  | .hbm, ⟨14, _⟩ => ⟨S2560x896, .f32⟩
  | .hbm, ⟨15, _⟩ => ⟨S_, .i32⟩
  | .hbm, ⟨16, _⟩ => ⟨S2560, .i32⟩
  | .hbm, ⟨17, _⟩ => ⟨S2560, .i1⟩
  | .hbm, ⟨18, _⟩ => ⟨S_, .i32⟩
  | .hbm, ⟨19, _⟩ => ⟨S2560, .i32⟩
  | .hbm, ⟨20, _⟩ => ⟨S2560, .i32⟩
  | .hbm, ⟨21, _⟩ => ⟨S2560, .i32⟩
  | .hbm, ⟨22, _⟩ => ⟨S2560x1, .i32⟩
  | .hbm, ⟨23, _⟩ => ⟨S151936x896, .f32⟩
  | .hbm, ⟨24, _⟩ => ⟨S2x1280x896, .f32⟩
  | .hbm, ⟨25, _⟩ => ⟨S2x1280x896, .bf16⟩
  | .local _ .vmem, ⟨0, _⟩ => ⟨S2x1280x151936, .fp8e5m2⟩
  | .local _ .vmem, ⟨1, _⟩ => ⟨S2x1280x1187, .f32⟩
  | .local _ .vmem, ⟨2, _⟩ => ⟨S2x1280x896, .fp8e4m3⟩
  | .local _ .vmem, ⟨3, _⟩ => ⟨S2x1280, .f32⟩
  | .local _ .vmem, ⟨4, _⟩ => ⟨S151936x896, .i8⟩
  | .local _ .vmem, ⟨5, _⟩ => ⟨S151936, .f32⟩
  | .local _ .vmem, ⟨6, _⟩ => ⟨S2x1280x151936, .bf16⟩
  | .local _ .vmem, ⟨7, _⟩ => ⟨S2x1280x896, .bf16⟩
  | .local _ .vmem, ⟨8, _⟩ => ⟨S151936x896, .bf16⟩
  | _, _ => ⟨S2x1280x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x1280x151936 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1280x1187 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1280x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S151936x896 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S151936 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1280x151936 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1280x896 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S151936x896 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Rules.lean ====
/-
  A small program logic over a mutable state: `J ow I p Q` says that from any state satisfying `I`, whose
  buffers are owned as `ow` states, the program `p` runs and ends in `Q`. One rule for each kind of step: a load, a store,
  a load of one word of scalar memory, an assumed side condition, and the sequencing of programs. Nothing here is
  particular to a kernel.
-/
module

public import Idealize.ShloMosaic.Lib.VecWindow
public import Idealize.ShloMosaic.Lib.Pipeline.FrameBody
public import Idealize.ShloMosaic.Lib.Pipeline.Kit
public import Idealize.ShloMosaic.Lib.Ring
public import Idealize.ShloMosaic.Lib.Tactic

@[expose] public section

noncomputable section

namespace Cert.TiedGrad

open Idealize.ShloMosaic Idealize.ShloMosaic.TcCoe
open Idealize.SL Idealize.SL.RA Idealize.SL.BI
open scoped Idealize.SL.BI
open Idealize.ShloMosaic.Rounds
open Idealize.ShloMosaic.Pipeline
open Idealize.SL.BI.BIBase Idealize.SL.BI.Laws Idealize.SL.ProofMode Idealize.SL.Sem

variable {nD : Nat} {τ : Topo} {sig : RefSig} {Val : EltTy → Type} {Λ : Labels}

variable {St : Type}

/-- From every state satisfying `I`, its buffers owned, the program `p` runs and ends in `Q`. -/
def J (defs : Defs nD τ sig Val Λ) (𝒱 : Variants) (c : Dev nD) (bd : Option 𝒱.V) (ow : St → sProp (MT nD τ sig Unit Val ℕ (UR sig nD τ) ℕ)) {α : Type} (I : St → Prop) (p : Prog (TpuEff nD τ sig Val Λ .tc) α) (Q : α → sProp (MT nD τ sig Unit Val ℕ (UR sig nD τ) ℕ)) : Prop :=
  ∀ s, I s → (ow s ⊢ wp frame (wpE defs 𝒱 (c : Thread nD τ) bd) Set.univ p Q)

/-- `m` is a buffer of the state, holding `get s`; `set s x` is the state with `x` there instead. -/
structure Cell (c : Dev nD) (ow : St → sProp (MT nD τ sig Unit Val ℕ (UR sig nD τ) ℕ)) {sp : Space} {s : Shape} {e : EltTy} (m : Memref sig .tc sp s e) (get : St → s.Idx → Val e)
    (set : St → (s.Idx → Val e) → St) : Prop where
  split : ∀ x, ow x ⊢ iprop(owns (c : Thread nD τ) m fullShare (get x) ∗ (∀ y, owns (c : Thread nD τ) m fullShare y -∗ ow (set x y)))
  same : ∀ x, set x (get x) = x

variable {defs : Defs nD τ sig Val Λ} {𝒱 : Variants} {c : Dev nD} {bd : Option 𝒱.V} {ow : St → sProp (MT nD τ sig Unit Val ℕ (UR sig nD τ) ℕ)}
variable {α β : Type} {I I' : St → Prop} {Q : α → sProp (MT nD τ sig Unit Val ℕ (UR sig nD τ) ℕ)}

/-- A stronger condition on the state. -/
theorem J.weaken {p : Prog (TpuEff nD τ sig Val Λ .tc) α} (h : J defs 𝒱 c bd ow I' p Q) (hI : ∀ s, I s → I' s) :
    J defs 𝒱 c bd ow I p Q := fun s hs => h s (hI s hs)

/-- A program followed by another. -/
theorem J.bind {p : Prog (TpuEff nD τ sig Val Λ .tc) β} {k : β → Prog (TpuEff nD τ sig Val Λ .tc) α}
    (h : J defs 𝒱 c bd ow I p (fun b => wp frame (wpE defs 𝒱 (c : Thread nD τ) bd) Set.univ (k b) Q)) :
    J defs 𝒱 c bd ow I (p >>= k) Q := fun s hs => (h s hs).trans (by rw [wp_bind])

/-- The end of a program that another follows. -/
theorem J.pure {b : β} {k : β → Prog (TpuEff nD τ sig Val Λ .tc) α} (h : J defs 𝒱 c bd ow I (k b) Q) :
    J defs 𝒱 c bd ow I (Pure.pure b) (fun b => wp frame (wpE defs 𝒱 (c : Thread nD τ) bd) Set.univ (k b) Q) :=
  fun s hs => (h s hs).trans (by rw [show (Pure.pure b : Prog (TpuEff nD τ sig Val Λ .tc) β) = .ret b from rfl, wp_ret]; exact BI.fupd_intro)

/-- An update at the post's end is absorbed: the end of a program. -/
theorem J.ret {b : α} (h : ∀ s, I s → (ow s ⊢ Q b)) : J defs 𝒱 c bd ow I (Pure.pure b) Q :=
  fun s hs => (h s hs).trans (by rw [show (Pure.pure b : Prog (TpuEff nD τ sig Val Λ .tc) α) = .ret b from rfl, wp_ret]; exact BI.fupd_intro)

variable {sp : CoreSpace} {s : Shape} {e : EltTy}

/-- A load of a rectangle: the program continues at the window of what the buffer holds. -/
theorem J.load {m : Memref sig .tc sp s e} {get : St → s.Idx → Val e} {set : St → (s.Idx → Val e) → St} (C : Cell c ow m get set)
    {off size : Fin s.rank → ℕ} {inb : ∀ a, off a + size a ≤ s.size a} {hl : m.view.LoadsAt (Rect.unit off size inb).toLoadRect}
    {k : ((Rect.unit off size inb).toLoadRect.shape.Idx → Val e) → Prog (TpuEff nD τ sig Val Λ .tc) α}
    (h : ∀ v, J defs 𝒱 c bd ow (fun x => I x ∧ v = VecWindow.window (get x) off size inb) (k v) Q) :
    J defs 𝒱 c bd ow I (Prog.lift (.load m (Rect.unit off size inb).toLoadRect hl) >>= k) Q := by
  intro x hx
  refine (C.split x).trans ?_
  show _ ⊢ wp _ _ _ (.op (.load m (Rect.unit off size inb).toLoadRect hl) k) Q
  unfold owns
  iintro ⟨⟨%f, %hf, Hm⟩, Hr⟩
  iapply (wp_load 𝒱 (c : Thread nD τ) bd Set.univ (m := m) (S := m.view.set) (View.setOn_subset_set _ _)) $$ Hm
  iintro Hm
  iapply (h (m.view.readAt Val (Rect.unit off size inb).toLoadRect f) x ⟨hx, by rw [View.readAt_unit m.view f inb rfl inb, hf]⟩)
  ihave H := Hr $$ %(get x) [Hm]
  · iexists f; isplitr
    · ipureintro; exact hf
    · iexact Hm
  rw [C.same]; iexact H

/-- An unmasked store to a rectangle: the buffer holds the payload there. -/
theorem J.store {m : Memref sig .tc sp s e} {get : St → s.Idx → Val e} {set : St → (s.Idx → Val e) → St} (C : Cell c ow m get set)
    {off size : Fin s.rank → ℕ} {inb : ∀ a, off a + size a ≤ s.size a} {w : (Rect.unit off size inb).shape.Idx → Val e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig Val Λ .tc) α} (I' : St → Prop)
    (hI : ∀ x, I x → I' (set x (VecWindow.put (get x) off size w)))
    (h : J defs 𝒱 c bd ow I' (k ⟨⟩) Q) :
    J defs 𝒱 c bd ow I (Prog.lift (.store m (Rect.unit off size inb) w Finset.univ hx hm) >>= k) Q := by
  intro x hx'
  refine (C.split x).trans ?_
  show _ ⊢ wp _ _ _ (.op (.store m (Rect.unit off size inb) w Finset.univ hx hm) k) Q
  unfold owns
  iintro ⟨⟨%f, %hf, Hm⟩, Hr⟩
  iapply (wp_store 𝒱 (c : Thread nD τ) bd Set.univ (m := m) (r := Rect.unit off size inb) (S := m.view.set) (by rw [View.setOn_univ]; exact View.set_slice_subset _ _)) $$ Hm
  iintro Hm
  iapply (h (set x (VecWindow.put (get x) off size w)) (hI x hx'))
  iapply Hr
  iexists ((m.access (Rect.unit off size inb)).write Val f w Finset.univ); isplitr
  · ipureintro
    have := View.read_writes_cons_put m.view f inb w [] rfl
    rw [View.writes_nil, hf] at this
    exact this
  · iexact Hm

/-- A load of one word of scalar memory. -/
theorem J.word {m : Memref sig .tc .smem s e} {get : St → s.Idx → Val e} {set : St → (s.Idx → Val e) → St} (C : Cell c ow m get set)
    {off size : Fin s.rank → ℕ} {inb : ∀ a, off a + size a ≤ s.size a} {h1 : (Rect.unit off size inb).shape.numel = 1} {hp : e.packing = 1}
    {k : Val e → Prog (TpuEff nD τ sig Val Λ .tc) α}
    (h : ∀ v, J defs 𝒱 c bd ow (fun x => I x ∧ v = VecWindow.window (get x) off size inb (Shape.Idx.first (h1.symm ▸ Nat.one_pos))) (k v) Q) :
    J defs 𝒱 c bd ow I (smemLoad m (Rect.unit off size inb) h1 hp >>= k) Q := by
  intro x hx
  refine (C.split x).trans ?_
  show _ ⊢ wp _ _ _ (smemLoadElt m (Rect.unit off size inb) (View.loads_smem_one hp h1) (Shape.Idx.first (h1.symm ▸ Nat.one_pos)) k) Q
  unfold owns
  iintro ⟨⟨%f, %hf, Hm⟩, Hr⟩
  iapply (wp_smemLoadElt 𝒱 (c : Thread nD τ) bd Set.univ (m := m) (r := Rect.unit off size inb) (S := m.view.set) (by exact View.set_slice_subset _ _)) $$ Hm
  iintro Hm
  iapply (h ((m.access (Rect.unit off size inb)).read Val f (Shape.Idx.first (h1.symm ▸ Nat.one_pos))) x ⟨hx, by rw [← hf]; rfl⟩)
  ihave H := Hr $$ %(get x) [Hm]
  · iexists f; isplitr
    · ipureintro; exact hf
    · iexact Hm
  rw [C.same]; iexact H

/-- An assumed side condition, which the state implies. -/
theorem J.assume {P : Prop} {d : Decidable P} {k : PLift P → Prog (TpuEff nD τ sig Val Λ .tc) α} (hP : ∀ x, I x → P)
    (h : ∀ p : P, J defs 𝒱 c bd ow I (k ⟨p⟩) Q) :
    J defs 𝒱 c bd ow I (Prog.lift (.assume P d) >>= k) Q := fun x hx =>
  (h (hP x hx) x hx).trans (wp_assume 𝒱 (c : Thread nD τ) bd Set.univ (hP x hx))

/-- The end of a piece of program: some state satisfying `I`, its buffers owned. -/
def End (ow : St → sProp (MT nD τ sig Unit Val ℕ (UR sig nD τ) ℕ)) (I : St → Prop) : sProp (MT nD τ sig Unit Val ℕ (UR sig nD τ) ℕ) :=
  iprop(∃ s, ⌜I s⌝ ∗ ow s)

theorem End.intro {s : St} (h : I s) : ow s ⊢ End ow I := by
  unfold End
  iintro H
  iexists s
  isplitr
  · ipureintro; exact h
  · iexact H

/-- The end of a piece of program, reached. -/
theorem J.done {b : α} (h : ∀ s, I s → I' s) : J defs 𝒱 c bd ow I (Pure.pure b) (fun _ => End ow I') :=
  J.ret fun s hs => End.intro (h s hs)

/-- What is proved from every state of `I` is proved from the end of a piece of program. -/
theorem J.ofEnd {p : Prog (TpuEff nD τ sig Val Λ .tc) α} (h : J defs 𝒱 c bd ow I p Q) :
    End ow I ⊢ wp frame (wpE defs 𝒱 (c : Thread nD τ) bd) Set.univ p Q := by
  unfold End
  iintro ⟨%s, %hs, H⟩
  iapply (h s hs)
  iexact H

/-- A counted loop, by an invariant of the state. -/
theorem J.for {l : Scf.Loop 32} {ok : l.OK} {body : Fin l.trips → PUnit → Prog (TpuEff nD τ sig Val Λ .tc) PUnit}
    {k : PUnit → Prog (TpuEff nD τ sig Val Λ .tc) α} (N : ℕ → St → Prop)
    (h0 : ∀ s, I s → N 0 s)
    (hbody : ∀ t acc, J defs 𝒱 c bd ow (N t.val) (body t acc) (fun _ => End ow (N (t.val + 1))))
    (h : J defs 𝒱 c bd ow (N l.trips) (k ⟨⟩) Q) :
    J defs 𝒱 c bd ow I (Scf.Loop.for l ok ⟨⟩ body >>= k) Q := by
  intro s hs
  have key := Scf.wp_for_bind frame (wpE defs 𝒱 (c : Thread nD τ) bd) Set.univ l.lb l.ub l.st ok (⟨⟩ : PUnit) body
    (fun n _ => End ow (N n)) (fun t acc => J.ofEnd (hbody t acc)) (kk := k) (Q := Q)
  refine (End.intro (I := N 0) (h0 s hs)).trans ?_
  iintro H
  iapply key $$ H
  iintro %acc H
  iapply (J.ofEnd h) $$ H

/-- A call of a label of the body table: the label's program, followed by what follows the call. -/
theorem J.call {ℓ : Λ.Label} {a : Λ.Args ℓ} {k : Λ.Result ℓ → Prog (TpuEff nD τ sig Val Λ .tc) α} (v : 𝒱.V) (hv : ∀ u ∈ bd, 𝒱.lt v u)
    (h : J defs 𝒱 c (some v) ow I (defs .tc ℓ a) (fun x => wp frame (wpE defs 𝒱 (c : Thread nD τ) bd) Set.univ (k x) Q)) :
    J defs 𝒱 c bd ow I (Prog.lift (.call ℓ a) >>= k) Q := fun s hs =>
  (h s hs).trans (wp_call 𝒱 (c : Thread nD τ) bd Set.univ v hv)

end Cert.TiedGrad
-- ==== Proof.State.lean ====
/-
  The state of one grid step: the eight operands of the step, the two results and the six scratch buffers, what it
  means to own them, and the rules to load from and store to each of them.
-/
module

public import proofs.«01_k».proof.Proof.Rules
public import Idealize.ShloMosaic.Lib.ValueLayout
public import Idealize.ShloMosaic.Lib.Pipeline.Value

@[expose] public section

noncomputable section

namespace Cert.TiedGrad

open Idealize.ShloMosaic Idealize.ShloMosaic.TcCoe
open Idealize.SL Idealize.SL.RA Idealize.SL.BI
open scoped Idealize.SL.BI
open Idealize.ShloMosaic.Rounds
open Idealize.ShloMosaic.Pipeline
open Idealize.ShloMosaic.ValueIdx
open Idealize.SL.BI.BIBase Idealize.SL.BI.Laws Idealize.SL.ProofMode Idealize.SL.Sem

abbrev S2560x896 : Shape := ⟨2, ![2560, 896]⟩
abbrev S2560 : Shape := ⟨1, ![2560]⟩
abbrev S1x2560 : Shape := ⟨2, ![1, 2560]⟩
abbrev S2560x512 : Shape := ⟨2, ![2560, 512]⟩
abbrev S4x2x1280 : Shape := ⟨3, ![4, 2, 1280]⟩
abbrev S512x896 : Shape := ⟨2, ![512, 896]⟩
abbrev S1x512 : Shape := ⟨2, ![1, 512]⟩
abbrev S896x2560 : Shape := ⟨2, ![896, 2560]⟩
abbrev S896x512 : Shape := ⟨2, ![896, 512]⟩
abbrev S297 : Shape := ⟨1, ![297]⟩
abbrev S1 : Shape := ⟨1, ![1]⟩
abbrev S128x896 : Shape := ⟨2, ![128, 896]⟩
abbrev S896x128 : Shape := ⟨2, ![896, 128]⟩
abbrev S1x128 : Shape := ⟨2, ![1, 128]⟩
abbrev S128x128 : Shape := ⟨2, ![128, 128]⟩
abbrev S1x1x128 : Shape := ⟨3, ![1, 1, 128]⟩
abbrev S1x896 : Shape := ⟨2, ![1, 896]⟩
abbrev S896x256 : Shape := ⟨2, ![896, 256]⟩
abbrev S256x512 : Shape := ⟨2, ![256, 512]⟩
abbrev S256x896 : Shape := ⟨2, ![256, 896]⟩

variable {F : FTy → Type} [FloatOps F]

/-- The operands of one grid step: the token ids, the tile of `dl` with its scales, `h` with its scales, the tile of the
    table with its scales, and the rows of the embedding's gradient. -/
structure Ins (F : FTy → Type) [FloatOps F] where
  ids : S2560.Idx → Elt F .i32
  dl : S2560x512.Idx → Elt F .fp8e5m2
  sc : S4x2x1280.Idx → Elt F .f32
  h : S2560x896.Idx → Elt F .fp8e4m3
  hs : S1x2560.Idx → Elt F .f32
  e : S512x896.Idx → Elt F .i8
  es : S1x512.Idx → Elt F .f32
  demb : S2560x896.Idx → Elt F .bf16

/-- The whole state of one grid step. -/
structure St (F : FTy → Type) [FloatOps F] where
  ins : Ins F
  de : S512x896.Idx → Elt F .f32
  dh : S2560x896.Idx → Elt F .bf16
  hht : S896x2560.Idx → Elt F .bf16
  dlb : S2560x512.Idx → Elt F .bf16
  eet : S896x512.Idx → Elt F .bf16
  acc : S896x2560.Idx → Elt F .f32
  head : S297.Idx → Elt F .i32
  nxt : S2560.Idx → Elt F .i32

/-- The sixteen buffers a grid step works on. -/
structure Refs (sig : RefSig) where
  a1 : Memref sig .tc .smem S2560 .i32
  a2 : Memref sig .tc .vmem S2560x512 .fp8e5m2
  a3 : Memref sig .tc .vmem S4x2x1280 .f32
  a4 : Memref sig .tc .vmem S2560x896 .fp8e4m3
  a5 : Memref sig .tc .vmem S1x2560 .f32
  a6 : Memref sig .tc .vmem S512x896 .i8
  a7 : Memref sig .tc .vmem S1x512 .f32
  a8 : Memref sig .tc .vmem S2560x896 .bf16
  a9 : Memref sig .tc .vmem S512x896 .f32
  a10 : Memref sig .tc .vmem S2560x896 .bf16
  a11 : Memref sig .tc .vmem S896x2560 .bf16
  a12 : Memref sig .tc .vmem S2560x512 .bf16
  a13 : Memref sig .tc .vmem S896x512 .bf16
  a14 : Memref sig .tc .vmem S896x2560 .f32
  a15 : Memref sig .tc .smem S297 .i32
  a16 : Memref sig .tc .smem S2560 .i32

variable {nD : Nat} {τ : Topo} {sig : RefSig} {Λ : Labels}

/-- The buffers `R` owned, holding the state `s`. -/
def own (c : Dev nD) (R : Refs sig) (s : St F) : sProp (MT nD τ sig Unit (Elt F) ℕ (UR sig nD τ) ℕ) :=
  iprop(owns (c : Thread nD τ) R.a1 fullShare s.ins.ids ∗ owns (c : Thread nD τ) R.a2 fullShare s.ins.dl
    ∗ owns (c : Thread nD τ) R.a3 fullShare s.ins.sc ∗ owns (c : Thread nD τ) R.a4 fullShare s.ins.h
    ∗ owns (c : Thread nD τ) R.a5 fullShare s.ins.hs ∗ owns (c : Thread nD τ) R.a6 fullShare s.ins.e
    ∗ owns (c : Thread nD τ) R.a7 fullShare s.ins.es ∗ owns (c : Thread nD τ) R.a8 fullShare s.ins.demb
    ∗ owns (c : Thread nD τ) R.a9 fullShare s.de ∗ owns (c : Thread nD τ) R.a10 fullShare s.dh
    ∗ owns (c : Thread nD τ) R.a11 fullShare s.hht ∗ owns (c : Thread nD τ) R.a12 fullShare s.dlb
    ∗ owns (c : Thread nD τ) R.a13 fullShare s.eet ∗ owns (c : Thread nD τ) R.a14 fullShare s.acc
    ∗ owns (c : Thread nD τ) R.a15 fullShare s.head ∗ owns (c : Thread nD τ) R.a16 fullShare s.nxt)

section Cells

variable {PR : Type} {A B R : sProp (MT nD τ sig Unit (Elt F) ℕ (UR sig nD τ) ℕ)} {B' A' : PR → sProp (MT nD τ sig Unit (Elt F) ℕ (UR sig nD τ) ℕ)}

theorem split_here : iprop(A ∗ R) ⊢ iprop(A ∗ (∀ y, B' y -∗ (B' y ∗ R))) := by
  iintro ⟨HA, HR⟩
  isplitl [HA]
  · iexact HA
  · iintro %y HB
    isplitl [HB]
    · iexact HB
    · iexact HR

theorem split_last : A ⊢ iprop(A ∗ (∀ y, B' y -∗ B' y)) := by
  iintro HA
  isplitl [HA]
  · iexact HA
  · iintro %y HB
    iexact HB

theorem split_under (h : A ⊢ iprop(B ∗ (∀ y, B' y -∗ A' y))) : iprop(R ∗ A) ⊢ iprop(B ∗ (∀ y, B' y -∗ (R ∗ A' y))) := by
  iintro ⟨HR, HA⟩
  ihave H := h $$ HA
  icases H with ⟨HB, Hw⟩
  isplitl [HB]
  · iexact HB
  · iintro %y HB
    isplitl [HR]
    · iexact HR
    · iapply Hw
      iexact HB

end Cells

variable (c : Dev nD) (R : Refs sig)

theorem cell_ids : Cell (Val := Elt F) (τ := τ) c (own c R) R.a1 (fun s => s.ins.ids) (fun s x => { s with ins := { s.ins with ids := x } }) :=
  ⟨fun s => split_here, fun s => rfl⟩
theorem cell_dl : Cell (Val := Elt F) (τ := τ) c (own c R) R.a2 (fun s => s.ins.dl) (fun s x => { s with ins := { s.ins with dl := x } }) :=
  ⟨fun s => split_under split_here, fun s => rfl⟩
theorem cell_sc : Cell (Val := Elt F) (τ := τ) c (own c R) R.a3 (fun s => s.ins.sc) (fun s x => { s with ins := { s.ins with sc := x } }) :=
  ⟨fun s => split_under (split_under split_here), fun s => rfl⟩
theorem cell_h : Cell (Val := Elt F) (τ := τ) c (own c R) R.a4 (fun s => s.ins.h) (fun s x => { s with ins := { s.ins with h := x } }) :=
  ⟨fun s => split_under (split_under (split_under split_here)), fun s => rfl⟩
theorem cell_hs : Cell (Val := Elt F) (τ := τ) c (own c R) R.a5 (fun s => s.ins.hs) (fun s x => { s with ins := { s.ins with hs := x } }) :=
  ⟨fun s => split_under (split_under (split_under (split_under split_here))), fun s => rfl⟩
theorem cell_e : Cell (Val := Elt F) (τ := τ) c (own c R) R.a6 (fun s => s.ins.e) (fun s x => { s with ins := { s.ins with e := x } }) :=
  ⟨fun s => split_under (split_under (split_under (split_under (split_under split_here)))), fun s => rfl⟩
theorem cell_es : Cell (Val := Elt F) (τ := τ) c (own c R) R.a7 (fun s => s.ins.es) (fun s x => { s with ins := { s.ins with es := x } }) :=
  ⟨fun s => split_under (split_under (split_under (split_under (split_under (split_under split_here))))), fun s => rfl⟩
theorem cell_demb : Cell (Val := Elt F) (τ := τ) c (own c R) R.a8 (fun s => s.ins.demb) (fun s x => { s with ins := { s.ins with demb := x } }) :=
  ⟨fun s => split_under (split_under (split_under (split_under (split_under (split_under (split_under split_here)))))), fun s => rfl⟩
theorem cell_de : Cell (Val := Elt F) (τ := τ) c (own c R) R.a9 (fun s => s.de) (fun s x => { s with de := x }) :=
  ⟨fun s => split_under (split_under (split_under (split_under (split_under (split_under (split_under (split_under split_here))))))), fun s => rfl⟩
theorem cell_dh : Cell (Val := Elt F) (τ := τ) c (own c R) R.a10 (fun s => s.dh) (fun s x => { s with dh := x }) :=
  ⟨fun s => split_under (split_under (split_under (split_under (split_under (split_under (split_under (split_under (split_under split_here)))))))), fun s => rfl⟩
theorem cell_hht : Cell (Val := Elt F) (τ := τ) c (own c R) R.a11 (fun s => s.hht) (fun s x => { s with hht := x }) :=
  ⟨fun s => split_under (split_under (split_under (split_under (split_under (split_under (split_under (split_under (split_under (split_under split_here))))))))), fun s => rfl⟩
theorem cell_dlb : Cell (Val := Elt F) (τ := τ) c (own c R) R.a12 (fun s => s.dlb) (fun s x => { s with dlb := x }) :=
  ⟨fun s => split_under (split_under (split_under (split_under (split_under (split_under (split_under (split_under (split_under (split_under (split_under split_here)))))))))), fun s => rfl⟩
theorem cell_eet : Cell (Val := Elt F) (τ := τ) c (own c R) R.a13 (fun s => s.eet) (fun s x => { s with eet := x }) :=
  ⟨fun s => split_under (split_under (split_under (split_under (split_under (split_under (split_under (split_under (split_under (split_under (split_under (split_under split_here))))))))))), fun s => rfl⟩
theorem cell_acc : Cell (Val := Elt F) (τ := τ) c (own c R) R.a14 (fun s => s.acc) (fun s x => { s with acc := x }) :=
  ⟨fun s => split_under (split_under (split_under (split_under (split_under (split_under (split_under (split_under (split_under (split_under (split_under (split_under (split_under split_here)))))))))))), fun s => rfl⟩
theorem cell_head : Cell (Val := Elt F) (τ := τ) c (own c R) R.a15 (fun s => s.head) (fun s x => { s with head := x }) :=
  ⟨fun s => split_under (split_under (split_under (split_under (split_under (split_under (split_under (split_under (split_under (split_under (split_under (split_under (split_under (split_under split_here))))))))))))), fun s => rfl⟩
theorem cell_nxt : Cell (Val := Elt F) (τ := τ) c (own c R) R.a16 (fun s => s.nxt) (fun s x => { s with nxt := x }) :=
  ⟨fun s => split_under (split_under (split_under (split_under (split_under (split_under (split_under (split_under (split_under (split_under (split_under (split_under (split_under (split_under (split_under split_last)))))))))))))), fun s => rfl⟩

/-! ## Loads of what is known, loads that are not used -/

section More

variable {Val : EltTy → Type} {S : Type} {defs : Defs nD τ sig Val Λ} {𝒱 : Variants} {c : Dev nD} {bd : Option 𝒱.V}
  {ow : S → sProp (MT nD τ sig Unit Val ℕ (UR sig nD τ) ℕ)}
variable {α : Type} {I : S → Prop} {Q : α → sProp (MT nD τ sig Unit Val ℕ (UR sig nD τ) ℕ)}
variable {sp : CoreSpace} {s : Shape} {e : EltTy}

/-- A load from a buffer whose contents `x` are known. -/
theorem J.loadAt {m : Memref sig .tc sp s e} {get : S → s.Idx → Val e} {set : S → (s.Idx → Val e) → S} (C : Cell c ow m get set)
    {off size : Fin s.rank → ℕ} {inb : ∀ a, off a + size a ≤ s.size a} {hl : m.view.LoadsAt (Rect.unit off size inb).toLoadRect}
    {k : ((Rect.unit off size inb).toLoadRect.shape.Idx → Val e) → Prog (TpuEff nD τ sig Val Λ .tc) α}
    (x : s.Idx → Val e) (hx : ∀ s, I s → get s = x)
    (h : J defs 𝒱 c bd ow I (k (VecWindow.window x off size inb)) Q) :
    J defs 𝒱 c bd ow I (Prog.lift (.load m (Rect.unit off size inb).toLoadRect hl) >>= k) Q :=
  J.load C fun v y hy => by
    obtain ⟨hy, rfl⟩ := hy
    rw [hx y hy]
    exact h y hy

/-- A load whose value is not used. -/
theorem J.dead {m : Memref sig .tc sp s e} {get : S → s.Idx → Val e} {set : S → (s.Idx → Val e) → S} (C : Cell c ow m get set)
    {off size : Fin s.rank → ℕ} {inb : ∀ a, off a + size a ≤ s.size a} {hl : m.view.LoadsAt (Rect.unit off size inb).toLoadRect}
    {k : ((Rect.unit off size inb).toLoadRect.shape.Idx → Val e) → Prog (TpuEff nD τ sig Val Λ .tc) α}
    (h : ∀ v, J defs 𝒱 c bd ow I (k v) Q) :
    J defs 𝒱 c bd ow I (Prog.lift (.load m (Rect.unit off size inb).toLoadRect hl) >>= k) Q :=
  J.load C fun v => (h v).weaken fun _ hs => hs.1

/-- A load of one word whose value is not used. -/
theorem J.deadWord {m : Memref sig .tc .smem s e} {get : S → s.Idx → Val e} {set : S → (s.Idx → Val e) → S} (C : Cell c ow m get set)
    {off size : Fin s.rank → ℕ} {inb : ∀ a, off a + size a ≤ s.size a} {h1 : (Rect.unit off size inb).shape.numel = 1} {hp : e.packing = 1}
    {k : Val e → Prog (TpuEff nD τ sig Val Λ .tc) α}
    (h : ∀ v, J defs 𝒱 c bd ow I (k v) Q) :
    J defs 𝒱 c bd ow I (smemLoad m (Rect.unit off size inb) h1 hp >>= k) Q :=
  J.word C fun v => (h v).weaken fun _ hs => hs.1

end More

/-! ## One-dimensional tables of words -/

/-- The word at position `m`, zero past the end. -/
def at1 {n : ℕ} (x : (⟨1, ![n]⟩ : Shape).Idx → BitVec 32) (m : ℕ) : BitVec 32 := if h : m < n then x (ix1 ⟨m, h⟩) else 0#32

theorem window_at1 {n : ℕ} (x : (⟨1, ![n]⟩ : Shape).Idx → BitVec 32) (off : Fin 1 → ℕ) (inb : ∀ a, off a + S1.size a ≤ (⟨1, ![n]⟩ : Shape).size a)
    (y : (Rect.unit (s := ⟨1, ![n]⟩) off S1.size inb).shape.Idx) (m : ℕ) (hm : off 0 = m) :
    VecWindow.window (s := ⟨1, ![n]⟩) x off S1.size inb y = at1 x m := by
  subst hm
  have h0 : off 0 + 1 ≤ n := inb 0
  have hlt : off 0 < n := h0
  have hy : (y 0).val < 1 := (y 0).isLt
  unfold VecWindow.window at1
  rw [dif_pos hlt]
  refine congrArg x (funext fun a => Fin.ext ?_)
  match a with
  | ⟨0, _⟩ =>
    show off 0 + 1 * (y 0).val = off 0
    omega

theorem put_at1 {n : ℕ} (x : (⟨1, ![n]⟩ : Shape).Idx → BitVec 32) (off : Fin 1 → ℕ) (v : BitVec 32) (m : ℕ) (hlt : off 0 < n) :
    at1 (VecWindow.put (s := ⟨1, ![n]⟩) x off S1.size (fun _ => v)) m = if m = off 0 then v else at1 x m := by
  unfold at1 VecWindow.put
  by_cases hm : m < n
  · rw [dif_pos hm, dif_pos hm]
    by_cases he : m = off 0
    · rw [if_pos he, dif_pos]
      intro a
      match a with
      | ⟨0, _⟩ => exact ⟨by show off 0 ≤ m; omega, by show m < off 0 + 1; omega⟩
    · rw [if_neg he, dif_neg]
      intro h
      have := h 0
      have h1 : off 0 ≤ m ∧ m < off 0 + 1 := this
      omega
  · rw [dif_neg hm, dif_neg hm, if_neg (by omega)]

end Cert.TiedGrad
-- ==== Proof.Link.lean ====
/-
  The linked lists. The tokens are put, in order, at the head of the list of their tile of 512 rows: `head` names the
  first token of each tile's list and `nxt` the token after each. `bucket X n b` is the list of tile `b` after the first
  `n` tokens, `Chain` reads a list off the two tables, and the rules here carry `LinkTo n` through one insertion.
-/
module

public import proofs.«01_k».proof.Proof.State

@[expose] public section

noncomputable section

namespace Cert.TiedGrad

open Idealize.ShloMosaic Idealize.ShloMosaic.TcCoe
open Idealize.SL Idealize.SL.RA Idealize.SL.BI
open scoped Idealize.SL.BI
open Idealize.ShloMosaic.Rounds
open Idealize.ShloMosaic.Pipeline
open Idealize.ShloMosaic.ValueIdx
open Idealize.SL.BI.BIBase Idealize.SL.BI.Laws Idealize.SL.ProofMode Idealize.SL.Sem

variable {F : FTy → Type} [FloatOps F]

/-- Token `n`'s row of the table, a word. -/
def idw (X : Ins F) (n : ℕ) : BitVec 32 := at1 (n := 2560) X.ids n

/-- Every token names a row of the table. -/
def IdsOk (X : Ins F) : Prop := ∀ n, n < 2560 → (idw X n).toNat < 151936

/-- The tokens among the first `n` whose rows lie in tile `b`, the last of them first. -/
def bucket (X : Ins F) : ℕ → ℕ → List ℕ
  | 0, _ => []
  | n + 1, b => if (idw X n).toNat / 512 = b then n :: bucket X n b else bucket X n b

theorem mem_bucket {X : Ins F} {n b t : ℕ} : t ∈ bucket X n b ↔ t < n ∧ (idw X t).toNat / 512 = b := by
  induction n with
  | zero => simp [bucket]
  | succ n ih =>
    unfold bucket
    split
    · rename_i h
      rw [List.mem_cons, ih]
      constructor
      · rintro (rfl | ⟨h1, h2⟩)
        · exact ⟨Nat.lt_succ_self _, h⟩
        · exact ⟨by omega, h2⟩
      · rintro ⟨h1, h2⟩
        by_cases e : t = n
        · exact .inl e
        · exact .inr ⟨by omega, h2⟩
    · rename_i h
      rw [ih]
      constructor
      · rintro ⟨h1, h2⟩; exact ⟨by omega, h2⟩
      · rintro ⟨h1, h2⟩
        refine ⟨?_, h2⟩
        by_contra hc
        exact h (by rw [show n = t by omega]; exact h2)

/-- The word `w` begins the list `l` in the table `nxt`: the empty list is a negative word. -/
def Chain (nxt : ℕ → BitVec 32) : List ℕ → BitVec 32 → Prop
  | [], w => 2 ^ 31 ≤ w.toNat
  | t :: l, w => w.toNat = t ∧ t < 2560 ∧ Chain nxt l (nxt t)

theorem Chain.congr {f g : ℕ → BitVec 32} {l : List ℕ} {w : BitVec 32} (h : Chain f l w) (hfg : ∀ t ∈ l, f t = g t) : Chain g l w := by
  induction l generalizing w with
  | nil => exact h
  | cons t l ih =>
    refine ⟨h.1, h.2.1, ?_⟩
    rw [← hfg t (by simp)]
    exact ih h.2.2 fun u hu => hfg u (by simp [hu])

/-- Every tile's list, after the first `n` tokens, is in the two tables. -/
def LinkTo (X : Ins F) (n : ℕ) (s : St F) : Prop :=
  ∀ b, b < 297 → Chain (at1 (n := 2560) s.nxt) (bucket X n b) (at1 (n := 297) s.head b)

/-- Token `j` of group `k` of 128, as the kernel computes the word. -/
def tok (k j : ℕ) : BitVec 32 := Scalar.addi (Scalar.muli (Scf.iv 0#32 1#32 k) 128#32) (BitVec.ofNat 32 j)

theorem tok_toNat (k j : ℕ) (hk : k < 20) (hj : j < 128) : (tok k j).toNat = k * 128 + j := by
  unfold tok Scalar.addi Scalar.muli IntOp.addi IntOp.muli Scf.iv
  simp only [BitVec.toNat_add, BitVec.toNat_mul, BitVec.toNat_ofNat]
  omega

theorem shr_toNat (v : BitVec 32) : (Scalar.shrui v 9#32).toNat = v.toNat / 512 := by
  unfold Scalar.shrui IntOp.shrui
  rw [if_pos (by decide)]
  show (v >>> 9).toNat = _
  rw [BitVec.toNat_ushiftRight, Nat.shiftRight_eq_div_pow]

variable {nD : Nat} {τ : Topo} {sig : RefSig} {Λ : Labels}
variable {defs : Defs nD τ sig (Elt F) Λ} {𝒱 : Variants} {c : Dev nD} {bd : Option 𝒱.V} {R : Refs sig}
variable {α : Type} {Q : α → sProp (MT nD τ sig Unit (Elt F) ℕ (UR sig nD τ) ℕ)}

/-- What the insertions leave alone: the operands, the accumulator, the transposed `h` blocks (of which `H` holds), `dh`. -/
structure Rest (X : Ins F) (A : S896x2560.Idx → Elt F .f32) (H : (S896x2560.Idx → Elt F .bf16) → Prop) (D : S2560x896.Idx → Elt F .bf16) (s : St F) : Prop where
  ins : s.ins = X
  ok : IdsOk X
  acc : s.acc = A
  hht : H s.hht
  dh : s.dh = D

variable (X : Ins F) (A : S896x2560.Idx → Elt F .f32) (H : (S896x2560.Idx → Elt F .bf16) → Prop) (D : S2560x896.Idx → Elt F .bf16)

/-- Before the insertion of token `n`. -/
def L0 (n : ℕ) (s : St F) : Prop := Rest X A H D s ∧ LinkTo X n s
/-- Its row is read. -/
def L1 (n : ℕ) (v : BitVec 32) (s : St F) : Prop := L0 X A H D n s ∧ n < 2560 ∧ v = idw X n
/-- The head of its tile's list is read. -/
def L2 (n : ℕ) (v w : BitVec 32) (s : St F) : Prop := L1 X A H D n v s ∧ w = at1 (n := 297) s.head (v.toNat / 512)
/-- The token points at that head. -/
def L3 (n : ℕ) (v : BitVec 32) (s : St F) : Prop :=
  L1 X A H D n v s ∧ at1 (n := 2560) s.nxt n = at1 (n := 297) s.head (v.toNat / 512)

variable {X A H D}

theorem L1.lt {n : ℕ} {v : BitVec 32} {s : St F} (h : L1 X A H D n v s) : v.toNat / 512 < 297 := by
  have := h.1.1.ok n h.2.1
  rw [← h.2.2] at this
  omega

/-- The row of token `n` is read. -/
theorem J.linkId {k j : ℕ} {off : Fin 1 → ℕ} {inb : ∀ a, off a + S1.size a ≤ S2560.size a} {h1 : (Rect.unit (s := S2560) off S1.size inb).shape.numel = 1} {hp : EltTy.packing .i32 = 1}
    {kk : Elt F .i32 → Prog (TpuEff nD τ sig (Elt F) Λ .tc) α} (hk : k < 20) (hj : j < 128)
    (hoff : off = ![(tok k j).toNat])
    (h : ∀ v, J defs 𝒱 c bd (own c R) (L1 X A H D (k * 128 + j) v) (kk v) Q) :
    J defs 𝒱 c bd (own c R) (L0 X A H D (k * 128 + j)) (smemLoad R.a1 (Rect.unit (s := S2560) off S1.size inb) h1 hp >>= kk) Q :=
  J.word (cell_ids c R) fun v => (h v).weaken fun s hs => ⟨hs.1, by omega, by
    rw [hs.2, hs.1.1.ins]
    exact window_at1 X.ids off inb _ _ (by rw [hoff]; exact tok_toNat k j hk hj)⟩

/-- The side condition on a tile number read from the row. -/
theorem J.linkOk {n : ℕ} {v : BitVec 32} {P : Prop} {d : Decidable P} {kk : PLift P → Prog (TpuEff nD τ sig (Elt F) Λ .tc) α}
    (hP : (∀ a : Fin 1, (![(Scalar.shrui v 9#32).toNat] : Fin 1 → ℕ) a + S1.size a ≤ S297.size a) → P)
    (h : ∀ p : P, J defs 𝒱 c bd (own c R) (L1 X A H D n v) (kk ⟨p⟩) Q) :
    J defs 𝒱 c bd (own c R) (L1 X A H D n v) (Prog.lift (.assume P d) >>= kk) Q :=
  J.assume (fun s hs => hP fun a => match a with
    | ⟨0, _⟩ => by
      have := hs.lt
      have e := shr_toNat v
      show (Scalar.shrui v 9#32).toNat + 1 ≤ 297
      omega) h

/-- The head of the tile's list is read. -/
theorem J.linkHead {n : ℕ} {v : BitVec 32} {off : Fin 1 → ℕ} {inb : ∀ a, off a + S1.size a ≤ S297.size a} {h1 : (Rect.unit (s := S297) off S1.size inb).shape.numel = 1} {hp : EltTy.packing .i32 = 1}
    {kk : Elt F .i32 → Prog (TpuEff nD τ sig (Elt F) Λ .tc) α}
    (hoff : off = ![(Scalar.shrui v 9#32).toNat])
    (h : ∀ w, J defs 𝒱 c bd (own c R) (L2 X A H D n v w) (kk w) Q) :
    J defs 𝒱 c bd (own c R) (L1 X A H D n v) (smemLoad R.a15 (Rect.unit (s := S297) off S1.size inb) h1 hp >>= kk) Q :=
  J.word (cell_head c R) fun w => (h w).weaken fun s hs => ⟨hs.1, by
    rw [hs.2]
    exact window_at1 s.head off inb _ _ (by rw [hoff]; exact shr_toNat v)⟩

/-- The token's link is written. -/
theorem J.linkNxt {k j : ℕ} {v w : BitVec 32} {off : Fin 1 → ℕ} {inb : ∀ a, off a + S1.size a ≤ S2560.size a}
    {hx : (R.a16.access (Rect.unit (s := S2560) off S1.size inb)).Stores Finset.univ} {hm : (Finset.univ : Finset (Rect.unit (s := S2560) off S1.size inb).shape.Idx) = Finset.univ ∨ ∀ a, (Rect.unit (s := S2560) off S1.size inb).stride a = 1}
    {kk : PUnit → Prog (TpuEff nD τ sig (Elt F) Λ .tc) α} (hk : k < 20) (hj : j < 128)
    (hoff : off = ![(tok k j).toNat])
    (h : J defs 𝒱 c bd (own c R) (L3 X A H D (k * 128 + j) v) (kk ⟨⟩) Q) :
    J defs 𝒱 c bd (own c R) (L2 X A H D (k * 128 + j) v w) (Prog.lift (.store R.a16 (Rect.unit (s := S2560) off S1.size inb) (fun _ => w) Finset.univ hx hm) >>= kk) Q := by
  refine J.store (cell_nxt c R) _ (fun s hs => ?_) h
  have h0 : off 0 = k * 128 + j := by rw [hoff]; exact tok_toNat k j hk hj
  have hn : k * 128 + j < 2560 := by omega
  have hput := fun m => put_at1 (n := 2560) s.nxt off w m (by omega)
  refine ⟨⟨⟨⟨hs.1.1.1.ins, hs.1.1.1.ok, hs.1.1.1.acc, hs.1.1.1.hht, hs.1.1.1.dh⟩, fun b hb => ?_⟩, hs.1.2⟩, ?_⟩
  · refine (hs.1.1.2 b hb).congr fun t ht => ?_
    have := (mem_bucket.1 ht).1
    exact ((hput t).trans (if_neg (by omega))).symm
  · exact ((hput _).trans (if_pos h0.symm)).trans hs.2

/-- The token becomes the head of its tile's list. -/
theorem J.linkStore {k j : ℕ} {v w : BitVec 32} {off : Fin 1 → ℕ} {inb : ∀ a, off a + S1.size a ≤ S297.size a}
    {hx : (R.a15.access (Rect.unit (s := S297) off S1.size inb)).Stores Finset.univ} {hm : (Finset.univ : Finset (Rect.unit (s := S297) off S1.size inb).shape.Idx) = Finset.univ ∨ ∀ a, (Rect.unit (s := S297) off S1.size inb).stride a = 1}
    {kk : PUnit → Prog (TpuEff nD τ sig (Elt F) Λ .tc) α} (hk : k < 20) (hj : j < 128)
    (hoff : off = ![(Scalar.shrui v 9#32).toNat]) (hw : w = tok k j)
    (h : J defs 𝒱 c bd (own c R) (L0 X A H D (k * 128 + (j + 1))) (kk ⟨⟩) Q) :
    J defs 𝒱 c bd (own c R) (L3 X A H D (k * 128 + j) v) (Prog.lift (.store R.a15 (Rect.unit (s := S297) off S1.size inb) (fun _ => w) Finset.univ hx hm) >>= kk) Q := by
  refine J.store (cell_head c R) _ (fun s hs => ?_) h
  have h0 : off 0 = v.toNat / 512 := by rw [hoff]; exact shr_toNat v
  have hlt := hs.1.lt
  have hput := fun m => put_at1 (n := 297) s.head off w m (by omega)
  have hn := hs.1.2.1
  have hv := hs.1.2.2
  refine ⟨⟨hs.1.1.1.ins, hs.1.1.1.ok, hs.1.1.1.acc, hs.1.1.1.hht, hs.1.1.1.dh⟩, fun b hb => ?_⟩
  show Chain (at1 (n := 2560) s.nxt) (bucket X (k * 128 + j + 1) b) (at1 (n := 297) (VecWindow.put s.head off S1.size fun _ => w) b)
  rw [hput b, h0]
  unfold bucket
  rw [← hv]
  by_cases e : v.toNat / 512 = b
  · rw [if_pos e, if_pos e.symm]
    refine ⟨by rw [hw]; exact tok_toNat k j hk hj, hn, ?_⟩
    rw [hs.2, e]
    exact hs.1.1.2 b hb
  · rw [if_neg e, if_neg (Ne.symm e)]
    exact hs.1.1.2 b hb

/-- Unused loads between. -/
theorem J.linkDead2 {n : ℕ} {v w : BitVec 32} {off size : Fin 1 → ℕ} {inb : ∀ a, off a + size a ≤ S2560.size a} {h1 : (Rect.unit (s := S2560) off size inb).shape.numel = 1} {hp : EltTy.packing .i32 = 1}
    {kk : Elt F .i32 → Prog (TpuEff nD τ sig (Elt F) Λ .tc) α}
    (h : ∀ u, J defs 𝒱 c bd (own c R) (L2 X A H D n v w) (kk u) Q) :
    J defs 𝒱 c bd (own c R) (L2 X A H D n v w) (smemLoad R.a16 (Rect.unit (s := S2560) off size inb) h1 hp >>= kk) Q :=
  J.deadWord (cell_nxt c R) h

theorem J.linkDead3 {n : ℕ} {v : BitVec 32} {off size : Fin 1 → ℕ} {inb : ∀ a, off a + size a ≤ S297.size a} {h1 : (Rect.unit (s := S297) off size inb).shape.numel = 1} {hp : EltTy.packing .i32 = 1}
    {kk : Elt F .i32 → Prog (TpuEff nD τ sig (Elt F) Λ .tc) α}
    (h : ∀ u, J defs 𝒱 c bd (own c R) (L3 X A H D n v) (kk u) Q) :
    J defs 𝒱 c bd (own c R) (L3 X A H D n v) (smemLoad R.a15 (Rect.unit (s := S297) off size inb) h1 hp >>= kk) Q :=
  J.deadWord (cell_head c R) h

end Cert.TiedGrad
-- ==== Proof.Blocks.lean ====
/-
  The blocks a grid step writes: 128-token blocks of the scaled, transposed `h`, 128 by 128 blocks of the scaled `dl`,
  128-row blocks of the scaled, transposed table, the product that makes the tile of the table's gradient, and the
  256-token blocks of the accumulator and of `dh`. For each buffer: the array it is to hold, what it holds while blocks are
  being written, and the rule that one block's store carries this on.
-/
module

public import proofs.«01_k».proof.Proof.Link

@[expose] public section

noncomputable section

namespace Cert.TiedGrad

open Idealize.ShloMosaic Idealize.ShloMosaic.TcCoe
open Idealize.SL Idealize.SL.RA Idealize.SL.BI
open scoped Idealize.SL.BI
open Idealize.ShloMosaic.Rounds
open Idealize.ShloMosaic.Pipeline
open Idealize.ShloMosaic.ValueIdx
open Idealize.SL.BI.BIBase Idealize.SL.BI.Laws Idealize.SL.ProofMode Idealize.SL.Sem

variable {F : FTy → Type} [FloatOps F]

theorem bf16_lt_f32 : FTy.bf16.bits < FTy.f32.bits := by decide
theorem e5m2_lt_bf16 : FTy.fp8e5m2.bits < FTy.bf16.bits := by decide
theorem e4m3_lt_bf16 : FTy.fp8e4m3.bits < FTy.bf16.bits := by decide

/-- An array into which a block of `g` is put agrees with `g` in the block and is what it was elsewhere. -/
theorem put_upto {s : Shape} {α : Type} (x g : s.Idx → α) (off size : Fin s.rank → ℕ) (inb : ∀ a, off a + size a ≤ s.size a)
    (w : (Rect.unit off size inb).shape.Idx → α) (hw : ∀ y, w y = g ((Rect.unit off size inb).emb y)) (j : s.Idx) :
    VecWindow.put x off size w j = if (∀ a, off a ≤ (j a).val ∧ (j a).val < off a + size a) then g j else x j := by
  unfold VecWindow.put
  by_cases h : ∀ a, off a ≤ (j a).val ∧ (j a).val < off a + size a
  · rw [dif_pos h, if_pos h]
    refine (hw _).trans (congrArg g (funext fun a => Fin.ext ?_))
    show off a + 1 * ((j a).val - off a) = (j a).val
    have := (h a).1
    omega
  · rw [dif_neg h, if_neg h]

/-- A window as wide as the array is the array. -/
theorem window_all {s : Shape} {α : Type} (x : s.Idx → α) (off : Fin s.rank → ℕ) (inb : ∀ a, off a + s.size a ≤ s.size a) :
    VecWindow.window x off s.size inb = x :=
  funext fun y => congrArg x (funext fun a => Fin.ext (by
    show off a + 1 * (y a).val = (y a).val
    have := inb a
    omega))

/-! ## The arrays -/

/-- The scaled `h`, transposed. -/
def hhtF (X : Ins F) : S896x2560.Idx → Elt F .bf16 := fun j =>
  FloatOps.mulf (FloatOps.extf .bf16 e4m3_lt_bf16 (X.h (ix2 (j 1) (j 0)))) (FloatOps.truncf .bf16 bf16_lt_f32 (X.hs (ix2 0 (j 1))))

/-- The scaled tile of `dl`; where the fourth chunk of 128 rows is past the table's end (`b8` zero) it is zero. -/
def dlbF (X : Ins F) (b8 : BitVec 1) : S2560x512.Idx → Elt F .bf16 := fun j =>
  Scalar.select (if (j 1).val / 128 = 3 then b8 else 1#1)
    (FloatOps.mulf (FloatOps.extf .bf16 e5m2_lt_bf16 (X.dl j))
      (FloatOps.truncf .bf16 bf16_lt_f32 (X.sc (ix3 ⟨(j 1).val / 128, by have : (j 1).val < 512 := (j 1).isLt; omega⟩
        ⟨(j 0).val / 1280, by have : (j 0).val < 2560 := (j 0).isLt; omega⟩ ⟨(j 0).val % 1280, by omega⟩))))
    (FloatOps.ofBits .bf16 0x0000#16)

/-- The scaled tile of the table, transposed; zero in the fourth chunk where that is past the table's end. -/
def eetF (X : Ins F) (b8 : BitVec 1) : S896x512.Idx → Elt F .bf16 := fun j =>
  Scalar.select (if (j 1).val / 128 = 3 then b8 else 1#1)
    (FloatOps.mulf (FloatOps.sitofp .bf16 (X.e (ix2 (j 1) (j 0)))) (FloatOps.truncf .bf16 bf16_lt_f32 (X.es (ix2 0 (j 1)))))
    (FloatOps.ofBits .bf16 0x0000#16)

/-- The rounded, transposed accumulator. -/
def dhF (A : S896x2560.Idx → Elt F .f32) : S2560x896.Idx → Elt F .bf16 := fun j =>
  FloatOps.truncf .bf16 bf16_lt_f32 (A (ix2 (j 1) (j 0)))

/-- The accumulator at the start. -/
def acc0 : S896x2560.Idx → Elt F .f32 := fun _ => FloatOps.ofBits .f32 0x00000000#32

/-! ## The blocks, as the program computes them -/

theorem sc896x128 : S896x128.ShapeCasts S896x128 := by decide
theorem sc128x896 : S128x896.ShapeCasts S128x896 := by decide
theorem sc1x128 : S1x128.ShapeCasts S1x128 := by decide
theorem sc128x128 : S128x128.ShapeCasts S128x128 := by decide
theorem sc1x1x128 : S1x1x128.ShapeCasts S1x128 := by decide
theorem sc896x256 : S896x256.ShapeCasts S896x256 := by decide
theorem sc896x2560 : S896x2560.ShapeCasts S896x2560 := by decide
theorem tr128x896 : S128x896.Transposes [1, 0] S896x128 := by decide
theorem tr128x128 : S128x128.Transposes [1, 0] S128x128 := by decide
theorem tr896x256 : S896x256.Transposes [1, 0] S256x896 := by decide
theorem tr896x512 : S896x512.Transposes [1, 0] S512x896 := by decide
theorem br896x128 : S1x128.Broadcasts S896x128 := by decide
theorem br128x128 : S1x128.Broadcasts S128x128 := by decide

def hhtBlk (a : Vec F S128x896 .fp8e4m3) (b : Vec F S1x128 .f32) : FVec F S896x128 .bf16 :=
  shapeCast S896x128 (mulf (transpose S896x128 [1, 0] (extf .bf16 (shapeCast S128x896 a sc128x896) e4m3_lt_bf16) tr128x896)
    (broadcastTo S896x128 (truncf .bf16 (shapeCast S1x128 b sc1x128) bf16_lt_f32) br896x128)) sc896x128

theorem hhtBlk_apply (a : Vec F S128x896 .fp8e4m3) (b : Vec F S1x128 .f32) (y : S896x128.Idx) :
    hhtBlk a b y = FloatOps.mulf (FloatOps.extf .bf16 e4m3_lt_bf16 (a (ix2 (y 1) (y 0)))) (FloatOps.truncf .bf16 bf16_lt_f32 (b (ix2 0 (y 1)))) := by
  unfold hhtBlk
  rw [shapeCast_self, shapeCast_self, shapeCast_self]
  refine congrArg₂ FloatOps.mulf ?_ ?_
  · exact transpose_apply _ _ _ y (ix2 (y 1) (y 0)) (fun b => match b with | ⟨0, _⟩ => rfl | ⟨1, _⟩ => rfl)
  · exact broadcastTo_apply _ _ y (ix2 0 (y 1)) (fun a => match a with | ⟨0, _⟩ => rfl | ⟨1, _⟩ => rfl)

def dlBlk (a : Vec F S128x128 .fp8e5m2) (b : Vec F S1x1x128 .f32) : FVec F S128x128 .bf16 :=
  mulf (extf .bf16 (shapeCast S128x128 a sc128x128) e5m2_lt_bf16)
    (transpose S128x128 [1, 0] (broadcastTo S128x128 (shapeCast S1x128 (truncf .bf16 (shapeCast S1x128 b sc1x1x128) bf16_lt_f32) sc1x128) br128x128) tr128x128)

theorem dlBlk_apply (a : Vec F S128x128 .fp8e5m2) (b : Vec F S1x1x128 .f32) (y : S128x128.Idx) :
    dlBlk a b y = FloatOps.mulf (FloatOps.extf .bf16 e5m2_lt_bf16 (a y)) (FloatOps.truncf .bf16 bf16_lt_f32 (b (ix3 0 0 (y 0)))) := by
  unfold dlBlk
  rw [shapeCast_self, shapeCast_self]
  refine congrArg₂ FloatOps.mulf rfl ?_
  refine (transpose_apply _ _ _ y (ix2 (y 1) (y 0)) (fun b => match b with | ⟨0, _⟩ => rfl | ⟨1, _⟩ => rfl)).trans ?_
  refine (broadcastTo_apply _ _ _ (ix2 0 (y 0)) (fun a => match a with | ⟨0, _⟩ => rfl | ⟨1, _⟩ => rfl)).trans ?_
  refine congrArg (FloatOps.truncf .bf16 bf16_lt_f32) (shapeCast_apply _ _ _ (ix3 0 0 (y 0)) ?_)
  refine (Shape.rowMajor_val_three (d := ![1, 1, 128]) _).trans (Eq.trans ?_ (Shape.rowMajor_val_two (d := ![1, 128]) _).symm)
  show (0 * 1 + 0) * 128 + (y 0).val = 0 * 128 + (y 0).val
  omega

def dlLast (b8 : BitVec 1) (v : FVec F S128x128 .bf16) : FVec F S128x128 .bf16 :=
  Scalar.select b8 v (broadcast S128x128 (Scalar.ofBits .bf16 0x0000#16))

theorem dlLast_apply (b8 : BitVec 1) (v : FVec F S128x128 .bf16) (y : S128x128.Idx) :
    dlLast b8 v y = Scalar.select b8 (v y) (FloatOps.ofBits .bf16 0x0000#16) := by
  unfold dlLast Scalar.select
  split <;> rfl

def eeBlk (a : Vec F S128x896 .i8) (b : Vec F S1x128 .f32) : FVec F S896x128 .bf16 :=
  mulf (transpose S896x128 [1, 0] (sitofp .bf16 a) tr128x896) (broadcastTo S896x128 (truncf .bf16 (shapeCast S1x128 b sc1x128) bf16_lt_f32) br896x128)

theorem eeBlk_apply (a : Vec F S128x896 .i8) (b : Vec F S1x128 .f32) (y : S896x128.Idx) :
    eeBlk a b y = FloatOps.mulf (FloatOps.sitofp .bf16 (a (ix2 (y 1) (y 0)))) (FloatOps.truncf .bf16 bf16_lt_f32 (b (ix2 0 (y 1)))) := by
  unfold eeBlk
  rw [shapeCast_self]
  refine congrArg₂ FloatOps.mulf ?_ ?_
  · exact transpose_apply _ _ _ y (ix2 (y 1) (y 0)) (fun b => match b with | ⟨0, _⟩ => rfl | ⟨1, _⟩ => rfl)
  · exact broadcastTo_apply _ _ y (ix2 0 (y 1)) (fun a => match a with | ⟨0, _⟩ => rfl | ⟨1, _⟩ => rfl)

def eeLast (b8 : BitVec 1) (v : FVec F S896x128 .bf16) : FVec F S896x128 .bf16 :=
  Scalar.select b8 v (broadcast S896x128 (Scalar.ofBits .bf16 0x0000#16))

theorem eeLast_apply (b8 : BitVec 1) (v : FVec F S896x128 .bf16) (y : S896x128.Idx) :
    eeLast b8 v y = Scalar.select b8 (v y) (FloatOps.ofBits .bf16 0x0000#16) := by
  unfold eeLast Scalar.select
  split <;> rfl

theorem dotA_wf : DotDims.WF S896x2560 S2560x512 S896x512 [1] [0] [0] [1] [] [] := by decide
theorem dotB_wf : DotDims.WF S896x512 S256x512 S896x256 [1] [1] [0] [0] [] [] := by decide

/-- The product over the tokens. -/
def dotA : DotDims S896x2560 S2560x512 S896x512 where
  lhsContracting := [1]
  rhsContracting := [0]
  lhsNonContracting := [0]
  rhsNonContracting := [1]
  lhsBatch := []
  rhsBatch := []
  wf := dotA_wf

/-- The product over a tile's rows. -/
def dotB : DotDims S896x512 S256x512 S896x256 where
  lhsContracting := [1]
  rhsContracting := [1]
  lhsNonContracting := [0]
  rhsNonContracting := [0]
  lhsBatch := []
  rhsBatch := []
  wf := dotB_wf

/-- The tile of the table's gradient before the rows are scattered into it. -/
def detF (H : S896x2560.Idx → Elt F .bf16) (L : S2560x512.Idx → Elt F .bf16) : S512x896.Idx → Elt F .f32 :=
  transpose S512x896 [1, 0] (matmul dotA none H L (constant S896x512 .f32 0x00000000#32)) tr896x512

theorem inb_rows (n : ℕ) (hn : n < 10) : ∀ a : Fin 2, (![256 * n, 0] : Fin 2 → ℕ) a + S256x512.size a ≤ S2560x512.size a := fun a => match a with
  | ⟨0, _⟩ => by show 256 * n + 256 ≤ 2560; omega
  | ⟨1, _⟩ => by show 0 + 512 ≤ 512; omega

/-- What one tile adds to the accumulator: the products in blocks of 256 tokens. -/
def prodF (E : S896x512.Idx → Elt F .bf16) (L : S2560x512.Idx → Elt F .bf16) : S896x2560.Idx → Elt F .f32 := fun j =>
  have hj : (j 1).val < 2560 := (j 1).isLt
  matmul dotB none E (VecWindow.window (s := S2560x512) L ![256 * ((j 1).val / 256), 0] S256x512.size (inb_rows _ (by omega)))
    (constant S896x256 .f32 0x00000000#32) (ix2 (j 0) ⟨(j 1).val % 256, by omega⟩)

/-- The accumulator after a tile. -/
def accNext (A : S896x2560.Idx → Elt F .f32) (E : S896x512.Idx → Elt F .bf16) (L : S2560x512.Idx → Elt F .bf16) : S896x2560.Idx → Elt F .f32 :=
  fun j => FloatOps.addf (A j) (prodF E L j)

end Cert.TiedGrad
-- ==== Proof.Steps.lean ====
/-
  The rules that carry a grid step through its blocks: what each buffer holds while its blocks are being written, and
  that the store of one more block, computed as the program computes it, carries this on.
-/
module

public import proofs.«01_k».proof.Proof.Blocks

@[expose] public section

noncomputable section

namespace Cert.TiedGrad

open Idealize.ShloMosaic Idealize.ShloMosaic.TcCoe
open Idealize.SL Idealize.SL.RA Idealize.SL.BI
open scoped Idealize.SL.BI
open Idealize.ShloMosaic.Rounds
open Idealize.ShloMosaic.Pipeline
open Idealize.ShloMosaic.ValueIdx
open Idealize.SL.BI.BIBase Idealize.SL.BI.Laws Idealize.SL.ProofMode Idealize.SL.Sem

variable {F : FTy → Type} [FloatOps F]
variable {nD : Nat} {τ : Topo} {sig : RefSig} {Λ : Labels}
variable {defs : Defs nD τ sig (Elt F) Λ} {𝒱 : Variants} {c : Dev nD} {bd : Option 𝒱.V} {R : Refs sig}
variable {α : Type} {Q : α → sProp (MT nD τ sig Unit (Elt F) ℕ (UR sig nD τ) ℕ)}

/-! ## The scaled, transposed `h` -/

/-- The first `k` blocks of the scaled `h` are written. -/
def HhtTo (X : Ins F) (k : ℕ) (g : S896x2560.Idx → Elt F .bf16) : Prop := ∀ j, (j 1).val / 128 < k → g j = hhtF X j

/-- Group `k`'s first token, as the kernel computes the word. -/
def grp (k : ℕ) : BitVec 32 := Scalar.muli (Scf.iv 0#32 1#32 k) 128#32

theorem grp_toNat (k : ℕ) (hk : k < 20) : (grp k).toNat = k * 128 := by
  unfold grp Scalar.muli IntOp.muli Scf.iv
  simp only [BitVec.toNat_add, BitVec.toNat_mul, BitVec.toNat_ofNat]
  omega

variable {X : Ins F} {A : S896x2560.Idx → Elt F .f32} {D : S2560x896.Idx → Elt F .bf16} {b8 : BitVec 1}

/-- Between: the operands' loads. -/
theorem J.hLoad {k n : ℕ} {off size : Fin 2 → ℕ} {inb : ∀ a, off a + size a ≤ S2560x896.size a} {hl : R.a4.view.LoadsAt (Rect.unit (s := S2560x896) off size inb).toLoadRect}
    {kk : ((Rect.unit (s := S2560x896) off size inb).toLoadRect.shape.Idx → Elt F .fp8e4m3) → Prog (TpuEff nD τ sig (Elt F) Λ .tc) α}
    (h : J defs 𝒱 c bd (own c R) (L0 X A (HhtTo X k) D n) (kk (VecWindow.window X.h off size inb)) Q) :
    J defs 𝒱 c bd (own c R) (L0 X A (HhtTo X k) D n) (Prog.lift (.load R.a4 (Rect.unit (s := S2560x896) off size inb).toLoadRect hl) >>= kk) Q :=
  J.loadAt (cell_h c R) X.h (fun s hs => by show s.ins.h = X.h; rw [hs.1.ins]) h

theorem J.hsLoad {k n : ℕ} {off size : Fin 2 → ℕ} {inb : ∀ a, off a + size a ≤ S1x2560.size a} {hl : R.a5.view.LoadsAt (Rect.unit (s := S1x2560) off size inb).toLoadRect}
    {kk : ((Rect.unit (s := S1x2560) off size inb).toLoadRect.shape.Idx → Elt F .f32) → Prog (TpuEff nD τ sig (Elt F) Λ .tc) α}
    (h : J defs 𝒱 c bd (own c R) (L0 X A (HhtTo X k) D n) (kk (VecWindow.window X.hs off size inb)) Q) :
    J defs 𝒱 c bd (own c R) (L0 X A (HhtTo X k) D n) (Prog.lift (.load R.a5 (Rect.unit (s := S1x2560) off size inb).toLoadRect hl) >>= kk) Q :=
  J.loadAt (cell_hs c R) X.hs (fun s hs => by show s.ins.hs = X.hs; rw [hs.1.ins]) h

/-- Block `k` of the scaled `h` is stored. -/
theorem J.hhtStore {k n : ℕ} {off o1 o2 : Fin 2 → ℕ} {inb : ∀ a, off a + S896x128.size a ≤ S896x2560.size a}
    {inb1 : ∀ a, o1 a + S128x896.size a ≤ S2560x896.size a} {inb2 : ∀ a, o2 a + S1x128.size a ≤ S1x2560.size a}
    {hx : (R.a11.access (Rect.unit (s := S896x2560) off S896x128.size inb)).Stores Finset.univ} {hm : (Finset.univ : Finset (Rect.unit (s := S896x2560) off S896x128.size inb).shape.Idx) = Finset.univ ∨ ∀ a, (Rect.unit (s := S896x2560) off S896x128.size inb).stride a = 1}
    {w : (Rect.unit (s := S896x2560) off S896x128.size inb).shape.Idx → Elt F .bf16}
    {kk : PUnit → Prog (TpuEff nD τ sig (Elt F) Λ .tc) α} (hk : k < 20)
    (hoff : off = ![0, (grp k).toNat]) (ho1 : o1 = ![(grp k).toNat, 0]) (ho2 : o2 = ![0, (grp k).toNat])
    (hw : w = hhtBlk (VecWindow.window (s := S2560x896) X.h o1 S128x896.size inb1) (VecWindow.window (s := S1x2560) X.hs o2 S1x128.size inb2))
    (h : J defs 𝒱 c bd (own c R) (L0 X A (HhtTo X (k + 1)) D n) (kk ⟨⟩) Q) :
    J defs 𝒱 c bd (own c R) (L0 X A (HhtTo X k) D n) (Prog.lift (.store R.a11 (Rect.unit (s := S896x2560) off S896x128.size inb) w Finset.univ hx hm) >>= kk) Q := by
  refine J.store (cell_hht c R) _ (fun s hs => ?_) h
  refine ⟨⟨hs.1.ins, hs.1.ok, hs.1.acc, fun j hj => ?_, hs.1.dh⟩, hs.2⟩
  have e := grp_toNat k hk
  have h0 : off 0 = 0 := by rw [hoff]; rfl
  have h1 : off 1 = k * 128 := by rw [hoff]; exact e
  have p0 : o1 0 = k * 128 := by rw [ho1]; exact e
  have p1 : o1 1 = 0 := by rw [ho1]; rfl
  have q0 : o2 0 = 0 := by rw [ho2]; rfl
  have q1 : o2 1 = k * 128 := by rw [ho2]; exact e
  refine (put_upto s.hht (hhtF X) off S896x128.size inb w (fun y => ?_) j).trans ?_
  · subst hw
    refine (hhtBlk_apply _ _ y).trans ?_
    unfold hhtF VecWindow.window
    refine congrArg₂ FloatOps.mulf (congrArg _ (congrArg X.h (funext fun a => Fin.ext ?_))) (congrArg _ (congrArg X.hs (funext fun a => Fin.ext ?_)))
    · match a with
      | ⟨0, _⟩ => show o1 0 + 1 * (y 1).val = off 1 + 1 * (y 1).val; omega
      | ⟨1, _⟩ => show o1 1 + 1 * (y 0).val = off 0 + 1 * (y 0).val; omega
    · match a with
      | ⟨0, _⟩ => show o2 0 + 1 * 0 = 0; omega
      | ⟨1, _⟩ => show o2 1 + 1 * (y 1).val = off 1 + 1 * (y 1).val; omega
  · by_cases hb : (j 1).val / 128 < k
    · rw [hs.1.hht j hb]; exact ite_self _
    · refine if_pos fun a => ?_
      match a with
      | ⟨0, _⟩ => have : (j 0).val < 896 := (j 0).isLt; exact ⟨by show off 0 ≤ (j 0).val; omega, by show (j 0).val < off 0 + 896; omega⟩
      | ⟨1, _⟩ => exact ⟨by show off 1 ≤ (j 1).val; omega, by show (j 1).val < off 1 + 128; omega⟩

theorem J.hhtDead {k n : ℕ} {off size : Fin 2 → ℕ} {inb : ∀ a, off a + size a ≤ S896x2560.size a} {hl : R.a11.view.LoadsAt (Rect.unit (s := S896x2560) off size inb).toLoadRect}
    {kk : ((Rect.unit (s := S896x2560) off size inb).toLoadRect.shape.Idx → Elt F .bf16) → Prog (TpuEff nD τ sig (Elt F) Λ .tc) α}
    (h : ∀ v, J defs 𝒱 c bd (own c R) (L0 X A (HhtTo X k) D n) (kk v) Q) :
    J defs 𝒱 c bd (own c R) (L0 X A (HhtTo X k) D n) (Prog.lift (.load R.a11 (Rect.unit (s := S896x2560) off size inb).toLoadRect hl) >>= kk) Q :=
  J.dead (cell_hht c R) h

/-! ## A tile -/

/-- What every step works with: the operands, the scaled `h`, the lists. -/
structure Tile (X : Ins F) (s : St F) : Prop where
  ins : s.ins = X
  ok : IdsOk X
  hht : s.hht = hhtF X
  link : LinkTo X 2560 s

theorem Tile.congr {s t : St F} (h : Tile X s) (h1 : t.ins = s.ins) (h2 : t.hht = s.hht) (h3 : t.head = s.head) (h4 : t.nxt = s.nxt) : Tile X t :=
  ⟨h1.trans h.ins, h.ok, h2.trans h.hht, fun b hb => by rw [h3, h4]; exact h.link b hb⟩

variable (X A D b8)

/-- The first `n` blocks of the scaled `dl` are written: four to a group of 128 tokens. -/
structure P1 (n : ℕ) (s : St F) : Prop where
  tile : Tile X s
  acc : s.acc = A
  dh : s.dh = D
  dlb : ∀ j, (j 0).val / 128 * 4 + (j 1).val / 128 < n → s.dlb j = dlbF X b8 j

/-- The first `n` blocks of the scaled table are written. -/
structure P2 (n : ℕ) (s : St F) : Prop where
  tile : Tile X s
  acc : s.acc = A
  dh : s.dh = D
  dlb : s.dlb = dlbF X b8
  eet : ∀ j, (j 1).val / 128 < n → s.eet j = eetF X b8 j

/-- Both are written, and of the tile of the gradient `G` holds. -/
structure P3 (G : (S512x896.Idx → Elt F .f32) → Prop) (s : St F) : Prop where
  tile : Tile X s
  acc : s.acc = A
  dh : s.dh = D
  dlb : s.dlb = dlbF X b8
  eet : s.eet = eetF X b8
  de : G s.de

/-- The first `n` blocks of the accumulator have had the tile added. -/
structure P4 (G : (S512x896.Idx → Elt F .f32) → Prop) (n : ℕ) (s : St F) : Prop where
  tile : Tile X s
  acc : ∀ j, s.acc j = if (j 1).val / 256 < n then accNext A (eetF X b8) (dlbF X b8) j else A j
  dh : s.dh = D
  dlb : s.dlb = dlbF X b8
  eet : s.eet = eetF X b8
  de : G s.de

/-- The first `n` blocks of `dh` are written. -/
structure P5 (G : (S512x896.Idx → Elt F .f32) → Prop) (n : ℕ) (s : St F) : Prop where
  tile : Tile X s
  acc : s.acc = accNext A (eetF X b8) (dlbF X b8)
  de : G s.de
  dh : ∀ j, (j 0).val / 256 < n → s.dh j = dhF (accNext A (eetF X b8) (dlbF X b8)) j

variable {X A D b8}

/-! ## The scaled `dl` -/

theorem J.dlLoad {n : ℕ} {off size : Fin 2 → ℕ} {inb : ∀ a, off a + size a ≤ S2560x512.size a} {hl : R.a2.view.LoadsAt (Rect.unit (s := S2560x512) off size inb).toLoadRect}
    {kk : ((Rect.unit (s := S2560x512) off size inb).toLoadRect.shape.Idx → Elt F .fp8e5m2) → Prog (TpuEff nD τ sig (Elt F) Λ .tc) α}
    (h : J defs 𝒱 c bd (own c R) (P1 X A D b8 n) (kk (VecWindow.window X.dl off size inb)) Q) :
    J defs 𝒱 c bd (own c R) (P1 X A D b8 n) (Prog.lift (.load R.a2 (Rect.unit (s := S2560x512) off size inb).toLoadRect hl) >>= kk) Q :=
  J.loadAt (cell_dl c R) X.dl (fun s hs => by show s.ins.dl = X.dl; rw [hs.tile.ins]) h

theorem J.scLoad {n : ℕ} {off size : Fin 3 → ℕ} {inb : ∀ a, off a + size a ≤ S4x2x1280.size a} {hl : R.a3.view.LoadsAt (Rect.unit (s := S4x2x1280) off size inb).toLoadRect}
    {kk : ((Rect.unit (s := S4x2x1280) off size inb).toLoadRect.shape.Idx → Elt F .f32) → Prog (TpuEff nD τ sig (Elt F) Λ .tc) α}
    (h : J defs 𝒱 c bd (own c R) (P1 X A D b8 n) (kk (VecWindow.window X.sc off size inb)) Q) :
    J defs 𝒱 c bd (own c R) (P1 X A D b8 n) (Prog.lift (.load R.a3 (Rect.unit (s := S4x2x1280) off size inb).toLoadRect hl) >>= kk) Q :=
  J.loadAt (cell_sc c R) X.sc (fun s hs => by show s.ins.sc = X.sc; rw [hs.tile.ins]) h

theorem J.dlDead {n : ℕ} {off size : Fin 2 → ℕ} {inb : ∀ a, off a + size a ≤ S2560x512.size a} {hl : R.a12.view.LoadsAt (Rect.unit (s := S2560x512) off size inb).toLoadRect}
    {kk : ((Rect.unit (s := S2560x512) off size inb).toLoadRect.shape.Idx → Elt F .bf16) → Prog (TpuEff nD τ sig (Elt F) Λ .tc) α}
    (h : ∀ v, J defs 𝒱 c bd (own c R) (P1 X A D b8 n) (kk v) Q) :
    J defs 𝒱 c bd (own c R) (P1 X A D b8 n) (Prog.lift (.load R.a12 (Rect.unit (s := S2560x512) off size inb).toLoadRect hl) >>= kk) Q :=
  J.dead (cell_dlb c R) h

/-- The place of a block's scales: its chunk, its sequence, and its tokens in that. -/
def scOff (off : Fin 2 → ℕ) : Fin 3 → ℕ := ![off 1 / 128, off 0 / 1280, off 0 % 1280]

theorem scOff_inb {off : Fin 2 → ℕ} (inb : ∀ a, off a + S128x128.size a ≤ S2560x512.size a) (h0 : off 0 % 128 = 0) :
    ∀ a, scOff off a + S1x1x128.size a ≤ S4x2x1280.size a := by
  have b0 : off 0 + 128 ≤ 2560 := inb 0
  have b1 : off 1 + 128 ≤ 512 := inb 1
  intro a
  match a with
  | ⟨0, _⟩ => show off 1 / 128 + 1 ≤ 4; omega
  | ⟨1, _⟩ => show off 0 / 1280 + 1 ≤ 2; omega
  | ⟨2, _⟩ => show off 0 % 1280 + 128 ≤ 1280; omega

/-- A block of the scaled `dl` is stored. -/
theorem J.dlStore {n : ℕ} {off : Fin 2 → ℕ} {inb : ∀ a, off a + S128x128.size a ≤ S2560x512.size a}
    {hx : (R.a12.access (Rect.unit (s := S2560x512) off S128x128.size inb)).Stores Finset.univ} {hm : (Finset.univ : Finset (Rect.unit (s := S2560x512) off S128x128.size inb).shape.Idx) = Finset.univ ∨ ∀ a, (Rect.unit (s := S2560x512) off S128x128.size inb).stride a = 1}
    {w : (Rect.unit (s := S2560x512) off S128x128.size inb).shape.Idx → Elt F .bf16}
    {kk : PUnit → Prog (TpuEff nD τ sig (Elt F) Λ .tc) α}
    (hn : n = off 0 / 128 * 4 + off 1 / 128) (h0 : off 0 % 128 = 0) (h1 : off 1 % 128 = 0)
    (hw : w = shapeCast S128x128 (if off 1 = 384 then dlLast b8 (dlBlk (VecWindow.window (s := S2560x512) X.dl off S128x128.size inb) (VecWindow.window (s := S4x2x1280) X.sc (scOff off) S1x1x128.size (scOff_inb inb h0)))
      else dlBlk (VecWindow.window (s := S2560x512) X.dl off S128x128.size inb) (VecWindow.window (s := S4x2x1280) X.sc (scOff off) S1x1x128.size (scOff_inb inb h0))) sc128x128)
    (h : J defs 𝒱 c bd (own c R) (P1 X A D b8 (off 0 / 128 * 4 + off 1 / 128 + 1)) (kk ⟨⟩) Q) :
    J defs 𝒱 c bd (own c R) (P1 X A D b8 n) (Prog.lift (.store R.a12 (Rect.unit (s := S2560x512) off S128x128.size inb) w Finset.univ hx hm) >>= kk) Q := by
  refine J.store (cell_dlb c R) _ (fun s hs => ?_) h
  refine ⟨hs.tile.congr rfl rfl rfl rfl, hs.acc, hs.dh, fun j hj => ?_⟩
  have b0 : off 0 + 128 ≤ 2560 := inb 0
  have b1 : off 1 + 128 ≤ 512 := inb 1
  have hj1 : (j 1).val < 512 := (j 1).isLt
  refine (put_upto s.dlb (dlbF X b8) off S128x128.size inb w (fun y => ?_) j).trans ?_
  · rw [shapeCast_self] at hw
    subst hw
    have y0 : (y 0).val < 128 := (y 0).isLt
    have y1 : (y 1).val < 128 := (y 1).isLt
    have key : dlBlk (VecWindow.window (s := S2560x512) X.dl off S128x128.size inb) (VecWindow.window (s := S4x2x1280) X.sc (scOff off) S1x1x128.size (scOff_inb inb h0)) y
        = FloatOps.mulf (FloatOps.extf .bf16 e5m2_lt_bf16 (X.dl ((Rect.unit (s := S2560x512) off S128x128.size inb).emb y)))
      (FloatOps.truncf .bf16 bf16_lt_f32 (X.sc (ix3 ⟨(off 1 + 1 * (y 1).val) / 128, by omega⟩
        ⟨(off 0 + 1 * (y 0).val) / 1280, by omega⟩ ⟨(off 0 + 1 * (y 0).val) % 1280, by omega⟩))) := by
      refine (dlBlk_apply _ _ y).trans ?_
      unfold VecWindow.window
      refine congrArg₂ FloatOps.mulf rfl (congrArg _ (congrArg X.sc (funext fun a => Fin.ext ?_)))
      match a with
      | ⟨0, _⟩ => show off 1 / 128 + 1 * 0 = (off 1 + 1 * (y 1).val) / 128; omega
      | ⟨1, _⟩ => show off 0 / 1280 + 1 * 0 = (off 0 + 1 * (y 0).val) / 1280; omega
      | ⟨2, _⟩ => show off 0 % 1280 + 1 * (y 0).val = (off 0 + 1 * (y 0).val) % 1280; omega
    unfold dlbF
    have hd : (((Rect.unit (s := S2560x512) off S128x128.size inb).emb y) 1).val / 128 = 3 ↔ off 1 = 384 := by
      show (off 1 + 1 * (y 1).val) / 128 = 3 ↔ _
      omega
    by_cases h3 : off 1 = 384
    · rw [if_pos h3, if_pos (hd.2 h3)]
      refine (dlLast_apply b8 _ y).trans ?_
      rw [key]
      rfl
    · rw [if_neg h3, if_neg (fun h => h3 (hd.1 h)), key]
      rfl
  · by_cases hb : (j 0).val / 128 * 4 + (j 1).val / 128 < n
    · rw [hs.dlb j hb]; exact ite_self _
    · refine if_pos fun a => ?_
      match a with
      | ⟨0, _⟩ => exact ⟨by show off 0 ≤ (j 0).val; omega, by show (j 0).val < off 0 + 128; omega⟩
      | ⟨1, _⟩ => exact ⟨by show off 1 ≤ (j 1).val; omega, by show (j 1).val < off 1 + 128; omega⟩

/-- The scaled `dl` is written. -/
theorem P1.done {s : St F} (h : P1 X A D b8 80 s) : P2 X A D b8 0 s :=
  ⟨h.tile, h.acc, h.dh, funext fun j => h.dlb j (by
    have h0 : (j 0).val < 2560 := (j 0).isLt
    have h1 : (j 1).val < 512 := (j 1).isLt
    omega), fun j hj => absurd hj (Nat.not_lt_zero _)⟩

/-! ## The scaled table -/

theorem J.eLoad {n : ℕ} {off size : Fin 2 → ℕ} {inb : ∀ a, off a + size a ≤ S512x896.size a} {hl : R.a6.view.LoadsAt (Rect.unit (s := S512x896) off size inb).toLoadRect}
    {kk : ((Rect.unit (s := S512x896) off size inb).toLoadRect.shape.Idx → Elt F .i8) → Prog (TpuEff nD τ sig (Elt F) Λ .tc) α}
    (h : J defs 𝒱 c bd (own c R) (P2 X A D b8 n) (kk (VecWindow.window X.e off size inb)) Q) :
    J defs 𝒱 c bd (own c R) (P2 X A D b8 n) (Prog.lift (.load R.a6 (Rect.unit (s := S512x896) off size inb).toLoadRect hl) >>= kk) Q :=
  J.loadAt (cell_e c R) X.e (fun s hs => by show s.ins.e = X.e; rw [hs.tile.ins]) h

theorem J.esLoad {n : ℕ} {off size : Fin 2 → ℕ} {inb : ∀ a, off a + size a ≤ S1x512.size a} {hl : R.a7.view.LoadsAt (Rect.unit (s := S1x512) off size inb).toLoadRect}
    {kk : ((Rect.unit (s := S1x512) off size inb).toLoadRect.shape.Idx → Elt F .f32) → Prog (TpuEff nD τ sig (Elt F) Λ .tc) α}
    (h : J defs 𝒱 c bd (own c R) (P2 X A D b8 n) (kk (VecWindow.window X.es off size inb)) Q) :
    J defs 𝒱 c bd (own c R) (P2 X A D b8 n) (Prog.lift (.load R.a7 (Rect.unit (s := S1x512) off size inb).toLoadRect hl) >>= kk) Q :=
  J.loadAt (cell_es c R) X.es (fun s hs => by show s.ins.es = X.es; rw [hs.tile.ins]) h

theorem J.eeDead {n : ℕ} {off size : Fin 2 → ℕ} {inb : ∀ a, off a + size a ≤ S896x512.size a} {hl : R.a13.view.LoadsAt (Rect.unit (s := S896x512) off size inb).toLoadRect}
    {kk : ((Rect.unit (s := S896x512) off size inb).toLoadRect.shape.Idx → Elt F .bf16) → Prog (TpuEff nD τ sig (Elt F) Λ .tc) α}
    (h : ∀ v, J defs 𝒱 c bd (own c R) (P2 X A D b8 n) (kk v) Q) :
    J defs 𝒱 c bd (own c R) (P2 X A D b8 n) (Prog.lift (.load R.a13 (Rect.unit (s := S896x512) off size inb).toLoadRect hl) >>= kk) Q :=
  J.dead (cell_eet c R) h

/-- The place of a block's rows in the table's tile. -/
def eOff (off : Fin 2 → ℕ) : Fin 2 → ℕ := ![off 1, 0]

theorem eOff_inb {off : Fin 2 → ℕ} (inb : ∀ a, off a + S896x128.size a ≤ S896x512.size a) :
    ∀ a, eOff off a + S128x896.size a ≤ S512x896.size a := by
  have b1 : off 1 + 128 ≤ 512 := inb 1
  intro a
  match a with
  | ⟨0, _⟩ => exact b1
  | ⟨1, _⟩ => show 0 + 896 ≤ 896; omega

theorem esOff_inb {off : Fin 2 → ℕ} (inb : ∀ a, off a + S896x128.size a ≤ S896x512.size a) (h0 : off 0 = 0) :
    ∀ a, off a + S1x128.size a ≤ S1x512.size a := by
  have b1 : off 1 + 128 ≤ 512 := inb 1
  intro a
  match a with
  | ⟨0, _⟩ => show off 0 + 1 ≤ 1; omega
  | ⟨1, _⟩ => exact b1

/-- A block of the scaled table is stored. -/
theorem J.eeStore {n : ℕ} {off : Fin 2 → ℕ} {inb : ∀ a, off a + S896x128.size a ≤ S896x512.size a}
    {hx : (R.a13.access (Rect.unit (s := S896x512) off S896x128.size inb)).Stores Finset.univ} {hm : (Finset.univ : Finset (Rect.unit (s := S896x512) off S896x128.size inb).shape.Idx) = Finset.univ ∨ ∀ a, (Rect.unit (s := S896x512) off S896x128.size inb).stride a = 1}
    {w : (Rect.unit (s := S896x512) off S896x128.size inb).shape.Idx → Elt F .bf16}
    {kk : PUnit → Prog (TpuEff nD τ sig (Elt F) Λ .tc) α}
    (hn : n = off 1 / 128) (h0 : off 0 = 0) (h1 : off 1 % 128 = 0)
    (hw : w = shapeCast S896x128 (if off 1 = 384 then eeLast b8 (eeBlk (VecWindow.window (s := S512x896) X.e (eOff off) S128x896.size (eOff_inb inb)) (VecWindow.window (s := S1x512) X.es off S1x128.size (esOff_inb inb h0)))
      else eeBlk (VecWindow.window (s := S512x896) X.e (eOff off) S128x896.size (eOff_inb inb)) (VecWindow.window (s := S1x512) X.es off S1x128.size (esOff_inb inb h0))) sc896x128)
    (h : J defs 𝒱 c bd (own c R) (P2 X A D b8 (off 1 / 128 + 1)) (kk ⟨⟩) Q) :
    J defs 𝒱 c bd (own c R) (P2 X A D b8 n) (Prog.lift (.store R.a13 (Rect.unit (s := S896x512) off S896x128.size inb) w Finset.univ hx hm) >>= kk) Q := by
  refine J.store (cell_eet c R) _ (fun s hs => ?_) h
  refine ⟨hs.tile.congr rfl rfl rfl rfl, hs.acc, hs.dh, hs.dlb, fun j hj => ?_⟩
  have b1 : off 1 + 128 ≤ 512 := inb 1
  have hj0 : (j 0).val < 896 := (j 0).isLt
  have hj1 : (j 1).val < 512 := (j 1).isLt
  refine (put_upto s.eet (eetF X b8) off S896x128.size inb w (fun y => ?_) j).trans ?_
  · rw [shapeCast_self] at hw
    subst hw
    have y1 : (y 1).val < 128 := (y 1).isLt
    have key : eeBlk (VecWindow.window (s := S512x896) X.e (eOff off) S128x896.size (eOff_inb inb)) (VecWindow.window (s := S1x512) X.es off S1x128.size (esOff_inb inb h0)) y
        = FloatOps.mulf (FloatOps.sitofp .bf16 (X.e (ix2 (((Rect.unit (s := S896x512) off S896x128.size inb).emb y) 1) (((Rect.unit (s := S896x512) off S896x128.size inb).emb y) 0))))
          (FloatOps.truncf .bf16 bf16_lt_f32 (X.es (ix2 0 (((Rect.unit (s := S896x512) off S896x128.size inb).emb y) 1)))) := by
      refine (eeBlk_apply _ _ y).trans ?_
      unfold VecWindow.window
      refine congrArg₂ FloatOps.mulf (congrArg _ (congrArg X.e (funext fun a => Fin.ext ?_))) (congrArg _ (congrArg X.es (funext fun a => Fin.ext ?_)))
      · match a with
        | ⟨0, _⟩ => rfl
        | ⟨1, _⟩ => show 0 + 1 * (y 0).val = off 0 + 1 * (y 0).val; omega
      · match a with
        | ⟨0, _⟩ => show off 0 + 1 * 0 = 0; omega
        | ⟨1, _⟩ => rfl
    unfold eetF
    have hd : (((Rect.unit (s := S896x512) off S896x128.size inb).emb y) 1).val / 128 = 3 ↔ off 1 = 384 := by
      show (off 1 + 1 * (y 1).val) / 128 = 3 ↔ _
      omega
    by_cases h3 : off 1 = 384
    · rw [if_pos h3, if_pos (hd.2 h3)]
      refine (eeLast_apply b8 _ y).trans ?_
      rw [key]
    · rw [if_neg h3, if_neg (fun h => h3 (hd.1 h)), key]
      rfl
  · by_cases hb : (j 1).val / 128 < n
    · rw [hs.eet j hb]; exact ite_self _
    · refine if_pos fun a => ?_
      match a with
      | ⟨0, _⟩ => exact ⟨by show off 0 ≤ (j 0).val; omega, by show (j 0).val < off 0 + 896; omega⟩
      | ⟨1, _⟩ => exact ⟨by show off 1 ≤ (j 1).val; omega, by show (j 1).val < off 1 + 128; omega⟩

/-- The scaled table is written. -/
theorem P2.done {s : St F} (h : P2 X A D b8 4 s) : P3 X A D b8 (fun _ => True) s :=
  ⟨h.tile, h.acc, h.dh, h.dlb, funext fun j => h.eet j (by
    have h1 : (j 1).val < 512 := (j 1).isLt
    omega), trivial⟩

/-! ## The tile of the gradient -/

variable {G : (S512x896.Idx → Elt F .f32) → Prop}

theorem J.hhtAll {off : Fin 2 → ℕ} {inb : ∀ a, off a + S896x2560.size a ≤ S896x2560.size a} {hl : R.a11.view.LoadsAt (Rect.unit (s := S896x2560) off S896x2560.size inb).toLoadRect}
    {kk : ((Rect.unit (s := S896x2560) off S896x2560.size inb).toLoadRect.shape.Idx → Elt F .bf16) → Prog (TpuEff nD τ sig (Elt F) Λ .tc) α}
    (h : J defs 𝒱 c bd (own c R) (P3 X A D b8 G) (kk (hhtF X)) Q) :
    J defs 𝒱 c bd (own c R) (P3 X A D b8 G) (Prog.lift (.load R.a11 (Rect.unit (s := S896x2560) off S896x2560.size inb).toLoadRect hl) >>= kk) Q :=
  J.loadAt (cell_hht c R) (hhtF X) (fun s hs => hs.tile.hht) (by rw [window_all]; exact h)

theorem J.dlAll {off : Fin 2 → ℕ} {inb : ∀ a, off a + S2560x512.size a ≤ S2560x512.size a} {hl : R.a12.view.LoadsAt (Rect.unit (s := S2560x512) off S2560x512.size inb).toLoadRect}
    {kk : ((Rect.unit (s := S2560x512) off S2560x512.size inb).toLoadRect.shape.Idx → Elt F .bf16) → Prog (TpuEff nD τ sig (Elt F) Λ .tc) α}
    (h : J defs 𝒱 c bd (own c R) (P3 X A D b8 G) (kk (dlbF X b8)) Q) :
    J defs 𝒱 c bd (own c R) (P3 X A D b8 G) (Prog.lift (.load R.a12 (Rect.unit (s := S2560x512) off S2560x512.size inb).toLoadRect hl) >>= kk) Q :=
  J.loadAt (cell_dlb c R) (dlbF X b8) (fun s hs => hs.dlb) (by rw [window_all]; exact h)

theorem J.deDead {off size : Fin 2 → ℕ} {inb : ∀ a, off a + size a ≤ S512x896.size a} {hl : R.a9.view.LoadsAt (Rect.unit (s := S512x896) off size inb).toLoadRect}
    {kk : ((Rect.unit (s := S512x896) off size inb).toLoadRect.shape.Idx → Elt F .f32) → Prog (TpuEff nD τ sig (Elt F) Λ .tc) α}
    (h : ∀ v, J defs 𝒱 c bd (own c R) (P3 X A D b8 G) (kk v) Q) :
    J defs 𝒱 c bd (own c R) (P3 X A D b8 G) (Prog.lift (.load R.a9 (Rect.unit (s := S512x896) off size inb).toLoadRect hl) >>= kk) Q :=
  J.dead (cell_de c R) h

/-- A put as wide as the array replaces it. -/
theorem put_all {s : Shape} {α : Type} (x : s.Idx → α) (off : Fin s.rank → ℕ) (inb : ∀ a, off a + s.size a ≤ s.size a) (w : s.Idx → α) :
    VecWindow.put x off s.size w = w :=
  funext fun j => (put_upto x w off s.size inb w (fun y => congrArg w (funext fun a => Fin.ext (by
    show (y a).val = off a + 1 * (y a).val
    have := inb a
    omega))) j).trans (if_pos fun a => by have := inb a; have := (j a).isLt; omega)

/-- The product is stored. -/
theorem J.detStore {off : Fin 2 → ℕ} {inb : ∀ a, off a + S512x896.size a ≤ S512x896.size a}
    {hx : (R.a9.access (Rect.unit (s := S512x896) off S512x896.size inb)).Stores Finset.univ} {hm : (Finset.univ : Finset (Rect.unit (s := S512x896) off S512x896.size inb).shape.Idx) = Finset.univ ∨ ∀ a, (Rect.unit (s := S512x896) off S512x896.size inb).stride a = 1}
    {w : (Rect.unit (s := S512x896) off S512x896.size inb).shape.Idx → Elt F .f32}
    {kk : PUnit → Prog (TpuEff nD τ sig (Elt F) Λ .tc) α}
    (hw : w = detF (hhtF X) (dlbF X b8))
    (h : J defs 𝒱 c bd (own c R) (P3 X A D b8 (fun g => g = detF (hhtF X) (dlbF X b8))) (kk ⟨⟩) Q) :
    J defs 𝒱 c bd (own c R) (P3 X A D b8 G) (Prog.lift (.store R.a9 (Rect.unit (s := S512x896) off S512x896.size inb) w Finset.univ hx hm) >>= kk) Q := by
  refine J.store (cell_de c R) _ (fun s hs => ?_) h
  refine ⟨hs.tile.congr rfl rfl rfl rfl, hs.acc, hs.dh, hs.dlb, hs.eet, ?_⟩
  subst hw
  exact put_all s.de off inb _

/-! ## The accumulator -/

/-- Before its first block. -/
theorem P3.acc0 {s : St F} (h : P3 X A D b8 G s) : P4 X A D b8 G 0 s :=
  ⟨h.tile, fun j => by rw [h.acc, if_neg (Nat.not_lt_zero _)], h.dh, h.dlb, h.eet, h.de⟩

theorem J.accLoad {n : ℕ} {off : Fin 2 → ℕ} {inb : ∀ a, off a + S896x256.size a ≤ S896x2560.size a} {hl : R.a14.view.LoadsAt (Rect.unit (s := S896x2560) off S896x256.size inb).toLoadRect}
    {kk : ((Rect.unit (s := S896x2560) off S896x256.size inb).toLoadRect.shape.Idx → Elt F .f32) → Prog (TpuEff nD τ sig (Elt F) Λ .tc) α}
    (hn : n = off 1 / 256) (h1 : off 1 % 256 = 0)
    (h : J defs 𝒱 c bd (own c R) (P4 X A D b8 G n) (kk (VecWindow.window A off S896x256.size inb)) Q) :
    J defs 𝒱 c bd (own c R) (P4 X A D b8 G n) (Prog.lift (.load R.a14 (Rect.unit (s := S896x2560) off S896x256.size inb).toLoadRect hl) >>= kk) Q :=
  J.load (cell_acc c R) fun v s hs => by
    have hv : v = VecWindow.window (s := S896x2560) A off S896x256.size inb := hs.2.trans (funext fun y => (hs.1.acc _).trans (if_neg (by
      show ¬ (off 1 + 1 * (y 1).val) / 256 < n
      omega)))
    subst hv
    exact h s hs.1

theorem J.eetAll {n : ℕ} {off : Fin 2 → ℕ} {inb : ∀ a, off a + S896x512.size a ≤ S896x512.size a} {hl : R.a13.view.LoadsAt (Rect.unit (s := S896x512) off S896x512.size inb).toLoadRect}
    {kk : ((Rect.unit (s := S896x512) off S896x512.size inb).toLoadRect.shape.Idx → Elt F .bf16) → Prog (TpuEff nD τ sig (Elt F) Λ .tc) α}
    (h : J defs 𝒱 c bd (own c R) (P4 X A D b8 G n) (kk (eetF X b8)) Q) :
    J defs 𝒱 c bd (own c R) (P4 X A D b8 G n) (Prog.lift (.load R.a13 (Rect.unit (s := S896x512) off S896x512.size inb).toLoadRect hl) >>= kk) Q :=
  J.loadAt (cell_eet c R) (eetF X b8) (fun s hs => hs.eet) (by rw [window_all]; exact h)

theorem J.dlRows {n : ℕ} {off size : Fin 2 → ℕ} {inb : ∀ a, off a + size a ≤ S2560x512.size a} {hl : R.a12.view.LoadsAt (Rect.unit (s := S2560x512) off size inb).toLoadRect}
    {kk : ((Rect.unit (s := S2560x512) off size inb).toLoadRect.shape.Idx → Elt F .bf16) → Prog (TpuEff nD τ sig (Elt F) Λ .tc) α}
    (h : J defs 𝒱 c bd (own c R) (P4 X A D b8 G n) (kk (VecWindow.window (dlbF X b8) off size inb)) Q) :
    J defs 𝒱 c bd (own c R) (P4 X A D b8 G n) (Prog.lift (.load R.a12 (Rect.unit (s := S2560x512) off size inb).toLoadRect hl) >>= kk) Q :=
  J.loadAt (cell_dlb c R) (dlbF X b8) (fun s hs => hs.dlb) h

theorem J.accDead {n : ℕ} {off size : Fin 2 → ℕ} {inb : ∀ a, off a + size a ≤ S896x2560.size a} {hl : R.a14.view.LoadsAt (Rect.unit (s := S896x2560) off size inb).toLoadRect}
    {kk : ((Rect.unit (s := S896x2560) off size inb).toLoadRect.shape.Idx → Elt F .f32) → Prog (TpuEff nD τ sig (Elt F) Λ .tc) α}
    (h : ∀ v, J defs 𝒱 c bd (own c R) (P4 X A D b8 G n) (kk v) Q) :
    J defs 𝒱 c bd (own c R) (P4 X A D b8 G n) (Prog.lift (.load R.a14 (Rect.unit (s := S896x2560) off size inb).toLoadRect hl) >>= kk) Q :=
  J.dead (cell_acc c R) h

/-- The place of a block's tokens in the scaled `dl`. -/
def rowOff (off : Fin 2 → ℕ) : Fin 2 → ℕ := ![off 1, 0]

theorem rowOff_inb {off : Fin 2 → ℕ} (inb : ∀ a, off a + S896x256.size a ≤ S896x2560.size a) :
    ∀ a, rowOff off a + S256x512.size a ≤ S2560x512.size a := by
  have b1 : off 1 + 256 ≤ 2560 := inb 1
  intro a
  match a with
  | ⟨0, _⟩ => exact b1
  | ⟨1, _⟩ => show 0 + 512 ≤ 512; omega

theorem window_congr {s : Shape} {α : Type} (x : s.Idx → α) {o p : Fin s.rank → ℕ} {size : Fin s.rank → ℕ} (h : o = p) (ho : ∀ a, o a + size a ≤ s.size a)
    (hp : ∀ a, p a + size a ≤ s.size a) : VecWindow.window x o size ho = VecWindow.window x p size hp := by subst h; rfl

/-- A block of the accumulator, the tile's product added, is stored. -/
theorem J.accStore {n : ℕ} {off : Fin 2 → ℕ} {inb : ∀ a, off a + S896x256.size a ≤ S896x2560.size a}
    {hx : (R.a14.access (Rect.unit (s := S896x2560) off S896x256.size inb)).Stores Finset.univ} {hm : (Finset.univ : Finset (Rect.unit (s := S896x2560) off S896x256.size inb).shape.Idx) = Finset.univ ∨ ∀ a, (Rect.unit (s := S896x2560) off S896x256.size inb).stride a = 1}
    {w : (Rect.unit (s := S896x2560) off S896x256.size inb).shape.Idx → Elt F .f32}
    {kk : PUnit → Prog (TpuEff nD τ sig (Elt F) Λ .tc) α}
    (hn : n = off 1 / 256) (h0 : off 0 = 0) (h1 : off 1 % 256 = 0)
    (hw : w = shapeCast S896x256 (addf (s := S896x256) (VecWindow.window (s := S896x2560) A off S896x256.size inb) (matmul dotB none (eetF X b8) (VecWindow.window (s := S2560x512) (dlbF X b8) (rowOff off) S256x512.size (rowOff_inb inb))
      (constant S896x256 .f32 0x00000000#32))) sc896x256)
    (h : J defs 𝒱 c bd (own c R) (P4 X A D b8 G (off 1 / 256 + 1)) (kk ⟨⟩) Q) :
    J defs 𝒱 c bd (own c R) (P4 X A D b8 G n) (Prog.lift (.store R.a14 (Rect.unit (s := S896x2560) off S896x256.size inb) w Finset.univ hx hm) >>= kk) Q := by
  refine J.store (cell_acc c R) _ (fun s hs => ?_) h
  refine ⟨hs.tile.congr rfl rfl rfl rfl, fun j => ?_, hs.dh, hs.dlb, hs.eet, hs.de⟩
  have b1 : off 1 + 256 ≤ 2560 := inb 1
  have hj0 : (j 0).val < 896 := (j 0).isLt
  refine (put_upto s.acc (accNext A (eetF X b8) (dlbF X b8)) off S896x256.size inb w (fun y => ?_) j).trans ?_
  · rw [shapeCast_self] at hw
    subst hw
    have y1 : (y 1).val < 256 := (y 1).isLt
    have hr : rowOff off = ![256 * ((off 1 + 1 * (y 1).val) / 256), 0] := funext fun a => match a with
      | ⟨0, _⟩ => by show off 1 = 256 * ((off 1 + 1 * (y 1).val) / 256); omega
      | ⟨1, _⟩ => rfl
    unfold accNext
    refine congrArg₂ FloatOps.addf rfl ?_
    unfold prodF
    show matmul dotB none (eetF X b8) _ _ y = matmul dotB none (eetF X b8) _ _ (ix2 _ _)
    rw [window_congr (dlbF X b8) hr (rowOff_inb inb) (inb_rows _ (by omega))]
    refine congrArg _ (funext fun a => Fin.ext ?_)
    match a with
    | ⟨0, _⟩ => show (y 0).val = off 0 + 1 * (y 0).val; omega
    | ⟨1, _⟩ => show (y 1).val = (off 1 + 1 * (y 1).val) % 256; omega
  · by_cases hb : (j 1).val / 256 < n
    · rw [hs.acc j, if_pos hb, if_pos (show (j 1).val / 256 < off 1 / 256 + 1 by omega)]; exact ite_self _
    · by_cases he : (j 1).val / 256 = n
      · rw [if_pos (show (j 1).val / 256 < off 1 / 256 + 1 by omega)]
        refine if_pos fun a => ?_
        match a with
        | ⟨0, _⟩ => exact ⟨by show off 0 ≤ (j 0).val; omega, by show (j 0).val < off 0 + 896; omega⟩
        | ⟨1, _⟩ => exact ⟨by show off 1 ≤ (j 1).val; omega, by show (j 1).val < off 1 + 256; omega⟩
      · rw [hs.acc j, if_neg hb, if_neg (show ¬ (j 1).val / 256 < off 1 / 256 + 1 by omega)]
        refine if_neg fun hc => ?_
        have c1 : off 1 ≤ (j 1).val ∧ (j 1).val < off 1 + 256 := hc 1
        omega

/-- The tile is added. -/
theorem P4.done {s : St F} (h : P4 X A D b8 G 10 s) : P5 X A b8 G 0 s :=
  ⟨h.tile, funext fun j => (h.acc j).trans (if_pos (by
    have h1 : (j 1).val < 2560 := (j 1).isLt
    omega)), h.de, fun j hj => absurd hj (Nat.not_lt_zero _)⟩

/-! ## `dh` -/

theorem J.accRead {n : ℕ} {off size : Fin 2 → ℕ} {inb : ∀ a, off a + size a ≤ S896x2560.size a} {hl : R.a14.view.LoadsAt (Rect.unit (s := S896x2560) off size inb).toLoadRect}
    {kk : ((Rect.unit (s := S896x2560) off size inb).toLoadRect.shape.Idx → Elt F .f32) → Prog (TpuEff nD τ sig (Elt F) Λ .tc) α}
    (h : J defs 𝒱 c bd (own c R) (P5 X A b8 G n) (kk (VecWindow.window (accNext A (eetF X b8) (dlbF X b8)) off size inb)) Q) :
    J defs 𝒱 c bd (own c R) (P5 X A b8 G n) (Prog.lift (.load R.a14 (Rect.unit (s := S896x2560) off size inb).toLoadRect hl) >>= kk) Q :=
  J.loadAt (cell_acc c R) (accNext A (eetF X b8) (dlbF X b8)) (fun s hs => hs.acc) h

theorem J.dhDead {n : ℕ} {off size : Fin 2 → ℕ} {inb : ∀ a, off a + size a ≤ S2560x896.size a} {hl : R.a10.view.LoadsAt (Rect.unit (s := S2560x896) off size inb).toLoadRect}
    {kk : ((Rect.unit (s := S2560x896) off size inb).toLoadRect.shape.Idx → Elt F .bf16) → Prog (TpuEff nD τ sig (Elt F) Λ .tc) α}
    (h : ∀ v, J defs 𝒱 c bd (own c R) (P5 X A b8 G n) (kk v) Q) :
    J defs 𝒱 c bd (own c R) (P5 X A b8 G n) (Prog.lift (.load R.a10 (Rect.unit (s := S2560x896) off size inb).toLoadRect hl) >>= kk) Q :=
  J.dead (cell_dh c R) h

/-- The place of a block of `dh` in the accumulator. -/
def colOff (off : Fin 2 → ℕ) : Fin 2 → ℕ := ![0, off 0]

theorem colOff_inb {off : Fin 2 → ℕ} (inb : ∀ a, off a + S256x896.size a ≤ S2560x896.size a) :
    ∀ a, colOff off a + S896x256.size a ≤ S896x2560.size a := by
  have b0 : off 0 + 256 ≤ 2560 := inb 0
  intro a
  match a with
  | ⟨0, _⟩ => show 0 + 896 ≤ 896; omega
  | ⟨1, _⟩ => exact b0

/-- A block of `dh` is stored. -/
theorem J.dhStore {n : ℕ} {off : Fin 2 → ℕ} {inb : ∀ a, off a + S256x896.size a ≤ S2560x896.size a}
    {hx : (R.a10.access (Rect.unit (s := S2560x896) off S256x896.size inb)).Stores Finset.univ} {hm : (Finset.univ : Finset (Rect.unit (s := S2560x896) off S256x896.size inb).shape.Idx) = Finset.univ ∨ ∀ a, (Rect.unit (s := S2560x896) off S256x896.size inb).stride a = 1}
    {w : (Rect.unit (s := S2560x896) off S256x896.size inb).shape.Idx → Elt F .bf16}
    {kk : PUnit → Prog (TpuEff nD τ sig (Elt F) Λ .tc) α}
    (hn : n = off 0 / 256) (h0 : off 0 % 256 = 0) (h1 : off 1 = 0)
    (hw : w = truncf (s := S256x896) .bf16 (transpose S256x896 [1, 0] (VecWindow.window (s := S896x2560) (accNext A (eetF X b8) (dlbF X b8)) (colOff off) S896x256.size (colOff_inb inb)) tr896x256) bf16_lt_f32)
    (h : J defs 𝒱 c bd (own c R) (P5 X A b8 G (off 0 / 256 + 1)) (kk ⟨⟩) Q) :
    J defs 𝒱 c bd (own c R) (P5 X A b8 G n) (Prog.lift (.store R.a10 (Rect.unit (s := S2560x896) off S256x896.size inb) w Finset.univ hx hm) >>= kk) Q := by
  refine J.store (cell_dh c R) _ (fun s hs => ?_) h
  refine ⟨hs.tile.congr rfl rfl rfl rfl, hs.acc, hs.de, fun j hj => ?_⟩
  have b0 : off 0 + 256 ≤ 2560 := inb 0
  have hj1 : (j 1).val < 896 := (j 1).isLt
  refine (put_upto s.dh (dhF (accNext A (eetF X b8) (dlbF X b8))) off S256x896.size inb w (fun y => ?_) j).trans ?_
  · subst hw
    unfold dhF
    refine congrArg (FloatOps.truncf .bf16 bf16_lt_f32) ?_
    refine (transpose_apply _ _ _ y (ix2 (y 1) (y 0)) (fun b => match b with | ⟨0, _⟩ => rfl | ⟨1, _⟩ => rfl)).trans ?_
    refine congrArg (accNext A (eetF X b8) (dlbF X b8)) (funext fun a => Fin.ext ?_)
    match a with
    | ⟨0, _⟩ => show 0 + 1 * (y 1).val = off 1 + 1 * (y 1).val; omega
    | ⟨1, _⟩ => rfl
  · by_cases hb : (j 0).val / 256 < n
    · rw [hs.dh j hb]; exact ite_self _
    · refine if_pos fun a => ?_
      match a with
      | ⟨0, _⟩ => exact ⟨by show off 0 ≤ (j 0).val; omega, by show (j 0).val < off 0 + 256; omega⟩
      | ⟨1, _⟩ => exact ⟨by show off 1 ≤ (j 1).val; omega, by show (j 1).val < off 1 + 896; omega⟩

end Cert.TiedGrad
-- ==== Proof.Scatter.lean ====
/-
  The scatter: the tokens of the tile's list are taken one by one, and each adds its row of the embedding's gradient
  to the tile's row it names. The first sixteen are taken whether the list is that long or not, a token past the end
  adding zero to the first row; a loop takes the others. `Scat` says what has been added, and the rules carry one
  token's addition.
-/
module

public import proofs.«01_k».proof.Proof.Steps

@[expose] public section

noncomputable section

namespace Cert.TiedGrad

open Idealize.ShloMosaic Idealize.ShloMosaic.TcCoe
open Idealize.SL Idealize.SL.RA Idealize.SL.BI
open scoped Idealize.SL.BI
open Idealize.ShloMosaic.Rounds
open Idealize.ShloMosaic.Pipeline
open Idealize.ShloMosaic.ValueIdx
open Idealize.SL.BI.BIBase Idealize.SL.BI.Laws Idealize.SL.ProofMode Idealize.SL.Sem

variable {F : FTy → Type} [FloatOps F]

/-- Token `t`'s row of the embedding's gradient added to the tile's row that it names. -/
def addTok (X : Ins F) (b : ℕ) (D : S512x896.Idx → Elt F .f32) (t : ℕ) : S512x896.Idx → Elt F .f32 := fun j =>
  if (j 0).val + 512 * b = (idw X t).toNat then FloatOps.addf (D j) (FloatOps.extf .f32 bf16_lt_f32 (X.demb (ix2 ⟨t % 2560, Nat.mod_lt _ (by decide)⟩ (j 1)))) else D j

/-- Zero added to the first row. -/
def addZero (D : S512x896.Idx → Elt F .f32) : S512x896.Idx → Elt F .f32 := fun j =>
  if (j 0).val = 0 then FloatOps.addf (D j) (FloatOps.ofBits .f32 0x00000000#32) else D j

/-- What the tile may hold when the tokens of the list have been taken, zeros added between. -/
inductive Scat (X : Ins F) (b : ℕ) (D0 : S512x896.Idx → Elt F .f32) : List ℕ → (S512x896.Idx → Elt F .f32) → Prop
  | nil : Scat X b D0 [] D0
  | live {l : List ℕ} {D : S512x896.Idx → Elt F .f32} (t : ℕ) : Scat X b D0 l D → Scat X b D0 (l ++ [t]) (addTok X b D t)
  | zero {l : List ℕ} {D : S512x896.Idx → Elt F .f32} : Scat X b D0 l D → Scat X b D0 l (addZero D)

/-- Whether the word names a token. -/
def lv (t : BitVec 32) : BitVec 1 := Scalar.cmpi .sge t 0#32
/-- The token it names, the first where it names none. -/
def ps (t : BitVec 32) : BitVec 32 := Scalar.maxsi t 0#32
/-- The next token's word. -/
def nx (L : BitVec 1) (w : BitVec 32) : BitVec 32 := Scalar.select L w 4294967295#32
/-- The row of the tile a token's row goes to. -/
def rw0 (b : ℕ) (L : BitVec 1) (v : BitVec 32) : BitVec 32 := Scalar.select L (Scalar.subi v (Scalar.muli (BitVec.ofNat 32 b) 512#32)) 0#32

theorem lv_of_lt {t : BitVec 32} (h : t.toNat < 2 ^ 31) : lv t = 1#1 := by
  have : (0#32).sle t = true := by rw [BitVec.sle_eq_decide]; simp [BitVec.toInt_eq_toNat_cond]; omega
  show BitVec.ofBool ((0#32).sle t) = 1#1
  rw [this]; rfl

theorem lv_of_ge {t : BitVec 32} (h : 2 ^ 31 ≤ t.toNat) : lv t = 0#1 := by
  have : (0#32).sle t = false := by rw [BitVec.sle_eq_decide]; simp [BitVec.toInt_eq_toNat_cond]; omega
  show BitVec.ofBool ((0#32).sle t) = 0#1
  rw [this]; rfl

theorem ps_of_lt {t : BitVec 32} (h : t.toNat < 2 ^ 31) : ps t = t := by
  have : (0#32).slt t = true ∨ t = 0#32 := by
    by_cases e : t = 0#32
    · exact .inr e
    · refine .inl ?_
      have : t.toNat ≠ 0 := fun h0 => e (BitVec.eq_of_toNat_eq h0)
      rw [BitVec.slt_eq_decide]; simp [BitVec.toInt_eq_toNat_cond]; omega
  show (if (0#32).slt t then t else 0#32) = t
  rcases this with h | h
  · rw [if_pos h]
  · subst h; rfl

theorem ps_of_ge {t : BitVec 32} (h : 2 ^ 31 ≤ t.toNat) : ps t = 0#32 := by
  have : (0#32).slt t = false := by rw [BitVec.slt_eq_decide]; simp [BitVec.toInt_eq_toNat_cond]; omega
  show (if (0#32).slt t then t else 0#32) = 0#32
  rw [this]; rfl

variable {nD : Nat} {τ : Topo} {sig : RefSig} {Λ : Labels}
variable {defs : Defs nD τ sig (Elt F) Λ} {𝒱 : Variants} {c : Dev nD} {bd : Option 𝒱.V} {R : Refs sig}
variable {α : Type} {Q : α → sProp (MT nD τ sig Unit (Elt F) ℕ (UR sig nD τ) ℕ)}

variable (X : Ins F) (A : S896x2560.Idx → Elt F .f32) (D : S2560x896.Idx → Elt F .bf16) (b8 : BitVec 1) (b : ℕ)

/-- The tile's gradient, the whole list taken. -/
def Scatted (g : S512x896.Idx → Elt F .f32) : Prop := Scat X b (detF (hhtF X) (dlbF X b8)) (bucket X 2560 b) g

/-- Before token `t` is taken, at most `n` tokens being left; `L` says whether there is one, `p` names it. -/
structure T0 (n : ℕ) (t : BitVec 32) (L : BitVec 1) (p : BitVec 32) (s : St F) : Prop where
  base : P3 X A D b8 (fun _ => True) s
  lt : b < 297
  hL : L = lv t
  hp : p = ps t
  ex : ∃ pre rest, bucket X 2560 b = pre ++ rest ∧ rest.length ≤ n ∧ Chain (at1 (n := 2560) s.nxt) rest t ∧ Scat X b (detF (hhtF X) (dlbF X b8)) pre s.de

/-- Its row is read. -/
structure T1 (n : ℕ) (t : BitVec 32) (L : BitVec 1) (p : BitVec 32) (v : BitVec 32) (s : St F) : Prop where
  base : T0 X A D b8 b n t L p s
  hv : v = idw X p.toNat

/-- The tile's row is read. -/
structure T2 (n : ℕ) (t : BitVec 32) (L : BitVec 1) (p : BitVec 32) (v : BitVec 32) (cur : S1x896.Idx → Elt F .f32) (s : St F) : Prop where
  base : T1 X A D b8 b n t L p v s
  hcur : ∀ (y : S1x896.Idx) (j : S512x896.Idx), (j 0).val = (rw0 b L v).toNat → (j 1).val = (y 1).val → cur y = s.de j

/-- The token is added. -/
structure T3 (n : ℕ) (L : BitVec 1) (p : BitVec 32) (s : St F) : Prop where
  base : P3 X A D b8 (fun _ => True) s
  lt : b < 297
  plt : p.toNat < 2560
  ex : ∃ pre rest, bucket X 2560 b = pre ++ rest ∧ Scat X b (detF (hhtF X) (dlbF X b8)) pre s.de ∧
    ((L = 1#1 ∧ rest.length + 1 ≤ n ∧ Chain (at1 (n := 2560) s.nxt) rest (at1 (n := 2560) s.nxt p.toNat)) ∨ (L = 0#1 ∧ rest = []))

variable {X A D b8 b}

theorem bucket_length (X : Ins F) (n b : ℕ) : (bucket X n b).length ≤ n := by
  induction n with
  | zero => exact Nat.le_refl _
  | succ n ih =>
    unfold bucket
    split
    · rw [List.length_cons]; omega
    · omega

/-- A token is there and is one of the list, or there is none. -/
theorem T0.cases {n : ℕ} {t : BitVec 32} {L : BitVec 1} {p : BitVec 32} {s : St F} (h : T0 X A D b8 b n t L p s) :
    p.toNat < 2560 ∧ ((L = 1#1 ∧ p = t ∧ (idw X p.toNat).toNat / 512 = b ∧ ∃ pre rest, bucket X 2560 b = pre ++ p.toNat :: rest ∧ rest.length + 1 ≤ n
        ∧ Chain (at1 (n := 2560) s.nxt) rest (at1 (n := 2560) s.nxt p.toNat) ∧ Scat X b (detF (hhtF X) (dlbF X b8)) pre s.de)
      ∨ (L = 0#1 ∧ Scat X b (detF (hhtF X) (dlbF X b8)) (bucket X 2560 b) s.de)) := by
  obtain ⟨pre, rest, h1, h2, h3, h4⟩ := h.ex
  match rest, h3 with
  | [], h3 =>
    have h3 : 2 ^ 31 ≤ t.toNat := h3
    refine ⟨by rw [h.hp, ps_of_ge h3]; decide, .inr ⟨h.hL.trans (lv_of_ge h3), ?_⟩⟩
    rw [h1, List.append_nil]; exact h4
  | u :: rest, h3 =>
    obtain ⟨e, hu, hc⟩ := h3
    have ht : t.toNat < 2 ^ 31 := by omega
    have hp : p = t := h.hp.trans (ps_of_lt ht)
    subst hp
    subst e
    have hm : p.toNat ∈ bucket X 2560 b := by rw [h1]; simp
    exact ⟨hu, .inl ⟨h.hL.trans (lv_of_lt ht), rfl, (mem_bucket.1 hm).2, pre, rest, h1, h2, hc, h4⟩⟩

/-- With no token left the whole list is taken. -/
theorem T0.none {n : ℕ} {t : BitVec 32} {L : BitVec 1} {p : BitVec 32} {s : St F} (h : T0 X A D b8 b n t L p s) (hL : L ≠ 1#1) :
    P3 X A D b8 (Scatted X b8 b) s := by
  rcases h.cases.2 with ⟨h1, -⟩ | ⟨-, h2⟩
  · exact absurd h1 hL
  · exact ⟨h.base.tile, h.base.acc, h.base.dh, h.base.dlb, h.base.eet, h2⟩

/-- A token there means one is left. -/
theorem T0.pos {n : ℕ} {t : BitVec 32} {L : BitVec 1} {p : BitVec 32} {s : St F} (h : T0 X A D b8 b n t L p s) (hL : L = 1#1) : 0 < n := by
  rcases h.cases.2 with ⟨-, -, -, _, _, -, h2, -⟩ | ⟨h1, -⟩
  · omega
  · rw [h1] at hL; exact absurd hL (by decide)

/-- The tile's row of a token that is there. -/
theorem rw0_toNat {v : BitVec 32} (hb : b < 297) (h : v.toNat / 512 = b) : (rw0 b 1#1 v).toNat + 512 * b = v.toNat := by
  show (v - BitVec.ofNat 32 b * 512#32).toNat + 512 * b = v.toNat
  simp only [BitVec.toNat_sub, BitVec.toNat_mul, BitVec.toNat_ofNat]
  omega

theorem T1.row {n : ℕ} {t : BitVec 32} {L : BitVec 1} {p v : BitVec 32} {s : St F} (h : T1 X A D b8 b n t L p v s) : (rw0 b L v).toNat < 512 := by
  rcases h.base.cases.2 with ⟨h1, -, h3, -⟩ | ⟨h1, -⟩
  · rw [← h.hv] at h3
    have := rw0_toNat h.base.lt h3
    rw [h1]; omega
  · rw [h1]; show (0#32).toNat < 512; decide

/-- The head of the tile's list is read. -/
theorem J.scHead {off : Fin 1 → ℕ} {inb : ∀ a, off a + S1.size a ≤ S297.size a} {h1 : (Rect.unit (s := S297) off S1.size inb).shape.numel = 1} {hp : EltTy.packing .i32 = 1}
    {kk : Elt F .i32 → Prog (TpuEff nD τ sig (Elt F) Λ .tc) α}
    (hoff : off = ![(BitVec.ofNat 32 b).toNat]) (hb : b < 297)
    (h : ∀ w, J defs 𝒱 c bd (own c R) (T0 X A D b8 b 2560 w (lv w) (ps w)) (kk w) Q) :
    J defs 𝒱 c bd (own c R) (P3 X A D b8 (fun g => g = detF (hhtF X) (dlbF X b8))) (smemLoad R.a15 (Rect.unit (s := S297) off S1.size inb) h1 hp >>= kk) Q :=
  J.word (cell_head c R) fun w => (h w).weaken fun s hs => by
    have hw : w = at1 (n := 297) s.head b := hs.2.trans (window_at1 s.head off inb _ _ (by
      rw [hoff]; show (BitVec.ofNat 32 b).toNat = b; rw [BitVec.toNat_ofNat]; omega))
    refine ⟨⟨hs.1.tile, hs.1.acc, hs.1.dh, hs.1.dlb, hs.1.eet, trivial⟩, hb, rfl, rfl, [], bucket X 2560 b, rfl, bucket_length X 2560 b, ?_, ?_⟩
    · rw [hw]; exact hs.1.tile.link b hb
    · rw [hs.1.de]; exact .nil

/-- The side conditions on a token's word. -/
theorem J.scOk {n : ℕ} {t : BitVec 32} {L : BitVec 1} {p : BitVec 32} {P : Prop} {d : Decidable P} {kk : PLift P → Prog (TpuEff nD τ sig (Elt F) Λ .tc) α}
    (hP : ((∀ a : Fin 1, (![p.toNat] : Fin 1 → ℕ) a + S1.size a ≤ S2560.size a) ∧ (∀ a : Fin 2, (![p.toNat, 0] : Fin 2 → ℕ) a + S1x896.size a ≤ S2560x896.size a)
      ∧ (∀ a : Fin 1, (![p.toNat] : Fin 1 → ℕ) a + S1.size a ≤ S2560.size a)) → P)
    (h : ∀ q : P, J defs 𝒱 c bd (own c R) (T0 X A D b8 b n t L p) (kk ⟨q⟩) Q) :
    J defs 𝒱 c bd (own c R) (T0 X A D b8 b n t L p) (Prog.lift (.assume P d) >>= kk) Q :=
  J.assume (fun s hs => by
    have hp := hs.cases.1
    have h1 : ∀ a : Fin 1, (![p.toNat] : Fin 1 → ℕ) a + S1.size a ≤ S2560.size a := fun a => match a with
      | ⟨0, _⟩ => by show p.toNat + 1 ≤ 2560; omega
    exact hP ⟨h1, fun a => match a with
      | ⟨0, _⟩ => by show p.toNat + 1 ≤ 2560; omega
      | ⟨1, _⟩ => by show 0 + 896 ≤ 896; omega, h1⟩) h

/-- The token's row is read. -/
theorem J.scId {n : ℕ} {t : BitVec 32} {L : BitVec 1} {p : BitVec 32} {off : Fin 1 → ℕ} {inb : ∀ a, off a + S1.size a ≤ S2560.size a} {h1 : (Rect.unit (s := S2560) off S1.size inb).shape.numel = 1} {hp : EltTy.packing .i32 = 1}
    {kk : Elt F .i32 → Prog (TpuEff nD τ sig (Elt F) Λ .tc) α}
    (hoff : off = ![p.toNat])
    (h : ∀ v, J defs 𝒱 c bd (own c R) (T1 X A D b8 b n t L p v) (kk v) Q) :
    J defs 𝒱 c bd (own c R) (T0 X A D b8 b n t L p) (smemLoad R.a1 (Rect.unit (s := S2560) off S1.size inb) h1 hp >>= kk) Q :=
  J.word (cell_ids c R) fun v => (h v).weaken fun s hs => ⟨hs.1, by
    rw [hs.2, hs.1.base.tile.ins]
    exact window_at1 X.ids off inb _ _ (by rw [hoff]; rfl)⟩

/-- The side condition on its row. -/
theorem J.scRowOk {n : ℕ} {t : BitVec 32} {L : BitVec 1} {p v : BitVec 32} {P : Prop} {d : Decidable P} {kk : PLift P → Prog (TpuEff nD τ sig (Elt F) Λ .tc) α}
    (hP : (∀ a : Fin 2, (![(rw0 b L v).toNat, 0] : Fin 2 → ℕ) a + S1x896.size a ≤ S512x896.size a) → P)
    (h : ∀ q : P, J defs 𝒱 c bd (own c R) (T1 X A D b8 b n t L p v) (kk ⟨q⟩) Q) :
    J defs 𝒱 c bd (own c R) (T1 X A D b8 b n t L p v) (Prog.lift (.assume P d) >>= kk) Q :=
  J.assume (fun s hs => hP fun a => match a with
    | ⟨0, _⟩ => by have := hs.row; show (rw0 b L v).toNat + 1 ≤ 512; omega
    | ⟨1, _⟩ => by show 0 + 896 ≤ 896; omega) h

/-- The row of the embedding's gradient is read. -/
theorem J.scEmb {n : ℕ} {t : BitVec 32} {L : BitVec 1} {p v : BitVec 32} {off size : Fin 2 → ℕ} {inb : ∀ a, off a + size a ≤ S2560x896.size a} {hl : R.a8.view.LoadsAt (Rect.unit (s := S2560x896) off size inb).toLoadRect}
    {kk : ((Rect.unit (s := S2560x896) off size inb).toLoadRect.shape.Idx → Elt F .bf16) → Prog (TpuEff nD τ sig (Elt F) Λ .tc) α}
    (h : J defs 𝒱 c bd (own c R) (T1 X A D b8 b n t L p v) (kk (VecWindow.window X.demb off size inb)) Q) :
    J defs 𝒱 c bd (own c R) (T1 X A D b8 b n t L p v) (Prog.lift (.load R.a8 (Rect.unit (s := S2560x896) off size inb).toLoadRect hl) >>= kk) Q :=
  J.loadAt (cell_demb c R) X.demb (fun s hs => by show s.ins.demb = X.demb; rw [hs.base.base.tile.ins]) h

/-- The tile's row is read. -/
theorem J.scCur {n : ℕ} {t : BitVec 32} {L : BitVec 1} {p v : BitVec 32} {off : Fin 2 → ℕ} {inb : ∀ a, off a + S1x896.size a ≤ S512x896.size a} {hl : R.a9.view.LoadsAt (Rect.unit (s := S512x896) off S1x896.size inb).toLoadRect}
    {kk : ((Rect.unit (s := S512x896) off S1x896.size inb).toLoadRect.shape.Idx → Elt F .f32) → Prog (TpuEff nD τ sig (Elt F) Λ .tc) α}
    (hoff : off = ![(rw0 b L v).toNat, 0])
    (h : ∀ cur, J defs 𝒱 c bd (own c R) (T2 X A D b8 b n t L p v cur) (kk cur) Q) :
    J defs 𝒱 c bd (own c R) (T1 X A D b8 b n t L p v) (Prog.lift (.load R.a9 (Rect.unit (s := S512x896) off S1x896.size inb).toLoadRect hl) >>= kk) Q :=
  J.load (cell_de c R) fun cur => (h cur).weaken fun s hs => ⟨hs.1, fun y j h0 h1 => by
    have e0 : off 0 = (rw0 b L v).toNat := by rw [hoff]; rfl
    have e1 : off 1 = 0 := by rw [hoff]; rfl
    have y0 : (y 0).val < 1 := (y 0).isLt
    rw [hs.2]
    refine congrArg s.de (funext fun a => Fin.ext ?_)
    match a with
    | ⟨0, _⟩ => show off 0 + 1 * (y 0).val = (j 0).val; omega
    | ⟨1, _⟩ => show off 1 + 1 * (y 1).val = (j 1).val; omega⟩

theorem J.scDead {n : ℕ} {t : BitVec 32} {L : BitVec 1} {p v : BitVec 32} {cur : S1x896.Idx → Elt F .f32} {off size : Fin 2 → ℕ} {inb : ∀ a, off a + size a ≤ S512x896.size a} {hl : R.a9.view.LoadsAt (Rect.unit (s := S512x896) off size inb).toLoadRect}
    {kk : ((Rect.unit (s := S512x896) off size inb).toLoadRect.shape.Idx → Elt F .f32) → Prog (TpuEff nD τ sig (Elt F) Λ .tc) α}
    (h : ∀ u, J defs 𝒱 c bd (own c R) (T2 X A D b8 b n t L p v cur) (kk u) Q) :
    J defs 𝒱 c bd (own c R) (T2 X A D b8 b n t L p v cur) (Prog.lift (.load R.a9 (Rect.unit (s := S512x896) off size inb).toLoadRect hl) >>= kk) Q :=
  J.dead (cell_de c R) h

theorem sc1x896 : S1x896.ShapeCasts S1x896 := by decide

/-- The sum is stored. -/
theorem J.scStore {n : ℕ} {t : BitVec 32} {L : BitVec 1} {p v : BitVec 32} {cur : S1x896.Idx → Elt F .f32} {off o8 : Fin 2 → ℕ} {inb : ∀ a, off a + S1x896.size a ≤ S512x896.size a}
    {inb8 : ∀ a, o8 a + S1x896.size a ≤ S2560x896.size a}
    {hx : (R.a9.access (Rect.unit (s := S512x896) off S1x896.size inb)).Stores Finset.univ} {hm : (Finset.univ : Finset (Rect.unit (s := S512x896) off S1x896.size inb).shape.Idx) = Finset.univ ∨ ∀ a, (Rect.unit (s := S512x896) off S1x896.size inb).stride a = 1}
    {w : (Rect.unit (s := S512x896) off S1x896.size inb).shape.Idx → Elt F .f32}
    {kk : PUnit → Prog (TpuEff nD τ sig (Elt F) Λ .tc) α}
    (hoff : off = ![(rw0 b L v).toNat, 0]) (ho8 : o8 = ![p.toNat, 0])
    (hw : w = addf (s := S1x896) (shapeCast S1x896 cur sc1x896) (Scalar.select L (extf (s := S1x896) .f32 (shapeCast S1x896 (VecWindow.window (s := S2560x896) X.demb o8 S1x896.size inb8) sc1x896) bf16_lt_f32)
      (broadcast S1x896 (Scalar.ofBits .f32 0x00000000#32))))
    (h : J defs 𝒱 c bd (own c R) (T3 X A D b8 b n L p) (kk ⟨⟩) Q) :
    J defs 𝒱 c bd (own c R) (T2 X A D b8 b n t L p v cur) (Prog.lift (.store R.a9 (Rect.unit (s := S512x896) off S1x896.size inb) w Finset.univ hx hm) >>= kk) Q := by
  refine J.store (cell_de c R) _ (fun s hs => ?_) h
  have e0 : off 0 = (rw0 b L v).toNat := by rw [hoff]; rfl
  have e1 : off 1 = 0 := by rw [hoff]; rfl
  have f0 : o8 0 = p.toNat := by rw [ho8]; rfl
  have f1 : o8 1 = 0 := by rw [ho8]; rfl
  have hb := hs.base.base.base
  have hrow := hs.base.row
  obtain ⟨hp, hc⟩ := hs.base.base.cases
  rw [shapeCast_self, show shapeCast S1x896 (VecWindow.window (s := S2560x896) X.demb o8 S1x896.size inb8) sc1x896 = VecWindow.window (s := S2560x896) X.demb o8 S1x896.size inb8 from shapeCast_self (s := S1x896) _ _] at hw
  have hin : ∀ j : S512x896.Idx, (∀ a, off a ≤ (j a).val ∧ (j a).val < off a + S1x896.size a) ↔ (j 0).val = (rw0 b L v).toNat := fun j => by
    have hj1 : (j 1).val < 896 := (j 1).isLt
    constructor
    · intro hj
      have := hj 0
      have h0 : off 0 ≤ (j 0).val ∧ (j 0).val < off 0 + 1 := this
      omega
    · intro hj a
      match a with
      | ⟨0, _⟩ => exact ⟨by show off 0 ≤ (j 0).val; omega, by show (j 0).val < off 0 + 1; omega⟩
      | ⟨1, _⟩ => exact ⟨by show off 1 ≤ (j 1).val; omega, by show (j 1).val < off 1 + 896; omega⟩
  have hwy : ∀ y, w y = (fun j : S512x896.Idx => FloatOps.addf (s.de j) (Scalar.select L (FloatOps.extf .f32 bf16_lt_f32 (X.demb (ix2 ⟨p.toNat % 2560, Nat.mod_lt _ (by decide)⟩ (j 1)))) (FloatOps.ofBits .f32 0x00000000#32)))
      ((Rect.unit (s := S512x896) off S1x896.size inb).emb y) := fun y => by
    have y0 : (y 0).val < 1 := (y 0).isLt
    have hd : VecWindow.window (s := S2560x896) X.demb o8 S1x896.size inb8 y = X.demb (ix2 ⟨p.toNat % 2560, Nat.mod_lt _ (by decide)⟩ (((Rect.unit (s := S512x896) off S1x896.size inb).emb y) 1)) :=
      congrArg X.demb (funext fun a => Fin.ext (match a with
        | ⟨0, _⟩ => by show o8 0 + 1 * (y 0).val = p.toNat % 2560; omega
        | ⟨1, _⟩ => by show o8 1 + 1 * (y 1).val = off 1 + 1 * (y 1).val; omega))
    rw [hw]
    refine congrArg₂ FloatOps.addf (hs.hcur y _ (by show off 0 + 1 * (y 0).val = _; omega) (by show off 1 + 1 * (y 1).val = (y 1).val; omega)) ?_
    rw [← hd]
    unfold Scalar.select
    split <;> rfl
  have hput : VecWindow.put s.de off S1x896.size w = (if L = 1#1 then addTok X b s.de p.toNat else addZero s.de) := funext fun j => by
    refine (put_upto s.de (fun j : S512x896.Idx => FloatOps.addf (s.de j) (Scalar.select L (FloatOps.extf .f32 bf16_lt_f32 (X.demb (ix2 ⟨p.toNat % 2560, Nat.mod_lt _ (by decide)⟩ (j 1)))) (FloatOps.ofBits .f32 0x00000000#32)))
      off S1x896.size inb w hwy j).trans ?_
    rcases hc with ⟨h1, -, h3, -⟩ | ⟨h1, -⟩
    · have hr := rw0_toNat hs.base.base.lt (by rw [hs.base.hv]; exact h3 : v.toNat / 512 = b)
      have hl : (if L = 1#1 then addTok X b s.de p.toNat else addZero s.de) = addTok X b s.de p.toNat := if_pos h1
      rw [hl]
      unfold addTok
      rw [← hs.base.hv]
      by_cases hj : (j 0).val = (rw0 b L v).toNat
      · refine (if_pos ((hin j).2 hj)).trans (Eq.trans ?_ (if_pos (by rw [h1] at hj; omega)).symm)
        rw [h1]; rfl
      · exact (if_neg (fun hc => hj ((hin j).1 hc))).trans (if_neg (by rw [h1] at hj; omega)).symm
    · have h0 : ¬ L = 1#1 := by rw [h1]; decide
      have hl : (if L = 1#1 then addTok X b s.de p.toNat else addZero s.de) = addZero s.de := if_neg h0
      rw [hl]
      unfold addZero
      have hz : (rw0 b L v).toNat = 0 := by rw [h1]; rfl
      by_cases hj : (j 0).val = (rw0 b L v).toNat
      · refine (if_pos ((hin j).2 hj)).trans (Eq.trans ?_ (if_pos (hj.trans hz)).symm)
        rw [h1]; rfl
      · exact (if_neg (fun hc => hj ((hin j).1 hc))).trans (if_neg (fun hc => hj (hc.trans hz.symm))).symm
  refine ⟨⟨hb.tile.congr rfl rfl rfl rfl, hb.acc, hb.dh, hb.dlb, hb.eet, trivial⟩, hs.base.base.lt, hp, ?_⟩
  show ∃ pre rest, _ ∧ Scat X b (detF (hhtF X) (dlbF X b8)) pre (VecWindow.put s.de off S1x896.size w) ∧ _
  rw [hput]
  rcases hc with ⟨h1, -, h3, pre, rest, g1, g2, g3, g4⟩ | ⟨h1, h2⟩
  · refine ⟨pre ++ [p.toNat], rest, by rw [g1, List.append_assoc]; rfl, ?_, .inl ⟨h1, g2, g3⟩⟩
    rw [if_pos h1]
    exact .live _ g4
  · refine ⟨bucket X 2560 b, [], (List.append_nil _).symm, ?_, .inr ⟨h1, rfl⟩⟩
    have h0 : ¬ L = 1#1 := by rw [h1]; decide
    rw [if_neg h0]
    exact .zero h2

/-- The word after the token is read. -/
theorem J.scNxt {n : ℕ} {L : BitVec 1} {p : BitVec 32} {off : Fin 1 → ℕ} {inb : ∀ a, off a + S1.size a ≤ S2560.size a} {h1 : (Rect.unit (s := S2560) off S1.size inb).shape.numel = 1} {hp : EltTy.packing .i32 = 1}
    {kk : Elt F .i32 → Prog (TpuEff nD τ sig (Elt F) Λ .tc) α}
    (hoff : off = ![p.toNat])
    (h : ∀ w, J defs 𝒱 c bd (own c R) (T0 X A D b8 b (n - 1) (nx L w) (lv (nx L w)) (ps (nx L w))) (kk w) Q) :
    J defs 𝒱 c bd (own c R) (T3 X A D b8 b n L p) (smemLoad R.a16 (Rect.unit (s := S2560) off S1.size inb) h1 hp >>= kk) Q :=
  J.word (cell_nxt c R) fun w => (h w).weaken fun s hs => by
    have hw : w = at1 (n := 2560) s.nxt p.toNat := hs.2.trans (window_at1 s.nxt off inb _ _ (by rw [hoff]; rfl))
    obtain ⟨pre, rest, g1, g2, g3⟩ := hs.1.ex
    refine ⟨hs.1.base, hs.1.lt, rfl, rfl, pre, rest, g1, ?_, ?_, g2⟩
    · rcases g3 with ⟨-, h2, -⟩ | ⟨-, h2⟩
      · omega
      · rw [h2]; exact Nat.zero_le _
    · rcases g3 with ⟨h1, -, h2⟩ | ⟨h1, h2⟩
      · rw [h1, hw]; exact h2
      · rw [h1, h2]; show 2 ^ 31 ≤ (4294967295#32).toNat; decide

end Cert.TiedGrad
-- ==== Proof.Init.lean ====
/-
  The start of the first grid step (the accumulator cleared, every tile's list empty), and what a grid step starts from.
-/
module

public import proofs.«01_k».proof.Proof.Scatter

@[expose] public section

noncomputable section

namespace Cert.TiedGrad

open Idealize.ShloMosaic Idealize.ShloMosaic.TcCoe
open Idealize.SL Idealize.SL.RA Idealize.SL.BI
open scoped Idealize.SL.BI
open Idealize.ShloMosaic.Rounds
open Idealize.ShloMosaic.Pipeline
open Idealize.ShloMosaic.ValueIdx
open Idealize.SL.BI.BIBase Idealize.SL.BI.Laws Idealize.SL.ProofMode Idealize.SL.Sem

variable {F : FTy → Type} [FloatOps F]
variable {nD : Nat} {τ : Topo} {sig : RefSig} {Λ : Labels}
variable {defs : Defs nD τ sig (Elt F) Λ} {𝒱 : Variants} {c : Dev nD} {bd : Option 𝒱.V} {R : Refs sig}
variable {α : Type} {Q : α → sProp (MT nD τ sig Unit (Elt F) ℕ (UR sig nD τ) ℕ)}

variable {X : Ins F} {A : S896x2560.Idx → Elt F .f32} {D : S2560x896.Idx → Elt F .bf16} {b8 : BitVec 1}

/-! ## Sequencing -/

section Seq
variable {St : Type} {ow : St → sProp (MT nD τ sig Unit (Elt F) ℕ (UR sig nD τ) ℕ)} {I I' : St → Prop}

/-- A piece of program that ends in `I'`, followed by another that starts there. -/
theorem J.seq (I' : St → Prop) {p : Prog (TpuEff nD τ sig (Elt F) Λ .tc) PUnit} {k : PUnit → Prog (TpuEff nD τ sig (Elt F) Λ .tc) α}
    (hp : J defs 𝒱 c bd ow I p (fun _ => End ow I')) (h : J defs 𝒱 c bd ow I' (k ⟨⟩) Q) :
    J defs 𝒱 c bd ow I (p >>= k) Q :=
  J.bind fun s hs => (hp s hs).trans (wp_mono _ _ _ fun _ => J.ofEnd h)

/-- A branch on a proposition. -/
theorem J.dite {β : Type} {P : Prop} {d : Decidable P} {t : P → Prog (TpuEff nD τ sig (Elt F) Λ .tc) β} {e : ¬P → Prog (TpuEff nD τ sig (Elt F) Λ .tc) β}
    {Q : β → sProp (MT nD τ sig Unit (Elt F) ℕ (UR sig nD τ) ℕ)}
    (ht : ∀ h, J defs 𝒱 c bd ow I (t h) Q) (he : ∀ h, J defs 𝒱 c bd ow I (e h) Q) :
    J defs 𝒱 c bd ow I (dite P t e) Q := by
  by_cases h : P
  · rw [dif_pos h]; exact ht h
  · rw [dif_neg h]; exact he h

/-- From no state, anything. -/
theorem J.never {p : Prog (TpuEff nD τ sig (Elt F) Λ .tc) α} (h : ∀ s, ¬I s) : J defs 𝒱 c bd ow I p Q := fun s hs => absurd hs (h s)

theorem J.ite {β : Type} {P : Prop} {d : Decidable P} {t e : Prog (TpuEff nD τ sig (Elt F) Λ .tc) β}
    {Q : β → sProp (MT nD τ sig Unit (Elt F) ℕ (UR sig nD τ) ℕ)}
    (ht : P → J defs 𝒱 c bd ow I t Q) (he : ¬P → J defs 𝒱 c bd ow I e Q) :
    J defs 𝒱 c bd ow I (ite P t e) Q := by
  by_cases h : P
  · rw [if_pos h]; exact ht h
  · rw [if_neg h]; exact he h

/-- The last operation of a piece of program. -/
theorem J.tail {p : Prog (TpuEff nD τ sig (Elt F) Λ .tc) α} (h : J defs 𝒱 c bd ow I (p >>= Pure.pure) Q) : J defs 𝒱 c bd ow I p Q := by
  rw [bind_pure] at h
  exact h

/-- A call, by what its body ends in. -/
theorem J.callEnd (I' : St → Prop) {ℓ : Λ.Label} {a : Λ.Args ℓ} {k : Λ.Result ℓ → Prog (TpuEff nD τ sig (Elt F) Λ .tc) α} (v : 𝒱.V) (hv : ∀ u ∈ bd, 𝒱.lt v u)
    (hb : J defs 𝒱 c (some v) ow I (defs .tc ℓ a) (fun _ => End ow I')) (h : ∀ x, J defs 𝒱 c bd ow I' (k x) Q) :
    J defs 𝒱 c bd ow I (Prog.lift (.call ℓ a) >>= k) Q :=
  J.call v hv fun s hs => (hb s hs).trans (wp_mono _ _ _ fun x => J.ofEnd (h x))

end Seq

/-! ## The first step -/

/-- What the first step finds. -/
structure Z0 (X : Ins F) (D : S2560x896.Idx → Elt F .bf16) (s : St F) : Prop where
  ins : s.ins = X
  ok : IdsOk X
  dh : s.dh = D

/-- The accumulator is cleared and the lists of the first `k` tiles are empty. -/
structure Z1 (X : Ins F) (D : S2560x896.Idx → Elt F .bf16) (k : ℕ) (s : St F) : Prop where
  ins : s.ins = X
  ok : IdsOk X
  dh : s.dh = D
  acc : s.acc = acc0
  head : ∀ b, b < k → at1 (n := 297) s.head b = 4294967295#32

theorem J.initDead {off size : Fin 2 → ℕ} {inb : ∀ a, off a + size a ≤ S896x2560.size a} {hl : R.a14.view.LoadsAt (Rect.unit (s := S896x2560) off size inb).toLoadRect}
    {kk : ((Rect.unit (s := S896x2560) off size inb).toLoadRect.shape.Idx → Elt F .f32) → Prog (TpuEff nD τ sig (Elt F) Λ .tc) α}
    (h : ∀ v, J defs 𝒱 c bd (own c R) (Z0 X D) (kk v) Q) :
    J defs 𝒱 c bd (own c R) (Z0 X D) (Prog.lift (.load R.a14 (Rect.unit (s := S896x2560) off size inb).toLoadRect hl) >>= kk) Q :=
  J.dead (cell_acc c R) h

/-- The accumulator is cleared. -/
theorem J.initStore {off : Fin 2 → ℕ} {inb : ∀ a, off a + S896x2560.size a ≤ S896x2560.size a}
    {hx : (R.a14.access (Rect.unit (s := S896x2560) off S896x2560.size inb)).Stores Finset.univ} {hm : (Finset.univ : Finset (Rect.unit (s := S896x2560) off S896x2560.size inb).shape.Idx) = Finset.univ ∨ ∀ a, (Rect.unit (s := S896x2560) off S896x2560.size inb).stride a = 1}
    {w : (Rect.unit (s := S896x2560) off S896x2560.size inb).shape.Idx → Elt F .f32}
    {kk : PUnit → Prog (TpuEff nD τ sig (Elt F) Λ .tc) α}
    (hw : w = shapeCast S896x2560 (broadcast S896x2560 (Scalar.ofBits .f32 0x00000000#32)) sc896x2560)
    (h : J defs 𝒱 c bd (own c R) (Z1 X D 0) (kk ⟨⟩) Q) :
    J defs 𝒱 c bd (own c R) (Z0 X D) (Prog.lift (.store R.a14 (Rect.unit (s := S896x2560) off S896x2560.size inb) w Finset.univ hx hm) >>= kk) Q := by
  refine J.store (cell_acc c R) _ (fun s hs => ?_) h
  refine ⟨hs.ins, hs.ok, hs.dh, ?_, fun b hb => absurd hb (Nat.not_lt_zero _)⟩
  show VecWindow.put s.acc off S896x2560.size w = acc0
  rw [put_all s.acc off inb w, hw, shapeCast_self]
  rfl

theorem J.headDead {k : ℕ} {off size : Fin 1 → ℕ} {inb : ∀ a, off a + size a ≤ S297.size a} {h1 : (Rect.unit (s := S297) off size inb).shape.numel = 1} {hp : EltTy.packing .i32 = 1}
    {kk : Elt F .i32 → Prog (TpuEff nD τ sig (Elt F) Λ .tc) α}
    (h : ∀ u, J defs 𝒱 c bd (own c R) (Z1 X D k) (kk u) Q) :
    J defs 𝒱 c bd (own c R) (Z1 X D k) (smemLoad R.a15 (Rect.unit (s := S297) off size inb) h1 hp >>= kk) Q :=
  J.deadWord (cell_head c R) h

/-- One more list is emptied. -/
theorem J.headStore {k : ℕ} {off : Fin 1 → ℕ} {inb : ∀ a, off a + S1.size a ≤ S297.size a}
    {hx : (R.a15.access (Rect.unit (s := S297) off S1.size inb)).Stores Finset.univ} {hm : (Finset.univ : Finset (Rect.unit (s := S297) off S1.size inb).shape.Idx) = Finset.univ ∨ ∀ a, (Rect.unit (s := S297) off S1.size inb).stride a = 1}
    {kk : PUnit → Prog (TpuEff nD τ sig (Elt F) Λ .tc) α} (hk : k < 297)
    (hoff : off = ![(Scalar.addi 0#32 (Scalar.muli (Scf.iv 0#32 1#32 k) 1#32)).toNat])
    (h : J defs 𝒱 c bd (own c R) (Z1 X D (k + 1)) (kk ⟨⟩) Q) :
    J defs 𝒱 c bd (own c R) (Z1 X D k) (Prog.lift (.store R.a15 (Rect.unit (s := S297) off S1.size inb) (fun _ => 4294967295#32) Finset.univ hx hm) >>= kk) Q := by
  refine J.store (cell_head c R) _ (fun s hs => ?_) h
  have h0 : off 0 = k := by
    rw [hoff]
    show (Scalar.addi 0#32 (Scalar.muli (Scf.iv 0#32 1#32 k) 1#32)).toNat = k
    unfold Scalar.addi Scalar.muli IntOp.addi IntOp.muli Scf.iv
    simp only [BitVec.toNat_add, BitVec.toNat_mul, BitVec.toNat_ofNat]
    omega
  refine ⟨hs.ins, hs.ok, hs.dh, hs.acc, fun b hb => ?_⟩
  show at1 (n := 297) (VecWindow.put s.head off S1.size fun _ => 4294967295#32) b = _
  rw [put_at1 (n := 297) s.head off 4294967295#32 b (by omega), h0]
  by_cases e : b = k
  · rw [if_pos e]
  · rw [if_neg e]; exact hs.head b (by omega)

/-- With every list empty, no token is linked yet. -/
theorem Z1.done {s : St F} (h : Z1 X D 297 s) : L0 X acc0 (HhtTo X 0) D 0 s :=
  ⟨⟨h.ins, h.ok, h.acc, fun j hj => absurd hj (Nat.not_lt_zero _), h.dh⟩, fun b hb => by
    show 2 ^ 31 ≤ (at1 (n := 297) s.head b).toNat
    rw [h.head b hb]
    decide⟩

/-- With every token linked and the whole of `h` scaled, the step proper begins. -/
theorem L0.done {s : St F} (h : L0 X A (HhtTo X 20) D 2560 s) : P1 X A D b8 0 s :=
  { tile := ⟨h.1.ins, h.1.ok, funext fun j => h.1.hht j (by have h1 : (j 1).val < 2560 := (j 1).isLt; omega), h.2⟩
    acc := h.1.acc
    dh := h.1.dh
    dlb := fun j hj => absurd hj (Nat.not_lt_zero _) }

/-- What a grid step finds: the first nothing, a later one the scaled `h`, the lists and the accumulator `A`. -/
def Start (X : Ins F) (A : S896x2560.Idx → Elt F .f32) (D : S2560x896.Idx → Elt F .bf16) (b8 : BitVec 1) (first : Prop) (s : St F) : Prop :=
  (first → A = acc0 ∧ Z0 X D s) ∧ (¬first → P1 X A D b8 0 s)

/-- A live word names its token. -/
theorem T0.live {b n : ℕ} {t : BitVec 32} {s : St F} (h : T0 X A D b8 b n t (lv t) (ps t) s) (hl : lv t = 1#1) : T0 X A D b8 b n t 1#1 t s := by
  have hp : ps t = t := by
    by_cases e : t.toNat < 2 ^ 31
    · exact ps_of_lt e
    · exact absurd (hl.symm.trans (lv_of_ge (by omega))) (by decide)
  exact ⟨h.base, h.lt, hl.symm, hp.symm, h.ex⟩

/-- The order in which the calls of the loop on the rest of a list go down: by how many tokens may be left. -/
def steps : Variants := ⟨ℕ, (· < ·), Nat.lt_wfRel.wf⟩

/-- Whether the last 128 columns of grid step `n`'s tile lie inside the array. -/
def vl (n : ℕ) : BitVec 1 :=
  Scalar.cmpi .slt (Scalar.muli (Scalar.subi (Scalar.addi (Scalar.muli (BitVec.ofNat 32 n) 4#32) 4#32) 1#32) 128#32) 151936#32

end Cert.TiedGrad
-- ==== Proof.Tiles.lean ====
/-
  The grid's steps one after another: the arrays the kernel reads, the operands of each step cut out of them, what the
  scratch buffers hold between the steps, and that what lies past the arrays' ends is never used.
-/
module

public import proofs.«01_k».proof.Proof.Init

@[expose] public section

noncomputable section

namespace Cert.TiedGrad

open Idealize.ShloMosaic Idealize.ShloMosaic.TcCoe
open Idealize.SL Idealize.SL.RA Idealize.SL.BI
open scoped Idealize.SL.BI
open Idealize.ShloMosaic.Rounds
open Idealize.ShloMosaic.Pipeline
open Idealize.ShloMosaic.ValueIdx
open Idealize.SL.BI.BIBase Idealize.SL.BI.Laws Idealize.SL.ProofMode Idealize.SL.Sem

variable {F : FTy → Type} [FloatOps F]

/-! ## Operands that agree where they are used -/

/-- Two steps' operands agree: the tokens' arrays are the same, and each column of the tile is the same or is one that the
    kernel replaces by zeros. -/
structure Agree (X Y : Ins F) (b8 : BitVec 1) : Prop where
  ids : X.ids = Y.ids
  h : X.h = Y.h
  hs : X.hs = Y.hs
  demb : X.demb = Y.demb
  tile : ∀ k : Fin 512, (k.val / 128 = 3 ∧ b8 ≠ 1#1) ∨
    ((∀ t, X.dl (ix2 t k) = Y.dl (ix2 t k)) ∧ (∀ q : Fin 4, q.val = k.val / 128 → ∀ a b, X.sc (ix3 q a b) = Y.sc (ix3 q a b))
      ∧ (∀ d, X.e (ix2 k d) = Y.e (ix2 k d)) ∧ X.es (ix2 0 k) = Y.es (ix2 0 k))

variable {X Y : Ins F} {b8 : BitVec 1}

theorem ix2_self {n k : ℕ} (j : (⟨2, ![n, k]⟩ : Shape).Idx) : (ix2 (j 0) (j 1) : (⟨2, ![n, k]⟩ : Shape).Idx) = j :=
  funext fun a => match a with | ⟨0, _⟩ => rfl | ⟨1, _⟩ => rfl

theorem select_neg {α : Type} (hb : b8 ≠ 1#1) (x y : α) : Scalar.select b8 x y = y := if_neg hb

theorem Agree.dlb (H : Agree X Y b8) : dlbF X b8 = dlbF Y b8 := by
  funext j
  unfold dlbF
  rcases H.tile (j 1) with ⟨h3, hb⟩ | ⟨h1, h2, -, -⟩
  · rw [if_pos h3]
    exact (select_neg hb _ _).trans (select_neg hb _ _).symm
  · have e := h1 (j 0)
    rw [ix2_self] at e
    rw [e, h2 _ rfl]

theorem Agree.eet (H : Agree X Y b8) : eetF X b8 = eetF Y b8 := by
  funext j
  unfold eetF
  rcases H.tile (j 1) with ⟨h3, hb⟩ | ⟨-, -, h1, h2⟩
  · rw [if_pos h3]
    exact (select_neg hb _ _).trans (select_neg hb _ _).symm
  · rw [h1 (j 0), h2]

theorem hhtF_congr (h : X.h = Y.h) (hs : X.hs = Y.hs) : hhtF X = hhtF Y := by
  funext j
  unfold hhtF
  rw [h, hs]

theorem idw_congr (h : X.ids = Y.ids) (n : ℕ) : idw X n = idw Y n := by
  unfold idw
  rw [h]

theorem bucket_congr (h : X.ids = Y.ids) (n b : ℕ) : bucket X n b = bucket Y n b := by
  induction n with
  | zero => rfl
  | succ n ih =>
    unfold bucket
    rw [ih, idw_congr h]

theorem LinkTo.congr {n : ℕ} {s : St F} (h : X.ids = Y.ids) (H : LinkTo X n s) : LinkTo Y n s := fun b hb => by
  rw [← bucket_congr h]
  exact H b hb

theorem LinkTo.state {n : ℕ} {s t : St F} (H : LinkTo X n s) (h1 : t.head = s.head) (h2 : t.nxt = s.nxt) : LinkTo X n t := fun b hb => by
  rw [h1, h2]
  exact H b hb

theorem IdsOk.congr (h : X.ids = Y.ids) (H : IdsOk X) : IdsOk Y := fun n hn => by
  rw [← idw_congr h]
  exact H n hn

theorem addTok_congr (h : X.ids = Y.ids) (hd : X.demb = Y.demb) (b : ℕ) : addTok X b = addTok Y b := by
  funext D t j
  unfold addTok
  rw [idw_congr h, hd]

theorem Scat.congr {b : ℕ} {D0 : S512x896.Idx → Elt F .f32} {l : List ℕ} {g : S512x896.Idx → Elt F .f32} (h : X.ids = Y.ids) (hd : X.demb = Y.demb)
    (H : Scat X b D0 l g) : Scat Y b D0 l g := by
  induction H with
  | nil => exact .nil
  | live t _ ih => rw [addTok_congr h hd]; exact ih.live t
  | zero _ ih => exact ih.zero

theorem Agree.scatted (H : Agree X Y b8) {b : ℕ} {g : S512x896.Idx → Elt F .f32} (h : Scatted X b8 b g) : Scatted Y b8 b g := by
  unfold Scatted at h ⊢
  rw [H.dlb, hhtF_congr H.h H.hs, bucket_congr H.ids] at h
  exact h.congr H.ids H.demb

/-! ## The arrays, and the steps' operands -/

abbrev S2560x151936 : Shape := ⟨2, ![2560, 151936]⟩
abbrev S1187x2x1280 : Shape := ⟨3, ![1187, 2, 1280]⟩
abbrev S151936x896 : Shape := ⟨2, ![151936, 896]⟩
abbrev S1x151936 : Shape := ⟨2, ![1, 151936]⟩

/-- The arrays the kernel reads. -/
structure Arrs (F : FTy → Type) [FloatOps F] where
  ids : S2560.Idx → Elt F .i32
  dl : S2560x151936.Idx → Elt F .fp8e5m2
  sc : S1187x2x1280.Idx → Elt F .f32
  h : S2560x896.Idx → Elt F .fp8e4m3
  hs : S1x2560.Idx → Elt F .f32
  e : S151936x896.Idx → Elt F .i8
  es : S1x151936.Idx → Elt F .f32
  demb : S2560x896.Idx → Elt F .bf16

/-- A tile of `dl`, with `d` past the array's end. -/
def dlTile (x : S2560x151936.Idx → Elt F .fp8e5m2) (d : S2560x512.Idx → Elt F .fp8e5m2) (n : ℕ) : S2560x512.Idx → Elt F .fp8e5m2 :=
  fun j => if h : n * 512 + (j 1).val < 151936 then x (ix2 (j 0) ⟨n * 512 + (j 1).val, h⟩) else d j
/-- A tile of its scales. -/
def scTile (x : S1187x2x1280.Idx → Elt F .f32) (d : S4x2x1280.Idx → Elt F .f32) (n : ℕ) : S4x2x1280.Idx → Elt F .f32 :=
  fun j => if h : n * 4 + (j 0).val < 1187 then x (ix3 ⟨n * 4 + (j 0).val, h⟩ (j 1) (j 2)) else d j
/-- A tile of the table. -/
def eTile (x : S151936x896.Idx → Elt F .i8) (d : S512x896.Idx → Elt F .i8) (n : ℕ) : S512x896.Idx → Elt F .i8 :=
  fun j => if h : n * 512 + (j 0).val < 151936 then x (ix2 ⟨n * 512 + (j 0).val, h⟩ (j 1)) else d j
/-- A tile of its scales. -/
def esTile (x : S1x151936.Idx → Elt F .f32) (d : S1x512.Idx → Elt F .f32) (n : ℕ) : S1x512.Idx → Elt F .f32 :=
  fun j => if h : n * 512 + (j 1).val < 151936 then x (ix2 (j 0) ⟨n * 512 + (j 1).val, h⟩) else d j

/-- The operands of step `n`, with the given contents past the arrays' ends. -/
def Arrs.at (a : Arrs F) (n : ℕ) (d1 : S2560x512.Idx → Elt F .fp8e5m2) (d2 : S4x2x1280.Idx → Elt F .f32) (d5 : S512x896.Idx → Elt F .i8)
    (d6 : S1x512.Idx → Elt F .f32) : Ins F :=
  { ids := a.ids, dl := dlTile a.dl d1 n, sc := scTile a.sc d2 n, h := a.h, hs := a.hs, e := eTile a.e d5 n, es := esTile a.es d6 n, demb := a.demb }

/-- The operands of step `n`, with zeros past the arrays' ends. -/
def Arrs.tile (a : Arrs F) (n : ℕ) : Ins F :=
  a.at n (fun _ => FloatOps.ofBits .fp8e5m2 0#8) (fun _ => FloatOps.ofBits .f32 0#32) (fun _ => 0#8) (fun _ => FloatOps.ofBits .f32 0#32)

theorem vl_spec (n : ℕ) (hn : n < 297) : vl n = if n < 296 then 1#1 else 0#1 := by
  revert n
  decide +kernel

theorem dlTile_in {x : S2560x151936.Idx → Elt F .fp8e5m2} {d : S2560x512.Idx → Elt F .fp8e5m2} {n : ℕ} {j : S2560x512.Idx}
    (h : n * 512 + (j 1).val < 151936) : dlTile x d n j = x (ix2 (j 0) ⟨n * 512 + (j 1).val, h⟩) := dif_pos h
theorem scTile_in {x : S1187x2x1280.Idx → Elt F .f32} {d : S4x2x1280.Idx → Elt F .f32} {n : ℕ} {j : S4x2x1280.Idx}
    (h : n * 4 + (j 0).val < 1187) : scTile x d n j = x (ix3 ⟨n * 4 + (j 0).val, h⟩ (j 1) (j 2)) := dif_pos h
theorem eTile_in {x : S151936x896.Idx → Elt F .i8} {d : S512x896.Idx → Elt F .i8} {n : ℕ} {j : S512x896.Idx}
    (h : n * 512 + (j 0).val < 151936) : eTile x d n j = x (ix2 ⟨n * 512 + (j 0).val, h⟩ (j 1)) := dif_pos h
theorem esTile_in {x : S1x151936.Idx → Elt F .f32} {d : S1x512.Idx → Elt F .f32} {n : ℕ} {j : S1x512.Idx}
    (h : n * 512 + (j 1).val < 151936) : esTile x d n j = x (ix2 (j 0) ⟨n * 512 + (j 1).val, h⟩) := dif_pos h

/-- What lies past the arrays' ends is not used. -/
theorem Arrs.agree_at (a : Arrs F) (n : ℕ) (hn : n < 297) (d1 d2 d5 d6 e1 e2 e5 e6) : Agree (a.at n d1 d2 d5 d6) (a.at n e1 e2 e5 e6) (vl n) := by
  refine ⟨rfl, rfl, rfl, rfl, fun k => ?_⟩
  by_cases hk : n * 512 + k.val < 151936
  · refine .inr ⟨fun t => ?_, fun q hq a' b' => ?_, fun d => ?_, ?_⟩
    · have h : n * 512 + ((ix2 t k : S2560x512.Idx) 1).val < 151936 := hk
      exact ((dlTile_in h).trans (dlTile_in h).symm : dlTile a.dl d1 n (ix2 t k) = dlTile a.dl e1 n (ix2 t k))
    · have h : n * 4 + ((ix3 q a' b' : S4x2x1280.Idx) 0).val < 1187 := by
        show n * 4 + q.val < 1187
        omega
      exact ((scTile_in h).trans (scTile_in h).symm : scTile a.sc d2 n (ix3 q a' b') = scTile a.sc e2 n (ix3 q a' b'))
    · have h : n * 512 + ((ix2 k d : S512x896.Idx) 0).val < 151936 := hk
      exact ((eTile_in h).trans (eTile_in h).symm : eTile a.e d5 n (ix2 k d) = eTile a.e e5 n (ix2 k d))
    · have h : n * 512 + ((ix2 0 k : S1x512.Idx) 1).val < 151936 := hk
      exact ((esTile_in h).trans (esTile_in h).symm : esTile a.es d6 n (ix2 0 k) = esTile a.es e6 n (ix2 0 k))
  · have := k.isLt
    refine .inl ⟨by omega, ?_⟩
    rw [vl_spec n hn, if_neg (by omega)]
    decide

theorem Arrs.agree (a : Arrs F) (n : ℕ) (hn : n < 297) (d1 d2 d5 d6) : Agree (a.at n d1 d2 d5 d6) (a.tile n) (vl n) :=
  a.agree_at n hn d1 d2 d5 d6 _ _ _ _

/-! ## Between the steps -/

/-- The accumulator after the first `n` steps. -/
def accK (a : Arrs F) : ℕ → S896x2560.Idx → Elt F .f32
  | 0 => acc0
  | n + 1 => accNext (accK a n) (eetF (a.tile n) (vl n)) (dlbF (a.tile n) (vl n))

/-- The tile of the table's gradient that step `n` leaves, the rows added in the order of its list. -/
def deF (a : Arrs F) (n : ℕ) : S512x896.Idx → Elt F .f32 :=
  (bucket (a.tile n) 2560 n).foldl (addTok (a.tile n) n) (detF (hhtF (a.tile n)) (dlbF (a.tile n) (vl n)))

/-- What the scratch buffers hold after the first `n` steps, of which there was one. -/
structure Kept (a : Arrs F) (n : ℕ) (s : St F) : Prop where
  hht : s.hht = hhtF (a.tile 0)
  acc : s.acc = accK a n
  link : LinkTo (a.tile 0) 2560 s

variable {nD : Nat} {τ : Topo} {sig : RefSig}

/-- Between the steps: the scratch buffers, at what they hold, and the generator's register. -/
def Inv (c : Dev nD) (R : Refs sig) (a : Arrs F) (n : ℕ) : sProp (MT nD τ sig Unit (Elt F) ℕ (UR sig nD τ) ℕ) :=
  iprop(∃ s : St F, ⌜0 < n → Kept a n s⌝
    ∗ (owns (c : Thread nD τ) R.a11 fullShare s.hht ∗ owns (c : Thread nD τ) R.a12 fullShare s.dlb
      ∗ owns (c : Thread nD τ) R.a13 fullShare s.eet ∗ owns (c : Thread nD τ) R.a14 fullShare s.acc
      ∗ owns (c : Thread nD τ) R.a15 fullShare s.head ∗ owns (c : Thread nD τ) R.a16 fullShare s.nxt) ∗ ∃ r, prngReg c r)

/-- What a step finds, from what the steps before it left. -/
theorem start_of (a : Arrs F) (n : ℕ) (hn : n < 297) (ok : IdsOk (a.tile 0)) (s : St F) (hk : 0 < n → Kept a n s) (d1 d2 d5 d6)
    (de : S512x896.Idx → Elt F .f32) (dh : S2560x896.Idx → Elt F .bf16) {first : Prop} (hf : first ↔ n = 0) :
    Start (a.at n d1 d2 d5 d6) (accK a n) dh (vl n) first { s with ins := a.at n d1 d2 d5 d6, de := de, dh := dh } := by
  have e1 : (a.tile 0).ids = (a.at n d1 d2 d5 d6).ids := rfl
  have e2 : hhtF (a.tile 0) = hhtF (a.at n d1 d2 d5 d6) := hhtF_congr (X := a.tile 0) (Y := a.at n d1 d2 d5 d6) rfl rfl
  refine ⟨fun h => ?_, fun h => ?_⟩
  · obtain rfl := hf.mp h
    exact ⟨rfl, rfl, IdsOk.congr e1 ok, rfl⟩
  · have k := hk (Nat.pos_of_ne_zero fun e => h (hf.mpr e))
    exact ⟨⟨rfl, IdsOk.congr e1 ok, k.hht.trans e2, LinkTo.state (LinkTo.congr e1 k.link) rfl rfl⟩, k.acc, rfl, fun j hj => absurd hj (Nat.not_lt_zero _)⟩

/-- What it leaves. -/
theorem post_of (a : Arrs F) (n : ℕ) (hn : n < 297) (d1 d2 d5 d6) (k : ℕ) (s : St F)
    (H : P5 (a.at n d1 d2 d5 d6) (accK a n) (vl n) (Scatted (a.at n d1 d2 d5 d6) (vl n) n) k s) :
    Kept a (n + 1) s ∧ Scatted (a.tile n) (vl n) n s.de ∧ (k = 10 → s.dh = dhF (accK a (n + 1))) := by
  have ag := a.agree n hn d1 d2 d5 d6
  have hacc : accNext (accK a n) (eetF (a.at n d1 d2 d5 d6) (vl n)) (dlbF (a.at n d1 d2 d5 d6) (vl n)) = accK a (n + 1) := by
    rw [ag.eet, ag.dlb]
    rfl
  have e1 : (a.at n d1 d2 d5 d6).ids = (a.tile 0).ids := rfl
  have e2 : hhtF (a.at n d1 d2 d5 d6) = hhtF (a.tile 0) := hhtF_congr (X := a.at n d1 d2 d5 d6) (Y := a.tile 0) rfl rfl
  refine ⟨⟨H.tile.hht.trans e2, H.acc.trans hacc, LinkTo.congr e1 H.tile.link⟩, ag.scatted H.de, fun hk => funext fun j => ?_⟩
  have hj : (j 0).val < 2560 := (j 0).isLt
  rw [← hacc]
  exact H.dh j (by omega)

end Cert.TiedGrad
-- ==== Proof.Walk.lean ====
/-
  The kernel's body, walked once: from what a grid step finds (`Start`) to what it leaves (`Post`), for any two of the
  buffers' contents.
-/
module

public import proofs.«01_k».proof.Proof.Init
public import proofs.«01_k».proof.Proof.Gen.Kernel

@[expose] public section

noncomputable section

namespace Cert.Kernel.Walk

open Idealize.ShloMosaic Idealize.ShloMosaic.TcCoe
open Idealize.SL Idealize.SL.RA Idealize.SL.BI
open scoped Idealize.SL.BI
open Idealize.ShloMosaic.Rounds
open Idealize.ShloMosaic.Pipeline
open Idealize.ShloMosaic.ValueIdx
open Cert.TiedGrad
open Cert.Kernel.Gen
open Idealize.SL.BI.BIBase Idealize.SL.BI.Laws Idealize.SL.ProofMode Idealize.SL.Sem

attribute [local irreducible] J

variable {F : FTy → Type} [FloatOps F]
variable {c : Dev nD} {R : Refs sig}
variable {α : Type} {Q : α → sProp (MT nD τ sig Unit (Elt F) ℕ (UR sig nD τ) ℕ)}
variable {X : Ins F} {A : S896x2560.Idx → Elt F .f32} {D : S2560x896.Idx → Elt F .bf16} {b8 : BitVec 1}

/-- The loop on the rest of a tile's list: every token that is left is added to the tile. -/
theorem while1 (i : grid0.Coords) (v1141 : BitVec 32) (k0_hw129 : k0_chk129 v1141) (v1145 : BitVec 32) (k0_hw130 : k0_chk130 i v1141 v1145) (v1161 : BitVec 32) (k0_hw131 : k0_chk131 v1141 v1161) (v1166 : BitVec 32) (k0_hw132 : k0_chk132 i v1141 v1161 v1166) (v1182 : BitVec 32) (k0_hw133 : k0_chk133 v1141 v1161 v1182) (v1187 : BitVec 32) (k0_hw134 : k0_chk134 i v1141 v1161 v1182 v1187) (v1203 : BitVec 32) (k0_hw135 : k0_chk135 v1141 v1161 v1182 v1203) (v1208 : BitVec 32) (k0_hw136 : k0_chk136 i v1141 v1161 v1182 v1203 v1208) (v1224 : BitVec 32) (k0_hw137 : k0_chk137 v1141 v1161 v1182 v1203 v1224) (v1229 : BitVec 32) (k0_hw138 : k0_chk138 i v1141 v1161 v1182 v1203 v1224 v1229) (v1245 : BitVec 32) (k0_hw139 : k0_chk139 v1141 v1161 v1182 v1203 v1224 v1245) (v1250 : BitVec 32) (k0_hw140 : k0_chk140 i v1141 v1161 v1182 v1203 v1224 v1245 v1250) (v1266 : BitVec 32) (k0_hw141 : k0_chk141 v1141 v1161 v1182 v1203 v1224 v1245 v1266) (v1271 : BitVec 32) (k0_hw142 : k0_chk142 i v1141 v1161 v1182 v1203 v1224 v1245 v1266 v1271) (v1287 : BitVec 32) (k0_hw143 : k0_chk143 v1141 v1161 v1182 v1203 v1224 v1245 v1266 v1287) (v1292 : BitVec 32) (k0_hw144 : k0_chk144 i v1141 v1161 v1182 v1203 v1224 v1245 v1266 v1287 v1292) (v1308 : BitVec 32) (k0_hw145 : k0_chk145 v1141 v1161 v1182 v1203 v1224 v1245 v1266 v1287 v1308) (v1313 : BitVec 32) (k0_hw146 : k0_chk146 i v1141 v1161 v1182 v1203 v1224 v1245 v1266 v1287 v1308 v1313) (v1329 : BitVec 32) (k0_hw147 : k0_chk147 v1141 v1161 v1182 v1203 v1224 v1245 v1266 v1287 v1308 v1329) (v1334 : BitVec 32) (k0_hw148 : k0_chk148 i v1141 v1161 v1182 v1203 v1224 v1245 v1266 v1287 v1308 v1329 v1334) (v1350 : BitVec 32) (k0_hw149 : k0_chk149 v1141 v1161 v1182 v1203 v1224 v1245 v1266 v1287 v1308 v1329 v1350) (v1355 : BitVec 32) (k0_hw150 : k0_chk150 i v1141 v1161 v1182 v1203 v1224 v1245 v1266 v1287 v1308 v1329 v1350 v1355) (v1371 : BitVec 32) (k0_hw151 : k0_chk151 v1141 v1161 v1182 v1203 v1224 v1245 v1266 v1287 v1308 v1329 v1350 v1371) (v1376 : BitVec 32) (k0_hw152 : k0_chk152 i v1141 v1161 v1182 v1203 v1224 v1245 v1266 v1287 v1308 v1329 v1350 v1371 v1376) (v1392 : BitVec 32) (k0_hw153 : k0_chk153 v1141 v1161 v1182 v1203 v1224 v1245 v1266 v1287 v1308 v1329 v1350 v1371 v1392) (v1397 : BitVec 32) (k0_hw154 : k0_chk154 i v1141 v1161 v1182 v1203 v1224 v1245 v1266 v1287 v1308 v1329 v1350 v1371 v1392 v1397) (v1413 : BitVec 32) (k0_hw155 : k0_chk155 v1141 v1161 v1182 v1203 v1224 v1245 v1266 v1287 v1308 v1329 v1350 v1371 v1392 v1413) (v1418 : BitVec 32) (k0_hw156 : k0_chk156 i v1141 v1161 v1182 v1203 v1224 v1245 v1266 v1287 v1308 v1329 v1350 v1371 v1392 v1413 v1418) (v1434 : BitVec 32) (k0_hw157 : k0_chk157 v1141 v1161 v1182 v1203 v1224 v1245 v1266 v1287 v1308 v1329 v1350 v1371 v1392 v1413 v1434) (v1439 : BitVec 32) (k0_hw158 : k0_chk158 i v1141 v1161 v1182 v1203 v1224 v1245 v1266 v1287 v1308 v1329 v1350 v1371 v1392 v1413 v1434 v1439) (v1455 : BitVec 32) (k0_hw159 : k0_chk159 v1141 v1161 v1182 v1203 v1224 v1245 v1266 v1287 v1308 v1329 v1350 v1371 v1392 v1413 v1434 v1455) (v1460 : BitVec 32) (k0_hw160 : k0_chk160 i v1141 v1161 v1182 v1203 v1224 v1245 v1266 v1287 v1308 v1329 v1350 v1371 v1392 v1413 v1434 v1455 v1460) (h1 : R.a1.IsWhole) (h8 : R.a8.IsWhole) (h9 : R.a9.IsWhole) (h16 : R.a16.IsWhole) (n : ℕ) (t : BitVec 32) :
    J (defs₀ (F := F)) steps c (some n) (own c R) (T0 X A D b8 (i 0).val n t (lv t) (ps t))
      (cc0_while1 (F := F) i v1141 k0_hw129 v1145 k0_hw130 v1161 k0_hw131 v1166 k0_hw132 v1182 k0_hw133 v1187 k0_hw134 v1203 k0_hw135 v1208 k0_hw136 v1224 k0_hw137 v1229 k0_hw138 v1245 k0_hw139 v1250 k0_hw140 v1266 k0_hw141 v1271 k0_hw142 v1287 k0_hw143 v1292 k0_hw144 v1308 k0_hw145 v1313 k0_hw146 v1329 k0_hw147 v1334 k0_hw148 v1350 k0_hw149 v1355 k0_hw150 v1371 k0_hw151 v1376 k0_hw152 v1392 k0_hw153 v1397 k0_hw154 v1413 k0_hw155 v1418 k0_hw156 v1434 k0_hw157 v1439 k0_hw158 v1455 k0_hw159 v1460 k0_hw160 R.a1 h1 R.a8 h8 R.a9 h9 R.a16 h16 t)
      (fun _ => End (own c R) (P3 X A D b8 (Scatted X b8 (i 0).val))) := by
  induction n generalizing t with
  | zero =>
    unfold cc0_while1
    refine J.ite (fun hc => ?_) (fun hc => ?_)
    · exact J.never fun s hs => absurd (hs.pos hc) (Nat.lt_irrefl 0)
    · exact J.done fun s hs => hs.none hc
  | succ n ih =>
    unfold cc0_while1
    refine J.ite (fun hc => ?_) (fun hc => ?_)
    · refine J.weaken (I' := T0 X A D b8 (i 0).val (n + 1) t 1#1 t) ?_ (fun s hs => hs.live hc)
      refine J.scOk (fun h => h) fun _ => ?_
      refine J.scId rfl fun _ => ?_
      refine J.scRowOk (fun h => h) fun _ => ?_
      refine J.scEmb ?_
      refine J.scCur rfl fun _ => ?_
      refine J.scDead fun _ => ?_
      refine J.scStore rfl rfl rfl ?_
      refine J.scNxt rfl fun w => ?_
      refine J.tail ?_
      refine J.callEnd (P3 X A D b8 (Scatted X b8 (i 0).val)) (n : ℕ) ?_ (ih w) fun _ => ?_
      · intro u hu
        cases hu
        exact Nat.lt_succ_self n
      · exact J.done fun _ h => h
    · exact J.done fun s hs => hs.none hc

attribute [local irreducible] Scalar.select Scalar.cmpi Scalar.maxsi Scalar.subi

variable (X A D) in
/-- What a grid step leaves: the tile of the first result, the accumulator, and at the last step the second result. -/
def Post (i : grid0.Coords) (s : St F) : Prop :=
  P5 X A (vl (i 0).val) (Scatted X (vl (i 0).val) (i 0).val) (if k0_cond2 i = 1#1 then 10 else 0) s

set_option maxHeartbeats 1000000 in
/-- The start of a grid step: at the first step everything is prepared, at a later one it already is. -/
theorem start (i : grid0.Coords) (h1 : R.a1.IsWhole) (h2 : R.a2.IsWhole) (h3 : R.a3.IsWhole) (h4 : R.a4.IsWhole) (h5 : R.a5.IsWhole) (h6 : R.a6.IsWhole) (h7 : R.a7.IsWhole) (h8 : R.a8.IsWhole) (h9 : R.a9.IsWhole) (h10 : R.a10.IsWhole) (h11 : R.a11.IsWhole) (h12 : R.a12.IsWhole) (h13 : R.a13.IsWhole) (h14 : R.a14.IsWhole) (h15 : R.a15.IsWhole) (h16 : R.a16.IsWhole) {k : (Σ' (arg0 : BitVec 32) (v3 : BitVec 32) (v8 : BitVec 1), FVec F S128x128 .bf16) → Prog (TpuEff nD τ sig (Elt F) (Λ₀ F) .tc) α}
    (h : J (defs₀ (F := F)) steps c none (own c R) (P1 X A D (vl (i 0).val) 1)
      (k ⟨BitVec.ofNat 32 (i 0).val, Scalar.muli (BitVec.ofNat 32 (i 0).val) 512#32, vl (i 0).val, shapeCast S128x128 (dlBlk (VecWindow.window (s := S2560x512) X.dl ![0, 128] S128x128.size inb_S2560x512_S128x128_0_128) (VecWindow.window (s := S4x2x1280) X.sc ![1, 0, 0] S1x1x128.size inb_S4x2x1280_S1x1x128_1_0_0)) shapeCasts_S128x128_S128x128⟩) Q) :
    J (defs₀ (F := F)) steps c none (own c R) (Start X A D (vl (i 0).val) (k0_cond1 i = 1#1)) (k0_part34 (F := F) i R.a1 h1 R.a2 h2 R.a3 h3 R.a4 h4 R.a5 h5 R.a6 h6 R.a7 h7 R.a8 h8 R.a9 h9 R.a10 h10 R.a11 h11 R.a12 h12 R.a13 h13 R.a14 h14 R.a15 h15 R.a16 h16 >>= k) Q := by
  refine J.bind ?_
  unfold k0_part34
  extract_lets +onlyGivenNames q1 q2 q3 q4 q5 q6 q7 q8 q9 q10 q11 q12 q13 q14 q15 q16 jp
  have hj : J (defs₀ (F := F)) steps c none (own c R) (P1 X A D (vl (i 0).val) 0) (jp ⟨⟩) (fun b => wp frame (wpE (defs₀ (F := F)) steps (c : Thread nD τ) none) Set.univ (k b) Q) := by
    refine J.dlLoad ?_
    refine J.scLoad ?_
    refine J.dlDead fun _ => ?_
    refine J.dlStore rfl rfl rfl rfl ?_
    refine J.dlLoad ?_
    refine J.scLoad ?_
    refine J.dlDead fun _ => ?_
    refine J.pure ?_
    exact h
  clear_value jp
  refine J.dite (fun k0_h1 => ?_) (fun k0_h1 => hj.weaken fun s hs => hs.2 k0_h1)
  refine J.weaken (I' := fun s => A = acc0 ∧ Z0 X D s) ?_ (fun s hs => hs.1 k0_h1)
  by_cases hA : A = acc0
  swap
  · exact J.never fun s hs => hA hs.1
  refine J.weaken (I' := Z0 X D) ?_ (fun s hs => hs.2)
  subst hA
  refine J.initDead fun _ => ?_
  refine J.initStore rfl ?_
  refine J.for (Z1 X D) (fun _ h => h) (fun t _ => ?_) ?_
  · have ht : (t : ℕ) < 297 := t.isLt
    refine J.headDead fun _ => ?_
    refine J.headStore ht rfl ?_
    exact J.done fun _ h => h
  refine J.weaken (I' := L0 X acc0 (HhtTo X 0) D 0) ?_ (fun s hs => Z1.done hs)
  refine J.for (fun k => L0 X acc0 (HhtTo X k) D (k * 128)) (fun _ h => h) (fun t _ => ?_) ?_
  · have hk : (t : ℕ) < 20 := t.isLt
    refine J.weaken (I' := L0 X acc0 (HhtTo X t) D (t * 128 + 0)) ?_ (fun _ h => h)
    refine J.bind ?_
    refine J.hLoad ?_
    refine J.hsLoad ?_
    refine J.hhtDead fun _ => ?_
    refine J.hhtStore hk rfl rfl rfl rfl ?_
    refine J.linkId hk (by decide) rfl fun _ => ?_
    refine J.linkOk (fun h _ => h) fun _ => ?_
    iterate 2
      refine J.linkHead rfl fun _ => ?_
      refine J.linkDead2 fun _ => ?_
      refine J.linkNxt hk (by decide) rfl ?_
      refine J.linkDead3 fun _ => ?_
      refine J.linkStore hk (by decide) rfl rfl ?_
      refine J.linkId hk (by decide) rfl fun _ => ?_
      refine J.linkOk (fun h _ => h) fun _ => ?_
    refine J.pure ?_
    iterate 31
      refine J.bind ?_
      iterate 4
        refine J.linkHead rfl fun _ => ?_
        refine J.linkDead2 fun _ => ?_
        refine J.linkNxt hk (by decide) rfl ?_
        refine J.linkDead3 fun _ => ?_
        refine J.linkStore hk (by decide) rfl rfl ?_
        refine J.linkId hk (by decide) rfl fun _ => ?_
        refine J.linkOk (fun h _ => h) fun _ => ?_
      refine J.pure ?_
    refine J.linkHead rfl fun _ => ?_
    refine J.linkDead2 fun _ => ?_
    refine J.linkNxt hk (by decide) rfl ?_
    refine J.linkDead3 fun _ => ?_
    refine J.linkStore hk (by decide) rfl rfl ?_
    refine J.linkId hk (by decide) rfl fun _ => ?_
    refine J.linkOk (fun h _ => h) fun _ => ?_
    refine J.linkHead rfl fun _ => ?_
    refine J.linkDead2 fun _ => ?_
    refine J.linkNxt hk (by decide) rfl ?_
    refine J.linkDead3 fun _ => ?_
    refine J.linkStore hk (by decide) rfl rfl ?_
    exact J.done fun s hs => by
      have e : (t : ℕ) * 128 + 128 = ((t : ℕ) + 1) * 128 := by omega
      show L0 X acc0 (HhtTo X (t + 1)) D ((t + 1) * 128) s
      rw [← e]
      exact hs
  exact hj.weaken fun s hs => L0.done hs

set_option maxHeartbeats 1000000 in
/-- A grid step. -/
theorem step (i : grid0.Coords) (h1 : R.a1.IsWhole) (h2 : R.a2.IsWhole) (h3 : R.a3.IsWhole) (h4 : R.a4.IsWhole) (h5 : R.a5.IsWhole) (h6 : R.a6.IsWhole) (h7 : R.a7.IsWhole) (h8 : R.a8.IsWhole) (h9 : R.a9.IsWhole) (h10 : R.a10.IsWhole) (h11 : R.a11.IsWhole) (h12 : R.a12.IsWhole) (h13 : R.a13.IsWhole) (h14 : R.a14.IsWhole) (h15 : R.a15.IsWhole) (h16 : R.a16.IsWhole) :
    J (defs₀ (F := F)) steps c none (own c R) (Start X A D (vl (i 0).val) (k0_cond1 i = 1#1)) (cc0_tied_embedding_grad (F := F) i R.a1 h1 R.a2 h2 R.a3 h3 R.a4 h4 R.a5 h5 R.a6 h6 R.a7 h7 R.a8 h8 R.a9 h9 R.a10 h10 R.a11 h11 R.a12 h12 R.a13 h13 R.a14 h14 R.a15 h15 R.a16 h16)
      (fun _ => End (own c R) (Post X A i)) := by
  unfold cc0_tied_embedding_grad
  refine J.bind ?_
  unfold k0_part76
  refine start i h1 h2 h3 h4 h5 h6 h7 h8 h9 h10 h11 h12 h13 h14 h15 h16 ?_
  refine J.bind ?_
  refine J.dlStore rfl rfl rfl rfl ?_
  iterate 78
    first | refine J.dlLoad ?_ | (refine J.pure ?_; refine J.bind ?_; refine J.dlLoad ?_)
    first | refine J.scLoad ?_ | (refine J.pure ?_; refine J.bind ?_; refine J.scLoad ?_)
    first | refine J.dlDead fun _ => ?_ | (refine J.pure ?_; refine J.bind ?_; refine J.dlDead fun _ => ?_)
    first | refine J.dlStore rfl rfl rfl rfl ?_ | (refine J.pure ?_; refine J.bind ?_; refine J.dlStore rfl rfl rfl rfl ?_)
  refine J.weaken (I' := P2 X A D (vl (i 0).val) 0) ?_ (fun s hs => P1.done hs)
  iterate 4
    first | refine J.eLoad ?_ | (refine J.pure ?_; refine J.bind ?_; refine J.eLoad ?_)
    first | refine J.esLoad ?_ | (refine J.pure ?_; refine J.bind ?_; refine J.esLoad ?_)
    first | refine J.eeDead fun _ => ?_ | (refine J.pure ?_; refine J.bind ?_; refine J.eeDead fun _ => ?_)
    first | refine J.eeStore rfl rfl rfl rfl ?_ | (refine J.pure ?_; refine J.bind ?_; refine J.eeStore rfl rfl rfl rfl ?_)
  refine J.weaken (I' := P3 X A D (vl (i 0).val) fun _ => True) ?_ (fun s hs => P2.done hs)
  refine J.hhtAll ?_
  refine J.dlAll ?_
  refine J.deDead fun _ => ?_
  refine J.detStore rfl ?_
  refine J.scHead rfl (i 0).isLt fun _ => ?_
  iterate 16
    first | refine J.scOk (fun h => h) fun _ => ?_ | (refine J.pure ?_; refine J.bind ?_; refine J.scOk (fun h => h) fun _ => ?_)
    first | refine J.scId rfl fun _ => ?_ | (refine J.pure ?_; refine J.bind ?_; refine J.scId rfl fun _ => ?_)
    first | refine J.scRowOk (fun h => h) fun _ => ?_ | (refine J.pure ?_; refine J.bind ?_; refine J.scRowOk (fun h => h) fun _ => ?_)
    first | refine J.scEmb ?_ | (refine J.pure ?_; refine J.bind ?_; refine J.scEmb ?_)
    first | refine J.scCur rfl fun _ => ?_ | (refine J.pure ?_; refine J.bind ?_; refine J.scCur rfl fun _ => ?_)
    first | refine J.scDead fun _ => ?_ | (refine J.pure ?_; refine J.bind ?_; refine J.scDead fun _ => ?_)
    first | refine J.scStore rfl rfl rfl ?_ | (refine J.pure ?_; refine J.bind ?_; refine J.scStore rfl rfl rfl ?_)
    first | refine J.scNxt rfl fun _ => ?_ | (refine J.pure ?_; refine J.bind ?_; refine J.scNxt rfl fun _ => ?_)
  refine J.callEnd (P3 X A D (vl (i 0).val) (Scatted X (vl (i 0).val) (i 0).val)) (2544 : ℕ) ?_ (while1 ..) fun _ => ?_
  · intro u hu
    cases hu
  refine J.weaken (I' := P4 X A D (vl (i 0).val) (Scatted X (vl (i 0).val) (i 0).val) 0) ?_ (fun s hs => P3.acc0 hs)
  iterate 9
    first | refine J.accLoad (by rfl) (by rfl) ?_ | (refine J.pure ?_; refine J.bind ?_; refine J.accLoad (by rfl) (by rfl) ?_)
    first | refine J.eetAll ?_ | (refine J.pure ?_; refine J.bind ?_; refine J.eetAll ?_)
    first | refine J.dlRows ?_ | (refine J.pure ?_; refine J.bind ?_; refine J.dlRows ?_)
    first | refine J.accDead fun _ => ?_ | (refine J.pure ?_; refine J.bind ?_; refine J.accDead fun _ => ?_)
    first | refine J.accStore rfl rfl rfl rfl ?_ | (refine J.pure ?_; refine J.bind ?_; refine J.accStore rfl rfl rfl rfl ?_)
  refine J.pure ?_
  refine J.accLoad (by rfl) (by rfl) ?_
  refine J.eetAll ?_
  refine J.dlRows ?_
  refine J.pure ?_
  refine J.accDead fun _ => ?_
  refine J.accStore rfl rfl rfl rfl ?_
  refine J.weaken (I' := P5 X A (vl (i 0).val) (Scatted X (vl (i 0).val) (i 0).val) 0) ?_ (fun s hs => P4.done hs)
  refine J.dite (fun k0_h2 => ?_) (fun k0_h2 => ?_)
  · refine J.bind ?_
    iterate 10
      first | refine J.accRead ?_ | (refine J.pure ?_; refine J.bind ?_; refine J.accRead ?_)
      first | refine J.dhDead fun _ => ?_ | (refine J.pure ?_; refine J.bind ?_; refine J.dhDead fun _ => ?_)
      first | refine J.dhStore rfl rfl rfl rfl ?_ | (refine J.pure ?_; refine J.bind ?_; refine J.dhStore rfl rfl rfl rfl ?_)
    refine J.pure ?_
    exact J.done fun s hs => by
      unfold Post
      rw [if_pos k0_h2]
      exact hs
  · exact J.done fun s hs => by
      unfold Post
      rw [if_neg k0_h2]
      exact hs

end Cert.Kernel.Walk
-- ==== Proof.Kit.lean ====
/-
  The host lines around the kernel: what the arrays hold when the kernel starts, that the arguments stay as launched,
  and each operand's block at a grid step.
-/
module

public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Walk

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ (cfgs (F := F)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ (cfgs (F := F)) dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ (cfgs (F := F)) dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ (cfgs (F := F)) dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ (cfgs (F := F)) dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-! ## The windows' blocks -/

/-- Window `w`'s block at point `t`, read off its array as the region finds it (`V`). -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
--
--
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
--
--
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.Kernel.Walk

end
-- ==== Proof.Region.lean ====
/-
  The kernel's grid: what each step's operands are, that a step carries the invariant on, and what the run leaves.
-/
module

public import proofs.«01_k».proof.Proof.Tiles
public import proofs.«01_k».proof.Proof.Walk
public import proofs.«01_k».proof.Proof.Kit

@[expose] public section

set_option maxRecDepth 16384

noncomputable section

namespace Cert.Kernel.Walk

open Idealize.ShloMosaic Idealize.ShloMosaic.TcCoe
open Idealize.SL Idealize.SL.RA Idealize.SL.BI
open scoped Idealize.SL.BI
open Idealize.ShloMosaic.Rounds
open Idealize.ShloMosaic.Pipeline (Dat Cfg Window BodyObligation BodyObligationLoose cellOf)
open Idealize.ShloMosaic.ValueIdx
open Cert.TiedGrad
open Cert.Kernel Cert.Kernel.Gen
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## The grid -/

/-- A step's coordinate is its number. -/
theorem coord (t : Fin grid0.N) : (grid0.coords t 0).val = t.val :=
  (Pipeline.Grid.coords_val t 0 (S := 1) (B := 297) (by decide) (by decide)).trans (by
    have h : t.val < 297 := lt_of_lt_of_eq t.isLt N_0
    omega)

theorem lt (t : Fin grid0.N) : t.val < 297 := lt_of_lt_of_eq t.isLt N_0

theorem cond1 (t : Fin grid0.N) : k0_cond1 (grid0.coords t) = 1#1 ↔ t.val = 0 := by
  have e : ∀ n, n < 297 → (Scalar.cmpi .ne (Scalar.extui (Scalar.cmpi .eq (BitVec.ofNat 32 n) 0#32) : BitVec 32) 0#32 = 1#1 ↔ n = 0) := by decide +kernel
  have h := e t.val (lt t)
  rw [← coord t] at h ⊢
  exact h

theorem cond2 (t : Fin grid0.N) : k0_cond2 (grid0.coords t) = 1#1 ↔ t.val = 296 := by
  have e : ∀ n, n < 297 → (Scalar.cmpi .ne (Scalar.extui (Scalar.cmpi .eq (BitVec.ofNat 32 n) 296#32) : BitVec 32) 0#32 = 1#1 ↔ n = 296) := by decide +kernel
  have h := e t.val (lt t)
  rw [← coord t] at h ⊢
  exact h

/-! ## The operands of a step -/

/-- The arrays as the kernel finds them. -/
def arrs (c : Dev nD) : Arrs F :=
  { ids := V m c main_v1, dl := V m c main_v2, sc := V m c main_v3, h := V m c main_v4, hs := V m c main_v5, e := V m c main_arg4,
    es := V m c main_v6, demb := V m c main_v0 }

/-- A block's coordinate is inside the array exactly where the transfer moves it. -/
theorem moved_of {ix k d j : ℕ} (hj : j < k) : j < (Pipeline.Clip.of ix k d).extent k ↔ ix * k + j < d := by
  unfold Pipeline.Clip.of
  split
  · rename_i h
    rw [Nat.succ_mul] at h
    show j < k ↔ _
    omega
  · rename_i h
    rw [Nat.succ_mul] at h
    show j < d - ix * k ↔ _
    omega

theorem moved_all {k j : ℕ} (hj : j < k) : j < (Pipeline.Clip.of 0 k k).extent k :=
  (moved_of hj).mpr (by omega)

/-- Inside the array a filled block holds the block's element, -/
theorem fill_pos {G : Pipeline.Grid} (w : Window sig G) {α : Type} (i : G.Coords) (d : w.block.Idx → α) (g : (w.xblock i).Idx → α) (j : w.block.Idx)
    (v : α) (h : w.moved i j = true) (hg : ∀ y : (w.xblock i).Idx, (∀ a, (y a).val = (j a).val) → g y = v) : w.fill i d g j = v := by
  unfold Window.fill
  rw [dif_pos h]
  exact hg _ fun _ => rfl
/-- elsewhere what it was filled with. -/
theorem fill_neg {G : Pipeline.Grid} (w : Window sig G) {α : Type} (i : G.Coords) (d : w.block.Idx → α) (g : (w.xblock i).Idx → α) (j : w.block.Idx)
    (h : ¬ w.moved i j = true) : w.fill i d g j = d j := by
  unfold Window.fill
  rw [dif_neg h]

theorem word (t : Fin grid0.N) : (BitVec.ofNat 32 (grid0.coords t 0).val).toNat = t.val := by
  rw [coord]
  have := lt t
  rw [BitVec.toNat_ofNat]
  omega

/-- Window 1: the tile of `main_v2`. -/
theorem fill1 (c : Dev nD) (t : Fin grid0.N) (d : S2560x512.Idx → Elt F .fp8e5m2) :
    win0_1.fill (grid0.coords t) d (iblk m c 1 t) = dlTile (V m c main_v2) d t.val := by
  funext j
  have hm : win0_1.moved (grid0.coords t) j = true ↔ t.val * 512 + (j 1).val < 151936 := by
    rw [win0_1.moved_iff]
    constructor
    · intro h
      have h1 : (j 1).val < (Pipeline.Clip.of (BitVec.ofNat 32 (grid0.coords t 0).val).toNat 512 151936).extent 512 := h 1
      rw [word] at h1
      exact (moved_of (j 1).isLt).mp h1
    · intro h a
      match a with
      | ⟨0, _⟩ =>
        show (j 0).val < (Pipeline.Clip.of 0 2560 2560).extent 2560
        exact moved_all (j 0).isLt
      | ⟨1, _⟩ =>
        show (j 1).val < (Pipeline.Clip.of (BitVec.ofNat 32 (grid0.coords t 0).val).toNat 512 151936).extent 512
        rw [word]
        exact (moved_of (j 1).isLt).mpr h
  by_cases h : t.val * 512 + (j 1).val < 151936
  · refine (fill_pos win0_1 _ _ _ _ _ (hm.mpr h) fun y hy => ?_).trans (dlTile_in h : dlTile (V m c main_v2) d t.val j = _).symm
    refine congrArg (V m c main_v2) (funext fun a => Fin.ext ?_)
    match a with
    | ⟨0, ha⟩ =>
      have e : (y ⟨0, ha⟩).val = (j 0).val := hy ⟨0, ha⟩
      show 0 * 2560 + 1 * (y ⟨0, ha⟩).val = (j 0).val
      rw [e, Nat.one_mul, Nat.zero_mul, Nat.zero_add]
    | ⟨1, ha⟩ =>
      have e : (y ⟨1, ha⟩).val = (j 1).val := hy ⟨1, ha⟩
      show (BitVec.ofNat 32 (grid0.coords t 0).val).toNat * 512 + 1 * (y ⟨1, ha⟩).val = t.val * 512 + (j 1).val
      rw [e, word, Nat.one_mul]
  · exact (fill_neg win0_1 _ _ _ _ (fun e => h (hm.mp e))).trans (dif_neg h : dlTile (V m c main_v2) d t.val j = d j).symm

/-- Window 2: the tile of `main_v3`. -/
theorem fill2 (c : Dev nD) (t : Fin grid0.N) (d : S4x2x1280.Idx → Elt F .f32) :
    win0_2.fill (grid0.coords t) d (iblk m c 2 t) = scTile (V m c main_v3) d t.val := by
  funext j
  have hm : win0_2.moved (grid0.coords t) j = true ↔ t.val * 4 + (j 0).val < 1187 := by
    rw [win0_2.moved_iff]
    constructor
    · intro h
      have h1 : (j 0).val < (Pipeline.Clip.of (BitVec.ofNat 32 (grid0.coords t 0).val).toNat 4 1187).extent 4 := h 0
      rw [word] at h1
      exact (moved_of (j 0).isLt).mp h1
    · intro h a
      match a with
      | ⟨0, _⟩ =>
        show (j 0).val < (Pipeline.Clip.of (BitVec.ofNat 32 (grid0.coords t 0).val).toNat 4 1187).extent 4
        rw [word]
        exact (moved_of (j 0).isLt).mpr h
      | ⟨1, _⟩ =>
        show (j 1).val < (Pipeline.Clip.of 0 2 2).extent 2
        exact moved_all (j 1).isLt
      | ⟨2, _⟩ =>
        show (j 2).val < (Pipeline.Clip.of 0 1280 1280).extent 1280
        exact moved_all (j 2).isLt
  by_cases h : t.val * 4 + (j 0).val < 1187
  · refine (fill_pos win0_2 _ _ _ _ _ (hm.mpr h) fun y hy => ?_).trans (scTile_in h : scTile (V m c main_v3) d t.val j = _).symm
    refine congrArg (V m c main_v3) (funext fun a => Fin.ext ?_)
    match a with
    | ⟨0, ha⟩ =>
      have e : (y ⟨0, ha⟩).val = (j 0).val := hy ⟨0, ha⟩
      show (BitVec.ofNat 32 (grid0.coords t 0).val).toNat * 4 + 1 * (y ⟨0, ha⟩).val = t.val * 4 + (j 0).val
      rw [e, word, Nat.one_mul]
    | ⟨1, ha⟩ =>
      have e : (y ⟨1, ha⟩).val = (j 1).val := hy ⟨1, ha⟩
      show 0 * 2 + 1 * (y ⟨1, ha⟩).val = (j 1).val
      rw [e, Nat.one_mul, Nat.zero_mul, Nat.zero_add]
    | ⟨2, ha⟩ =>
      have e : (y ⟨2, ha⟩).val = (j 2).val := hy ⟨2, ha⟩
      show 0 * 1280 + 1 * (y ⟨2, ha⟩).val = (j 2).val
      rw [e, Nat.one_mul, Nat.zero_mul, Nat.zero_add]
  · exact (fill_neg win0_2 _ _ _ _ (fun e => h (hm.mp e))).trans (dif_neg h : scTile (V m c main_v3) d t.val j = d j).symm

/-- Window 5: the tile of `main_arg4`. -/
theorem fill5 (c : Dev nD) (t : Fin grid0.N) (d : S512x896.Idx → Elt F .i8) :
    win0_5.fill (grid0.coords t) d (iblk m c 5 t) = eTile (V m c main_arg4) d t.val := by
  funext j
  have hm : win0_5.moved (grid0.coords t) j = true ↔ t.val * 512 + (j 0).val < 151936 := by
    rw [win0_5.moved_iff]
    constructor
    · intro h
      have h1 : (j 0).val < (Pipeline.Clip.of (BitVec.ofNat 32 (grid0.coords t 0).val).toNat 512 151936).extent 512 := h 0
      rw [word] at h1
      exact (moved_of (j 0).isLt).mp h1
    · intro h a
      match a with
      | ⟨0, _⟩ =>
        show (j 0).val < (Pipeline.Clip.of (BitVec.ofNat 32 (grid0.coords t 0).val).toNat 512 151936).extent 512
        rw [word]
        exact (moved_of (j 0).isLt).mpr h
      | ⟨1, _⟩ =>
        show (j 1).val < (Pipeline.Clip.of 0 896 896).extent 896
        exact moved_all (j 1).isLt
  by_cases h : t.val * 512 + (j 0).val < 151936
  · refine (fill_pos win0_5 _ _ _ _ _ (hm.mpr h) fun y hy => ?_).trans (eTile_in h : eTile (V m c main_arg4) d t.val j = _).symm
    refine congrArg (V m c main_arg4) (funext fun a => Fin.ext ?_)
    match a with
    | ⟨0, ha⟩ =>
      have e : (y ⟨0, ha⟩).val = (j 0).val := hy ⟨0, ha⟩
      show (BitVec.ofNat 32 (grid0.coords t 0).val).toNat * 512 + 1 * (y ⟨0, ha⟩).val = t.val * 512 + (j 0).val
      rw [e, word, Nat.one_mul]
    | ⟨1, ha⟩ =>
      have e : (y ⟨1, ha⟩).val = (j 1).val := hy ⟨1, ha⟩
      show 0 * 896 + 1 * (y ⟨1, ha⟩).val = (j 1).val
      rw [e, Nat.one_mul, Nat.zero_mul, Nat.zero_add]
  · exact (fill_neg win0_5 _ _ _ _ (fun e => h (hm.mp e))).trans (dif_neg h : eTile (V m c main_arg4) d t.val j = d j).symm

/-- Window 6: the tile of `main_v6`. -/
theorem fill6 (c : Dev nD) (t : Fin grid0.N) (d : S1x512.Idx → Elt F .f32) :
    win0_6.fill (grid0.coords t) d (iblk m c 6 t) = esTile (V m c main_v6) d t.val := by
  funext j
  have hm : win0_6.moved (grid0.coords t) j = true ↔ t.val * 512 + (j 1).val < 151936 := by
    rw [win0_6.moved_iff]
    constructor
    · intro h
      have h1 : (j 1).val < (Pipeline.Clip.of (BitVec.ofNat 32 (grid0.coords t 0).val).toNat 512 151936).extent 512 := h 1
      rw [word] at h1
      exact (moved_of (j 1).isLt).mp h1
    · intro h a
      match a with
      | ⟨0, _⟩ =>
        show (j 0).val < (Pipeline.Clip.of 0 1 1).extent 1
        exact moved_all (j 0).isLt
      | ⟨1, _⟩ =>
        show (j 1).val < (Pipeline.Clip.of (BitVec.ofNat 32 (grid0.coords t 0).val).toNat 512 151936).extent 512
        rw [word]
        exact (moved_of (j 1).isLt).mpr h
  by_cases h : t.val * 512 + (j 1).val < 151936
  · refine (fill_pos win0_6 _ _ _ _ _ (hm.mpr h) fun y hy => ?_).trans (esTile_in h : esTile (V m c main_v6) d t.val j = _).symm
    refine congrArg (V m c main_v6) (funext fun a => Fin.ext ?_)
    match a with
    | ⟨0, ha⟩ =>
      have e : (y ⟨0, ha⟩).val = (j 0).val := hy ⟨0, ha⟩
      show 0 * 1 + 1 * (y ⟨0, ha⟩).val = (j 0).val
      rw [e, Nat.one_mul, Nat.zero_mul, Nat.zero_add]
    | ⟨1, ha⟩ =>
      have e : (y ⟨1, ha⟩).val = (j 1).val := hy ⟨1, ha⟩
      show (BitVec.ofNat 32 (grid0.coords t 0).val).toNat * 512 + 1 * (y ⟨1, ha⟩).val = t.val * 512 + (j 1).val
      rw [e, word, Nat.one_mul]
  · exact (fill_neg win0_6 _ _ _ _ (fun e => h (hm.mp e))).trans (dif_neg h : esTile (V m c main_v6) d t.val j = d j).symm

/-- Window 0: all of `main_v1`. -/
theorem iblk0 (c : Dev nD) (t : Fin grid0.N) : iblk m c 0 t = V m c main_v1 := by
  refine funext (α := S2560.Idx) fun j => congrArg (V m c main_v1) (funext fun a => Fin.ext ?_)
  match a with
  | ⟨0, _⟩ =>
    show 0 * 2560 + 1 * (j 0).val = (j 0).val
    omega

/-- Window 3: all of `main_v4`. -/
theorem iblk3 (c : Dev nD) (t : Fin grid0.N) : iblk m c 3 t = V m c main_v4 := by
  refine funext (α := S2560x896.Idx) fun j => congrArg (V m c main_v4) (funext fun a => Fin.ext ?_)
  match a with
  | ⟨0, _⟩ =>
    show 0 * 2560 + 1 * (j 0).val = (j 0).val
    omega
  | ⟨1, _⟩ =>
    show 0 * 896 + 1 * (j 1).val = (j 1).val
    omega

/-- Window 4: all of `main_v5`. -/
theorem iblk4 (c : Dev nD) (t : Fin grid0.N) : iblk m c 4 t = V m c main_v5 := by
  refine funext (α := S1x2560.Idx) fun j => congrArg (V m c main_v5) (funext fun a => Fin.ext ?_)
  match a with
  | ⟨0, _⟩ =>
    show 0 * 1 + 1 * (j 0).val = (j 0).val
    omega
  | ⟨1, _⟩ =>
    show 0 * 2560 + 1 * (j 1).val = (j 1).val
    omega

/-- Window 7: all of `main_v0`. -/
theorem iblk7 (c : Dev nD) (t : Fin grid0.N) : iblk m c 7 t = V m c main_v0 := by
  refine funext (α := S2560x896.Idx) fun j => congrArg (V m c main_v0) (funext fun a => Fin.ext ?_)
  match a with
  | ⟨0, _⟩ =>
    show 0 * 2560 + 1 * (j 0).val = (j 0).val
    omega
  | ⟨1, _⟩ =>
    show 0 * 896 + 1 * (j 1).val = (j 1).val
    omega

/-! ## The buffers -/

/-- The buffers the body works on at step `t`: each window's current staging buffer, and the scratch buffers. -/
def Rt (t : Fin (cfg0 (F := F)).N) : Refs sig :=
  { a1 := st0_0 t, a2 := st0_1 t, a3 := st0_2 t, a4 := st0_3 t, a5 := st0_4 t, a6 := st0_5 t, a7 := st0_6 t, a8 := st0_7 t, a9 := st0_8 t,
    a10 := st0_9 t, a11 := Memref.whole cc0_scratch0, a12 := Memref.whole cc0_scratch1, a13 := Memref.whole cc0_scratch2,
    a14 := Memref.whole cc0_scratch3, a15 := Memref.whole cc0_scratch4, a16 := Memref.whole cc0_scratch5 }

/-- What holds between the steps: `Inv`, which reads the scratch buffers only. -/
def Mid (c : Dev nD) (n : ℕ) : sProp (MT nD τ sig Unit (Elt F) ℕ (UR sig nD τ) ℕ) :=
  Inv c (Rt (F := F) ⟨0, lt_of_lt_of_eq (by decide) N_0.symm⟩) (arrs m c) n

/-- One step: from the invariant and its operands, whatever lies past the arrays' ends and in the results' buffers, to the
    invariant at the next step, the operands as they were, the tile of the table's gradient, and in the last step the hidden
    states' gradient. -/
theorem core (c : Dev nD) (t : Fin (cfg0 (F := F)).N) (ok : IdsOk ((arrs m c).tile 0)) (d1 : S2560x512.Idx → Elt F .fp8e5m2)
    (d2 : S4x2x1280.Idx → Elt F .f32) (d5 : S512x896.Idx → Elt F .i8) (d6 : S1x512.Idx → Elt F .f32)
    (d8 : S512x896.Idx → Elt F .f32) (d9 : S2560x896.Idx → Elt F .bf16) :
    iprop(Mid m c t.val ∗ owns (c : Thread nD τ) (st0_0 t) fullShare (arrs m c).ids
      ∗ owns (c : Thread nD τ) (st0_1 t) fullShare (dlTile (arrs m c).dl d1 t.val)
      ∗ owns (c : Thread nD τ) (st0_2 t) fullShare (scTile (arrs m c).sc d2 t.val)
      ∗ owns (c : Thread nD τ) (st0_3 t) fullShare (arrs m c).h ∗ owns (c : Thread nD τ) (st0_4 t) fullShare (arrs m c).hs
      ∗ owns (c : Thread nD τ) (st0_5 t) fullShare (eTile (arrs m c).e d5 t.val)
      ∗ owns (c : Thread nD τ) (st0_6 t) fullShare (esTile (arrs m c).es d6 t.val)
      ∗ owns (c : Thread nD τ) (st0_7 t) fullShare (arrs m c).demb
      ∗ owns (c : Thread nD τ) (st0_8 t) fullShare d8 ∗ owns (c : Thread nD τ) (st0_9 t) fullShare d9)
    ⊢ wp frame (wpE (defs₀ (F := F)) steps (c : Thread nD τ) none) Set.univ (bodyAt0 (F := F) t) (fun _ =>
      iprop(∃ de dh, ⌜Scatted ((arrs m c).tile t.val) (vl t.val) t.val de ∧ (t.val = 296 → dh = dhF (accK (arrs m c) (t.val + 1)))⌝
        ∗ Mid m c (t.val + 1) ∗ owns (c : Thread nD τ) (st0_0 t) fullShare (arrs m c).ids
        ∗ owns (c : Thread nD τ) (st0_1 t) fullShare (dlTile (arrs m c).dl d1 t.val)
        ∗ owns (c : Thread nD τ) (st0_2 t) fullShare (scTile (arrs m c).sc d2 t.val)
        ∗ owns (c : Thread nD τ) (st0_3 t) fullShare (arrs m c).h ∗ owns (c : Thread nD τ) (st0_4 t) fullShare (arrs m c).hs
        ∗ owns (c : Thread nD τ) (st0_5 t) fullShare (eTile (arrs m c).e d5 t.val)
        ∗ owns (c : Thread nD τ) (st0_6 t) fullShare (esTile (arrs m c).es d6 t.val)
        ∗ owns (c : Thread nD τ) (st0_7 t) fullShare (arrs m c).demb
        ∗ owns (c : Thread nD τ) (st0_8 t) fullShare de ∗ owns (c : Thread nD τ) (st0_9 t) fullShare dh)) := by
  have ht : t.val < 297 := lt t
  unfold Mid TiedGrad.Inv
  iintro ⟨⟨%s, %hk, ⟨H11, H12, H13, H14, H15, H16⟩, Hp⟩, H0, H1, H2, H3, H4, H5, H6, H7, H8, H9⟩
  have hs := step (R := Rt (F := F) t) (c := c) (X := (arrs m c).at t.val d1 d2 d5 d6) (A := accK (arrs m c) t.val) (D := d9) (grid0.coords t)
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (hstage0_6 ((cfg0.slots t 6).cast nbuf0_6)) (hstage0_7 ((cfg0.slots t 7).cast nbuf0_7)) (hstage0_8 ((cfg0.slots t 8).cast nbuf0_8))
    (hstage0_9 ((cfg0.slots t 9).cast nbuf0_9)) (Memref.isWhole_whole _) (Memref.isWhole_whole _) (Memref.isWhole_whole _) (Memref.isWhole_whole _)
    (Memref.isWhole_whole _) (Memref.isWhole_whole _)
    { s with ins := (arrs m c).at t.val d1 d2 d5 d6, de := d8, dh := d9 }
    (by rw [coord]; exact start_of (arrs m c) t.val ht ok s hk d1 d2 d5 d6 d8 d9 (cond1 t))
  iapply (wp_wand_r frame (wpE (defs₀ (F := F)) steps (c : Thread nD τ) none) Set.univ)
  isplitl [H0 H1 H2 H3 H4 H5 H6 H7 H8 H9 H11 H12 H13 H14 H15 H16]
  · iapply hs
    unfold TiedGrad.own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [H14]; · iexact H14
    isplitl [H15]; · iexact H15
    iexact H16
  · iintro %u H
    unfold End
    icases H with ⟨%s', %hp, H⟩
    have hp' : P5 ((arrs m c).at t.val d1 d2 d5 d6) (accK (arrs m c) t.val) (vl t.val)
        (Scatted ((arrs m c).at t.val d1 d2 d5 d6) (vl t.val) t.val) (if k0_cond2 (grid0.coords t) = 1#1 then 10 else 0) s' := by
      have e := hp
      unfold Post at e
      rw [coord] at e
      exact e
    obtain ⟨q1, q2, q3⟩ := post_of (arrs m c) t.val ht d1 d2 d5 d6 _ s' hp'
    have hi : s'.ins = (arrs m c).at t.val d1 d2 d5 d6 := hp'.tile.ins
    unfold TiedGrad.own
    rw [hi]
    icases H with ⟨H0, H1, H2, H3, H4, H5, H6, H7, H8, H9, H11, H12, H13, H14, H15, H16⟩
    iexists s'.de
    iexists s'.dh
    isplitr
    · ipureintro
      exact ⟨q2, fun h => q3 (if_pos ((cond2 t).mpr h))⟩
    isplitl [H11 H12 H13 H14 H15 H16 Hp]
    · iexists s'
      isplitr
      · ipureintro
        exact fun _ => q1
      isplitl [H11 H12 H13 H14 H15 H16]
      · isplitl [H11]; · iexact H11
        isplitl [H12]; · iexact H12
        isplitl [H13]; · iexact H13
        isplitl [H14]; · iexact H14
        isplitl [H15]; · iexact H15
        iexact H16
      · iexact Hp
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Kernel.Walk
-- ==== Proof.Run.lean ====
/-
  The kernel's grid, run: what the buffers hold after each step, the body's obligation, and the run.
-/
module

public import proofs.«01_k».proof.Proof.Region

@[expose] public section

set_option maxRecDepth 16384

noncomputable section

namespace Cert.Kernel.Walk

open Idealize.ShloMosaic Idealize.ShloMosaic.TcCoe
open Idealize.SL Idealize.SL.RA Idealize.SL.BI
open scoped Idealize.SL.BI
open Idealize.ShloMosaic.Rounds
open Idealize.ShloMosaic.Pipeline (Dat Cfg Window BodyObligation BodyObligationLoose cellOf)
open Idealize.ShloMosaic.ValueIdx
open Cert.TiedGrad
open Cert.Kernel Cert.Kernel.Gen
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## The proof data -/

/-- What the windows' buffers hold after each step. -/
def dats (_ : Fin 1) (c : Dev nD) : Dat τ (Elt F) Unit ℕ (UR sig nD τ) ℕ (cfg0 (F := F)) c where
  A w := V m c (Pipeline.arrRef spec0 w)
  after w t := match w with
    | ⟨0, _⟩ => (arrs m c).ids
    | ⟨1, _⟩ => ((arrs m c).tile t.val).dl
    | ⟨2, _⟩ => ((arrs m c).tile t.val).sc
    | ⟨3, _⟩ => (arrs m c).h
    | ⟨4, _⟩ => (arrs m c).hs
    | ⟨5, _⟩ => ((arrs m c).tile t.val).e
    | ⟨6, _⟩ => ((arrs m c).tile t.val).es
    | ⟨7, _⟩ => (arrs m c).demb
    | ⟨8, _⟩ => deF (arrs m c) t.val
    | ⟨9, _⟩ => dhF (accK (arrs m c) 297)
  Φ k := Mid m c k.val
  q _ := fullShare
  owed _ := 0

theorem hA (c : Dev nD) (w) : (dats m 0 c).A w = V m c (Pipeline.arrRef spec0 w) := rfl

/-! What the body finds. -/

theorem found0 (c : Dev nD) (t : Fin (cfg0 (F := F)).N) (d) : (dats m 0 c).before 0 t d = (arrs m c).ids :=
  (before0_0_of m (dats m 0 c) (hA m c 0) (fun s => (iblk0 m c s).symm) t d).trans (iblk0 m c t)
theorem found3 (c : Dev nD) (t : Fin (cfg0 (F := F)).N) (d) : (dats m 0 c).before 3 t d = (arrs m c).h :=
  (before0_3_of m (dats m 0 c) (hA m c 3) (fun s => (iblk3 m c s).symm) t d).trans (iblk3 m c t)
theorem found4 (c : Dev nD) (t : Fin (cfg0 (F := F)).N) (d) : (dats m 0 c).before 4 t d = (arrs m c).hs :=
  (before0_4_of m (dats m 0 c) (hA m c 4) (fun s => (iblk4 m c s).symm) t d).trans (iblk4 m c t)
theorem found7 (c : Dev nD) (t : Fin (cfg0 (F := F)).N) (d) : (dats m 0 c).before 7 t d = (arrs m c).demb :=
  (before0_7_of m (dats m 0 c) (hA m c 7) (fun s => (iblk7 m c s).symm) t d).trans (iblk7 m c t)
theorem found1 (c : Dev nD) (t : Fin (cfg0 (F := F)).N) (d) : (dats m 0 c).before 1 t d = dlTile (arrs m c).dl d t.val := by
  unfold Dat.before
  rw [if_pos (fetch0_1 t)]
  exact fill1 m c t d
theorem found2 (c : Dev nD) (t : Fin (cfg0 (F := F)).N) (d) : (dats m 0 c).before 2 t d = scTile (arrs m c).sc d t.val := by
  unfold Dat.before
  rw [if_pos (fetch0_2 t)]
  exact fill2 m c t d
theorem found5 (c : Dev nD) (t : Fin (cfg0 (F := F)).N) (d) : (dats m 0 c).before 5 t d = eTile (arrs m c).e d t.val := by
  unfold Dat.before
  rw [if_pos (fetch0_5 t)]
  exact fill5 m c t d
theorem found6 (c : Dev nD) (t : Fin (cfg0 (F := F)).N) (d) : (dats m 0 c).before 6 t d = esTile (arrs m c).es d t.val := by
  unfold Dat.before
  rw [if_pos (fetch0_6 t)]
  exact fill6 m c t d

/-! What it gives back of an operand whose last block is cut: the block as found. -/

theorem give1 (c : Dev nD) (t : Fin grid0.N) (d) :
    win0_1.fill (grid0.coords t) d (win0_1.cut (grid0.coords t) ((arrs m c).tile t.val).dl) = dlTile (arrs m c).dl d t.val := by
  exact (congrArg (fun x => win0_1.fill (grid0.coords t) d (win0_1.cut (grid0.coords t) x)) (fill1 m c t _).symm).trans
    ((congrArg (win0_1.fill (grid0.coords t) d) (win0_1.cut_fill _ _ _)).trans (fill1 m c t d))
theorem give2 (c : Dev nD) (t : Fin grid0.N) (d) :
    win0_2.fill (grid0.coords t) d (win0_2.cut (grid0.coords t) ((arrs m c).tile t.val).sc) = scTile (arrs m c).sc d t.val := by
  exact (congrArg (fun x => win0_2.fill (grid0.coords t) d (win0_2.cut (grid0.coords t) x)) (fill2 m c t _).symm).trans
    ((congrArg (win0_2.fill (grid0.coords t) d) (win0_2.cut_fill _ _ _)).trans (fill2 m c t d))
theorem give5 (c : Dev nD) (t : Fin grid0.N) (d) :
    win0_5.fill (grid0.coords t) d (win0_5.cut (grid0.coords t) ((arrs m c).tile t.val).e) = eTile (arrs m c).e d t.val := by
  exact (congrArg (fun x => win0_5.fill (grid0.coords t) d (win0_5.cut (grid0.coords t) x)) (fill5 m c t _).symm).trans
    ((congrArg (win0_5.fill (grid0.coords t) d) (win0_5.cut_fill _ _ _)).trans (fill5 m c t d))
theorem give6 (c : Dev nD) (t : Fin grid0.N) (d) :
    win0_6.fill (grid0.coords t) d (win0_6.cut (grid0.coords t) ((arrs m c).tile t.val).es) = esTile (arrs m c).es d t.val := by
  exact (congrArg (fun x => win0_6.fill (grid0.coords t) d (win0_6.cut (grid0.coords t) x)) (fill6 m c t _).symm).trans
    ((congrArg (win0_6.fill (grid0.coords t) d) (win0_6.cut_fill _ _ _)).trans (fill6 m c t d))

/-- A buffer owned at equal contents. -/
theorem owns_of_eq (c : Dev nD) {sp : Space} {s : Shape} {e : EltTy} (r : Memref sig .tc sp s e) {x y : s.Idx → Elt F e} (h : y = x) :
    (owns (c : Thread nD τ) r fullShare x : sProp (MT nD τ sig Unit (Elt F) ℕ (UR sig nD τ) ℕ)) ⊢ owns (c : Thread nD τ) r fullShare y := by
  subst h
  exact BI.Entails.refl _

/-- The results' windows, of which the frame says nothing. -/
def outs (w : Fin (cfg0 (F := F)).W) : Bool := decide (8 ≤ w.val)
theorem outs_at : outs (F := F) 0 = false ∧ outs (F := F) 1 = false ∧ outs (F := F) 2 = false ∧ outs (F := F) 3 = false ∧ outs (F := F) 4 = false
    ∧ outs (F := F) 5 = false ∧ outs (F := F) 6 = false ∧ outs (F := F) 7 = false ∧ outs (F := F) 8 = true ∧ outs (F := F) 9 = true :=
  ⟨rfl, rfl, rfl, rfl, rfl, rfl, rfl, rfl, rfl, rfl⟩

/-- The body's obligation, nothing said of the results. -/
theorem body_frame (c : Dev nD) (ok : IdsOk ((arrs m c).tile 0)) :
    BodyObligationLoose (dats m 0 c) (defs₀ (F := F)) steps () Set.univ (outs (F := F)) := fun t => by
  rw [bigSep_W0, bigSep_W0]
  obtain ⟨o0, o1, o2, o3, o4, o5, o6, o7, o8, o9⟩ := outs_at (F := F)
  simp only [o0, o1, o2, o3, o4, o5, o6, o7, o8, o9]
  rw [show (dats m 0 c).Φ t.castSucc = Mid m c t.val from rfl, show (dats m 0 c).Φ t.succ = Mid m c (t.val + 1) from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [found0 m c t d0, found1 m c t d1, found2 m c t d2, found3 m c t d3, found4 m c t d4, found5 m c t d5, found6 m c t d6, found7 m c t d7]
  iapply (wp_wand_r frame (wpE (defs₀ (F := F)) steps (c : Thread nD τ) none) Set.univ)
  isplitl [HΦ H0 H1 H2 H3 H4 H5 H6 H7 H8 H9]
  · iapply (core m c t ok d1 d2 d5 d6 d8 d9)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %u ⟨%de, %dh, %_, HΦ, H0, H1, H2, H3, H4, H5, H6, H7, H8, H9⟩
    isplitl [HΦ]; · iexact HΦ
    isplitl [Ho]; · iexact Ho
    isplitl [H0]; · iexact H0
    isplitl [H1]
    · iexists d1
      change _ ⊢ owns (c : Thread nD τ) (st0_1 t) fullShare (win0_1.fill (grid0.coords t) d1 (win0_1.cut (grid0.coords t) ((arrs m c).tile t.val).dl))
      exact owns_of_eq c (st0_1 t) (give1 m c t d1)
    isplitl [H2]
    · iexists d2
      change _ ⊢ owns (c : Thread nD τ) (st0_2 t) fullShare (win0_2.fill (grid0.coords t) d2 (win0_2.cut (grid0.coords t) ((arrs m c).tile t.val).sc))
      exact owns_of_eq c (st0_2 t) (give2 m c t d2)
    isplitl [H3]; · iexact H3
    isplitl [H4]; · iexact H4
    isplitl [H5]
    · iexists d5
      change _ ⊢ owns (c : Thread nD τ) (st0_5 t) fullShare (win0_5.fill (grid0.coords t) d5 (win0_5.cut (grid0.coords t) ((arrs m c).tile t.val).e))
      exact owns_of_eq c (st0_5 t) (give5 m c t d5)
    isplitl [H6]
    · iexists d6
      change _ ⊢ owns (c : Thread nD τ) (st0_6 t) fullShare (win0_6.fill (grid0.coords t) d6 (win0_6.cut (grid0.coords t) ((arrs m c).tile t.val).es))
      exact owns_of_eq c (st0_6 t) (give6 m c t d6)
    isplitl [H7]; · iexact H7
    isplitl [H8]; · iexists de; iexact H8
    iexists dh; iexact H9

/-! ## The run, nothing said of the results -/

theorem enter (c : Dev nD) : Pipeline.ΦA spec0 c ⊢ (dats m 0 c).Φ 0 := by
  rw [show (dats m 0 c).Φ 0 = Mid m c 0 from rfl]
  unfold Pipeline.ΦA Mid TiedGrad.Inv Rt
  rw [scopedRest0_eq]
  simp only [owns_whole_eq]
  iintro ⟨⟨⟨%f0, H0⟩, ⟨%f1, H1⟩, ⟨%f2, H2⟩, ⟨%f3, H3⟩, ⟨%f4, H4⟩, ⟨%f5, H5⟩⟩, Hp⟩
  iexists (⟨(arrs m c).tile 0, deF (arrs m c) 0, dhF (accK (arrs m c) 0), f0, f1, f2, f3, f4, f5⟩ : St F)
  isplitr
  · ipureintro
    exact fun h => absurd h (Nat.lt_irrefl 0)
  isplitr [Hp]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  · iexact Hp

theorem leave (c : Dev nD) : (dats m 0 c).Φ (Fin.last (cfg0 (F := F)).N) ⊢ Pipeline.ΦA spec0 c := by
  rw [show (dats m 0 c).Φ (Fin.last (cfg0 (F := F)).N) = Mid m c (cfg0 (F := F)).N from rfl]
  unfold Pipeline.ΦA Mid TiedGrad.Inv Rt
  rw [scopedRest0_eq]
  simp only [owns_whole_eq]
  iintro ⟨%s, %_, ⟨⟨%f0, %_, H0⟩, ⟨%f1, %_, H1⟩, ⟨%f2, %_, H2⟩, ⟨%f3, %_, H3⟩, ⟨%f4, %_, H4⟩, ⟨%f5, %_, H5⟩⟩, Hp⟩
  isplitr [Hp]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  · iexact Hp

set_option backward.isDefEq.respectTransparency.types false in
/-- The run of the whole program: every array that no window writes back ends as the kernel found it, and so does every
    buffer but the last result's; every semaphore ends at zero. -/
theorem run_frame (ok : ∀ c, IdsOk ((arrs m c).tile 0)) :
    θ_run defs (onTc (τ := τ) (main (F := F))) ⟨m, fun _ => 0, ρ⟩ (fun r =>
      Pipeline.RDat.FramePostR (cfg0 (F := F)) (fun c => (dats m 0 c).toRForget (outs (F := F))) {main_v8} (fun c b => V0 m c (Proc.devRef .tc b)) r
        ∧ r.2.sem = fun _ => 0) :=
  Pipeline.θ_run_frame_around_T_track_forget (cfgs (F := F)) (dats m) 0 launch0 defs₀ steps (outs (F := F)) {main_v8} m ρ main
    (fun c => body_frame m c (ok c)) (fun c => (dats m 0 c).share_full fun _ => rfl) (fun _ _ => rfl) (V0 m) [hostOps1] sfx_sub sfx_fresh sfx_keeps
    (by
      intro ops hops op hop
      simp only [List.mem_cons, List.mem_nil_iff, or_false] at hops
      rcases hops with rfl
      simp only [hostOps1, List.mem_cons, List.mem_nil_iff, or_false] at hop
      rcases hop with rfl
      intro b hb
      simp only [StableHlo.reshape_writes, Finset.mem_singleton] at hb
      exact Finset.mem_singleton.mpr (Proc.devRef_injective _ hb))
    (hmain m steps) (fun _ _ => rfl) (enter m) (leave m) _ (fun _ h => h)

/-- The arguments end as they were. -/
theorem frame (ok : ∀ c, IdsOk ((arrs m c).tile 0)) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) := by
  refine (θ_run defs _ _).mono (fun r h => ⟨fun c => ?_, h.2⟩) (run_frame m ρ ok)
  have h5 : r.2.mem ((c : Thread nD τ).loc main_arg4) = V m c main_arg4 := by
    have e := (h.1 c).1 5
    rw [Pipeline.RDat.ArrAt_in _ 5 rfl] at e
    exact e
  refine ⟨?_, ?_, ?_, ?_, h5.trans (V_main_arg4 m c), ?_, ?_, ?_⟩
  · exact ((h.1 c).2 main_arg0 (Finset.mem_sdiff.mpr ⟨Pipeline.mem_restRefs_of main_arg0 (by decide) (by exact (by decide : ∀ w, Pipeline.arrRef spec0 w ≠ main_arg0)), by decide⟩)).trans (V_main_arg0 m c)
  · exact ((h.1 c).2 main_arg1 (Finset.mem_sdiff.mpr ⟨Pipeline.mem_restRefs_of main_arg1 (by decide) (by exact (by decide : ∀ w, Pipeline.arrRef spec0 w ≠ main_arg1)), by decide⟩)).trans (V_main_arg1 m c)
  · exact ((h.1 c).2 main_arg2 (Finset.mem_sdiff.mpr ⟨Pipeline.mem_restRefs_of main_arg2 (by decide) (by exact (by decide : ∀ w, Pipeline.arrRef spec0 w ≠ main_arg2)), by decide⟩)).trans (V_main_arg2 m c)
  · exact ((h.1 c).2 main_arg3 (Finset.mem_sdiff.mpr ⟨Pipeline.mem_restRefs_of main_arg3 (by decide) (by exact (by decide : ∀ w, Pipeline.arrRef spec0 w ≠ main_arg3)), by decide⟩)).trans (V_main_arg3 m c)
  · exact ((h.1 c).2 main_arg5 (Finset.mem_sdiff.mpr ⟨Pipeline.mem_restRefs_of main_arg5 (by decide) (by exact (by decide : ∀ w, Pipeline.arrRef spec0 w ≠ main_arg5)), by decide⟩)).trans (V_main_arg5 m c)
  · exact ((h.1 c).2 main_arg6 (Finset.mem_sdiff.mpr ⟨Pipeline.mem_restRefs_of main_arg6 (by decide) (by exact (by decide : ∀ w, Pipeline.arrRef spec0 w ≠ main_arg6)), by decide⟩)).trans (V_main_arg6 m c)
  · exact ((h.1 c).2 main_arg7 (Finset.mem_sdiff.mpr ⟨Pipeline.mem_restRefs_of main_arg7 (by decide) (by exact (by decide : ∀ w, Pipeline.arrRef spec0 w ≠ main_arg7)), by decide⟩)).trans (V_main_arg7 m c)

end Cert.Kernel.Walk
-- ==== Proof.InRange.lean ====
/-
  The precondition: every token names a row of the table.
-/
module

public import proofs.«01_k».proof.Pre_ids_in_range
public import proofs.«01_k».proof.Proof.Tiles

@[expose] public section

noncomputable section

namespace Cert.TiedGrad

open Idealize.ShloMosaic

/-- A word at least zero and below `151936`, as signed numbers, is below it as an unsigned one. -/
theorem word_in_range (w : BitVec 32) (h : IntOp.andi (IntOp.cmpi .sge w 0#32) (IntOp.cmpi .slt w 151936#32) = 1#1) : w.toNat < 151936 := by
  have h0 : ∀ a b : BitVec 1, IntOp.andi a b = 1#1 → a = 1#1 ∧ b = 1#1 := by decide
  obtain ⟨h1, h2⟩ := h0 _ _ h
  have g : ∀ b : Bool, BitVec.ofBool b = 1#1 → b = true := by decide
  have h3 : (0#32).sle w = true := g _ h1
  have h4 : w.slt 151936#32 = true := g _ h2
  rw [BitVec.sle_eq_decide, decide_eq_true_eq] at h3
  rw [BitVec.slt_eq_decide, decide_eq_true_eq] at h4
  have e0 : (0#32).toInt = 0 := by decide
  have e1 : (151936#32).toInt = 151936 := by decide
  rw [e0, BitVec.toInt_eq_toNat_cond] at h3
  rw [e1, BitVec.toInt_eq_toNat_cond] at h4
  have := w.isLt
  split at h3 <;> omega

variable {F : FTy → Type} [FloatOps F]

/-- The precondition, element by element. -/
theorem in_range [Cert.Pre_ids_in_range.Facts] (a0 a1 a2 a3 a4 a5 a6 a7) (h : Cert.Pre_ids_in_range.fn (F := F) a0 a1 a2 a3 a4 a5 a6 a7 = fun _ => 1#1)
    (j) : (a6 j).toNat < 151936 :=
  word_in_range _ (congrFun h j)

end Cert.TiedGrad
-- ==== Proof.Host.lean ====
/-
  What the host lines before the kernel leave in its operands.
-/
module

public import proofs.«01_k».proof.Proof.Region
public import proofs.«01_k».proof.Proof.InRange

@[expose] public section

set_option maxRecDepth 16384

noncomputable section

namespace Cert.Kernel.Walk

open Idealize.ShloMosaic Idealize.ShloMosaic.TcCoe
open Idealize.SL Idealize.SL.RA Idealize.SL.BI
open scoped Idealize.SL.BI
open Idealize.ShloMosaic.Rounds
open Idealize.ShloMosaic.Pipeline (Dat Cfg Window BodyObligation BodyObligationLoose cellOf)
open Idealize.ShloMosaic.ValueIdx
open Cert.TiedGrad
open Cert.Kernel Cert.Kernel.Gen
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

theorem V_main_v0 (c : Dev nD) : V m c main_v0 = shapeCast S2560x896 (m ((c : Thread nD τ).loc main_arg7) : S2x1280x896.Idx → Elt F .bf16) shapeCasts_S2x1280x896_S2560x896 := by
  show StableHlo.after [_, _, _, _, _, _, _] _ (Proc.devRef .tc main_v0) = _
  after_results
  rfl

theorem V_main_v1 (c : Dev nD) : V m c main_v1 = shapeCast S2560 (m ((c : Thread nD τ).loc main_arg6) : S2x1280.Idx → Elt F .i32) shapeCasts_S2x1280_S2560 := by
  show StableHlo.after [_, _, _, _, _, _, _] _ (Proc.devRef .tc main_v1) = _
  after_results
  rfl

theorem V_main_v2 (c : Dev nD) : V m c main_v2 = shapeCast S2560x151936 (m ((c : Thread nD τ).loc main_arg0) : S2x1280x151936.Idx → Elt F .fp8e5m2) shapeCasts_S2x1280x151936_S2560x151936 := by
  show StableHlo.after [_, _, _, _, _, _, _] _ (Proc.devRef .tc main_v2) = _
  after_results
  rfl

theorem V_main_v4 (c : Dev nD) : V m c main_v4 = shapeCast S2560x896 (m ((c : Thread nD τ).loc main_arg2) : S2x1280x896.Idx → Elt F .fp8e4m3) shapeCasts_S2x1280x896_S2560x896 := by
  show StableHlo.after [_, _, _, _, _, _, _] _ (Proc.devRef .tc main_v4) = _
  after_results
  rfl

theorem V_main_v5 (c : Dev nD) : V m c main_v5 = shapeCast S1x2560 (m ((c : Thread nD τ).loc main_arg3) : S2x1280.Idx → Elt F .f32) shapeCasts_S2x1280_S1x2560 := by
  show StableHlo.after [_, _, _, _, _, _, _] _ (Proc.devRef .tc main_v5) = _
  after_results
  rfl

theorem V_main_v6 (c : Dev nD) : V m c main_v6 = shapeCast S1x151936 (m ((c : Thread nD τ).loc main_arg5) : S151936.Idx → Elt F .f32) shapeCasts_S151936_S1x151936 := by
  show StableHlo.after [_, _, _, _, _, _, _] _ (Proc.devRef .tc main_v6) = _
  after_results
  rfl

theorem V_main_v3 (c : Dev nD) : V m c main_v3 = transpose S1187x2x1280 [2, 0, 1] (m ((c : Thread nD τ).loc main_arg1) : S2x1280x1187.Idx → Elt F .f32) transposes_S2x1280x1187_S1187x2x1280_2_0_1 := by
  show StableHlo.after [_, _, _, _, _, _, _] _ (Proc.devRef .tc main_v3) = _
  after_results

/-- Tokens in range in the argument are in range in the kernel's list. -/
theorem ids_ok (c : Dev nD) (h : ∀ j : S2x1280.Idx, ((m ((c : Thread nD τ).loc main_arg6) : S2x1280.Idx → BitVec 32) j).toNat < 151936) :
    IdsOk ((arrs m c).tile 0) := fun n hn => by
  have e : idw ((arrs m c).tile 0) n = (V m c main_v1 : S2560.Idx → BitVec 32) (ix1 ⟨n, hn⟩) := dif_pos hn
  rw [e, V_main_v1]
  exact h _

end Cert.Kernel.Walk
-- ==== Proof.WalkIdeal.lean ====
/-
  The kernel's body, walked once: from what a grid step finds (`Start`) to what it leaves (`Post`), for any two of the
  buffers' contents.
-/
module

public import proofs.«01_k».proof.Proof.Init
public import proofs.«01_k».proof.Proof.Gen.KernelIdeal

@[expose] public section

noncomputable section

namespace Cert.KernelIdeal.Walk

open Idealize.ShloMosaic Idealize.ShloMosaic.TcCoe
open Idealize.SL Idealize.SL.RA Idealize.SL.BI
open scoped Idealize.SL.BI
open Idealize.ShloMosaic.Rounds
open Idealize.ShloMosaic.Pipeline
open Idealize.ShloMosaic.ValueIdx
open Cert.TiedGrad
open Cert.KernelIdeal.Gen
open Idealize.SL.BI.BIBase Idealize.SL.BI.Laws Idealize.SL.ProofMode Idealize.SL.Sem

attribute [local irreducible] J

variable {F : FTy → Type} [FloatOps F]
variable {c : Dev nD} {R : Refs sig}
variable {α : Type} {Q : α → sProp (MT nD τ sig Unit (Elt F) ℕ (UR sig nD τ) ℕ)}
variable {X : Ins F} {A : S896x2560.Idx → Elt F .f32} {D : S2560x896.Idx → Elt F .bf16} {b8 : BitVec 1}

/-- The loop on the rest of a tile's list: every token that is left is added to the tile. -/
theorem while1 (i : grid0.Coords) (v1141 : BitVec 32) (k0_hw129 : k0_chk129 v1141) (v1145 : BitVec 32) (k0_hw130 : k0_chk130 i v1141 v1145) (v1161 : BitVec 32) (k0_hw131 : k0_chk131 v1141 v1161) (v1166 : BitVec 32) (k0_hw132 : k0_chk132 i v1141 v1161 v1166) (v1182 : BitVec 32) (k0_hw133 : k0_chk133 v1141 v1161 v1182) (v1187 : BitVec 32) (k0_hw134 : k0_chk134 i v1141 v1161 v1182 v1187) (v1203 : BitVec 32) (k0_hw135 : k0_chk135 v1141 v1161 v1182 v1203) (v1208 : BitVec 32) (k0_hw136 : k0_chk136 i v1141 v1161 v1182 v1203 v1208) (v1224 : BitVec 32) (k0_hw137 : k0_chk137 v1141 v1161 v1182 v1203 v1224) (v1229 : BitVec 32) (k0_hw138 : k0_chk138 i v1141 v1161 v1182 v1203 v1224 v1229) (v1245 : BitVec 32) (k0_hw139 : k0_chk139 v1141 v1161 v1182 v1203 v1224 v1245) (v1250 : BitVec 32) (k0_hw140 : k0_chk140 i v1141 v1161 v1182 v1203 v1224 v1245 v1250) (v1266 : BitVec 32) (k0_hw141 : k0_chk141 v1141 v1161 v1182 v1203 v1224 v1245 v1266) (v1271 : BitVec 32) (k0_hw142 : k0_chk142 i v1141 v1161 v1182 v1203 v1224 v1245 v1266 v1271) (v1287 : BitVec 32) (k0_hw143 : k0_chk143 v1141 v1161 v1182 v1203 v1224 v1245 v1266 v1287) (v1292 : BitVec 32) (k0_hw144 : k0_chk144 i v1141 v1161 v1182 v1203 v1224 v1245 v1266 v1287 v1292) (v1308 : BitVec 32) (k0_hw145 : k0_chk145 v1141 v1161 v1182 v1203 v1224 v1245 v1266 v1287 v1308) (v1313 : BitVec 32) (k0_hw146 : k0_chk146 i v1141 v1161 v1182 v1203 v1224 v1245 v1266 v1287 v1308 v1313) (v1329 : BitVec 32) (k0_hw147 : k0_chk147 v1141 v1161 v1182 v1203 v1224 v1245 v1266 v1287 v1308 v1329) (v1334 : BitVec 32) (k0_hw148 : k0_chk148 i v1141 v1161 v1182 v1203 v1224 v1245 v1266 v1287 v1308 v1329 v1334) (v1350 : BitVec 32) (k0_hw149 : k0_chk149 v1141 v1161 v1182 v1203 v1224 v1245 v1266 v1287 v1308 v1329 v1350) (v1355 : BitVec 32) (k0_hw150 : k0_chk150 i v1141 v1161 v1182 v1203 v1224 v1245 v1266 v1287 v1308 v1329 v1350 v1355) (v1371 : BitVec 32) (k0_hw151 : k0_chk151 v1141 v1161 v1182 v1203 v1224 v1245 v1266 v1287 v1308 v1329 v1350 v1371) (v1376 : BitVec 32) (k0_hw152 : k0_chk152 i v1141 v1161 v1182 v1203 v1224 v1245 v1266 v1287 v1308 v1329 v1350 v1371 v1376) (v1392 : BitVec 32) (k0_hw153 : k0_chk153 v1141 v1161 v1182 v1203 v1224 v1245 v1266 v1287 v1308 v1329 v1350 v1371 v1392) (v1397 : BitVec 32) (k0_hw154 : k0_chk154 i v1141 v1161 v1182 v1203 v1224 v1245 v1266 v1287 v1308 v1329 v1350 v1371 v1392 v1397) (v1413 : BitVec 32) (k0_hw155 : k0_chk155 v1141 v1161 v1182 v1203 v1224 v1245 v1266 v1287 v1308 v1329 v1350 v1371 v1392 v1413) (v1418 : BitVec 32) (k0_hw156 : k0_chk156 i v1141 v1161 v1182 v1203 v1224 v1245 v1266 v1287 v1308 v1329 v1350 v1371 v1392 v1413 v1418) (v1434 : BitVec 32) (k0_hw157 : k0_chk157 v1141 v1161 v1182 v1203 v1224 v1245 v1266 v1287 v1308 v1329 v1350 v1371 v1392 v1413 v1434) (v1439 : BitVec 32) (k0_hw158 : k0_chk158 i v1141 v1161 v1182 v1203 v1224 v1245 v1266 v1287 v1308 v1329 v1350 v1371 v1392 v1413 v1434 v1439) (v1455 : BitVec 32) (k0_hw159 : k0_chk159 v1141 v1161 v1182 v1203 v1224 v1245 v1266 v1287 v1308 v1329 v1350 v1371 v1392 v1413 v1434 v1455) (v1460 : BitVec 32) (k0_hw160 : k0_chk160 i v1141 v1161 v1182 v1203 v1224 v1245 v1266 v1287 v1308 v1329 v1350 v1371 v1392 v1413 v1434 v1455 v1460) (h1 : R.a1.IsWhole) (h8 : R.a8.IsWhole) (h9 : R.a9.IsWhole) (h16 : R.a16.IsWhole) (n : ℕ) (t : BitVec 32) :
    J (defs₀ (F := F)) steps c (some n) (own c R) (T0 X A D b8 (i 0).val n t (lv t) (ps t))
      (cc0_while1 (F := F) i v1141 k0_hw129 v1145 k0_hw130 v1161 k0_hw131 v1166 k0_hw132 v1182 k0_hw133 v1187 k0_hw134 v1203 k0_hw135 v1208 k0_hw136 v1224 k0_hw137 v1229 k0_hw138 v1245 k0_hw139 v1250 k0_hw140 v1266 k0_hw141 v1271 k0_hw142 v1287 k0_hw143 v1292 k0_hw144 v1308 k0_hw145 v1313 k0_hw146 v1329 k0_hw147 v1334 k0_hw148 v1350 k0_hw149 v1355 k0_hw150 v1371 k0_hw151 v1376 k0_hw152 v1392 k0_hw153 v1397 k0_hw154 v1413 k0_hw155 v1418 k0_hw156 v1434 k0_hw157 v1439 k0_hw158 v1455 k0_hw159 v1460 k0_hw160 R.a1 h1 R.a8 h8 R.a9 h9 R.a16 h16 t)
      (fun _ => End (own c R) (P3 X A D b8 (Scatted X b8 (i 0).val))) := by
  induction n generalizing t with
  | zero =>
    unfold cc0_while1
    refine J.ite (fun hc => ?_) (fun hc => ?_)
    · exact J.never fun s hs => absurd (hs.pos hc) (Nat.lt_irrefl 0)
    · exact J.done fun s hs => hs.none hc
  | succ n ih =>
    unfold cc0_while1
    refine J.ite (fun hc => ?_) (fun hc => ?_)
    · refine J.weaken (I' := T0 X A D b8 (i 0).val (n + 1) t 1#1 t) ?_ (fun s hs => hs.live hc)
      refine J.scOk (fun h => h) fun _ => ?_
      refine J.scId rfl fun _ => ?_
      refine J.scRowOk (fun h => h) fun _ => ?_
      refine J.scEmb ?_
      refine J.scCur rfl fun _ => ?_
      refine J.scDead fun _ => ?_
      refine J.scStore rfl rfl rfl ?_
      refine J.scNxt rfl fun w => ?_
      refine J.tail ?_
      refine J.callEnd (P3 X A D b8 (Scatted X b8 (i 0).val)) (n : ℕ) ?_ (ih w) fun _ => ?_
      · intro u hu
        cases hu
        exact Nat.lt_succ_self n
      · exact J.done fun _ h => h
    · exact J.done fun s hs => hs.none hc

attribute [local irreducible] Scalar.select Scalar.cmpi Scalar.maxsi Scalar.subi

variable (X A D) in
/-- What a grid step leaves: the tile of the first result, the accumulator, and at the last step the second result. -/
def Post (i : grid0.Coords) (s : St F) : Prop :=
  P5 X A (vl (i 0).val) (Scatted X (vl (i 0).val) (i 0).val) (if k0_cond2 i = 1#1 then 10 else 0) s

set_option maxHeartbeats 1000000 in
/-- The start of a grid step: at the first step everything is prepared, at a later one it already is. -/
theorem start (i : grid0.Coords) (h1 : R.a1.IsWhole) (h2 : R.a2.IsWhole) (h3 : R.a3.IsWhole) (h4 : R.a4.IsWhole) (h5 : R.a5.IsWhole) (h6 : R.a6.IsWhole) (h7 : R.a7.IsWhole) (h8 : R.a8.IsWhole) (h9 : R.a9.IsWhole) (h10 : R.a10.IsWhole) (h11 : R.a11.IsWhole) (h12 : R.a12.IsWhole) (h13 : R.a13.IsWhole) (h14 : R.a14.IsWhole) (h15 : R.a15.IsWhole) (h16 : R.a16.IsWhole) {k : (Σ' (arg0 : BitVec 32) (v3 : BitVec 32) (v8 : BitVec 1), FVec F S128x128 .bf16) → Prog (TpuEff nD τ sig (Elt F) (Λ₀ F) .tc) α}
    (h : J (defs₀ (F := F)) steps c none (own c R) (P1 X A D (vl (i 0).val) 1)
      (k ⟨BitVec.ofNat 32 (i 0).val, Scalar.muli (BitVec.ofNat 32 (i 0).val) 512#32, vl (i 0).val, shapeCast S128x128 (dlBlk (VecWindow.window (s := S2560x512) X.dl ![0, 128] S128x128.size inb_S2560x512_S128x128_0_128) (VecWindow.window (s := S4x2x1280) X.sc ![1, 0, 0] S1x1x128.size inb_S4x2x1280_S1x1x128_1_0_0)) shapeCasts_S128x128_S128x128⟩) Q) :
    J (defs₀ (F := F)) steps c none (own c R) (Start X A D (vl (i 0).val) (k0_cond1 i = 1#1)) (k0_part34 (F := F) i R.a1 h1 R.a2 h2 R.a3 h3 R.a4 h4 R.a5 h5 R.a6 h6 R.a7 h7 R.a8 h8 R.a9 h9 R.a10 h10 R.a11 h11 R.a12 h12 R.a13 h13 R.a14 h14 R.a15 h15 R.a16 h16 >>= k) Q := by
  refine J.bind ?_
  unfold k0_part34
  extract_lets +onlyGivenNames q1 q2 q3 q4 q5 q6 q7 q8 q9 q10 q11 q12 q13 q14 q15 q16 jp
  have hj : J (defs₀ (F := F)) steps c none (own c R) (P1 X A D (vl (i 0).val) 0) (jp ⟨⟩) (fun b => wp frame (wpE (defs₀ (F := F)) steps (c : Thread nD τ) none) Set.univ (k b) Q) := by
    refine J.dlLoad ?_
    refine J.scLoad ?_
    refine J.dlDead fun _ => ?_
    refine J.dlStore rfl rfl rfl rfl ?_
    refine J.dlLoad ?_
    refine J.scLoad ?_
    refine J.dlDead fun _ => ?_
    refine J.pure ?_
    exact h
  clear_value jp
  refine J.dite (fun k0_h1 => ?_) (fun k0_h1 => hj.weaken fun s hs => hs.2 k0_h1)
  refine J.weaken (I' := fun s => A = acc0 ∧ Z0 X D s) ?_ (fun s hs => hs.1 k0_h1)
  by_cases hA : A = acc0
  swap
  · exact J.never fun s hs => hA hs.1
  refine J.weaken (I' := Z0 X D) ?_ (fun s hs => hs.2)
  subst hA
  refine J.initDead fun _ => ?_
  refine J.initStore rfl ?_
  refine J.for (Z1 X D) (fun _ h => h) (fun t _ => ?_) ?_
  · have ht : (t : ℕ) < 297 := t.isLt
    refine J.headDead fun _ => ?_
    refine J.headStore ht rfl ?_
    exact J.done fun _ h => h
  refine J.weaken (I' := L0 X acc0 (HhtTo X 0) D 0) ?_ (fun s hs => Z1.done hs)
  refine J.for (fun k => L0 X acc0 (HhtTo X k) D (k * 128)) (fun _ h => h) (fun t _ => ?_) ?_
  · have hk : (t : ℕ) < 20 := t.isLt
    refine J.weaken (I' := L0 X acc0 (HhtTo X t) D (t * 128 + 0)) ?_ (fun _ h => h)
    refine J.bind ?_
    refine J.hLoad ?_
    refine J.hsLoad ?_
    refine J.hhtDead fun _ => ?_
    refine J.hhtStore hk rfl rfl rfl rfl ?_
    refine J.linkId hk (by decide) rfl fun _ => ?_
    refine J.linkOk (fun h _ => h) fun _ => ?_
    iterate 2
      refine J.linkHead rfl fun _ => ?_
      refine J.linkDead2 fun _ => ?_
      refine J.linkNxt hk (by decide) rfl ?_
      refine J.linkDead3 fun _ => ?_
      refine J.linkStore hk (by decide) rfl rfl ?_
      refine J.linkId hk (by decide) rfl fun _ => ?_
      refine J.linkOk (fun h _ => h) fun _ => ?_
    refine J.pure ?_
    iterate 31
      refine J.bind ?_
      iterate 4
        refine J.linkHead rfl fun _ => ?_
        refine J.linkDead2 fun _ => ?_
        refine J.linkNxt hk (by decide) rfl ?_
        refine J.linkDead3 fun _ => ?_
        refine J.linkStore hk (by decide) rfl rfl ?_
        refine J.linkId hk (by decide) rfl fun _ => ?_
        refine J.linkOk (fun h _ => h) fun _ => ?_
      refine J.pure ?_
    refine J.linkHead rfl fun _ => ?_
    refine J.linkDead2 fun _ => ?_
    refine J.linkNxt hk (by decide) rfl ?_
    refine J.linkDead3 fun _ => ?_
    refine J.linkStore hk (by decide) rfl rfl ?_
    refine J.linkId hk (by decide) rfl fun _ => ?_
    refine J.linkOk (fun h _ => h) fun _ => ?_
    refine J.linkHead rfl fun _ => ?_
    refine J.linkDead2 fun _ => ?_
    refine J.linkNxt hk (by decide) rfl ?_
    refine J.linkDead3 fun _ => ?_
    refine J.linkStore hk (by decide) rfl rfl ?_
    exact J.done fun s hs => by
      have e : (t : ℕ) * 128 + 128 = ((t : ℕ) + 1) * 128 := by omega
      show L0 X acc0 (HhtTo X (t + 1)) D ((t + 1) * 128) s
      rw [← e]
      exact hs
  exact hj.weaken fun s hs => L0.done hs

set_option maxHeartbeats 1000000 in
/-- A grid step. -/
theorem step (i : grid0.Coords) (h1 : R.a1.IsWhole) (h2 : R.a2.IsWhole) (h3 : R.a3.IsWhole) (h4 : R.a4.IsWhole) (h5 : R.a5.IsWhole) (h6 : R.a6.IsWhole) (h7 : R.a7.IsWhole) (h8 : R.a8.IsWhole) (h9 : R.a9.IsWhole) (h10 : R.a10.IsWhole) (h11 : R.a11.IsWhole) (h12 : R.a12.IsWhole) (h13 : R.a13.IsWhole) (h14 : R.a14.IsWhole) (h15 : R.a15.IsWhole) (h16 : R.a16.IsWhole) :
    J (defs₀ (F := F)) steps c none (own c R) (Start X A D (vl (i 0).val) (k0_cond1 i = 1#1)) (cc0_tied_embedding_grad (F := F) i R.a1 h1 R.a2 h2 R.a3 h3 R.a4 h4 R.a5 h5 R.a6 h6 R.a7 h7 R.a8 h8 R.a9 h9 R.a10 h10 R.a11 h11 R.a12 h12 R.a13 h13 R.a14 h14 R.a15 h15 R.a16 h16)
      (fun _ => End (own c R) (Post X A i)) := by
  unfold cc0_tied_embedding_grad
  refine J.bind ?_
  unfold k0_part76
  refine start i h1 h2 h3 h4 h5 h6 h7 h8 h9 h10 h11 h12 h13 h14 h15 h16 ?_
  refine J.bind ?_
  refine J.dlStore rfl rfl rfl rfl ?_
  iterate 78
    first | refine J.dlLoad ?_ | (refine J.pure ?_; refine J.bind ?_; refine J.dlLoad ?_)
    first | refine J.scLoad ?_ | (refine J.pure ?_; refine J.bind ?_; refine J.scLoad ?_)
    first | refine J.dlDead fun _ => ?_ | (refine J.pure ?_; refine J.bind ?_; refine J.dlDead fun _ => ?_)
    first | refine J.dlStore rfl rfl rfl rfl ?_ | (refine J.pure ?_; refine J.bind ?_; refine J.dlStore rfl rfl rfl rfl ?_)
  refine J.weaken (I' := P2 X A D (vl (i 0).val) 0) ?_ (fun s hs => P1.done hs)
  iterate 4
    first | refine J.eLoad ?_ | (refine J.pure ?_; refine J.bind ?_; refine J.eLoad ?_)
    first | refine J.esLoad ?_ | (refine J.pure ?_; refine J.bind ?_; refine J.esLoad ?_)
    first | refine J.eeDead fun _ => ?_ | (refine J.pure ?_; refine J.bind ?_; refine J.eeDead fun _ => ?_)
    first | refine J.eeStore rfl rfl rfl rfl ?_ | (refine J.pure ?_; refine J.bind ?_; refine J.eeStore rfl rfl rfl rfl ?_)
  refine J.weaken (I' := P3 X A D (vl (i 0).val) fun _ => True) ?_ (fun s hs => P2.done hs)
  refine J.hhtAll ?_
  refine J.dlAll ?_
  refine J.deDead fun _ => ?_
  refine J.detStore rfl ?_
  refine J.scHead rfl (i 0).isLt fun _ => ?_
  iterate 16
    first | refine J.scOk (fun h => h) fun _ => ?_ | (refine J.pure ?_; refine J.bind ?_; refine J.scOk (fun h => h) fun _ => ?_)
    first | refine J.scId rfl fun _ => ?_ | (refine J.pure ?_; refine J.bind ?_; refine J.scId rfl fun _ => ?_)
    first | refine J.scRowOk (fun h => h) fun _ => ?_ | (refine J.pure ?_; refine J.bind ?_; refine J.scRowOk (fun h => h) fun _ => ?_)
    first | refine J.scEmb ?_ | (refine J.pure ?_; refine J.bind ?_; refine J.scEmb ?_)
    first | refine J.scCur rfl fun _ => ?_ | (refine J.pure ?_; refine J.bind ?_; refine J.scCur rfl fun _ => ?_)
    first | refine J.scDead fun _ => ?_ | (refine J.pure ?_; refine J.bind ?_; refine J.scDead fun _ => ?_)
    first | refine J.scStore rfl rfl rfl ?_ | (refine J.pure ?_; refine J.bind ?_; refine J.scStore rfl rfl rfl ?_)
    first | refine J.scNxt rfl fun _ => ?_ | (refine J.pure ?_; refine J.bind ?_; refine J.scNxt rfl fun _ => ?_)
  refine J.callEnd (P3 X A D (vl (i 0).val) (Scatted X (vl (i 0).val) (i 0).val)) (2544 : ℕ) ?_ (while1 ..) fun _ => ?_
  · intro u hu
    cases hu
  refine J.weaken (I' := P4 X A D (vl (i 0).val) (Scatted X (vl (i 0).val) (i 0).val) 0) ?_ (fun s hs => P3.acc0 hs)
  iterate 9
    first | refine J.accLoad (by rfl) (by rfl) ?_ | (refine J.pure ?_; refine J.bind ?_; refine J.accLoad (by rfl) (by rfl) ?_)
    first | refine J.eetAll ?_ | (refine J.pure ?_; refine J.bind ?_; refine J.eetAll ?_)
    first | refine J.dlRows ?_ | (refine J.pure ?_; refine J.bind ?_; refine J.dlRows ?_)
    first | refine J.accDead fun _ => ?_ | (refine J.pure ?_; refine J.bind ?_; refine J.accDead fun _ => ?_)
    first | refine J.accStore rfl rfl rfl rfl ?_ | (refine J.pure ?_; refine J.bind ?_; refine J.accStore rfl rfl rfl rfl ?_)
  refine J.pure ?_
  refine J.accLoad (by rfl) (by rfl) ?_
  refine J.eetAll ?_
  refine J.dlRows ?_
  refine J.pure ?_
  refine J.accDead fun _ => ?_
  refine J.accStore rfl rfl rfl rfl ?_
  refine J.weaken (I' := P5 X A (vl (i 0).val) (Scatted X (vl (i 0).val) (i 0).val) 0) ?_ (fun s hs => P4.done hs)
  refine J.dite (fun k0_h2 => ?_) (fun k0_h2 => ?_)
  · refine J.bind ?_
    iterate 10
      first | refine J.accRead ?_ | (refine J.pure ?_; refine J.bind ?_; refine J.accRead ?_)
      first | refine J.dhDead fun _ => ?_ | (refine J.pure ?_; refine J.bind ?_; refine J.dhDead fun _ => ?_)
      first | refine J.dhStore rfl rfl rfl rfl ?_ | (refine J.pure ?_; refine J.bind ?_; refine J.dhStore rfl rfl rfl rfl ?_)
    refine J.pure ?_
    exact J.done fun s hs => by
      unfold Post
      rw [if_pos k0_h2]
      exact hs
  · exact J.done fun s hs => by
      unfold Post
      rw [if_neg k0_h2]
      exact hs

end Cert.KernelIdeal.Walk
-- ==== Proof.KitIdeal.lean ====
/-
  The host lines around the kernel: what the arrays hold when the kernel starts, that the arguments stay as launched,
  and each operand's block at a grid step.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Walk

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ (cfgs (F := F)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ (cfgs (F := F)) dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ (cfgs (F := F)) dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ (cfgs (F := F)) dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ (cfgs (F := F)) dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-! ## The windows' blocks -/

/-- Window `w`'s block at point `t`, read off its array as the region finds it (`V`). -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
--
--
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
--
--
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Walk

end
-- ==== Proof.RegionIdeal.lean ====
/-
  The kernel's grid: what each step's operands are, that a step carries the invariant on, and what the run leaves.
-/
module

public import proofs.«01_k».proof.Proof.Tiles
public import proofs.«01_k».proof.Proof.WalkIdeal
public import proofs.«01_k».proof.Proof.KitIdeal

@[expose] public section

set_option maxRecDepth 16384

noncomputable section

namespace Cert.KernelIdeal.Walk

open Idealize.ShloMosaic Idealize.ShloMosaic.TcCoe
open Idealize.SL Idealize.SL.RA Idealize.SL.BI
open scoped Idealize.SL.BI
open Idealize.ShloMosaic.Rounds
open Idealize.ShloMosaic.Pipeline (Dat Cfg Window BodyObligation BodyObligationLoose cellOf)
open Idealize.ShloMosaic.ValueIdx
open Cert.TiedGrad
open Cert.KernelIdeal Cert.KernelIdeal.Gen
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## The grid -/

/-- A step's coordinate is its number. -/
theorem coord (t : Fin grid0.N) : (grid0.coords t 0).val = t.val :=
  (Pipeline.Grid.coords_val t 0 (S := 1) (B := 297) (by decide) (by decide)).trans (by
    have h : t.val < 297 := lt_of_lt_of_eq t.isLt N_0
    omega)

theorem lt (t : Fin grid0.N) : t.val < 297 := lt_of_lt_of_eq t.isLt N_0

theorem cond1 (t : Fin grid0.N) : k0_cond1 (grid0.coords t) = 1#1 ↔ t.val = 0 := by
  have e : ∀ n, n < 297 → (Scalar.cmpi .ne (Scalar.extui (Scalar.cmpi .eq (BitVec.ofNat 32 n) 0#32) : BitVec 32) 0#32 = 1#1 ↔ n = 0) := by decide +kernel
  have h := e t.val (lt t)
  rw [← coord t] at h ⊢
  exact h

theorem cond2 (t : Fin grid0.N) : k0_cond2 (grid0.coords t) = 1#1 ↔ t.val = 296 := by
  have e : ∀ n, n < 297 → (Scalar.cmpi .ne (Scalar.extui (Scalar.cmpi .eq (BitVec.ofNat 32 n) 296#32) : BitVec 32) 0#32 = 1#1 ↔ n = 296) := by decide +kernel
  have h := e t.val (lt t)
  rw [← coord t] at h ⊢
  exact h

/-! ## The operands of a step -/

/-- The arrays as the kernel finds them. -/
def arrs (c : Dev nD) : Arrs F :=
  { ids := V m c main_v1, dl := V m c main_v2, sc := V m c main_v3, h := V m c main_v4, hs := V m c main_v5, e := V m c main_arg4,
    es := V m c main_v6, demb := V m c main_v0 }

/-- A block's coordinate is inside the array exactly where the transfer moves it. -/
theorem moved_of {ix k d j : ℕ} (hj : j < k) : j < (Pipeline.Clip.of ix k d).extent k ↔ ix * k + j < d := by
  unfold Pipeline.Clip.of
  split
  · rename_i h
    rw [Nat.succ_mul] at h
    show j < k ↔ _
    omega
  · rename_i h
    rw [Nat.succ_mul] at h
    show j < d - ix * k ↔ _
    omega

theorem moved_all {k j : ℕ} (hj : j < k) : j < (Pipeline.Clip.of 0 k k).extent k :=
  (moved_of hj).mpr (by omega)

/-- Inside the array a filled block holds the block's element, -/
theorem fill_pos {G : Pipeline.Grid} (w : Window sig G) {α : Type} (i : G.Coords) (d : w.block.Idx → α) (g : (w.xblock i).Idx → α) (j : w.block.Idx)
    (v : α) (h : w.moved i j = true) (hg : ∀ y : (w.xblock i).Idx, (∀ a, (y a).val = (j a).val) → g y = v) : w.fill i d g j = v := by
  unfold Window.fill
  rw [dif_pos h]
  exact hg _ fun _ => rfl
/-- elsewhere what it was filled with. -/
theorem fill_neg {G : Pipeline.Grid} (w : Window sig G) {α : Type} (i : G.Coords) (d : w.block.Idx → α) (g : (w.xblock i).Idx → α) (j : w.block.Idx)
    (h : ¬ w.moved i j = true) : w.fill i d g j = d j := by
  unfold Window.fill
  rw [dif_neg h]

theorem word (t : Fin grid0.N) : (BitVec.ofNat 32 (grid0.coords t 0).val).toNat = t.val := by
  rw [coord]
  have := lt t
  rw [BitVec.toNat_ofNat]
  omega

/-- Window 1: the tile of `main_v2`. -/
theorem fill1 (c : Dev nD) (t : Fin grid0.N) (d : S2560x512.Idx → Elt F .fp8e5m2) :
    win0_1.fill (grid0.coords t) d (iblk m c 1 t) = dlTile (V m c main_v2) d t.val := by
  funext j
  have hm : win0_1.moved (grid0.coords t) j = true ↔ t.val * 512 + (j 1).val < 151936 := by
    rw [win0_1.moved_iff]
    constructor
    · intro h
      have h1 : (j 1).val < (Pipeline.Clip.of (BitVec.ofNat 32 (grid0.coords t 0).val).toNat 512 151936).extent 512 := h 1
      rw [word] at h1
      exact (moved_of (j 1).isLt).mp h1
    · intro h a
      match a with
      | ⟨0, _⟩ =>
        show (j 0).val < (Pipeline.Clip.of 0 2560 2560).extent 2560
        exact moved_all (j 0).isLt
      | ⟨1, _⟩ =>
        show (j 1).val < (Pipeline.Clip.of (BitVec.ofNat 32 (grid0.coords t 0).val).toNat 512 151936).extent 512
        rw [word]
        exact (moved_of (j 1).isLt).mpr h
  by_cases h : t.val * 512 + (j 1).val < 151936
  · refine (fill_pos win0_1 _ _ _ _ _ (hm.mpr h) fun y hy => ?_).trans (dlTile_in h : dlTile (V m c main_v2) d t.val j = _).symm
    refine congrArg (V m c main_v2) (funext fun a => Fin.ext ?_)
    match a with
    | ⟨0, ha⟩ =>
      have e : (y ⟨0, ha⟩).val = (j 0).val := hy ⟨0, ha⟩
      show 0 * 2560 + 1 * (y ⟨0, ha⟩).val = (j 0).val
      rw [e, Nat.one_mul, Nat.zero_mul, Nat.zero_add]
    | ⟨1, ha⟩ =>
      have e : (y ⟨1, ha⟩).val = (j 1).val := hy ⟨1, ha⟩
      show (BitVec.ofNat 32 (grid0.coords t 0).val).toNat * 512 + 1 * (y ⟨1, ha⟩).val = t.val * 512 + (j 1).val
      rw [e, word, Nat.one_mul]
  · exact (fill_neg win0_1 _ _ _ _ (fun e => h (hm.mp e))).trans (dif_neg h : dlTile (V m c main_v2) d t.val j = d j).symm

/-- Window 2: the tile of `main_v3`. -/
theorem fill2 (c : Dev nD) (t : Fin grid0.N) (d : S4x2x1280.Idx → Elt F .f32) :
    win0_2.fill (grid0.coords t) d (iblk m c 2 t) = scTile (V m c main_v3) d t.val := by
  funext j
  have hm : win0_2.moved (grid0.coords t) j = true ↔ t.val * 4 + (j 0).val < 1187 := by
    rw [win0_2.moved_iff]
    constructor
    · intro h
      have h1 : (j 0).val < (Pipeline.Clip.of (BitVec.ofNat 32 (grid0.coords t 0).val).toNat 4 1187).extent 4 := h 0
      rw [word] at h1
      exact (moved_of (j 0).isLt).mp h1
    · intro h a
      match a with
      | ⟨0, _⟩ =>
        show (j 0).val < (Pipeline.Clip.of (BitVec.ofNat 32 (grid0.coords t 0).val).toNat 4 1187).extent 4
        rw [word]
        exact (moved_of (j 0).isLt).mpr h
      | ⟨1, _⟩ =>
        show (j 1).val < (Pipeline.Clip.of 0 2 2).extent 2
        exact moved_all (j 1).isLt
      | ⟨2, _⟩ =>
        show (j 2).val < (Pipeline.Clip.of 0 1280 1280).extent 1280
        exact moved_all (j 2).isLt
  by_cases h : t.val * 4 + (j 0).val < 1187
  · refine (fill_pos win0_2 _ _ _ _ _ (hm.mpr h) fun y hy => ?_).trans (scTile_in h : scTile (V m c main_v3) d t.val j = _).symm
    refine congrArg (V m c main_v3) (funext fun a => Fin.ext ?_)
    match a with
    | ⟨0, ha⟩ =>
      have e : (y ⟨0, ha⟩).val = (j 0).val := hy ⟨0, ha⟩
      show (BitVec.ofNat 32 (grid0.coords t 0).val).toNat * 4 + 1 * (y ⟨0, ha⟩).val = t.val * 4 + (j 0).val
      rw [e, word, Nat.one_mul]
    | ⟨1, ha⟩ =>
      have e : (y ⟨1, ha⟩).val = (j 1).val := hy ⟨1, ha⟩
      show 0 * 2 + 1 * (y ⟨1, ha⟩).val = (j 1).val
      rw [e, Nat.one_mul, Nat.zero_mul, Nat.zero_add]
    | ⟨2, ha⟩ =>
      have e : (y ⟨2, ha⟩).val = (j 2).val := hy ⟨2, ha⟩
      show 0 * 1280 + 1 * (y ⟨2, ha⟩).val = (j 2).val
      rw [e, Nat.one_mul, Nat.zero_mul, Nat.zero_add]
  · exact (fill_neg win0_2 _ _ _ _ (fun e => h (hm.mp e))).trans (dif_neg h : scTile (V m c main_v3) d t.val j = d j).symm

/-- Window 5: the tile of `main_arg4`. -/
theorem fill5 (c : Dev nD) (t : Fin grid0.N) (d : S512x896.Idx → Elt F .i8) :
    win0_5.fill (grid0.coords t) d (iblk m c 5 t) = eTile (V m c main_arg4) d t.val := by
  funext j
  have hm : win0_5.moved (grid0.coords t) j = true ↔ t.val * 512 + (j 0).val < 151936 := by
    rw [win0_5.moved_iff]
    constructor
    · intro h
      have h1 : (j 0).val < (Pipeline.Clip.of (BitVec.ofNat 32 (grid0.coords t 0).val).toNat 512 151936).extent 512 := h 0
      rw [word] at h1
      exact (moved_of (j 0).isLt).mp h1
    · intro h a
      match a with
      | ⟨0, _⟩ =>
        show (j 0).val < (Pipeline.Clip.of (BitVec.ofNat 32 (grid0.coords t 0).val).toNat 512 151936).extent 512
        rw [word]
        exact (moved_of (j 0).isLt).mpr h
      | ⟨1, _⟩ =>
        show (j 1).val < (Pipeline.Clip.of 0 896 896).extent 896
        exact moved_all (j 1).isLt
  by_cases h : t.val * 512 + (j 0).val < 151936
  · refine (fill_pos win0_5 _ _ _ _ _ (hm.mpr h) fun y hy => ?_).trans (eTile_in h : eTile (V m c main_arg4) d t.val j = _).symm
    refine congrArg (V m c main_arg4) (funext fun a => Fin.ext ?_)
    match a with
    | ⟨0, ha⟩ =>
      have e : (y ⟨0, ha⟩).val = (j 0).val := hy ⟨0, ha⟩
      show (BitVec.ofNat 32 (grid0.coords t 0).val).toNat * 512 + 1 * (y ⟨0, ha⟩).val = t.val * 512 + (j 0).val
      rw [e, word, Nat.one_mul]
    | ⟨1, ha⟩ =>
      have e : (y ⟨1, ha⟩).val = (j 1).val := hy ⟨1, ha⟩
      show 0 * 896 + 1 * (y ⟨1, ha⟩).val = (j 1).val
      rw [e, Nat.one_mul, Nat.zero_mul, Nat.zero_add]
  · exact (fill_neg win0_5 _ _ _ _ (fun e => h (hm.mp e))).trans (dif_neg h : eTile (V m c main_arg4) d t.val j = d j).symm

/-- Window 6: the tile of `main_v6`. -/
theorem fill6 (c : Dev nD) (t : Fin grid0.N) (d : S1x512.Idx → Elt F .f32) :
    win0_6.fill (grid0.coords t) d (iblk m c 6 t) = esTile (V m c main_v6) d t.val := by
  funext j
  have hm : win0_6.moved (grid0.coords t) j = true ↔ t.val * 512 + (j 1).val < 151936 := by
    rw [win0_6.moved_iff]
    constructor
    · intro h
      have h1 : (j 1).val < (Pipeline.Clip.of (BitVec.ofNat 32 (grid0.coords t 0).val).toNat 512 151936).extent 512 := h 1
      rw [word] at h1
      exact (moved_of (j 1).isLt).mp h1
    · intro h a
      match a with
      | ⟨0, _⟩ =>
        show (j 0).val < (Pipeline.Clip.of 0 1 1).extent 1
        exact moved_all (j 0).isLt
      | ⟨1, _⟩ =>
        show (j 1).val < (Pipeline.Clip.of (BitVec.ofNat 32 (grid0.coords t 0).val).toNat 512 151936).extent 512
        rw [word]
        exact (moved_of (j 1).isLt).mpr h
  by_cases h : t.val * 512 + (j 1).val < 151936
  · refine (fill_pos win0_6 _ _ _ _ _ (hm.mpr h) fun y hy => ?_).trans (esTile_in h : esTile (V m c main_v6) d t.val j = _).symm
    refine congrArg (V m c main_v6) (funext fun a => Fin.ext ?_)
    match a with
    | ⟨0, ha⟩ =>
      have e : (y ⟨0, ha⟩).val = (j 0).val := hy ⟨0, ha⟩
      show 0 * 1 + 1 * (y ⟨0, ha⟩).val = (j 0).val
      rw [e, Nat.one_mul, Nat.zero_mul, Nat.zero_add]
    | ⟨1, ha⟩ =>
      have e : (y ⟨1, ha⟩).val = (j 1).val := hy ⟨1, ha⟩
      show (BitVec.ofNat 32 (grid0.coords t 0).val).toNat * 512 + 1 * (y ⟨1, ha⟩).val = t.val * 512 + (j 1).val
      rw [e, word, Nat.one_mul]
  · exact (fill_neg win0_6 _ _ _ _ (fun e => h (hm.mp e))).trans (dif_neg h : esTile (V m c main_v6) d t.val j = d j).symm

/-- Window 0: all of `main_v1`. -/
theorem iblk0 (c : Dev nD) (t : Fin grid0.N) : iblk m c 0 t = V m c main_v1 := by
  refine funext (α := S2560.Idx) fun j => congrArg (V m c main_v1) (funext fun a => Fin.ext ?_)
  match a with
  | ⟨0, _⟩ =>
    show 0 * 2560 + 1 * (j 0).val = (j 0).val
    omega

/-- Window 3: all of `main_v4`. -/
theorem iblk3 (c : Dev nD) (t : Fin grid0.N) : iblk m c 3 t = V m c main_v4 := by
  refine funext (α := S2560x896.Idx) fun j => congrArg (V m c main_v4) (funext fun a => Fin.ext ?_)
  match a with
  | ⟨0, _⟩ =>
    show 0 * 2560 + 1 * (j 0).val = (j 0).val
    omega
  | ⟨1, _⟩ =>
    show 0 * 896 + 1 * (j 1).val = (j 1).val
    omega

/-- Window 4: all of `main_v5`. -/
theorem iblk4 (c : Dev nD) (t : Fin grid0.N) : iblk m c 4 t = V m c main_v5 := by
  refine funext (α := S1x2560.Idx) fun j => congrArg (V m c main_v5) (funext fun a => Fin.ext ?_)
  match a with
  | ⟨0, _⟩ =>
    show 0 * 1 + 1 * (j 0).val = (j 0).val
    omega
  | ⟨1, _⟩ =>
    show 0 * 2560 + 1 * (j 1).val = (j 1).val
    omega

/-- Window 7: all of `main_v0`. -/
theorem iblk7 (c : Dev nD) (t : Fin grid0.N) : iblk m c 7 t = V m c main_v0 := by
  refine funext (α := S2560x896.Idx) fun j => congrArg (V m c main_v0) (funext fun a => Fin.ext ?_)
  match a with
  | ⟨0, _⟩ =>
    show 0 * 2560 + 1 * (j 0).val = (j 0).val
    omega
  | ⟨1, _⟩ =>
    show 0 * 896 + 1 * (j 1).val = (j 1).val
    omega

/-! ## The buffers -/

/-- The buffers the body works on at step `t`: each window's current staging buffer, and the scratch buffers. -/
def Rt (t : Fin (cfg0 (F := F)).N) : Refs sig :=
  { a1 := st0_0 t, a2 := st0_1 t, a3 := st0_2 t, a4 := st0_3 t, a5 := st0_4 t, a6 := st0_5 t, a7 := st0_6 t, a8 := st0_7 t, a9 := st0_8 t,
    a10 := st0_9 t, a11 := Memref.whole cc0_scratch0, a12 := Memref.whole cc0_scratch1, a13 := Memref.whole cc0_scratch2,
    a14 := Memref.whole cc0_scratch3, a15 := Memref.whole cc0_scratch4, a16 := Memref.whole cc0_scratch5 }

/-- What holds between the steps: `Inv`, which reads the scratch buffers only. -/
def Mid (c : Dev nD) (n : ℕ) : sProp (MT nD τ sig Unit (Elt F) ℕ (UR sig nD τ) ℕ) :=
  Inv c (Rt (F := F) ⟨0, lt_of_lt_of_eq (by decide) N_0.symm⟩) (arrs m c) n

/-- One step: from the invariant and its operands, whatever lies past the arrays' ends and in the results' buffers, to the
    invariant at the next step, the operands as they were, the tile of the table's gradient, and in the last step the hidden
    states' gradient. -/
theorem core (c : Dev nD) (t : Fin (cfg0 (F := F)).N) (ok : IdsOk ((arrs m c).tile 0)) (d1 : S2560x512.Idx → Elt F .fp8e5m2)
    (d2 : S4x2x1280.Idx → Elt F .f32) (d5 : S512x896.Idx → Elt F .i8) (d6 : S1x512.Idx → Elt F .f32)
    (d8 : S512x896.Idx → Elt F .f32) (d9 : S2560x896.Idx → Elt F .bf16) :
    iprop(Mid m c t.val ∗ owns (c : Thread nD τ) (st0_0 t) fullShare (arrs m c).ids
      ∗ owns (c : Thread nD τ) (st0_1 t) fullShare (dlTile (arrs m c).dl d1 t.val)
      ∗ owns (c : Thread nD τ) (st0_2 t) fullShare (scTile (arrs m c).sc d2 t.val)
      ∗ owns (c : Thread nD τ) (st0_3 t) fullShare (arrs m c).h ∗ owns (c : Thread nD τ) (st0_4 t) fullShare (arrs m c).hs
      ∗ owns (c : Thread nD τ) (st0_5 t) fullShare (eTile (arrs m c).e d5 t.val)
      ∗ owns (c : Thread nD τ) (st0_6 t) fullShare (esTile (arrs m c).es d6 t.val)
      ∗ owns (c : Thread nD τ) (st0_7 t) fullShare (arrs m c).demb
      ∗ owns (c : Thread nD τ) (st0_8 t) fullShare d8 ∗ owns (c : Thread nD τ) (st0_9 t) fullShare d9)
    ⊢ wp frame (wpE (defs₀ (F := F)) steps (c : Thread nD τ) none) Set.univ (bodyAt0 (F := F) t) (fun _ =>
      iprop(∃ de dh, ⌜Scatted ((arrs m c).tile t.val) (vl t.val) t.val de ∧ (t.val = 296 → dh = dhF (accK (arrs m c) (t.val + 1)))⌝
        ∗ Mid m c (t.val + 1) ∗ owns (c : Thread nD τ) (st0_0 t) fullShare (arrs m c).ids
        ∗ owns (c : Thread nD τ) (st0_1 t) fullShare (dlTile (arrs m c).dl d1 t.val)
        ∗ owns (c : Thread nD τ) (st0_2 t) fullShare (scTile (arrs m c).sc d2 t.val)
        ∗ owns (c : Thread nD τ) (st0_3 t) fullShare (arrs m c).h ∗ owns (c : Thread nD τ) (st0_4 t) fullShare (arrs m c).hs
        ∗ owns (c : Thread nD τ) (st0_5 t) fullShare (eTile (arrs m c).e d5 t.val)
        ∗ owns (c : Thread nD τ) (st0_6 t) fullShare (esTile (arrs m c).es d6 t.val)
        ∗ owns (c : Thread nD τ) (st0_7 t) fullShare (arrs m c).demb
        ∗ owns (c : Thread nD τ) (st0_8 t) fullShare de ∗ owns (c : Thread nD τ) (st0_9 t) fullShare dh)) := by
  have ht : t.val < 297 := lt t
  unfold Mid TiedGrad.Inv
  iintro ⟨⟨%s, %hk, ⟨H11, H12, H13, H14, H15, H16⟩, Hp⟩, H0, H1, H2, H3, H4, H5, H6, H7, H8, H9⟩
  have hs := step (R := Rt (F := F) t) (c := c) (X := (arrs m c).at t.val d1 d2 d5 d6) (A := accK (arrs m c) t.val) (D := d9) (grid0.coords t)
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (hstage0_6 ((cfg0.slots t 6).cast nbuf0_6)) (hstage0_7 ((cfg0.slots t 7).cast nbuf0_7)) (hstage0_8 ((cfg0.slots t 8).cast nbuf0_8))
    (hstage0_9 ((cfg0.slots t 9).cast nbuf0_9)) (Memref.isWhole_whole _) (Memref.isWhole_whole _) (Memref.isWhole_whole _) (Memref.isWhole_whole _)
    (Memref.isWhole_whole _) (Memref.isWhole_whole _)
    { s with ins := (arrs m c).at t.val d1 d2 d5 d6, de := d8, dh := d9 }
    (by rw [coord]; exact start_of (arrs m c) t.val ht ok s hk d1 d2 d5 d6 d8 d9 (cond1 t))
  iapply (wp_wand_r frame (wpE (defs₀ (F := F)) steps (c : Thread nD τ) none) Set.univ)
  isplitl [H0 H1 H2 H3 H4 H5 H6 H7 H8 H9 H11 H12 H13 H14 H15 H16]
  · iapply hs
    unfold TiedGrad.own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [H14]; · iexact H14
    isplitl [H15]; · iexact H15
    iexact H16
  · iintro %u H
    unfold End
    icases H with ⟨%s', %hp, H⟩
    have hp' : P5 ((arrs m c).at t.val d1 d2 d5 d6) (accK (arrs m c) t.val) (vl t.val)
        (Scatted ((arrs m c).at t.val d1 d2 d5 d6) (vl t.val) t.val) (if k0_cond2 (grid0.coords t) = 1#1 then 10 else 0) s' := by
      have e := hp
      unfold Post at e
      rw [coord] at e
      exact e
    obtain ⟨q1, q2, q3⟩ := post_of (arrs m c) t.val ht d1 d2 d5 d6 _ s' hp'
    have hi : s'.ins = (arrs m c).at t.val d1 d2 d5 d6 := hp'.tile.ins
    unfold TiedGrad.own
    rw [hi]
    icases H with ⟨H0, H1, H2, H3, H4, H5, H6, H7, H8, H9, H11, H12, H13, H14, H15, H16⟩
    iexists s'.de
    iexists s'.dh
    isplitr
    · ipureintro
      exact ⟨q2, fun h => q3 (if_pos ((cond2 t).mpr h))⟩
    isplitl [H11 H12 H13 H14 H15 H16 Hp]
    · iexists s'
      isplitr
      · ipureintro
        exact fun _ => q1
      isplitl [H11 H12 H13 H14 H15 H16]
      · isplitl [H11]; · iexact H11
        isplitl [H12]; · iexact H12
        isplitl [H13]; · iexact H13
        isplitl [H14]; · iexact H14
        isplitl [H15]; · iexact H15
        iexact H16
      · iexact Hp
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.KernelIdeal.Walk
-- ==== Proof.RunIdeal.lean ====
/-
  The kernel's grid, run: what the buffers hold after each step, the body's obligation, and the run.
-/
module

public import proofs.«01_k».proof.Proof.RegionIdeal

@[expose] public section

set_option maxRecDepth 16384

noncomputable section

namespace Cert.KernelIdeal.Walk

open Idealize.ShloMosaic Idealize.ShloMosaic.TcCoe
open Idealize.SL Idealize.SL.RA Idealize.SL.BI
open scoped Idealize.SL.BI
open Idealize.ShloMosaic.Rounds
open Idealize.ShloMosaic.Pipeline (Dat Cfg Window BodyObligation BodyObligationLoose cellOf)
open Idealize.ShloMosaic.ValueIdx
open Cert.TiedGrad
open Cert.KernelIdeal Cert.KernelIdeal.Gen
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## The proof data -/

/-- What the windows' buffers hold after each step. -/
def dats (_ : Fin 1) (c : Dev nD) : Dat τ (Elt F) Unit ℕ (UR sig nD τ) ℕ (cfg0 (F := F)) c where
  A w := V m c (Pipeline.arrRef spec0 w)
  after w t := match w with
    | ⟨0, _⟩ => (arrs m c).ids
    | ⟨1, _⟩ => ((arrs m c).tile t.val).dl
    | ⟨2, _⟩ => ((arrs m c).tile t.val).sc
    | ⟨3, _⟩ => (arrs m c).h
    | ⟨4, _⟩ => (arrs m c).hs
    | ⟨5, _⟩ => ((arrs m c).tile t.val).e
    | ⟨6, _⟩ => ((arrs m c).tile t.val).es
    | ⟨7, _⟩ => (arrs m c).demb
    | ⟨8, _⟩ => deF (arrs m c) t.val
    | ⟨9, _⟩ => dhF (accK (arrs m c) 297)
  Φ k := Mid m c k.val
  q _ := fullShare
  owed _ := 0

theorem hA (c : Dev nD) (w) : (dats m 0 c).A w = V m c (Pipeline.arrRef spec0 w) := rfl

/-! What the body finds. -/

theorem found0 (c : Dev nD) (t : Fin (cfg0 (F := F)).N) (d) : (dats m 0 c).before 0 t d = (arrs m c).ids :=
  (before0_0_of m (dats m 0 c) (hA m c 0) (fun s => (iblk0 m c s).symm) t d).trans (iblk0 m c t)
theorem found3 (c : Dev nD) (t : Fin (cfg0 (F := F)).N) (d) : (dats m 0 c).before 3 t d = (arrs m c).h :=
  (before0_3_of m (dats m 0 c) (hA m c 3) (fun s => (iblk3 m c s).symm) t d).trans (iblk3 m c t)
theorem found4 (c : Dev nD) (t : Fin (cfg0 (F := F)).N) (d) : (dats m 0 c).before 4 t d = (arrs m c).hs :=
  (before0_4_of m (dats m 0 c) (hA m c 4) (fun s => (iblk4 m c s).symm) t d).trans (iblk4 m c t)
theorem found7 (c : Dev nD) (t : Fin (cfg0 (F := F)).N) (d) : (dats m 0 c).before 7 t d = (arrs m c).demb :=
  (before0_7_of m (dats m 0 c) (hA m c 7) (fun s => (iblk7 m c s).symm) t d).trans (iblk7 m c t)
theorem found1 (c : Dev nD) (t : Fin (cfg0 (F := F)).N) (d) : (dats m 0 c).before 1 t d = dlTile (arrs m c).dl d t.val := by
  unfold Dat.before
  rw [if_pos (fetch0_1 t)]
  exact fill1 m c t d
theorem found2 (c : Dev nD) (t : Fin (cfg0 (F := F)).N) (d) : (dats m 0 c).before 2 t d = scTile (arrs m c).sc d t.val := by
  unfold Dat.before
  rw [if_pos (fetch0_2 t)]
  exact fill2 m c t d
theorem found5 (c : Dev nD) (t : Fin (cfg0 (F := F)).N) (d) : (dats m 0 c).before 5 t d = eTile (arrs m c).e d t.val := by
  unfold Dat.before
  rw [if_pos (fetch0_5 t)]
  exact fill5 m c t d
theorem found6 (c : Dev nD) (t : Fin (cfg0 (F := F)).N) (d) : (dats m 0 c).before 6 t d = esTile (arrs m c).es d t.val := by
  unfold Dat.before
  rw [if_pos (fetch0_6 t)]
  exact fill6 m c t d

/-! What it gives back of an operand whose last block is cut: the block as found. -/

theorem give1 (c : Dev nD) (t : Fin grid0.N) (d) :
    win0_1.fill (grid0.coords t) d (win0_1.cut (grid0.coords t) ((arrs m c).tile t.val).dl) = dlTile (arrs m c).dl d t.val := by
  exact (congrArg (fun x => win0_1.fill (grid0.coords t) d (win0_1.cut (grid0.coords t) x)) (fill1 m c t _).symm).trans
    ((congrArg (win0_1.fill (grid0.coords t) d) (win0_1.cut_fill _ _ _)).trans (fill1 m c t d))
theorem give2 (c : Dev nD) (t : Fin grid0.N) (d) :
    win0_2.fill (grid0.coords t) d (win0_2.cut (grid0.coords t) ((arrs m c).tile t.val).sc) = scTile (arrs m c).sc d t.val := by
  exact (congrArg (fun x => win0_2.fill (grid0.coords t) d (win0_2.cut (grid0.coords t) x)) (fill2 m c t _).symm).trans
    ((congrArg (win0_2.fill (grid0.coords t) d) (win0_2.cut_fill _ _ _)).trans (fill2 m c t d))
theorem give5 (c : Dev nD) (t : Fin grid0.N) (d) :
    win0_5.fill (grid0.coords t) d (win0_5.cut (grid0.coords t) ((arrs m c).tile t.val).e) = eTile (arrs m c).e d t.val := by
  exact (congrArg (fun x => win0_5.fill (grid0.coords t) d (win0_5.cut (grid0.coords t) x)) (fill5 m c t _).symm).trans
    ((congrArg (win0_5.fill (grid0.coords t) d) (win0_5.cut_fill _ _ _)).trans (fill5 m c t d))
theorem give6 (c : Dev nD) (t : Fin grid0.N) (d) :
    win0_6.fill (grid0.coords t) d (win0_6.cut (grid0.coords t) ((arrs m c).tile t.val).es) = esTile (arrs m c).es d t.val := by
  exact (congrArg (fun x => win0_6.fill (grid0.coords t) d (win0_6.cut (grid0.coords t) x)) (fill6 m c t _).symm).trans
    ((congrArg (win0_6.fill (grid0.coords t) d) (win0_6.cut_fill _ _ _)).trans (fill6 m c t d))

/-- A buffer owned at equal contents. -/
theorem owns_of_eq (c : Dev nD) {sp : Space} {s : Shape} {e : EltTy} (r : Memref sig .tc sp s e) {x y : s.Idx → Elt F e} (h : y = x) :
    (owns (c : Thread nD τ) r fullShare x : sProp (MT nD τ sig Unit (Elt F) ℕ (UR sig nD τ) ℕ)) ⊢ owns (c : Thread nD τ) r fullShare y := by
  subst h
  exact BI.Entails.refl _

/-- The results' windows, of which the frame says nothing. -/
def outs (w : Fin (cfg0 (F := F)).W) : Bool := decide (8 ≤ w.val)
theorem outs_at : outs (F := F) 0 = false ∧ outs (F := F) 1 = false ∧ outs (F := F) 2 = false ∧ outs (F := F) 3 = false ∧ outs (F := F) 4 = false
    ∧ outs (F := F) 5 = false ∧ outs (F := F) 6 = false ∧ outs (F := F) 7 = false ∧ outs (F := F) 8 = true ∧ outs (F := F) 9 = true :=
  ⟨rfl, rfl, rfl, rfl, rfl, rfl, rfl, rfl, rfl, rfl⟩

/-- The body's obligation, nothing said of the results. -/
theorem body_frame (c : Dev nD) (ok : IdsOk ((arrs m c).tile 0)) :
    BodyObligationLoose (dats m 0 c) (defs₀ (F := F)) steps () Set.univ (outs (F := F)) := fun t => by
  rw [bigSep_W0, bigSep_W0]
  obtain ⟨o0, o1, o2, o3, o4, o5, o6, o7, o8, o9⟩ := outs_at (F := F)
  simp only [o0, o1, o2, o3, o4, o5, o6, o7, o8, o9]
  rw [show (dats m 0 c).Φ t.castSucc = Mid m c t.val from rfl, show (dats m 0 c).Φ t.succ = Mid m c (t.val + 1) from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [found0 m c t d0, found1 m c t d1, found2 m c t d2, found3 m c t d3, found4 m c t d4, found5 m c t d5, found6 m c t d6, found7 m c t d7]
  iapply (wp_wand_r frame (wpE (defs₀ (F := F)) steps (c : Thread nD τ) none) Set.univ)
  isplitl [HΦ H0 H1 H2 H3 H4 H5 H6 H7 H8 H9]
  · iapply (core m c t ok d1 d2 d5 d6 d8 d9)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %u ⟨%de, %dh, %_, HΦ, H0, H1, H2, H3, H4, H5, H6, H7, H8, H9⟩
    isplitl [HΦ]; · iexact HΦ
    isplitl [Ho]; · iexact Ho
    isplitl [H0]; · iexact H0
    isplitl [H1]
    · iexists d1
      change _ ⊢ owns (c : Thread nD τ) (st0_1 t) fullShare (win0_1.fill (grid0.coords t) d1 (win0_1.cut (grid0.coords t) ((arrs m c).tile t.val).dl))
      exact owns_of_eq c (st0_1 t) (give1 m c t d1)
    isplitl [H2]
    · iexists d2
      change _ ⊢ owns (c : Thread nD τ) (st0_2 t) fullShare (win0_2.fill (grid0.coords t) d2 (win0_2.cut (grid0.coords t) ((arrs m c).tile t.val).sc))
      exact owns_of_eq c (st0_2 t) (give2 m c t d2)
    isplitl [H3]; · iexact H3
    isplitl [H4]; · iexact H4
    isplitl [H5]
    · iexists d5
      change _ ⊢ owns (c : Thread nD τ) (st0_5 t) fullShare (win0_5.fill (grid0.coords t) d5 (win0_5.cut (grid0.coords t) ((arrs m c).tile t.val).e))
      exact owns_of_eq c (st0_5 t) (give5 m c t d5)
    isplitl [H6]
    · iexists d6
      change _ ⊢ owns (c : Thread nD τ) (st0_6 t) fullShare (win0_6.fill (grid0.coords t) d6 (win0_6.cut (grid0.coords t) ((arrs m c).tile t.val).es))
      exact owns_of_eq c (st0_6 t) (give6 m c t d6)
    isplitl [H7]; · iexact H7
    isplitl [H8]; · iexists de; iexact H8
    iexists dh; iexact H9

/-! ## The run, nothing said of the results -/

theorem enter (c : Dev nD) : Pipeline.ΦA spec0 c ⊢ (dats m 0 c).Φ 0 := by
  rw [show (dats m 0 c).Φ 0 = Mid m c 0 from rfl]
  unfold Pipeline.ΦA Mid TiedGrad.Inv Rt
  rw [scopedRest0_eq]
  simp only [owns_whole_eq]
  iintro ⟨⟨⟨%f0, H0⟩, ⟨%f1, H1⟩, ⟨%f2, H2⟩, ⟨%f3, H3⟩, ⟨%f4, H4⟩, ⟨%f5, H5⟩⟩, Hp⟩
  iexists (⟨(arrs m c).tile 0, deF (arrs m c) 0, dhF (accK (arrs m c) 0), f0, f1, f2, f3, f4, f5⟩ : St F)
  isplitr
  · ipureintro
    exact fun h => absurd h (Nat.lt_irrefl 0)
  isplitr [Hp]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  · iexact Hp

theorem leave (c : Dev nD) : (dats m 0 c).Φ (Fin.last (cfg0 (F := F)).N) ⊢ Pipeline.ΦA spec0 c := by
  rw [show (dats m 0 c).Φ (Fin.last (cfg0 (F := F)).N) = Mid m c (cfg0 (F := F)).N from rfl]
  unfold Pipeline.ΦA Mid TiedGrad.Inv Rt
  rw [scopedRest0_eq]
  simp only [owns_whole_eq]
  iintro ⟨%s, %_, ⟨⟨%f0, %_, H0⟩, ⟨%f1, %_, H1⟩, ⟨%f2, %_, H2⟩, ⟨%f3, %_, H3⟩, ⟨%f4, %_, H4⟩, ⟨%f5, %_, H5⟩⟩, Hp⟩
  isplitr [Hp]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  · iexact Hp

set_option backward.isDefEq.respectTransparency.types false in
/-- The run of the whole program: every array that no window writes back ends as the kernel found it, and so does every
    buffer but the last result's; every semaphore ends at zero. -/
theorem run_frame (ok : ∀ c, IdsOk ((arrs m c).tile 0)) :
    θ_run defs (onTc (τ := τ) (main (F := F))) ⟨m, fun _ => 0, ρ⟩ (fun r =>
      Pipeline.RDat.FramePostR (cfg0 (F := F)) (fun c => (dats m 0 c).toRForget (outs (F := F))) {main_v8} (fun c b => V0 m c (Proc.devRef .tc b)) r
        ∧ r.2.sem = fun _ => 0) :=
  Pipeline.θ_run_frame_around_T_track_forget (cfgs (F := F)) (dats m) 0 launch0 defs₀ steps (outs (F := F)) {main_v8} m ρ main
    (fun c => body_frame m c (ok c)) (fun c => (dats m 0 c).share_full fun _ => rfl) (fun _ _ => rfl) (V0 m) [hostOps1] sfx_sub sfx_fresh sfx_keeps
    (by
      intro ops hops op hop
      simp only [List.mem_cons, List.mem_nil_iff, or_false] at hops
      rcases hops with rfl
      simp only [hostOps1, List.mem_cons, List.mem_nil_iff, or_false] at hop
      rcases hop with rfl
      intro b hb
      simp only [StableHlo.reshape_writes, Finset.mem_singleton] at hb
      exact Finset.mem_singleton.mpr (Proc.devRef_injective _ hb))
    (hmain m steps) (fun _ _ => rfl) (enter m) (leave m) _ (fun _ h => h)

/-- The arguments end as they were. -/
theorem frame (ok : ∀ c, IdsOk ((arrs m c).tile 0)) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) := by
  refine (θ_run defs _ _).mono (fun r h => ⟨fun c => ?_, h.2⟩) (run_frame m ρ ok)
  have h5 : r.2.mem ((c : Thread nD τ).loc main_arg4) = V m c main_arg4 := by
    have e := (h.1 c).1 5
    rw [Pipeline.RDat.ArrAt_in _ 5 rfl] at e
    exact e
  refine ⟨?_, ?_, ?_, ?_, h5.trans (V_main_arg4 m c), ?_, ?_, ?_⟩
  · exact ((h.1 c).2 main_arg0 (Finset.mem_sdiff.mpr ⟨Pipeline.mem_restRefs_of main_arg0 (by decide) (by exact (by decide : ∀ w, Pipeline.arrRef spec0 w ≠ main_arg0)), by decide⟩)).trans (V_main_arg0 m c)
  · exact ((h.1 c).2 main_arg1 (Finset.mem_sdiff.mpr ⟨Pipeline.mem_restRefs_of main_arg1 (by decide) (by exact (by decide : ∀ w, Pipeline.arrRef spec0 w ≠ main_arg1)), by decide⟩)).trans (V_main_arg1 m c)
  · exact ((h.1 c).2 main_arg2 (Finset.mem_sdiff.mpr ⟨Pipeline.mem_restRefs_of main_arg2 (by decide) (by exact (by decide : ∀ w, Pipeline.arrRef spec0 w ≠ main_arg2)), by decide⟩)).trans (V_main_arg2 m c)
  · exact ((h.1 c).2 main_arg3 (Finset.mem_sdiff.mpr ⟨Pipeline.mem_restRefs_of main_arg3 (by decide) (by exact (by decide : ∀ w, Pipeline.arrRef spec0 w ≠ main_arg3)), by decide⟩)).trans (V_main_arg3 m c)
  · exact ((h.1 c).2 main_arg5 (Finset.mem_sdiff.mpr ⟨Pipeline.mem_restRefs_of main_arg5 (by decide) (by exact (by decide : ∀ w, Pipeline.arrRef spec0 w ≠ main_arg5)), by decide⟩)).trans (V_main_arg5 m c)
  · exact ((h.1 c).2 main_arg6 (Finset.mem_sdiff.mpr ⟨Pipeline.mem_restRefs_of main_arg6 (by decide) (by exact (by decide : ∀ w, Pipeline.arrRef spec0 w ≠ main_arg6)), by decide⟩)).trans (V_main_arg6 m c)
  · exact ((h.1 c).2 main_arg7 (Finset.mem_sdiff.mpr ⟨Pipeline.mem_restRefs_of main_arg7 (by decide) (by exact (by decide : ∀ w, Pipeline.arrRef spec0 w ≠ main_arg7)), by decide⟩)).trans (V_main_arg7 m c)

end Cert.KernelIdeal.Walk
-- ==== Proof.HostIdeal.lean ====
/-
  What the host lines before the kernel leave in its operands.
-/
module

public import proofs.«01_k».proof.Proof.RegionIdeal
public import proofs.«01_k».proof.Proof.InRange

@[expose] public section

set_option maxRecDepth 16384

noncomputable section

namespace Cert.KernelIdeal.Walk

open Idealize.ShloMosaic Idealize.ShloMosaic.TcCoe
open Idealize.SL Idealize.SL.RA Idealize.SL.BI
open scoped Idealize.SL.BI
open Idealize.ShloMosaic.Rounds
open Idealize.ShloMosaic.Pipeline (Dat Cfg Window BodyObligation BodyObligationLoose cellOf)
open Idealize.ShloMosaic.ValueIdx
open Cert.TiedGrad
open Cert.KernelIdeal Cert.KernelIdeal.Gen
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

theorem V_main_v0 (c : Dev nD) : V m c main_v0 = shapeCast S2560x896 (m ((c : Thread nD τ).loc main_arg7) : S2x1280x896.Idx → Elt F .bf16) shapeCasts_S2x1280x896_S2560x896 := by
  show StableHlo.after [_, _, _, _, _, _, _] _ (Proc.devRef .tc main_v0) = _
  after_results
  rfl

theorem V_main_v1 (c : Dev nD) : V m c main_v1 = shapeCast S2560 (m ((c : Thread nD τ).loc main_arg6) : S2x1280.Idx → Elt F .i32) shapeCasts_S2x1280_S2560 := by
  show StableHlo.after [_, _, _, _, _, _, _] _ (Proc.devRef .tc main_v1) = _
  after_results
  rfl

theorem V_main_v2 (c : Dev nD) : V m c main_v2 = shapeCast S2560x151936 (m ((c : Thread nD τ).loc main_arg0) : S2x1280x151936.Idx → Elt F .fp8e5m2) shapeCasts_S2x1280x151936_S2560x151936 := by
  show StableHlo.after [_, _, _, _, _, _, _] _ (Proc.devRef .tc main_v2) = _
  after_results
  rfl

theorem V_main_v4 (c : Dev nD) : V m c main_v4 = shapeCast S2560x896 (m ((c : Thread nD τ).loc main_arg2) : S2x1280x896.Idx → Elt F .fp8e4m3) shapeCasts_S2x1280x896_S2560x896 := by
  show StableHlo.after [_, _, _, _, _, _, _] _ (Proc.devRef .tc main_v4) = _
  after_results
  rfl

theorem V_main_v5 (c : Dev nD) : V m c main_v5 = shapeCast S1x2560 (m ((c : Thread nD τ).loc main_arg3) : S2x1280.Idx → Elt F .f32) shapeCasts_S2x1280_S1x2560 := by
  show StableHlo.after [_, _, _, _, _, _, _] _ (Proc.devRef .tc main_v5) = _
  after_results
  rfl

theorem V_main_v6 (c : Dev nD) : V m c main_v6 = shapeCast S1x151936 (m ((c : Thread nD τ).loc main_arg5) : S151936.Idx → Elt F .f32) shapeCasts_S151936_S1x151936 := by
  show StableHlo.after [_, _, _, _, _, _, _] _ (Proc.devRef .tc main_v6) = _
  after_results
  rfl

theorem V_main_v3 (c : Dev nD) : V m c main_v3 = transpose S1187x2x1280 [2, 0, 1] (m ((c : Thread nD τ).loc main_arg1) : S2x1280x1187.Idx → Elt F .f32) transposes_S2x1280x1187_S1187x2x1280_2_0_1 := by
  show StableHlo.after [_, _, _, _, _, _, _] _ (Proc.devRef .tc main_v3) = _
  after_results

/-- Tokens in range in the argument are in range in the kernel's list. -/
theorem ids_ok (c : Dev nD) (h : ∀ j : S2x1280.Idx, ((m ((c : Thread nD τ).loc main_arg6) : S2x1280.Idx → BitVec 32) j).toNat < 151936) :
    IdsOk ((arrs m c).tile 0) := fun n hn => by
  have e : idw ((arrs m c).tile 0) n = (V m c main_v1 : S2560.Idx → BitVec 32) (ix1 ⟨n, hn⟩) := dif_pos hn
  rw [e, V_main_v1]
  exact h _

end Cert.KernelIdeal.Walk
-- ==== Proof.Exact.lean ====
/-
  The kernel's run, the results named: the body's obligation where the tile's gradient does not depend on how zeros were
  added, and what the two result arrays hold at the end.
-/
module

public import proofs.«01_k».proof.Proof.RunIdeal
public import proofs.«01_k».proof.Proof.HostIdeal
public import Idealize.ShloMosaic.Lib.Pipeline.ValueKit.Geometry
public import Idealize.ShloMosaic.Lib.Pipeline.TableIdle

@[expose] public section

set_option maxRecDepth 16384

noncomputable section

namespace Cert.KernelIdeal.Values

open Idealize.ShloMosaic Idealize.ShloMosaic.TcCoe
open Idealize.SL Idealize.SL.RA Idealize.SL.BI
open scoped Idealize.SL.BI
open Idealize.ShloMosaic.Rounds
open Idealize.ShloMosaic.Pipeline (Dat Cfg Window BodyObligation BodyObligationLoose cellOf)
open Idealize.ShloMosaic.ValueIdx
open Cert.TiedGrad
open Cert.KernelIdeal Cert.KernelIdeal.Gen
open Cert.KernelIdeal.Walk hiding frame
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- However zeros were added between, a tile's gradient is the same. -/
def Exact (a : Arrs F) : Prop := ∀ n g, Scatted (a.tile n) (vl n) n g → g = deF a n

/-! ## The last result's buffer, which only the last step writes -/

theorem idle9 (t : Fin grid0.N) (h : t.val ≠ 296) : idle0 9 (grid0.coords t) = true := by
  show (!(k0_cond2 (grid0.coords t) == 1#1)) = true
  rw [Bool.not_eq_true', beq_eq_false_iff_ne]
  exact fun e => h ((cond2 t).mp e)

theorem busy9 (t : Fin grid0.N) (h : t.val = 296) : idle0 9 (grid0.coords t) = false := by
  show (!(k0_cond2 (grid0.coords t) == 1#1)) = false
  rw [(cond2 t).mpr h]
  rfl

theorem keep9 (t : Fin grid0.N) (h : t.val ≠ 296) : ((cfg0 (F := F)).win 9).flush t = false := by
  rw [Bool.eq_false_iff]
  intro e
  have := (flush0_9 t).mp e
  have := lt t
  omega

/-- Before the last step it holds what it held at the start. -/
theorem found9 (c : Dev nD) (t : Fin (cfg0 (F := F)).N) (d) : (dats m 0 c).before 9 t d = d := by
  rw [(dats m 0 c).before_idle_run 9 (fun _ => rfl) d t.val t (Nat.le_refl _) fun j _ hj => by
    have := lt t
    exact ⟨idle9 j (by omega), keep9 j (by omega)⟩]
  unfold Dat.before
  rw [if_neg (by exact Bool.false_ne_true), if_pos (Nat.sub_self _)]

theorem leaves9 (c : Dev nD) (t : Fin (cfg0 (F := F)).N) (dh : S2560x896.Idx → Elt F .bf16) (h : t.val = 296 → dh = dhF (accK (arrs m c) 297)) :
    (owns (c : Thread nD τ) (st0_9 t) fullShare dh : sProp (MT nD τ sig Unit (Elt F) ℕ (UR sig nD τ) ℕ)) ⊢ (dats m 0 c).leaves 9 t := by
  by_cases e : t.val = 296
  · unfold Dat.leaves
    have hb : (cfg0 (F := F)).idle 9 ((cfg0 (F := F)).grid.coords t) = false := busy9 t e
    rw [hb]
    exact owns_of_eq c (st0_9 t) (h e).symm
  · rw [(dats m 0 c).leaves_idle 9 t (idle9 t e) (keep9 t e)]
    iintro H
    iexists dh
    change _ ⊢ owns (c : Thread nD τ) (st0_9 t) fullShare ((dats m 0 c).before 9 t dh)
    exact owns_of_eq c (st0_9 t) (found9 m c t dh)

/-- The body's obligation, the results named. -/
theorem body_exact (c : Dev nD) (ok : IdsOk ((arrs m c).tile 0)) (hex : Exact (arrs m c)) :
    BodyObligationLoose (dats m 0 c) (defs₀ (F := F)) steps () Set.univ := fun t => by
  rw [bigSep_W0, bigSep_W0]
  rw [show (dats m 0 c).Φ t.castSucc = Mid m c t.val from rfl, show (dats m 0 c).Φ t.succ = Mid m c (t.val + 1) from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [found0 m c t d0, found1 m c t d1, found2 m c t d2, found3 m c t d3, found4 m c t d4, found5 m c t d5, found6 m c t d6, found7 m c t d7]
  iapply (wp_wand_r frame (wpE (defs₀ (F := F)) steps (c : Thread nD τ) none) Set.univ)
  isplitl [HΦ H0 H1 H2 H3 H4 H5 H6 H7 H8 H9]
  · iapply (core m c t ok d1 d2 d5 d6 ((dats m 0 c).before 8 t d8) ((dats m 0 c).before 9 t d9))
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %u ⟨%de, %dh, %hv, HΦ, H0, H1, H2, H3, H4, H5, H6, H7, H8, H9⟩
    isplitl [HΦ]; · iexact HΦ
    isplitl [Ho]; · iexact Ho
    isplitl [H0]; · iexact H0
    isplitl [H1]
    · iexists d1
      change _ ⊢ owns (c : Thread nD τ) (st0_1 t) fullShare (win0_1.fill (grid0.coords t) d1 (win0_1.cut (grid0.coords t) ((arrs m c).tile t.val).dl))
      exact owns_of_eq c (st0_1 t) (give1 m c t d1)
    isplitl [H2]
    · iexists d2
      change _ ⊢ owns (c : Thread nD τ) (st0_2 t) fullShare (win0_2.fill (grid0.coords t) d2 (win0_2.cut (grid0.coords t) ((arrs m c).tile t.val).sc))
      exact owns_of_eq c (st0_2 t) (give2 m c t d2)
    isplitl [H3]; · iexact H3
    isplitl [H4]; · iexact H4
    isplitl [H5]
    · iexists d5
      change _ ⊢ owns (c : Thread nD τ) (st0_5 t) fullShare (win0_5.fill (grid0.coords t) d5 (win0_5.cut (grid0.coords t) ((arrs m c).tile t.val).e))
      exact owns_of_eq c (st0_5 t) (give5 m c t d5)
    isplitl [H6]
    · iexists d6
      change _ ⊢ owns (c : Thread nD τ) (st0_6 t) fullShare (win0_6.fill (grid0.coords t) d6 (win0_6.cut (grid0.coords t) ((arrs m c).tile t.val).es))
      exact owns_of_eq c (st0_6 t) (give6 m c t d6)
    isplitl [H7]; · iexact H7
    isplitl [H8]
    · iexists de
      change _ ⊢ owns (c : Thread nD τ) (st0_8 t) fullShare (win0_8.fill (grid0.coords t) de (win0_8.cut (grid0.coords t) (deF (arrs m c) t.val)))
      exact owns_of_eq c (st0_8 t) ((congrArg (fun x => win0_8.fill (grid0.coords t) de (win0_8.cut (grid0.coords t) x)) (hex t.val de hv.1).symm).trans (win0_8.fill_cut _ _))
    change _ ⊢ (dats m 0 c).leaves 9 t
    exact leaves9 m c t dh (fun h => (hv.2 h).trans (by rw [h]))

/-! ## The run, the results named -/

/-- The gradient of the whole table, tile by tile. -/
def tableG (a : Arrs F) : S151936x896.Idx → Elt F .f32 := fun i =>
  deF a ((i 0).val / 512) (ix2 ⟨(i 0).val % 512, Nat.mod_lt _ (by decide)⟩ (i 1))

theorem tableG_at (a : Arrs F) (n : ℕ) (j : S512x896.Idx) (i : S151936x896.Idx) (h0 : (i 0).val = n * 512 + (j 0).val) (h1 : (i 1).val = (j 1).val) :
    deF a n j = tableG a i := by
  have hj : (j 0).val < 512 := (j 0).isLt
  unfold tableG
  have e : (i 0).val / 512 = n := by omega
  rw [e]
  refine congrArg (deF a n) (funext fun b => Fin.ext ?_)
  match b with
  | ⟨0, _⟩ => show (j 0).val = (i 0).val % 512; omega
  | ⟨1, _⟩ => exact h1.symm

/-- The point of the tile that holds a row. -/
def pt8 (i : S151936x896.Idx) : Fin grid0.N :=
  ⟨(i 0).val / 512, lt_of_lt_of_eq (by have : (i 0).val < 151936 := (i 0).isLt; omega : (i 0).val / 512 < 297) N_0.symm⟩

/-- Each place of the first result lies in the block of the tile of its row. -/
theorem cover8 (i : S151936x896.Idx) (a : Fin 2) :
    win0_8.index (pt8 i) a * win0_8.size a ≤ (i a).val ∧ (i a).val < win0_8.index (pt8 i) a * win0_8.size a + win0_8.xsize (grid0.coords (pt8 i)) a := by
  have h0 : (i 0).val < 151936 := (i 0).isLt
  have h1 : (i 1).val < 896 := (i 1).isLt
  match a with
  | ⟨0, _⟩ =>
    show (BitVec.ofNat 32 (grid0.coords (pt8 i) 0).val).toNat * 512 ≤ (i 0).val ∧ (i 0).val < (BitVec.ofNat 32 (grid0.coords (pt8 i) 0).val).toNat * 512
      + (Pipeline.Clip.of (BitVec.ofNat 32 (grid0.coords (pt8 i) 0).val).toNat 512 151936).extent 512
    rw [word]
    have e : (pt8 i).val = (i 0).val / 512 := rfl
    have h : (i 0).val - (pt8 i).val * 512 < (Pipeline.Clip.of (pt8 i).val 512 151936).extent 512 :=
      (moved_of (by rw [e]; omega)).mpr (by rw [e]; omega)
    rw [e] at h ⊢
    omega
  | ⟨1, _⟩ =>
    show 0 * 896 ≤ (i 1).val ∧ (i 1).val < 0 * 896 + (Pipeline.Clip.of 0 896 896).extent 896
    have h : (i 1).val < (Pipeline.Clip.of 0 896 896).extent 896 := moved_all h1
    omega

/-- The first result's array at the end. -/
theorem table_end (c : Dev nD) : (dats m 0 c).arrAt 8 (cfg0 (F := F)).N = tableG (arrs m c) := by
  refine Dat.arrAt_eq_of_emb (dats m 0 c) 8 (tableG (arrs m c)) (fun t _ y => ?_) (fun i => ?_)
  · refine tableG_at (arrs m c) t.val (win0_8.xinj (grid0.coords t) y) ((win0_8.blk t).view.emb y) ?_ ?_
    · show (BitVec.ofNat 32 (grid0.coords t 0).val).toNat * 512 + 1 * _ = t.val * 512 + _
      rw [word, Nat.one_mul]
    · show 0 * 896 + 1 * _ = _
      rw [Nat.one_mul, Nat.zero_mul, Nat.zero_add]
  · exact ⟨pt8 i, flush0_8 _, (win0_8.emb_mem_blk_iff (pt8 i) i).mpr (cover8 i)⟩

/-- The last result is written back at the last point alone, as a whole. -/
theorem whole9 : win0_9.WholeAt ⟨296, lt_of_lt_of_eq (by decide) N_0.symm⟩ := by decide +kernel

/-- The last result's array at the end. -/
theorem head_end (c : Dev nD) : (dats m 0 c).arrAt 9 (cfg0 (F := F)).N = dhF (accK (arrs m c) 297) := by
  refine Dat.arrAt_eq_of_after_last (dats m 0 c) 9 ⟨296, lt_of_lt_of_eq (by decide) N_0.symm⟩ whole9 _ fun j => rfl

set_option backward.isDefEq.respectTransparency.types false in
/-- The run of the whole program. -/
theorem run_exact (ok : ∀ c, IdsOk ((arrs m c).tile 0)) (hex : ∀ c, Exact (arrs m c)) :
    θ_run defs (onTc (τ := τ) (main (F := F))) ⟨m, fun _ => 0, ρ⟩
      (Pipeline.FramePost (cfgs (F := F)) (dats m) 0 (Pipeline.afterTail₀ (cfgs (F := F)) (dats m) 0 (V0 m) [hostOps1])) :=
  Pipeline.θ_run_frame_around_track (cfgs (F := F)) (dats m) 0 launch0 defs₀ steps m ρ main
    (fun c => body_exact m c (ok c) (hex c)) (fun c => (dats m 0 c).share_full fun _ => rfl) (fun _ _ => rfl) (V0 m) [hostOps1] sfx_sub sfx_fresh sfx_keeps
    (hmain m steps) (fun _ _ => rfl) (enter m) (leave m) _ (fun _ h => h.1)

/-- What the host makes of the last result's array. -/
theorem tail_v8 (c : Dev nD) : Pipeline.afterTail₀ (cfgs (F := F)) (dats m) 0 (V0 m) [hostOps1] c main_v8
    = shapeCast S2x1280x896 (dhF (accK (arrs m c) 297) : S2560x896.Idx → Elt F .bf16) shapeCasts_S2560x896_S2x1280x896 := by
  have e : Pipeline.withArrays (cfgs (F := F) 0).spec c (V0 m c) (fun w => (dats m 0 c).arrAt w (cfgs (F := F) 0).N) (Proc.devRef .tc main_v7_1)
      = dhF (accK (arrs m c) 297) :=
    (Pipeline.withArrays_arr (cfgs (F := F) 0).spec launch0.win.arr_inj c (V0 m c) _ 9).trans (head_end m c)
  rw [← e]
  show StableHlo.after [_] _ (Proc.devRef .tc main_v8) = _
  after_results
  rfl

/-- The results at the end. -/
theorem results (ok : ∀ c, IdsOk ((arrs m c).tile 0)) (hex : ∀ c, Exact (arrs m c)) :
    θ_run defs (onTc (τ := τ) (main (F := F))) ⟨m, fun _ => 0, ρ⟩ (fun r => ∀ c : Dev nD,
      r.2.mem ((c : Thread nD τ).loc main_v7_0) = tableG (arrs m c)
      ∧ r.2.mem ((c : Thread nD τ).loc main_v8)
        = shapeCast S2x1280x896 (dhF (accK (arrs m c) 297) : S2560x896.Idx → Elt F .bf16) shapeCasts_S2560x896_S2x1280x896) :=
  (θ_run defs _ _).mono (fun r h c => ⟨((h c).1 8).trans (table_end m c),
    ((h c).2 main_v8 (Pipeline.mem_restRefs_of main_v8 (by decide) (by exact (by decide : ∀ w, Pipeline.arrRef spec0 w ≠ main_v8)))).trans (tail_v8 m c)⟩) (run_exact m ρ ok hex)

end Cert.KernelIdeal.Values
-- ==== Proof.RefRun.lean ====
/-
  The reference's run, its two results as functions of the arguments: the three scaled arrays, the two products over them,
  and the rows added to the first.
-/
module

public import proofs.«01_k».proof.Proof.Gen.ReferenceIdeal.Frame
public import Idealize.ShloMosaic.Lib.Pipeline.ValueKit.Geometry
public import Idealize.ShloMosaic.Lib.Pipeline.Value

@[expose] public section

set_option maxRecDepth 16384

noncomputable section

namespace Cert.ReferenceIdeal.Values

open Idealize.ShloMosaic Idealize.ShloMosaic.TcCoe Idealize.SL.Sem
open Cert.ReferenceIdeal Cert.ReferenceIdeal.Gen
open Idealize.ShloMosaic.Pipeline (Dat Cfg Window)

variable {F : FTy → Type} [FloatOps F]
variable (m : (ℓ : Loc nD τ sig) → Buf (Elt F) ℓ) (ρ : Dev nD → PrngReg)

/-- The one grid point. -/
def t₀ : Fin grid0.N := ⟨0, by decide⟩

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem whole6 : win0_6.WholeAt t₀ := by decide +kernel
theorem whole7 : win0_7.WholeAt t₀ := by decide +kernel
theorem whole8 : win0_8.WholeAt t₀ := by decide +kernel

theorem out6_eq (x0 : Vec F S2x1280x151936 .fp8e5m2) (x1 : Vec F S2x1280x1187 .f32) (x2 x3 x4 x5) : out0_6 (F := F) x0 x1 x2 x3 x4 x5 = k0_pay1 x0 x1 := by
  unfold out0_6
  rw [View.canon_unit_zero hz3, View.ld_unit_zero hz3, View.ld_unit_zero hz3]
theorem out7_eq (x0 x1) (x2 : Vec F S2x1280x896 .fp8e4m3) (x3 : Vec F S2x1280 .f32) (x4 x5) : out0_7 (F := F) x0 x1 x2 x3 x4 x5 = k0_pay2 x2 x3 := by
  unfold out0_7
  rw [View.canon_unit_zero hz3, View.ld_unit_zero hz3, View.ld_unit_zero hz2]
theorem out8_eq (x0 x1 x2 x3) (x4 : Vec F S151936x896 .i8) (x5 : Vec F S151936 .f32) : out0_8 (F := F) x0 x1 x2 x3 x4 x5 = k0_pay3 x4 x5 := by
  unfold out0_8
  rw [View.canon_unit_zero hz2, View.ld_unit_zero hz2, View.ld_unit_zero hz1]

/-! ## The operands of the one point are the arguments -/

theorem in0 (c : Dev nD) : (iblk m c 0 t₀ : S2x1280x151936.Idx → Elt F .fp8e5m2) = m ((c : Thread nD τ).loc main_arg0) :=
  funext fun j => congrArg (m ((c : Thread nD τ).loc main_arg0)) (funext fun a => Fin.ext (match a with
    | ⟨0, _⟩ => by show 0 * 2 + 1 * (j 0).val = (j 0).val; omega
    | ⟨1, _⟩ => by show 0 * 1280 + 1 * (j 1).val = (j 1).val; omega
    | ⟨2, _⟩ => by show 0 * 151936 + 1 * (j 2).val = (j 2).val; omega))
theorem in1 (c : Dev nD) : (iblk m c 1 t₀ : S2x1280x1187.Idx → Elt F .f32) = m ((c : Thread nD τ).loc main_arg1) :=
  funext fun j => congrArg (m ((c : Thread nD τ).loc main_arg1)) (funext fun a => Fin.ext (match a with
    | ⟨0, _⟩ => by show 0 * 2 + 1 * (j 0).val = (j 0).val; omega
    | ⟨1, _⟩ => by show 0 * 1280 + 1 * (j 1).val = (j 1).val; omega
    | ⟨2, _⟩ => by show 0 * 1187 + 1 * (j 2).val = (j 2).val; omega))
theorem in2 (c : Dev nD) : (iblk m c 2 t₀ : S2x1280x896.Idx → Elt F .fp8e4m3) = m ((c : Thread nD τ).loc main_arg2) :=
  funext fun j => congrArg (m ((c : Thread nD τ).loc main_arg2)) (funext fun a => Fin.ext (match a with
    | ⟨0, _⟩ => by show 0 * 2 + 1 * (j 0).val = (j 0).val; omega
    | ⟨1, _⟩ => by show 0 * 1280 + 1 * (j 1).val = (j 1).val; omega
    | ⟨2, _⟩ => by show 0 * 896 + 1 * (j 2).val = (j 2).val; omega))
theorem in3 (c : Dev nD) : (iblk m c 3 t₀ : S2x1280.Idx → Elt F .f32) = m ((c : Thread nD τ).loc main_arg3) :=
  funext fun j => congrArg (m ((c : Thread nD τ).loc main_arg3)) (funext fun a => Fin.ext (match a with
    | ⟨0, _⟩ => by show 0 * 2 + 1 * (j 0).val = (j 0).val; omega
    | ⟨1, _⟩ => by show 0 * 1280 + 1 * (j 1).val = (j 1).val; omega))
theorem in4 (c : Dev nD) : (iblk m c 4 t₀ : S151936x896.Idx → Elt F .i8) = m ((c : Thread nD τ).loc main_arg4) :=
  funext fun j => congrArg (m ((c : Thread nD τ).loc main_arg4)) (funext fun a => Fin.ext (match a with
    | ⟨0, _⟩ => by show 0 * 151936 + 1 * (j 0).val = (j 0).val; omega
    | ⟨1, _⟩ => by show 0 * 896 + 1 * (j 1).val = (j 1).val; omega))
theorem in5 (c : Dev nD) : (iblk m c 5 t₀ : S151936.Idx → Elt F .f32) = m ((c : Thread nD τ).loc main_arg5) :=
  funext fun j => congrArg (m ((c : Thread nD τ).loc main_arg5)) (funext fun a => Fin.ext (match a with
    | ⟨0, _⟩ => by show 0 * 151936 + 1 * (j 0).val = (j 0).val; omega))

/-! ## The three scaled arrays -/

/-- The scaled `dl`. -/
abbrev DL (c : Dev nD) : S2x1280x151936.Idx → Elt F .bf16 := k0_pay1 (m ((c : Thread nD τ).loc main_arg0)) (m ((c : Thread nD τ).loc main_arg1))
/-- The scaled `h`. -/
abbrev HH (c : Dev nD) : S2x1280x896.Idx → Elt F .bf16 := k0_pay2 (m ((c : Thread nD τ).loc main_arg2)) (m ((c : Thread nD τ).loc main_arg3))
/-- The scaled table. -/
abbrev EE (c : Dev nD) : S151936x896.Idx → Elt F .bf16 := k0_pay3 (m ((c : Thread nD τ).loc main_arg4)) (m ((c : Thread nD τ).loc main_arg5))

theorem end6 (c : Dev nD) : (dats m 0 c).arrAt 6 cfg0.N = DL m c :=
  Dat.arrAt_eq_of_after_last (dats m 0 c) 6 t₀ whole6 (DL m c) fun j => by
    rw [after0_6, out6_eq, in0, in1]
    rfl
theorem end7 (c : Dev nD) : (dats m 0 c).arrAt 7 cfg0.N = HH m c :=
  Dat.arrAt_eq_of_after_last (dats m 0 c) 7 t₀ whole7 (HH m c) fun j => by
    rw [after0_7, out7_eq, in2, in3]
    rfl
theorem end8 (c : Dev nD) : (dats m 0 c).arrAt 8 cfg0.N = EE m c :=
  Dat.arrAt_eq_of_after_last (dats m 0 c) 8 t₀ whole8 (EE m c) fun j => by
    rw [after0_8, out8_eq, in4, in5]
    rfl

/-! ## The host's part -/

/-- The token ids as the host reads them. -/
abbrev ids (c : Dev nD) : S2560.Idx → BitVec 32 := shapeCast S2560 (m ((c : Thread nD τ).loc main_arg6) : S2x1280.Idx → BitVec 32) shapeCasts_S2x1280_S2560

/-- The first result. -/
def dE (c : Dev nD) : S151936x896.Idx → Elt F .f32 :=
  Host.scatterAdd scatter_S151936x896_S2560x1_S2560x896_1_0_0_1
    (Host.dotGeneral dot_S2x1280x151936_S2x1280x896_S151936x896_01_01_2_2_n_n none (DL m c) (HH m c))
    (broadcastInDim S2560x1 ![0] bcast_S2560_S2560x1_0
      (select (cmpi .slt (ids m c) (broadcastInDim S2560 ![] bcast_S_S2560 (constantI S_ 32 0#32)))
        (addi (ids m c) (broadcastInDim S2560 ![] bcast_S_S2560 (constantI S_ 32 151936#32))) (ids m c)))
    (extf .f32 (shapeCast S2560x896 (m ((c : Thread nD τ).loc main_arg7) : S2x1280x896.Idx → Elt F .bf16) shapeCasts_S2x1280x896_S2560x896) bitsLt_bf16_f32)

/-- The second result. -/
def dH (c : Dev nD) : S2x1280x896.Idx → Elt F .bf16 :=
  truncf .bf16 (Host.dotGeneral dot_S2x1280x151936_S151936x896_S2x1280x896_2_0_01_1_n_n none (DL m c) (EE m c) : FVec F S2x1280x896 .f32) bitsLt_bf16_f32

theorem arr6 (c : Dev nD) : Pipeline.withArrays (cfgs 0).spec c (V0 m c) (fun w => (dats m 0 c).arrAt w (cfgs 0).N) (Proc.devRef .tc main_v0_0) = DL m c :=
  (Pipeline.withArrays_arr (cfgs 0).spec launch0.win.arr_inj c (V0 m c) _ 6).trans (end6 m c)
theorem arr7 (c : Dev nD) : Pipeline.withArrays (cfgs 0).spec c (V0 m c) (fun w => (dats m 0 c).arrAt w (cfgs 0).N) (Proc.devRef .tc main_v0_1) = HH m c :=
  (Pipeline.withArrays_arr (cfgs 0).spec launch0.win.arr_inj c (V0 m c) _ 7).trans (end7 m c)
theorem arr8 (c : Dev nD) : Pipeline.withArrays (cfgs 0).spec c (V0 m c) (fun w => (dats m 0 c).arrAt w (cfgs 0).N) (Proc.devRef .tc main_v0_2) = EE m c :=
  (Pipeline.withArrays_arr (cfgs 0).spec launch0.win.arr_inj c (V0 m c) _ 8).trans (end8 m c)
theorem keep6 (c : Dev nD) : Pipeline.withArrays (cfgs 0).spec c (V0 m c) (fun w => (dats m 0 c).arrAt w (cfgs 0).N) (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)
theorem keep7 (c : Dev nD) : Pipeline.withArrays (cfgs 0).spec c (V0 m c) (fun w => (dats m 0 c).arrAt w (cfgs 0).N) (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)

theorem tail_v13 (c : Dev nD) : Pipeline.afterTail₀ cfgs (dats m) 0 (V0 m) [hostOps1] c main_v13 = dH m c := by
  unfold dH
  rw [← arr6 m c, ← arr8 m c]
  show StableHlo.after [_, _, _, _, _, _, _, _, _, _, _, _, _, _, _] _ (Proc.devRef .tc main_v13) = _
  after_results

theorem tail_v11 (c : Dev nD) : Pipeline.afterTail₀ cfgs (dats m) 0 (V0 m) [hostOps1] c main_v11 = dE m c := by
  unfold dE ids
  rw [← arr6 m c, ← arr7 m c, ← keep6 m c, ← keep7 m c]
  show StableHlo.after [_, _, _, _, _, _, _, _, _, _, _, _, _, _, _] _ (Proc.devRef .tc main_v11) = _
  after_results
  rfl

/-- The reference's run: its two results. -/
theorem results : θ_run defs (onTc (τ := τ) (main (F := F))) ⟨m, fun _ => 0, ρ⟩ (fun r => ∀ c : Dev nD,
    r.2.mem ((c : Thread nD τ).loc main_v11) = dE m c ∧ r.2.mem ((c : Thread nD τ).loc main_v13) = dH m c) :=
  (θ_run defs _ _).mono (fun r h c => ⟨
    ((h c).2 main_v11 (Pipeline.mem_restRefs_of main_v11 (by decide) (by exact (by decide : ∀ w, Pipeline.arrRef spec0 w ≠ main_v11)))).trans (tail_v11 m c),
    ((h c).2 main_v13 (Pipeline.mem_restRefs_of main_v13 (by decide) (by exact (by decide : ∀ w, Pipeline.arrRef spec0 w ≠ main_v13)))).trans (tail_v13 m c)⟩) (run_main m ρ)

end Cert.ReferenceIdeal.Values
-- ==== Proof.Sums.lean ====
/-
  What the kernel's arrays hold over the extended reals: the tile of the table's gradient and the accumulator, as plain
  sums over tokens and over the table's rows.
-/
module

public import proofs.«01_k».proof.Proof.Tiles
public import Idealize.ShloMosaic.PureOps.Ideal.Laws
public import Idealize.ShloMosaic.Lib.ValueIdx

@[expose] public section

noncomputable section

namespace Cert.TiedGrad

open Idealize.ShloMosaic Idealize.ShloMosaic.ValueIdx
open scoped BigOperators

/-! ## Zeros -/

theorem zero_f32 : (FloatOps.ofBits .f32 0x00000000#32 : Ideal .f32) = (0 : EReal) := by
  show Ideal.ofBits .f32 0x00000000#32 = 0
  simp [Ideal.ofBits, Ideal.ieee]

theorem zero_bf16 : (FloatOps.ofBits .bf16 0x0000#16 : Ideal .bf16) = (0 : EReal) := by
  show Ideal.ofBits .bf16 0x0000#16 = 0
  simp [Ideal.ofBits, Ideal.ieee]

/-- Adding zeros changes nothing. -/
theorem addZero_ideal (D : S512x896.Idx → Elt Ideal .f32) : addZero D = D := by
  funext j
  unfold addZero
  split
  · refine (congrArg (fun z => FloatOps.addf (D j) z) zero_f32).trans ?_
    exact add_zero (D j : EReal)
  · rfl

/-- So the order of the additions is that of the list, whatever zeros were added. -/
theorem scat_ideal {X : Ins Ideal} {b : ℕ} {D0 g : S512x896.Idx → Elt Ideal .f32} {l : List ℕ} (h : Scat X b D0 l g) : g = l.foldl (addTok X b) D0 := by
  induction h with
  | nil => rfl
  | live t _ ih => rw [ih, List.foldl_append]; rfl
  | zero _ ih => rw [addZero_ideal, ih]

/-! ## The scaled operands -/

/-- The scaled `dl` of token `t` at row `v`. -/
def dlAt (a : Arrs Ideal) (t : Fin 2560) (v : Fin 151936) : EReal :=
  a.dl (ix2 t v) * a.sc (ix3 ⟨v.val / 128, by have := v.isLt; omega⟩ ⟨t.val / 1280, by have := t.isLt; omega⟩ ⟨t.val % 1280, by omega⟩)
/-- The scaled `h` of token `t`. -/
def hAt (a : Arrs Ideal) (t : Fin 2560) (d : Fin 896) : EReal := a.h (ix2 t d) * a.hs (ix2 0 t)
/-- The scaled row `v` of the table. -/
def eAt (a : Arrs Ideal) (v : Fin 151936) (d : Fin 896) : EReal :=
  (FloatOps.sitofp .bf16 (a.e (ix2 v d)) : Ideal .bf16) * a.es (ix2 0 v)

theorem hht_ideal (a : Arrs Ideal) (n : ℕ) (t : Fin 2560) (d : Fin 896) : hhtF (a.tile n) (ix2 d t) = hAt a t d := rfl

theorem live_of {n k : ℕ} (hn : n < 297) (h : n * 512 + k < 151936) : (if k / 128 = 3 then vl n else 1#1) = 1#1 := by
  split
  · rw [vl_spec n hn, if_pos (by omega)]
  · rfl

theorem dead_of {n k : ℕ} (hn : n < 297) (hk : k < 512) (h : ¬ n * 512 + k < 151936) : (if k / 128 = 3 then vl n else 1#1) = 0#1 := by
  rw [if_pos (by omega), vl_spec n hn, if_neg (by omega)]

/-- The scaled tile of `dl` holds the scaled `dl`, and zeros past the table's end. -/
theorem dlb_ideal (a : Arrs Ideal) (n : ℕ) (hn : n < 297) (t : Fin 2560) (k : Fin 512) :
    (dlbF (a.tile n) (vl n) (ix2 t k) : EReal) = if h : n * 512 + k.val < 151936 then dlAt a t ⟨n * 512 + k.val, h⟩ else 0 := by
  have hk := k.isLt
  unfold dlbF
  by_cases h : n * 512 + k.val < 151936
  · rw [dif_pos h]
    have e : (if ((ix2 t k : S2560x512.Idx) 1).val / 128 = 3 then vl n else 1#1) = 1#1 := live_of hn h
    rw [e]
    refine (select_one _ _).trans ?_
    have e1 : (a.tile n).dl (ix2 t k) = a.dl (ix2 t ⟨n * 512 + k.val, h⟩) :=
      dlTile_in (x := a.dl) (d := fun _ => (FloatOps.ofBits .fp8e5m2 0#8 : Ideal .fp8e5m2)) (n := n) (j := ix2 t k) h
    refine congrArg₂ (fun x y : EReal => x * y) e1 ?_
    refine (scTile_in (x := a.sc) (d := fun _ => (FloatOps.ofBits .f32 0#32 : Ideal .f32)) (n := n)
      (j := ix3 ⟨k.val / 128, by omega⟩ ⟨t.val / 1280, by have := t.isLt; omega⟩ ⟨t.val % 1280, by omega⟩) (show n * 4 + k.val / 128 < 1187 by omega)).trans ?_
    refine congrArg (fun q => (a.sc (ix3 q _ _) : EReal)) (Fin.ext ?_)
    show n * 4 + k.val / 128 = (n * 512 + k.val) / 128
    omega
  · rw [dif_neg h]
    have e : (if ((ix2 t k : S2560x512.Idx) 1).val / 128 = 3 then vl n else 1#1) = 0#1 := dead_of hn hk h
    rw [e]
    exact zero_bf16

/-- The scaled tile of the table likewise. -/
theorem eet_ideal (a : Arrs Ideal) (n : ℕ) (hn : n < 297) (d : Fin 896) (k : Fin 512) :
    (eetF (a.tile n) (vl n) (ix2 d k) : EReal) = if h : n * 512 + k.val < 151936 then eAt a ⟨n * 512 + k.val, h⟩ d else 0 := by
  have hk := k.isLt
  unfold eetF
  by_cases h : n * 512 + k.val < 151936
  · rw [dif_pos h]
    have e : (if ((ix2 d k : S896x512.Idx) 1).val / 128 = 3 then vl n else 1#1) = 1#1 := live_of hn h
    rw [e]
    refine (select_one _ _).trans ?_
    have e1 : (a.tile n).e (ix2 k d) = a.e (ix2 ⟨n * 512 + k.val, h⟩ d) :=
      eTile_in (x := a.e) (d := fun _ => 0#8) (n := n) (j := ix2 k d) h
    have e2 : (a.tile n).es (ix2 0 k) = a.es (ix2 0 ⟨n * 512 + k.val, h⟩) :=
      esTile_in (x := a.es) (d := fun _ => (FloatOps.ofBits .f32 0#32 : Ideal .f32)) (n := n) (j := ix2 0 k) h
    exact congrArg₂ (fun x y : EReal => x * y) (congrArg (fun w : BitVec 8 => (FloatOps.sitofp .bf16 w : Ideal .bf16)) e1) e2
  · rw [dif_neg h]
    have e : (if ((ix2 d k : S896x512.Idx) 1).val / 128 = 3 then vl n else 1#1) = 0#1 := dead_of hn hk h
    rw [e]
    exact zero_bf16

/-! ## The two products of a step -/

/-- The tile of the table's gradient before rows are scattered: a sum over the tokens. -/
theorem det_ideal (H : S896x2560.Idx → Elt Ideal .bf16) (L : S2560x512.Idx → Elt Ideal .bf16) (r : Fin 512) (d : Fin 896) :
    (detF H L (ix2 r d) : EReal) = ∑ t : Fin 2560, (H (ix2 d t) * L (ix2 t r) : EReal) := by
  unfold detF
  refine (transpose_apply _ _ _ (ix2 r d) (ix2 d r) (fun b => match b with | ⟨0, _⟩ => rfl | ⟨1, _⟩ => rfl)).trans ?_
  refine (Ideal.matmul_constant_zero_apply (φ₁ := .bf16) (φ₂ := .bf16) dotA none H L (ix2 d r)).trans ?_
  rw [← Equiv.sum_comp (contrEquiv1 dotA 2560 rfl rfl).symm]
  refine Finset.sum_congr rfl fun t _ => ?_
  have ht := contrEquiv1_symm_val dotA 2560 rfl rfl t
  refine congrArg₂ (fun x y : EReal => x * y) (congrArg H (funext fun b => Fin.ext ?_)) (congrArg L (funext fun b => Fin.ext ?_))
  · match b with
    | ⟨0, _⟩ => rfl
    | ⟨1, _⟩ => exact ht
  · match b with
    | ⟨0, _⟩ => exact ht
    | ⟨1, _⟩ => rfl

/-- What a step adds to the accumulator: a sum over the tile's rows. -/
theorem prod_ideal (E : S896x512.Idx → Elt Ideal .bf16) (L : S2560x512.Idx → Elt Ideal .bf16) (d : Fin 896) (t : Fin 2560) :
    (prodF E L (ix2 d t) : EReal) = ∑ k : Fin 512, (E (ix2 d k) * L (ix2 t k) : EReal) := by
  unfold prodF
  refine (Ideal.matmul_constant_zero_apply (φ₁ := .bf16) (φ₂ := .bf16) dotB none E _ _).trans ?_
  rw [← Equiv.sum_comp (contrEquiv1 dotB 512 rfl rfl).symm]
  refine Finset.sum_congr rfl fun k _ => ?_
  have hk := contrEquiv1_symm_val dotB 512 rfl rfl k
  refine congrArg₂ (fun x y : EReal => x * y) (congrArg E (funext fun b => Fin.ext ?_)) (congrArg L (funext fun b => Fin.ext ?_))
  · match b with
    | ⟨0, _⟩ => rfl
    | ⟨1, _⟩ => exact hk
  · match b with
    | ⟨0, _⟩ =>
      show 256 * (t.val / 256) + 1 * (t.val % 256) = t.val
      omega
    | ⟨1, _⟩ =>
      show 0 + 1 * _ = k.val
      rw [Nat.zero_add, Nat.one_mul]
      exact hk

/-! ## The accumulator -/

/-- A sum over tiles of sums over their places is one sum. -/
theorem sum_tiles (g : ℕ → EReal) (N : ℕ) : ∑ n ∈ Finset.range N, ∑ k : Fin 512, g (n * 512 + k.val) = ∑ v ∈ Finset.range (N * 512), g v := by
  induction N with
  | zero => simp
  | succ N ih =>
    rw [Finset.sum_range_succ, ih, Nat.succ_mul, Finset.sum_range_add, Finset.sum_range (fun x => g (N * 512 + x))]

theorem acc_steps (a : Arrs Ideal) (d : Fin 896) (t : Fin 2560) (N : ℕ) :
    (accK a N (ix2 d t) : EReal) = ∑ n ∈ Finset.range N, ∑ k : Fin 512, (eetF (a.tile n) (vl n) (ix2 d k) * dlbF (a.tile n) (vl n) (ix2 t k) : EReal) := by
  induction N with
  | zero => exact zero_f32
  | succ N ih =>
    rw [Finset.sum_range_succ, ← ih, ← prod_ideal]
    rfl

/-- The term of a table's row in `dh`, zero past the table's end. -/
def term (a : Arrs Ideal) (d : Fin 896) (t : Fin 2560) (v : ℕ) : EReal := if h : v < 151936 then eAt a ⟨v, h⟩ d * dlAt a t ⟨v, h⟩ else 0

/-- The accumulator after the last step: a sum over the table's rows. -/
theorem acc_ideal (a : Arrs Ideal) (d : Fin 896) (t : Fin 2560) :
    (accK a 297 (ix2 d t) : EReal) = ∑ v : Fin 151936, eAt a v d * dlAt a t v := by
  have e : ∀ n ∈ Finset.range 297, ∑ k : Fin 512, (eetF (a.tile n) (vl n) (ix2 d k) * dlbF (a.tile n) (vl n) (ix2 t k) : EReal)
      = ∑ k : Fin 512, term a d t (n * 512 + k.val) := fun n hn => by
    refine Finset.sum_congr rfl fun k _ => ?_
    rw [eet_ideal a n (Finset.mem_range.mp hn) d k, dlb_ideal a n (Finset.mem_range.mp hn) t k]
    by_cases h : n * 512 + k.val < 151936
    · rw [dif_pos h, dif_pos h, term, dif_pos h]
    · rw [dif_neg h, dif_neg h, zero_mul, term, dif_neg h]
  rw [acc_steps, Finset.sum_congr rfl e, sum_tiles (term a d t), show 297 * 512 = 151936 + 128 from rfl, Finset.sum_range_add,
    Finset.sum_eq_zero (s := Finset.range 128) (fun x _ => dif_neg (by omega)), add_zero, Finset.sum_range]
  exact Finset.sum_congr rfl fun v _ => dif_pos v.isLt

/-! ## The scattered rows -/

/-- Tokens' rows added one after the other add their sum. -/
theorem fold_ideal (X : Ins Ideal) (b : ℕ) (j : S512x896.Idx) (l : List ℕ) (D : S512x896.Idx → Elt Ideal .f32) :
    (l.foldl (addTok X b) D j : EReal)
      = D j + (l.map fun t => if (j 0).val + 512 * b = (idw X t).toNat then (X.demb (ix2 ⟨t % 2560, Nat.mod_lt _ (by decide)⟩ (j 1)) : EReal) else 0).sum := by
  induction l generalizing D with
  | nil => exact (add_zero (D j : EReal)).symm
  | cons t l ih =>
    rw [List.foldl_cons, ih, List.map_cons, List.sum_cons, ← add_assoc]
    refine congrArg (fun x : EReal => x + _) ?_
    unfold addTok
    split
    · rfl
    · exact (add_zero (D j : EReal)).symm

/-- A sum over the list of a tile's tokens is a sum over all of them, the others counted as zero. -/
theorem bucket_sum (X : Ins Ideal) (b : ℕ) (f : ℕ → EReal) (N : ℕ) :
    ((bucket X N b).map f).sum = ∑ t ∈ Finset.range N, if (idw X t).toNat / 512 = b then f t else 0 := by
  induction N with
  | zero => rfl
  | succ N ih =>
    rw [Finset.sum_range_succ, ← ih]
    show ((if (idw X N).toNat / 512 = b then N :: bucket X N b else bucket X N b).map f).sum = _
    split
    · rw [List.map_cons, List.sum_cons, add_comm]
    · rw [add_zero]

/-- The tile's gradient: the product's sum over the tokens, and the rows of the tokens that name the place's row. -/
theorem de_ideal (a : Arrs Ideal) (n : ℕ) (hn : n < 297) (r : Fin 512) (d : Fin 896) (h : n * 512 + r.val < 151936) :
    (deF a n (ix2 r d) : EReal)
      = ∑ t : Fin 2560, hAt a t d * dlAt a t ⟨n * 512 + r.val, h⟩
        + ∑ t : Fin 2560, if ((a.ids (ix1 t) : BitVec 32)).toNat = n * 512 + r.val then (a.demb (ix2 t d) : EReal) else 0 := by
  unfold deF
  rw [fold_ideal, bucket_sum, det_ideal, Finset.sum_range]
  have hr := r.isLt
  refine congrArg₂ (fun x y : EReal => x + y) (Finset.sum_congr rfl fun t _ => ?_) (Finset.sum_congr rfl fun t _ => ?_)
  · rw [hht_ideal, dlb_ideal a n hn t r, dif_pos h]
  · have e : idw (a.tile n) t.val = a.ids (ix1 t) := dif_pos t.isLt
    rw [e]
    have em : (⟨t.val % 2560, Nat.mod_lt _ (by decide)⟩ : Fin 2560) = t := Fin.ext (Nat.mod_eq_of_lt t.isLt)
    have hd : ((a.tile n).demb (ix2 ⟨t.val % 2560, Nat.mod_lt _ (by decide)⟩ d) : EReal) = a.demb (ix2 t d) := congrArg (fun q => (a.demb (ix2 q d) : EReal)) em
    show (if _ then if r.val + 512 * n = _ then ((a.tile n).demb (ix2 ⟨t.val % 2560, Nat.mod_lt _ (by decide)⟩ d) : EReal) else 0 else 0) = _
    rw [hd]
    by_cases hv : ((a.ids (ix1 t) : BitVec 32)).toNat = n * 512 + r.val
    · rw [if_pos (by omega), if_pos (by omega), if_pos hv]
    · rw [if_neg hv]
      split
      · exact if_neg (by omega)
      · rfl

end Cert.TiedGrad
-- ==== Proof.RefSums.lean ====
/-
  What the reference's results hold over the extended reals: sums over the tokens and over the table's rows.
-/
module

public import proofs.«01_k».proof.Proof.RefRun
public import Idealize.ShloMosaic.PureOps.Ideal.Laws
public import Idealize.ShloMosaic.Lib.ValueIdx
public import Idealize.ShloMosaic.Lib.TwoAxisContraction
public import Idealize.ShloMosaic.Lib.Routing.OpsPair
public import Idealize.ShloMosaic.Lib.Routing.Ops

@[expose] public section

set_option maxRecDepth 16384

noncomputable section

namespace Cert.ReferenceIdeal.Values

open Idealize.ShloMosaic Idealize.ShloMosaic.TcCoe Idealize.ShloMosaic.ValueIdx
open Cert.ReferenceIdeal Cert.ReferenceIdeal.Gen
open scoped BigOperators

variable (m : (ℓ : Loc nD τ sig) → Buf (Elt Ideal) ℓ)

/-! ## The arguments, and the scaled arrays, as extended reals -/

abbrev A0 (c : Dev nD) : S2x1280x151936.Idx → EReal := m ((c : Thread nD τ).loc main_arg0)
abbrev A1 (c : Dev nD) : S2x1280x1187.Idx → EReal := m ((c : Thread nD τ).loc main_arg1)
abbrev A2 (c : Dev nD) : S2x1280x896.Idx → EReal := m ((c : Thread nD τ).loc main_arg2)
abbrev A3 (c : Dev nD) : S2x1280.Idx → EReal := m ((c : Thread nD τ).loc main_arg3)
abbrev A4 (c : Dev nD) : S151936x896.Idx → EReal := fun i => (FloatOps.sitofp .bf16 (show BitVec 8 from m ((c : Thread nD τ).loc main_arg4) i) : Ideal .bf16)
abbrev A5 (c : Dev nD) : S151936.Idx → EReal := m ((c : Thread nD τ).loc main_arg5)
abbrev A6 (c : Dev nD) : S2x1280.Idx → BitVec 32 := m ((c : Thread nD τ).loc main_arg6)
abbrev A7 (c : Dev nD) : S2x1280x896.Idx → EReal := m ((c : Thread nD τ).loc main_arg7)
abbrev DLe (c : Dev nD) : S2x1280x151936.Idx → EReal := DL m c
abbrev HHe (c : Dev nD) : S2x1280x896.Idx → EReal := HH m c
abbrev EEe (c : Dev nD) : S151936x896.Idx → EReal := EE m c
abbrev dEe (c : Dev nD) : S151936x896.Idx → EReal := dE m c
abbrev dHe (c : Dev nD) : S2x1280x896.Idx → EReal := dH m c
abbrev idse (c : Dev nD) : S2560.Idx → BitVec 32 := ids m c

/-! ## The scaled arrays, element by element -/

theorem DL_at (c : Dev nD) (b : Fin 2) (s : Fin 1280) (v : Fin 151936) :
    DLe m c (ix3 b s v) = A0 m c (ix3 b s v)
      * A1 m c (ix3 b s ⟨v.val / 128, by have := v.isLt; omega⟩) := by
  have hv := v.isLt
  unfold DLe DL k0_pay1
  refine (shapeCast_apply _ _ (ix3 b s v) (ix4 b s (⟨v.val / 128, by omega⟩ : Fin 1187) (⟨v.val % 128, by omega⟩ : Fin 128)) ?_).trans ?_
  · refine (Shape.rowMajor_val_four (d := ![2, 1280, 1187, 128]) _).trans (Eq.trans ?_ (Shape.rowMajor_val_three (d := ![2, 1280, 151936]) _).symm)
    show ((b.val * 1280 + s.val) * 1187 + v.val / 128) * 128 + v.val % 128 = (b.val * 1280 + s.val) * 151936 + v.val
    omega
  · refine congrArg₂ (fun x y : EReal => x * y) ?_ ?_
    · refine shapeCast_apply _ _ _ (ix3 b s v) ?_
      refine (Shape.rowMajor_val_three (d := ![2, 1280, 151936]) _).trans (Eq.trans ?_ (Shape.rowMajor_val_four (d := ![2, 1280, 1187, 128]) _).symm)
      show (b.val * 1280 + s.val) * 151936 + v.val = ((b.val * 1280 + s.val) * 1187 + v.val / 128) * 128 + v.val % 128
      omega
    · refine (broadcastTo_apply _ _ _ (ix4 b s (⟨v.val / 128, by omega⟩ : Fin 1187) (0 : Fin 1))
        (fun a => match a with | ⟨0, _⟩ => rfl | ⟨1, _⟩ => rfl | ⟨2, _⟩ => rfl | ⟨3, _⟩ => rfl)).trans ?_
      refine shapeCast_apply _ _ _ (ix3 b s (⟨v.val / 128, by omega⟩ : Fin 1187)) ?_
      refine (Shape.rowMajor_val_three (d := ![2, 1280, 1187]) _).trans (Eq.trans ?_ (Shape.rowMajor_val_four (d := ![2, 1280, 1187, 1]) _).symm)
      show (b.val * 1280 + s.val) * 1187 + v.val / 128 = ((b.val * 1280 + s.val) * 1187 + v.val / 128) * 1 + 0
      omega

theorem HH_at (c : Dev nD) (b : Fin 2) (s : Fin 1280) (d : Fin 896) :
    HHe m c (ix3 b s d) = A2 m c (ix3 b s d)
      * A3 m c (ix2 b s) := by
  unfold HHe HH k0_pay2
  refine congrArg₂ (fun x y : EReal => x * y) rfl ?_
  refine (broadcastTo_apply _ _ _ (ix3 b s (0 : Fin 1)) (fun a => match a with | ⟨0, _⟩ => rfl | ⟨1, _⟩ => rfl | ⟨2, _⟩ => rfl)).trans ?_
  refine shapeCast_apply _ _ _ (ix2 b s) ?_
  refine (Shape.rowMajor_val_two (d := ![2, 1280]) _).trans (Eq.trans ?_ (Shape.rowMajor_val_three (d := ![2, 1280, 1]) _).symm)
  show b.val * 1280 + s.val = (b.val * 1280 + s.val) * 1 + 0
  omega

theorem EE_at (c : Dev nD) (v : Fin 151936) (d : Fin 896) :
    EEe m c (ix2 v d) = A4 m c (ix2 v d)
      * A5 m c (ix1 v) := by
  unfold EEe EE k0_pay3
  refine congrArg₂ (fun x y : EReal => x * y) rfl ?_
  refine (broadcastTo_apply _ _ _ (ix2 v (0 : Fin 1)) (fun a => match a with | ⟨0, _⟩ => rfl | ⟨1, _⟩ => rfl)).trans ?_
  refine shapeCast_apply _ _ _ (ix1 v) ?_
  refine (Shape.rowMajor_val_one (d := ![151936]) _).trans (Eq.trans ?_ (Shape.rowMajor_val_two (d := ![151936, 1]) _).symm)
  show v.val = v.val * 1 + 0
  omega

/-! ## The two products -/

/-- A token's sequence, and its place in it. -/
abbrev tb (t : Fin 2560) : Fin 2 := ⟨t.val / 1280, by have := t.isLt; omega⟩
abbrev ts (t : Fin 2560) : Fin 1280 := ⟨t.val % 1280, by omega⟩

/-- A sum over sequences and places is a sum over tokens. -/
theorem sum_tokens (f : Fin 2 → Fin 1280 → EReal) : ∑ b : Fin 2, ∑ s : Fin 1280, f b s = ∑ t : Fin 2560, f (tb t) (ts t) := by
  rw [← Fintype.sum_prod_type', ← Equiv.sum_comp finProdFinEquiv.symm]
  rfl

theorem prodE_at (c : Dev nD) (v : Fin 151936) (d : Fin 896) :
    ((Host.dotGeneral (φ₁ := .bf16) (φ₂ := .bf16) dot_S2x1280x151936_S2x1280x896_S151936x896_01_01_2_2_n_n none (DL m c : FVec Ideal S2x1280x151936 .bf16) (HH m c : FVec Ideal S2x1280x896 .bf16) : FVec Ideal S151936x896 .f32) (ix2 v d) : EReal)
      = ∑ t : Fin 2560, (DLe m c (ix3 (tb t) (ts t) v) * HHe m c (ix3 (tb t) (ts t) d) : EReal) := by
  refine (Ideal.dotGeneral_apply (φ₁ := .bf16) (φ₂ := .bf16) dot_S2x1280x151936_S2x1280x896_S151936x896_01_01_2_2_n_n none .single (DL m c) (HH m c) (ix2 v d)).trans ?_
  rw [sum_contr2 dot_S2x1280x151936_S2x1280x896_S151936x896_01_01_2_2_n_n 2 1280 rfl rfl rfl,
    ← sum_tokens (fun b s => (DLe m c (ix3 b s v) * HHe m c (ix3 b s d) : EReal))]
  refine Finset.sum_congr rfl fun b _ => Finset.sum_congr rfl fun s _ => ?_
  have h0 := contrEquiv2_symm_val0 dot_S2x1280x151936_S2x1280x896_S151936x896_01_01_2_2_n_n 2 1280 rfl rfl rfl (b, s)
  have h1 := contrEquiv2_symm_val1 dot_S2x1280x151936_S2x1280x896_S151936x896_01_01_2_2_n_n 2 1280 rfl rfl rfl (b, s)
  refine congrArg₂ (fun x y : EReal => x * y) (congrArg (DL m c) (funext fun a => Fin.ext ?_)) (congrArg (HH m c) (funext fun a => Fin.ext ?_))
  · match a with
    | ⟨0, _⟩ => exact h0
    | ⟨1, _⟩ => exact h1
    | ⟨2, _⟩ => rfl
  · match a with
    | ⟨0, _⟩ => exact h0
    | ⟨1, _⟩ => exact h1
    | ⟨2, _⟩ => rfl

theorem dH_at (c : Dev nD) (b : Fin 2) (s : Fin 1280) (d : Fin 896) :
    dHe m c (ix3 b s d) = ∑ v : Fin 151936, (DLe m c (ix3 b s v) * EEe m c (ix2 v d) : EReal) := by
  unfold dHe dH
  refine (Ideal.dotGeneral_apply (φ₁ := .bf16) (φ₂ := .bf16) dot_S2x1280x151936_S151936x896_S2x1280x896_2_0_01_1_n_n none .single (DL m c) (EE m c) (ix3 b s d)).trans ?_
  rw [← Equiv.sum_comp (contrEquiv1 dot_S2x1280x151936_S151936x896_S2x1280x896_2_0_01_1_n_n 151936 rfl rfl).symm]
  refine Finset.sum_congr rfl fun v _ => ?_
  have h := contrEquiv1_symm_val dot_S2x1280x151936_S151936x896_S2x1280x896_2_0_01_1_n_n 151936 rfl rfl v
  refine congrArg₂ (fun x y : EReal => x * y) (congrArg (DL m c) (funext fun a => Fin.ext ?_)) (congrArg (EE m c) (funext fun a => Fin.ext ?_))
  · match a with
    | ⟨0, _⟩ => rfl
    | ⟨1, _⟩ => rfl
    | ⟨2, _⟩ => exact h
  · match a with
    | ⟨0, _⟩ => exact h
    | ⟨1, _⟩ => rfl

/-! ## The rows added -/

/-- An update lands at a place exactly when its index word names the place's row and its column is the place's. -/
theorem lands (idx : IVec S2560x1 32) (t : Fin 2560) (e : Fin 896) (v : Fin 151936) (d : Fin 896) :
    scatter_S151936x896_S2560x1_S2560x896_1_0_0_1.resultIdx? (ix2 t e) idx = some (ix2 v d)
      ↔ (idx (ix2 t (0 : Fin 1))).toInt = (v.val : Int) ∧ e = d := by
  have w0 : scatter_S151936x896_S2560x1_S2560x896_1_0_0_1.window (ix2 t e) 0 = 0 := rfl
  have w1 : scatter_S151936x896_S2560x1_S2560x896_1_0_0_1.window (ix2 t e) 1 = e.val := rfl
  have s1 : scatter_S151936x896_S2560x1_S2560x896_1_0_0_1.start (ix2 t e) idx 1 = 0 := rfl
  have s0 : scatter_S151936x896_S2560x1_S2560x896_1_0_0_1.start (ix2 t e) idx 0 = (idx (ix2 t (0 : Fin 1))).toInt :=
    congrArg (fun k => (idx k).toInt) (funext fun a => match a with | ⟨0, _⟩ => rfl | ⟨1, _⟩ => rfl)
  rw [Routing.resultIdx?_eq_some]
  constructor
  · intro h
    have h0 := h 0
    have h1 := h 1
    rw [w0, s0] at h0
    rw [w1, s1] at h1
    have h0 : (idx (ix2 t (0 : Fin 1))).toInt + ((0 : ℕ) : Int) = (v.val : Int) := h0
    have h1 : (0 : Int) + (e.val : Int) = (d.val : Int) := h1
    exact ⟨by omega, Fin.ext (by omega)⟩
  · rintro ⟨h0, rfl⟩ a
    match a with
    | ⟨0, _⟩ =>
      show scatter_S151936x896_S2560x1_S2560x896_1_0_0_1.start (ix2 t e) idx 0 + ((scatter_S151936x896_S2560x1_S2560x896_1_0_0_1.window (ix2 t e) 0 : ℕ) : Int) = (v.val : Int)
      rw [w0, s0]
      omega
    | ⟨1, _⟩ =>
      show scatter_S151936x896_S2560x1_S2560x896_1_0_0_1.start (ix2 t e) idx 1 + ((scatter_S151936x896_S2560x1_S2560x896_1_0_0_1.window (ix2 t e) 1 : ℕ) : Int) = (e.val : Int)
      rw [w1, s1]
      omega

/-- A word below the table's length is not negative, and names its own row. -/
theorem word_row (w : BitVec 32) (h : w.toNat < 151936) (v : ℕ) :
    Scalar.select (IntOp.cmpi .slt w 0#32) (IntOp.addi w 151936#32) w = w ∧ (w.toInt = (v : Int) ↔ w.toNat = v) := by
  have hi : w.toInt = (w.toNat : Int) := by
    rw [BitVec.toInt_eq_toNat_cond, if_pos (by omega)]
  refine ⟨?_, by rw [hi]; omega⟩
  have hs : w.slt 0#32 = false := by
    rw [BitVec.slt_eq_decide, hi, decide_eq_false_iff_not]
    have : (0#32).toInt = 0 := by decide
    omega
  show Scalar.select (BitVec.ofBool (w.slt 0#32)) _ _ = _
  rw [hs]
  exact select_zero _ _

theorem dE_at (c : Dev nD) (ok : ∀ j : S2x1280.Idx, (A6 m c j).toNat < 151936)
    (v : Fin 151936) (d : Fin 896) :
    dEe m c (ix2 v d) = ∑ t : Fin 2560, (DLe m c (ix3 (tb t) (ts t) v) * HHe m c (ix3 (tb t) (ts t) d) : EReal)
      + ∑ t : Fin 2560, if (idse m c (ix1 t)).toNat = v.val
          then (shapeCast S2560x896 (A7 m c) shapeCasts_S2x1280x896_S2560x896 (ix2 t d)) else 0 := by
  unfold dEe dE
  refine congrArg₂ (fun x y : EReal => x + y) (prodE_at m c v d) ?_
  rw [Finset.sum_filter]
  refine (sum_idx2 (n0 := 2560) (n1 := 896) _).trans (Finset.sum_congr rfl fun t _ => ?_)
  refine (Finset.sum_eq_single d (fun e _ he => ?_) (fun h => absurd (Finset.mem_univ _) h)).trans ?_
  · exact if_neg fun h => he ((lands _ t e v d).mp h).2
  · refine if_congr ((lands _ t d v d).trans ?_) rfl rfl
    have hb := Routing.bcCol (n := 2560) bcast_S2560_S2560x1_0
      (select (cmpi .slt (ids m c) (broadcastInDim S2560 ![] bcast_S_S2560 (constantI S_ 32 0#32)))
        (addi (ids m c) (broadcastInDim S2560 ![] bcast_S_S2560 (constantI S_ 32 151936#32))) (ids m c)) t
    have hw := word_row (ids m c (ix1 t)) (ok _) v.val
    rw [hb]
    have hs : select (cmpi .slt (ids m c) (broadcastInDim S2560 ![] bcast_S_S2560 (constantI S_ 32 0#32)))
        (addi (ids m c) (broadcastInDim S2560 ![] bcast_S_S2560 (constantI S_ 32 151936#32))) (ids m c) (ix1 t) = ids m c (ix1 t) := hw.1
    rw [hs]
    exact ⟨fun h => hw.2.mp h.1, fun h => ⟨hw.2.mpr h, rfl⟩⟩

end Cert.ReferenceIdeal.Values
-- ==== Proof.Equation.lean ====
/-
  The kernel's results and the reference's are the same sums, from the same arguments.
-/
module

public import proofs.«01_k».proof.Proof.Exact
public import proofs.«01_k».proof.Proof.Sums
public import proofs.«01_k».proof.Proof.HostIdeal
public import proofs.«01_k».proof.Proof.RefSums

@[expose] public section

set_option maxRecDepth 16384

noncomputable section

namespace Cert.TiedGrad

open Idealize.ShloMosaic Idealize.ShloMosaic.TcCoe Idealize.ShloMosaic.ValueIdx
open Cert.KernelIdeal Cert.KernelIdeal.Gen Cert.KernelIdeal.Values
open Cert.KernelIdeal.Walk (arrs V V_main_v0 V_main_v1 V_main_v2 V_main_v3 V_main_v4 V_main_v5 V_main_v6 V_main_arg4)
open Cert.ReferenceIdeal.Values (tb ts A0 A1 A2 A3 A4 A5 A6 A7 DLe HHe EEe dEe dHe idse)
open scoped BigOperators

/-- The two programs begin from the same arguments on a core. -/
structure Same (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop where
  a0 : A0 m' c = (m ((c : Thread nD τ).loc main_arg0) : S2x1280x151936.Idx → EReal)
  a1 : A1 m' c = (m ((c : Thread nD τ).loc main_arg1) : S2x1280x1187.Idx → EReal)
  a2 : A2 m' c = (m ((c : Thread nD τ).loc main_arg2) : S2x1280x896.Idx → EReal)
  a3 : A3 m' c = (m ((c : Thread nD τ).loc main_arg3) : S2x1280.Idx → EReal)
  a4 : (m' ((c : Thread Cert.ReferenceIdeal.nD Cert.ReferenceIdeal.τ).loc Cert.ReferenceIdeal.main_arg4) : S151936x896.Idx → BitVec 8) = m ((c : Thread nD τ).loc main_arg4)
  a5 : A5 m' c = (m ((c : Thread nD τ).loc main_arg5) : S151936.Idx → EReal)
  a6 : A6 m' c = (m ((c : Thread nD τ).loc main_arg6) : S2x1280.Idx → BitVec 32)
  a7 : A7 m' c = (m ((c : Thread nD τ).loc main_arg7) : S2x1280x896.Idx → EReal)

variable {m : (ℓ : Loc nD τ sig) → Buf (Elt Ideal) ℓ}
  {m' : (ℓ : Loc Cert.ReferenceIdeal.nD Cert.ReferenceIdeal.τ Cert.ReferenceIdeal.sig) → Buf (Elt Ideal) ℓ} {c : Dev nD}

/-- A token's scaled row of `h` is the reference's. -/
theorem h_same (s : Same m m' c) (t : Fin 2560) (d : Fin 896) : hAt (arrs m c) t d = HHe m' c (ix3 (tb t) (ts t) d) := by
  refine Eq.trans ?_ (Cert.ReferenceIdeal.Values.HH_at m' c (tb t) (ts t) d).symm
  rw [s.a2, s.a3]
  refine congrArg₂ (fun x y : EReal => x * y) ?_ ?_
  · refine (congrFun (V_main_v4 m c) (ix2 t d)).trans (shapeCast_apply _ _ _ (ix3 (tb t) (ts t) d) ?_)
    refine (Shape.rowMajor_val_three (d := ![2, 1280, 896]) _).trans (Eq.trans ?_ (Shape.rowMajor_val_two (d := ![2560, 896]) _).symm)
    show (t.val / 1280 * 1280 + t.val % 1280) * 896 + d.val = t.val * 896 + d.val
    omega
  · refine (congrFun (V_main_v5 m c) (ix2 0 t)).trans (shapeCast_apply _ _ _ (ix2 (tb t) (ts t)) ?_)
    refine (Shape.rowMajor_val_two (d := ![2, 1280]) _).trans (Eq.trans ?_ (Shape.rowMajor_val_two (d := ![1, 2560]) _).symm)
    show t.val / 1280 * 1280 + t.val % 1280 = 0 * 2560 + t.val
    omega

/-- A token's scaled entry of `dl` is the reference's. -/
theorem dl_same (s : Same m m' c) (t : Fin 2560) (v : Fin 151936) : dlAt (arrs m c) t v = DLe m' c (ix3 (tb t) (ts t) v) := by
  refine Eq.trans ?_ (Cert.ReferenceIdeal.Values.DL_at m' c (tb t) (ts t) v).symm
  rw [s.a0, s.a1]
  refine congrArg₂ (fun x y : EReal => x * y) ?_ ?_
  · refine (congrFun (V_main_v2 m c) (ix2 t v)).trans (shapeCast_apply _ _ _ (ix3 (tb t) (ts t) v) ?_)
    refine (Shape.rowMajor_val_three (d := ![2, 1280, 151936]) _).trans (Eq.trans ?_ (Shape.rowMajor_val_two (d := ![2560, 151936]) _).symm)
    show (t.val / 1280 * 1280 + t.val % 1280) * 151936 + v.val = t.val * 151936 + v.val
    omega
  · refine (congrFun (V_main_v3 m c) _).trans (transpose_apply _ _ _ _ (ix3 (tb t) (ts t) (⟨v.val / 128, by have := v.isLt; omega⟩ : Fin 1187)) ?_)
    exact fun b => match b with | ⟨0, _⟩ => rfl | ⟨1, _⟩ => rfl | ⟨2, _⟩ => rfl

/-- A scaled entry of the table is the reference's. -/
theorem e_same (s : Same m m' c) (v : Fin 151936) (d : Fin 896) : eAt (arrs m c) v d = EEe m' c (ix2 v d) := by
  refine Eq.trans ?_ (Cert.ReferenceIdeal.Values.EE_at m' c v d).symm
  rw [s.a5]
  refine congrArg₂ (fun x y : EReal => x * y) ?_ ?_
  · exact congrArg (fun w : BitVec 8 => (FloatOps.sitofp .bf16 w : Ideal .bf16)) ((congrFun (V_main_arg4 m c) (ix2 v d)).trans (congrFun s.a4 (ix2 v d)).symm)
  · refine (congrFun (V_main_v6 m c) (ix2 0 v)).trans (shapeCast_apply _ _ _ (ix1 v) ?_)
    refine (Shape.rowMajor_val_one (d := ![151936]) _).trans (Eq.trans ?_ (Shape.rowMajor_val_two (d := ![1, 151936]) _).symm)
    show v.val = 0 * 151936 + v.val
    omega

/-- The list of tokens is the reference's. -/
theorem ids_same (s : Same m m' c) (t : Fin 2560) : ((arrs m c).ids (ix1 t) : BitVec 32) = idse m' c (ix1 t) := by
  refine (congrFun (V_main_v1 m c) (ix1 t)).trans ?_
  show shapeCast S2560 (m ((c : Thread nD τ).loc main_arg6) : S2x1280.Idx → BitVec 32) _ (ix1 t) = shapeCast S2560 (A6 m' c) _ (ix1 t)
  rw [s.a6]

/-- A row to be added is the reference's. -/
theorem demb_same (s : Same m m' c) (t : Fin 2560) (d : Fin 896) :
    ((arrs m c).demb (ix2 t d) : EReal) = shapeCast S2560x896 (A7 m' c) shapeCasts_S2x1280x896_S2560x896 (ix2 t d) := by
  refine (congrFun (V_main_v0 m c) (ix2 t d)).trans ?_
  rw [s.a7]

/-- The table's gradient: the product over the tokens, and the rows of the tokens that are this row's. -/
theorem table_same (s : Same m m' c) (ok : ∀ j : S2x1280.Idx, ((m ((c : Thread nD τ).loc main_arg6) : S2x1280.Idx → BitVec 32) j).toNat < 151936) :
    tableG (arrs m c) = dEe m' c := by
  funext i
  obtain ⟨v, d, rfl⟩ : ∃ (v : Fin 151936) (d : Fin 896), i = ix2 v d := ⟨i 0, i 1, eq_ix2 i⟩
  have hv := v.isLt
  have hr : v.val / 512 * 512 + v.val % 512 = v.val := by omega
  refine Eq.trans ?_ (Cert.ReferenceIdeal.Values.dE_at m' c (fun j => by rw [s.a6]; exact ok j) v d).symm
  refine (de_ideal (arrs m c) (v.val / 512) (by omega) ⟨v.val % 512, Nat.mod_lt _ (by decide)⟩ d (by show v.val / 512 * 512 + v.val % 512 < 151936; omega)).trans ?_
  have hf : (⟨v.val / 512 * 512 + v.val % 512, by omega⟩ : Fin 151936) = v := Fin.ext hr
  refine congrArg₂ (fun x y : EReal => x + y) (Finset.sum_congr rfl fun t _ => ?_) (Finset.sum_congr rfl fun t _ => ?_)
  · show hAt (arrs m c) t d * dlAt (arrs m c) t ⟨v.val / 512 * 512 + v.val % 512, _⟩ = _
    rw [hf, h_same s, dl_same s]
    exact mul_comm (_ : EReal) _
  · show (if ((arrs m c).ids (ix1 t) : BitVec 32).toNat = v.val / 512 * 512 + v.val % 512 then _ else _) = _
    rw [hr, ids_same s, demb_same s]

/-- The hidden states' gradient: the product over the table's rows. -/
theorem head_same (s : Same m m' c) :
    (shapeCast S2x1280x896 (Cert.TiedGrad.dhF (accK (arrs m c) 297) : S2560x896.Idx → EReal) shapeCasts_S2560x896_S2x1280x896) = dHe m' c := by
  funext i
  obtain ⟨b, p, d, rfl⟩ : ∃ (b : Fin 2) (p : Fin 1280) (d : Fin 896), i = ix3 b p d := ⟨i 0, i 1, i 2, eq_ix3 i⟩
  have hb := b.isLt
  have hp := p.isLt
  have ht : b.val * 1280 + p.val < 2560 := by omega
  have htb : tb ⟨b.val * 1280 + p.val, ht⟩ = b := Fin.ext (by show (b.val * 1280 + p.val) / 1280 = b.val; omega)
  have hts : ts ⟨b.val * 1280 + p.val, ht⟩ = p := Fin.ext (by show (b.val * 1280 + p.val) % 1280 = p.val; omega)
  refine Eq.trans ?_ (Cert.ReferenceIdeal.Values.dH_at m' c b p d).symm
  refine (shapeCast_apply _ _ _ (ix2 (⟨b.val * 1280 + p.val, ht⟩ : Fin 2560) d) ?_).trans ?_
  · refine (Shape.rowMajor_val_two (d := ![2560, 896]) _).trans (Eq.trans ?_ (Shape.rowMajor_val_three (d := ![2, 1280, 896]) _).symm)
    rfl
  · refine Eq.trans ?_ ((acc_ideal (arrs m c) d ⟨b.val * 1280 + p.val, ht⟩).trans (Finset.sum_congr rfl fun v _ => ?_))
    · rfl
    · rw [e_same s, dl_same s, htb, hts]
      exact mul_comm (_ : EReal) _

end Cert.TiedGrad
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Run
public import proofs.«01_k».proof.Proof.Host
public import proofs.«01_k».proof.Proof.RunIdeal
public import proofs.«01_k».proof.Proof.HostIdeal
public import proofs.«01_k».proof.Proof.InRange
public import proofs.«01_k».proof.Proof.Exact
public import proofs.«01_k».proof.Proof.RefRun
public import proofs.«01_k».proof.Proof.Equation

@[expose] public section

noncomputable section

namespace Cert.Proof

open Idealize.ShloMosaic Idealize.ShloMosaic.TcCoe Idealize.SL.Sem

instance preFacts : Cert.Pre_ids_in_range.Facts where
  bcast_S_S2x1280 := by decide

/-- The kernel runs, from tokens in range, and leaves its arguments. -/
theorem frame_kernel : Cert.quiescent_Kernel := fun m ρ h =>
  Cert.Kernel.Walk.frame m ρ fun c => Cert.Kernel.Walk.ids_ok m c (Cert.TiedGrad.in_range _ _ _ _ _ _ _ _ (h c))

/-- The same read at the extended reals. -/
theorem frame_kernel_ideal : Cert.quiescent_KernelIdeal := fun m ρ h =>
  Cert.KernelIdeal.Walk.frame m ρ fun c => Cert.KernelIdeal.Walk.ids_ok m c (Cert.TiedGrad.in_range _ _ _ _ _ _ _ _ (h c))

/-- The reference runs and leaves its arguments. -/
theorem frame_reference : Cert.quiescent_ReferenceIdeal := fun m ρ _ => Cert.ReferenceIdeal.Gen.frame m ρ

/-- The same from tokens in range. -/
theorem frame_reference_pre : Cert.quiescent_ReferenceIdeal_pre_ids_in_range := fun m ρ _ => Cert.ReferenceIdeal.Gen.frame m ρ

/-- Over the extended reals both results of the kernel are the reference's. -/
theorem algebraic : Cert.algebraic_KernelIdeal_ReferenceIdeal := fun m g m' g' h args =>
  have ok := fun c => Cert.TiedGrad.in_range _ _ _ _ _ _ _ _ (h c)
  have ids := fun c => Cert.KernelIdeal.Walk.ids_ok m c (ok c)
  have same : ∀ c, Cert.TiedGrad.Same m m' c := fun c =>
    ⟨(args c).1, (args c).2.1, (args c).2.2.1, (args c).2.2.2.1, (args c).2.2.2.2.1, (args c).2.2.2.2.2.1, (args c).2.2.2.2.2.2.1, (args c).2.2.2.2.2.2.2⟩
  ⟨fun c => Cert.ReferenceIdeal.Values.dE m' c, fun c => Cert.ReferenceIdeal.Values.dH m' c,
    (θ_run Cert.KernelIdeal.defs _ _).mono
      (fun r hr c => ⟨(hr.1 c).1.trans (Cert.TiedGrad.table_same (same c) (ok c)), (hr.1 c).2.trans (Cert.TiedGrad.head_same (same c)), hr.2.1 c⟩)
      (θ_run_and (Cert.KernelIdeal.Values.results m g ids fun c n D hD => Cert.TiedGrad.scat_ideal hD) (Cert.KernelIdeal.Walk.frame m g ids)),
    (θ_run Cert.ReferenceIdeal.defs _ _).mono (fun r hr c => ⟨(hr.1 c).1, (hr.1 c).2, hr.2.1 c⟩)
      (θ_run_and (Cert.ReferenceIdeal.Values.results m' g') (Cert.ReferenceIdeal.Gen.frame m' g'))⟩

theorem claim : Cert.Claim :=
  ⟨Cert.Kernel.Gen.facts, Cert.KernelIdeal.Gen.facts, Cert.ReferenceIdeal.Gen.facts, preFacts, frame_kernel, frame_kernel_ideal, frame_reference,
    frame_reference_pre, trivial, algebraic⟩

end Cert.Proof

end
